-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_memory [hPre_finite_memory : Cert.Pre_finite_memory.Facts] (m : (ℓ : Loc Cert.PostIdeal.nD Cert.PostIdeal.τ Cert.PostIdeal.sig) → Buf (Elt Ideal) ℓ) : Prop :=
  ∀ c : Dev Cert.PostIdeal.nD,
    (Cert.Pre_finite_memory.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_memory [hPre_finite_memory : Cert.Pre_finite_memory.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_memory.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvIdeal_finite_mem [hPre_finite_mem : Cert.Pre_finite_mem.Facts] (m : (ℓ : Loc Cert.MemKvIdeal.nD Cert.MemKvIdeal.τ Cert.MemKvIdeal.sig) → Buf (Elt Ideal) ℓ) : Prop :=
  ∀ c : Dev Cert.MemKvIdeal.nD,
    (Cert.Pre_finite_mem.fn (F := Ideal) (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)) (m ((c.tc : Thread Cert.MemKvIdeal.nD Cert.MemKvIdeal.τ).loc Cert.MemKvIdeal.main_arg3))) = (fun _ => 1#1)

def Pre_MemKvRefIdeal (m : (ℓ : Loc Cert.MemKvRefIdeal.nD Cert.MemKvRefIdeal.τ Cert.MemKvRefIdeal.sig) → Buf (Elt Ideal) ℓ) : Prop :=
  True

def Pre_MemKvRefIdeal_finite_mem [hPre_finite_mem : Cert.Pre_finite_mem.Facts] (m : (ℓ : Loc Cert.MemKvRefIdeal.nD Cert.MemKvRefIdeal.τ Cert.MemKvRefIdeal.sig) → Buf (Elt Ideal) ℓ) : Prop :=
  ∀ c : Dev Cert.MemKvRefIdeal.nD,
    (Cert.Pre_finite_mem.fn (F := Ideal) (m ((c.tc : Thread Cert.MemKvRefIdeal.nD Cert.MemKvRefIdeal.τ).loc Cert.MemKvRefIdeal.main_arg0)) (m ((c.tc : Thread Cert.MemKvRefIdeal.nD Cert.MemKvRefIdeal.τ).loc Cert.MemKvRefIdeal.main_arg1)) (m ((c.tc : Thread Cert.MemKvRefIdeal.nD Cert.MemKvRefIdeal.τ).loc Cert.MemKvRefIdeal.main_arg2)) (m ((c.tc : Thread Cert.MemKvRefIdeal.nD Cert.MemKvRefIdeal.τ).loc Cert.MemKvRefIdeal.main_arg3))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreIdeal_finite_pre [hPre_finite_pre : Cert.Pre_finite_pre.Facts] (m : (ℓ : Loc Cert.PreIdeal.nD Cert.PreIdeal.τ Cert.PreIdeal.sig) → Buf (Elt Ideal) ℓ) : Prop :=
  ∀ c : Dev Cert.PreIdeal.nD,
    (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6)) (m ((c.tc : Thread Cert.PreIdeal.nD Cert.PreIdeal.τ).loc Cert.PreIdeal.main_arg7)) (m ((c.tc : Thread Cert.PreIdeal.nD Cert.PreIdeal.τ).loc Cert.PreIdeal.main_arg8)) (m ((c.tc : Thread Cert.PreIdeal.nD Cert.PreIdeal.τ).loc Cert.PreIdeal.main_arg9))) = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_finite_pre [hPre_finite_pre : Cert.Pre_finite_pre.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6)) (m ((c.tc : Thread Cert.PreRefIdeal.nD Cert.PreRefIdeal.τ).loc Cert.PreRefIdeal.main_arg7)) (m ((c.tc : Thread Cert.PreRefIdeal.nD Cert.PreRefIdeal.τ).loc Cert.PreRefIdeal.main_arg8)) (m ((c.tc : Thread Cert.PreRefIdeal.nD Cert.PreRefIdeal.τ).loc Cert.PreRefIdeal.main_arg9))) = (fun _ => 1#1)

def Pre_PreSample (m : (ℓ : Loc Cert.PreSample.nD Cert.PreSample.τ Cert.PreSample.sig) → Buf (Elt Bits) ℓ) : Prop :=
  True

def Pre_PreSampleIdeal (m : (ℓ : Loc Cert.PreSampleIdeal.nD Cert.PreSampleIdeal.τ Cert.PreSampleIdeal.sig) → Buf (Elt Ideal) ℓ) : Prop :=
  True

def Pre_PreSampleIdeal_finite_pre_s [hPre_finite_pre_s : Cert.Pre_finite_pre_s.Facts] (m : (ℓ : Loc Cert.PreSampleIdeal.nD Cert.PreSampleIdeal.τ Cert.PreSampleIdeal.sig) → Buf (Elt Ideal) ℓ) : Prop :=
  ∀ c : Dev Cert.PreSampleIdeal.nD,
    (Cert.Pre_finite_pre_s.fn (F := Ideal) (m ((c.tc : Thread Cert.PreSampleIdeal.nD Cert.PreSampleIdeal.τ).loc Cert.PreSampleIdeal.main_arg0)) (m ((c.tc : Thread Cert.PreSampleIdeal.nD Cert.PreSampleIdeal.τ).loc Cert.PreSampleIdeal.main_arg1)) (m ((c.tc : Thread Cert.PreSampleIdeal.nD Cert.PreSampleIdeal.τ).loc Cert.PreSampleIdeal.main_arg2)) (m ((c.tc : Thread Cert.PreSampleIdeal.nD Cert.PreSampleIdeal.τ).loc Cert.PreSampleIdeal.main_arg3)) (m ((c.tc : Thread Cert.PreSampleIdeal.nD Cert.PreSampleIdeal.τ).loc Cert.PreSampleIdeal.main_arg4)) (m ((c.tc : Thread Cert.PreSampleIdeal.nD Cert.PreSampleIdeal.τ).loc Cert.PreSampleIdeal.main_arg5)) (m ((c.tc : Thread Cert.PreSampleIdeal.nD Cert.PreSampleIdeal.τ).loc Cert.PreSampleIdeal.main_arg6)) (m ((c.tc : Thread Cert.PreSampleIdeal.nD Cert.PreSampleIdeal.τ).loc Cert.PreSampleIdeal.main_arg7)) (m ((c.tc : Thread Cert.PreSampleIdeal.nD Cert.PreSampleIdeal.τ).loc Cert.PreSampleIdeal.main_arg8)) (m ((c.tc : Thread Cert.PreSampleIdeal.nD Cert.PreSampleIdeal.τ).loc Cert.PreSampleIdeal.main_arg9)) (m ((c.tc : Thread Cert.PreSampleIdeal.nD Cert.PreSampleIdeal.τ).loc Cert.PreSampleIdeal.main_arg10))) = (fun _ => 1#1)

def Pre_PreSampleRefIdeal (m : (ℓ : Loc Cert.PreSampleRefIdeal.nD Cert.PreSampleRefIdeal.τ Cert.PreSampleRefIdeal.sig) → Buf (Elt Ideal) ℓ) : Prop :=
  True

def Pre_PreSampleRefIdeal_finite_pre_s [hPre_finite_pre_s : Cert.Pre_finite_pre_s.Facts] (m : (ℓ : Loc Cert.PreSampleRefIdeal.nD Cert.PreSampleRefIdeal.τ Cert.PreSampleRefIdeal.sig) → Buf (Elt Ideal) ℓ) : Prop :=
  ∀ c : Dev Cert.PreSampleRefIdeal.nD,
    (Cert.Pre_finite_pre_s.fn (F := Ideal) (m ((c.tc : Thread Cert.PreSampleRefIdeal.nD Cert.PreSampleRefIdeal.τ).loc Cert.PreSampleRefIdeal.main_arg0)) (m ((c.tc : Thread Cert.PreSampleRefIdeal.nD Cert.PreSampleRefIdeal.τ).loc Cert.PreSampleRefIdeal.main_arg1)) (m ((c.tc : Thread Cert.PreSampleRefIdeal.nD Cert.PreSampleRefIdeal.τ).loc Cert.PreSampleRefIdeal.main_arg2)) (m ((c.tc : Thread Cert.PreSampleRefIdeal.nD Cert.PreSampleRefIdeal.τ).loc Cert.PreSampleRefIdeal.main_arg3)) (m ((c.tc : Thread Cert.PreSampleRefIdeal.nD Cert.PreSampleRefIdeal.τ).loc Cert.PreSampleRefIdeal.main_arg4)) (m ((c.tc : Thread Cert.PreSampleRefIdeal.nD Cert.PreSampleRefIdeal.τ).loc Cert.PreSampleRefIdeal.main_arg5)) (m ((c.tc : Thread Cert.PreSampleRefIdeal.nD Cert.PreSampleRefIdeal.τ).loc Cert.PreSampleRefIdeal.main_arg6)) (m ((c.tc : Thread Cert.PreSampleRefIdeal.nD Cert.PreSampleRefIdeal.τ).loc Cert.PreSampleRefIdeal.main_arg7)) (m ((c.tc : Thread Cert.PreSampleRefIdeal.nD Cert.PreSampleRefIdeal.τ).loc Cert.PreSampleRefIdeal.main_arg8)) (m ((c.tc : Thread Cert.PreSampleRefIdeal.nD Cert.PreSampleRefIdeal.τ).loc Cert.PreSampleRefIdeal.main_arg9)) (m ((c.tc : Thread Cert.PreSampleRefIdeal.nD Cert.PreSampleRefIdeal.τ).loc Cert.PreSampleRefIdeal.main_arg10))) = (fun _ => 1#1)

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleRefIdeal (m : (ℓ : Loc Cert.PostSampleRefIdeal.nD Cert.PostSampleRefIdeal.τ Cert.PostSampleRefIdeal.sig) → Buf (Elt Ideal) ℓ) : Prop :=
  True

def Pre_SampleMemory (m : (ℓ : Loc Cert.SampleMemory.nD Cert.SampleMemory.τ Cert.SampleMemory.sig) → Buf (Elt Bits) ℓ) : Prop :=
  True

def Pre_SampleMemoryIdeal (m : (ℓ : Loc Cert.SampleMemoryIdeal.nD Cert.SampleMemoryIdeal.τ Cert.SampleMemoryIdeal.sig) → Buf (Elt Ideal) ℓ) : Prop :=
  True

def Pre_SampleMemoryIdeal_finite_mem_s [hPre_finite_mem_s : Cert.Pre_finite_mem_s.Facts] (m : (ℓ : Loc Cert.SampleMemoryIdeal.nD Cert.SampleMemoryIdeal.τ Cert.SampleMemoryIdeal.sig) → Buf (Elt Ideal) ℓ) : Prop :=
  ∀ c : Dev Cert.SampleMemoryIdeal.nD,
    (Cert.Pre_finite_mem_s.fn (F := Ideal) (m ((c.tc : Thread Cert.SampleMemoryIdeal.nD Cert.SampleMemoryIdeal.τ).loc Cert.SampleMemoryIdeal.main_arg0)) (m ((c.tc : Thread Cert.SampleMemoryIdeal.nD Cert.SampleMemoryIdeal.τ).loc Cert.SampleMemoryIdeal.main_arg1)) (m ((c.tc : Thread Cert.SampleMemoryIdeal.nD Cert.SampleMemoryIdeal.τ).loc Cert.SampleMemoryIdeal.main_arg2))) = (fun _ => 1#1)

def Pre_SampleMemoryRefIdeal (m : (ℓ : Loc Cert.SampleMemoryRefIdeal.nD Cert.SampleMemoryRefIdeal.τ Cert.SampleMemoryRefIdeal.sig) → Buf (Elt Ideal) ℓ) : Prop :=
  True

def Pre_SampleMemoryRefIdeal_finite_mem_s [hPre_finite_mem_s : Cert.Pre_finite_mem_s.Facts] (m : (ℓ : Loc Cert.SampleMemoryRefIdeal.nD Cert.SampleMemoryRefIdeal.τ Cert.SampleMemoryRefIdeal.sig) → Buf (Elt Ideal) ℓ) : Prop :=
  ∀ c : Dev Cert.SampleMemoryRefIdeal.nD,
    (Cert.Pre_finite_mem_s.fn (F := Ideal) (m ((c.tc : Thread Cert.SampleMemoryRefIdeal.nD Cert.SampleMemoryRefIdeal.τ).loc Cert.SampleMemoryRefIdeal.main_arg0)) (m ((c.tc : Thread Cert.SampleMemoryRefIdeal.nD Cert.SampleMemoryRefIdeal.τ).loc Cert.SampleMemoryRefIdeal.main_arg1)) (m ((c.tc : Thread Cert.SampleMemoryRefIdeal.nD Cert.SampleMemoryRefIdeal.τ).loc Cert.SampleMemoryRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostIdeal_pre_finite_memory [hPostIdeal : Cert.PostIdeal.Facts] [hPre_finite_memory : Cert.Pre_finite_memory.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_memory m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_PostRefIdeal_pre_finite_memory [hPostRefIdeal : Cert.PostRefIdeal.Facts] [hPre_finite_memory : Cert.Pre_finite_memory.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_memory m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvIdeal_pre_finite_mem [hMemKvIdeal : Cert.MemKvIdeal.Facts] [hPre_finite_mem : Cert.Pre_finite_mem.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal_finite_mem m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemKvRefIdeal_pre_finite_mem [hMemKvRefIdeal : Cert.MemKvRefIdeal.Facts] [hPre_finite_mem : Cert.Pre_finite_mem.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal_finite_mem m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9))
      ∧ r.2.sem = fun _ => 0)

def quiescent_PreIdeal_pre_finite_pre [hPreIdeal : Cert.PreIdeal.Facts] [hPre_finite_pre : Cert.Pre_finite_pre.Facts] : Prop :=
  ∀ (m : (ℓ : Loc Cert.PreIdeal.nD Cert.PreIdeal.τ Cert.PreIdeal.sig) → Buf (Elt Ideal) ℓ) (g : Dev Cert.PreIdeal.nD → PrngReg), Pre_PreIdeal_finite_pre m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9))
      ∧ r.2.sem = fun _ => 0)

def quiescent_PreRefIdeal_pre_finite_pre [hPreRefIdeal : Cert.PreRefIdeal.Facts] [hPre_finite_pre : Cert.Pre_finite_pre.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_finite_pre m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9))
      ∧ r.2.sem = fun _ => 0)

def quiescent_PreSample [hPreSample : Cert.PreSample.Facts] : Prop :=
  ∀ (m : (ℓ : Loc Cert.PreSample.nD Cert.PreSample.τ Cert.PreSample.sig) → Buf (Elt Bits) ℓ) (g : Dev Cert.PreSample.nD → PrngReg), Pre_PreSample m →
    θ_run (Cert.PreSample.defs (F := Bits)) (onTc (τ := Cert.PreSample.τ) (Cert.PreSample.main (F := Bits))) ⟨m, fun _ => 0, g⟩ (fun r => (∀ c : Dev Cert.PreSample.nD,
      r.2.mem ((c.tc : Thread Cert.PreSample.nD Cert.PreSample.τ).loc Cert.PreSample.main_arg0) = m ((c.tc : Thread Cert.PreSample.nD Cert.PreSample.τ).loc Cert.PreSample.main_arg0)
      ∧ r.2.mem ((c.tc : Thread Cert.PreSample.nD Cert.PreSample.τ).loc Cert.PreSample.main_arg1) = m ((c.tc : Thread Cert.PreSample.nD Cert.PreSample.τ).loc Cert.PreSample.main_arg1)
      ∧ r.2.mem ((c.tc : Thread Cert.PreSample.nD Cert.PreSample.τ).loc Cert.PreSample.main_arg2) = m ((c.tc : Thread Cert.PreSample.nD Cert.PreSample.τ).loc Cert.PreSample.main_arg2)
      ∧ r.2.mem ((c.tc : Thread Cert.PreSample.nD Cert.PreSample.τ).loc Cert.PreSample.main_arg3) = m ((c.tc : Thread Cert.PreSample.nD Cert.PreSample.τ).loc Cert.PreSample.main_arg3)
      ∧ r.2.mem ((c.tc : Thread Cert.PreSample.nD Cert.PreSample.τ).loc Cert.PreSample.main_arg4) = m ((c.tc : Thread Cert.PreSample.nD Cert.PreSample.τ).loc Cert.PreSample.main_arg4)
      ∧ r.2.mem ((c.tc : Thread Cert.PreSample.nD Cert.PreSample.τ).loc Cert.PreSample.main_arg5) = m ((c.tc : Thread Cert.PreSample.nD Cert.PreSample.τ).loc Cert.PreSample.main_arg5)
      ∧ r.2.mem ((c.tc : Thread Cert.PreSample.nD Cert.PreSample.τ).loc Cert.PreSample.main_arg6) = m ((c.tc : Thread Cert.PreSample.nD Cert.PreSample.τ).loc Cert.PreSample.main_arg6)
      ∧ r.2.mem ((c.tc : Thread Cert.PreSample.nD Cert.PreSample.τ).loc Cert.PreSample.main_arg7) = m ((c.tc : Thread Cert.PreSample.nD Cert.PreSample.τ).loc Cert.PreSample.main_arg7)
      ∧ r.2.mem ((c.tc : Thread Cert.PreSample.nD Cert.PreSample.τ).loc Cert.PreSample.main_arg8) = m ((c.tc : Thread Cert.PreSample.nD Cert.PreSample.τ).loc Cert.PreSample.main_arg8)
      ∧ r.2.mem ((c.tc : Thread Cert.PreSample.nD Cert.PreSample.τ).loc Cert.PreSample.main_arg9) = m ((c.tc : Thread Cert.PreSample.nD Cert.PreSample.τ).loc Cert.PreSample.main_arg9)
      ∧ r.2.mem ((c.tc : Thread Cert.PreSample.nD Cert.PreSample.τ).loc Cert.PreSample.main_arg10) = m ((c.tc : Thread Cert.PreSample.nD Cert.PreSample.τ).loc Cert.PreSample.main_arg10))
      ∧ r.2.sem = fun _ => 0)

def quiescent_PreSampleIdeal [hPreSampleIdeal : Cert.PreSampleIdeal.Facts] : Prop :=
  ∀ (m : (ℓ : Loc Cert.PreSampleIdeal.nD Cert.PreSampleIdeal.τ Cert.PreSampleIdeal.sig) → Buf (Elt Ideal) ℓ) (g : Dev Cert.PreSampleIdeal.nD → PrngReg), Pre_PreSampleIdeal m →
    θ_run (Cert.PreSampleIdeal.defs (F := Ideal)) (onTc (τ := Cert.PreSampleIdeal.τ) (Cert.PreSampleIdeal.main (F := Ideal))) ⟨m, fun _ => 0, g⟩ (fun r => (∀ c : Dev Cert.PreSampleIdeal.nD,
      r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
      ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
      ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
      ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
      ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
      ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5)
      ∧ r.2.mem ((c.tc : Thread Cert.PreSampleIdeal.nD Cert.PreSampleIdeal.τ).loc Cert.PreSampleIdeal.main_arg6) = m ((c.tc : Thread Cert.PreSampleIdeal.nD Cert.PreSampleIdeal.τ).loc Cert.PreSampleIdeal.main_arg6)
      ∧ r.2.mem ((c.tc : Thread Cert.PreSampleIdeal.nD Cert.PreSampleIdeal.τ).loc Cert.PreSampleIdeal.main_arg7) = m ((c.tc : Thread Cert.PreSampleIdeal.nD Cert.PreSampleIdeal.τ).loc Cert.PreSampleIdeal.main_arg7)
      ∧ r.2.mem ((c.tc : Thread Cert.PreSampleIdeal.nD Cert.PreSampleIdeal.τ).loc Cert.PreSampleIdeal.main_arg8) = m ((c.tc : Thread Cert.PreSampleIdeal.nD Cert.PreSampleIdeal.τ).loc Cert.PreSampleIdeal.main_arg8)
      ∧ r.2.mem ((c.tc : Thread Cert.PreSampleIdeal.nD Cert.PreSampleIdeal.τ).loc Cert.PreSampleIdeal.main_arg9) = m ((c.tc : Thread Cert.PreSampleIdeal.nD Cert.PreSampleIdeal.τ).loc Cert.PreSampleIdeal.main_arg9)
      ∧ r.2.mem ((c.tc : Thread Cert.PreSampleIdeal.nD Cert.PreSampleIdeal.τ).loc Cert.PreSampleIdeal.main_arg10) = m ((c.tc : Thread Cert.PreSampleIdeal.nD Cert.PreSampleIdeal.τ).loc Cert.PreSampleIdeal.main_arg10))
      ∧ r.2.sem = fun _ => 0)

def quiescent_PreSampleIdeal_pre_finite_pre_s [hPreSampleIdeal : Cert.PreSampleIdeal.Facts] [hPre_finite_pre_s : Cert.Pre_finite_pre_s.Facts] : Prop :=
  ∀ (m : (ℓ : Loc Cert.PreSampleIdeal.nD Cert.PreSampleIdeal.τ Cert.PreSampleIdeal.sig) → Buf (Elt Ideal) ℓ) (g : Dev Cert.PreSampleIdeal.nD → PrngReg), Pre_PreSampleIdeal_finite_pre_s m →
    θ_run (Cert.PreSampleIdeal.defs (F := Ideal)) (onTc (τ := Cert.PreSampleIdeal.τ) (Cert.PreSampleIdeal.main (F := Ideal))) ⟨m, fun _ => 0, g⟩ (fun r => (∀ c : Dev Cert.PreSampleIdeal.nD,
      r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
      ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
      ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
      ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
      ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
      ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5)
      ∧ r.2.mem ((c.tc : Thread Cert.PreSampleIdeal.nD Cert.PreSampleIdeal.τ).loc Cert.PreSampleIdeal.main_arg6) = m ((c.tc : Thread Cert.PreSampleIdeal.nD Cert.PreSampleIdeal.τ).loc Cert.PreSampleIdeal.main_arg6)
      ∧ r.2.mem ((c.tc : Thread Cert.PreSampleIdeal.nD Cert.PreSampleIdeal.τ).loc Cert.PreSampleIdeal.main_arg7) = m ((c.tc : Thread Cert.PreSampleIdeal.nD Cert.PreSampleIdeal.τ).loc Cert.PreSampleIdeal.main_arg7)
      ∧ r.2.mem ((c.tc : Thread Cert.PreSampleIdeal.nD Cert.PreSampleIdeal.τ).loc Cert.PreSampleIdeal.main_arg8) = m ((c.tc : Thread Cert.PreSampleIdeal.nD Cert.PreSampleIdeal.τ).loc Cert.PreSampleIdeal.main_arg8)
      ∧ r.2.mem ((c.tc : Thread Cert.PreSampleIdeal.nD Cert.PreSampleIdeal.τ).loc Cert.PreSampleIdeal.main_arg9) = m ((c.tc : Thread Cert.PreSampleIdeal.nD Cert.PreSampleIdeal.τ).loc Cert.PreSampleIdeal.main_arg9)
      ∧ r.2.mem ((c.tc : Thread Cert.PreSampleIdeal.nD Cert.PreSampleIdeal.τ).loc Cert.PreSampleIdeal.main_arg10) = m ((c.tc : Thread Cert.PreSampleIdeal.nD Cert.PreSampleIdeal.τ).loc Cert.PreSampleIdeal.main_arg10))
      ∧ r.2.sem = fun _ => 0)

def quiescent_PreSampleRefIdeal [hPreSampleRefIdeal : Cert.PreSampleRefIdeal.Facts] : Prop :=
  ∀ (m : (ℓ : Loc Cert.PreSampleRefIdeal.nD Cert.PreSampleRefIdeal.τ Cert.PreSampleRefIdeal.sig) → Buf (Elt Ideal) ℓ) (g : Dev Cert.PreSampleRefIdeal.nD → PrngReg), Pre_PreSampleRefIdeal m →
    θ_run (Cert.PreSampleRefIdeal.defs (F := Ideal)) (onTc (τ := Cert.PreSampleRefIdeal.τ) (Cert.PreSampleRefIdeal.main (F := Ideal))) ⟨m, fun _ => 0, g⟩ (fun r => (∀ c : Dev Cert.PreSampleRefIdeal.nD,
      r.2.mem ((c.tc : Thread Cert.PreSampleRefIdeal.nD Cert.PreSampleRefIdeal.τ).loc Cert.PreSampleRefIdeal.main_arg0) = m ((c.tc : Thread Cert.PreSampleRefIdeal.nD Cert.PreSampleRefIdeal.τ).loc Cert.PreSampleRefIdeal.main_arg0)
      ∧ r.2.mem ((c.tc : Thread Cert.PreSampleRefIdeal.nD Cert.PreSampleRefIdeal.τ).loc Cert.PreSampleRefIdeal.main_arg1) = m ((c.tc : Thread Cert.PreSampleRefIdeal.nD Cert.PreSampleRefIdeal.τ).loc Cert.PreSampleRefIdeal.main_arg1)
      ∧ r.2.mem ((c.tc : Thread Cert.PreSampleRefIdeal.nD Cert.PreSampleRefIdeal.τ).loc Cert.PreSampleRefIdeal.main_arg2) = m ((c.tc : Thread Cert.PreSampleRefIdeal.nD Cert.PreSampleRefIdeal.τ).loc Cert.PreSampleRefIdeal.main_arg2)
      ∧ r.2.mem ((c.tc : Thread Cert.PreSampleRefIdeal.nD Cert.PreSampleRefIdeal.τ).loc Cert.PreSampleRefIdeal.main_arg3) = m ((c.tc : Thread Cert.PreSampleRefIdeal.nD Cert.PreSampleRefIdeal.τ).loc Cert.PreSampleRefIdeal.main_arg3)
      ∧ r.2.mem ((c.tc : Thread Cert.PreSampleRefIdeal.nD Cert.PreSampleRefIdeal.τ).loc Cert.PreSampleRefIdeal.main_arg4) = m ((c.tc : Thread Cert.PreSampleRefIdeal.nD Cert.PreSampleRefIdeal.τ).loc Cert.PreSampleRefIdeal.main_arg4)
      ∧ r.2.mem ((c.tc : Thread Cert.PreSampleRefIdeal.nD Cert.PreSampleRefIdeal.τ).loc Cert.PreSampleRefIdeal.main_arg5) = m ((c.tc : Thread Cert.PreSampleRefIdeal.nD Cert.PreSampleRefIdeal.τ).loc Cert.PreSampleRefIdeal.main_arg5)
      ∧ r.2.mem ((c.tc : Thread Cert.PreSampleRefIdeal.nD Cert.PreSampleRefIdeal.τ).loc Cert.PreSampleRefIdeal.main_arg6) = m ((c.tc : Thread Cert.PreSampleRefIdeal.nD Cert.PreSampleRefIdeal.τ).loc Cert.PreSampleRefIdeal.main_arg6)
      ∧ r.2.mem ((c.tc : Thread Cert.PreSampleRefIdeal.nD Cert.PreSampleRefIdeal.τ).loc Cert.PreSampleRefIdeal.main_arg7) = m ((c.tc : Thread Cert.PreSampleRefIdeal.nD Cert.PreSampleRefIdeal.τ).loc Cert.PreSampleRefIdeal.main_arg7)
      ∧ r.2.mem ((c.tc : Thread Cert.PreSampleRefIdeal.nD Cert.PreSampleRefIdeal.τ).loc Cert.PreSampleRefIdeal.main_arg8) = m ((c.tc : Thread Cert.PreSampleRefIdeal.nD Cert.PreSampleRefIdeal.τ).loc Cert.PreSampleRefIdeal.main_arg8)
      ∧ r.2.mem ((c.tc : Thread Cert.PreSampleRefIdeal.nD Cert.PreSampleRefIdeal.τ).loc Cert.PreSampleRefIdeal.main_arg9) = m ((c.tc : Thread Cert.PreSampleRefIdeal.nD Cert.PreSampleRefIdeal.τ).loc Cert.PreSampleRefIdeal.main_arg9)
      ∧ r.2.mem ((c.tc : Thread Cert.PreSampleRefIdeal.nD Cert.PreSampleRefIdeal.τ).loc Cert.PreSampleRefIdeal.main_arg10) = m ((c.tc : Thread Cert.PreSampleRefIdeal.nD Cert.PreSampleRefIdeal.τ).loc Cert.PreSampleRefIdeal.main_arg10))
      ∧ r.2.sem = fun _ => 0)

def quiescent_PreSampleRefIdeal_pre_finite_pre_s [hPreSampleRefIdeal : Cert.PreSampleRefIdeal.Facts] [hPre_finite_pre_s : Cert.Pre_finite_pre_s.Facts] : Prop :=
  ∀ (m : (ℓ : Loc Cert.PreSampleRefIdeal.nD Cert.PreSampleRefIdeal.τ Cert.PreSampleRefIdeal.sig) → Buf (Elt Ideal) ℓ) (g : Dev Cert.PreSampleRefIdeal.nD → PrngReg), Pre_PreSampleRefIdeal_finite_pre_s m →
    θ_run (Cert.PreSampleRefIdeal.defs (F := Ideal)) (onTc (τ := Cert.PreSampleRefIdeal.τ) (Cert.PreSampleRefIdeal.main (F := Ideal))) ⟨m, fun _ => 0, g⟩ (fun r => (∀ c : Dev Cert.PreSampleRefIdeal.nD,
      r.2.mem ((c.tc : Thread Cert.PreSampleRefIdeal.nD Cert.PreSampleRefIdeal.τ).loc Cert.PreSampleRefIdeal.main_arg0) = m ((c.tc : Thread Cert.PreSampleRefIdeal.nD Cert.PreSampleRefIdeal.τ).loc Cert.PreSampleRefIdeal.main_arg0)
      ∧ r.2.mem ((c.tc : Thread Cert.PreSampleRefIdeal.nD Cert.PreSampleRefIdeal.τ).loc Cert.PreSampleRefIdeal.main_arg1) = m ((c.tc : Thread Cert.PreSampleRefIdeal.nD Cert.PreSampleRefIdeal.τ).loc Cert.PreSampleRefIdeal.main_arg1)
      ∧ r.2.mem ((c.tc : Thread Cert.PreSampleRefIdeal.nD Cert.PreSampleRefIdeal.τ).loc Cert.PreSampleRefIdeal.main_arg2) = m ((c.tc : Thread Cert.PreSampleRefIdeal.nD Cert.PreSampleRefIdeal.τ).loc Cert.PreSampleRefIdeal.main_arg2)
      ∧ r.2.mem ((c.tc : Thread Cert.PreSampleRefIdeal.nD Cert.PreSampleRefIdeal.τ).loc Cert.PreSampleRefIdeal.main_arg3) = m ((c.tc : Thread Cert.PreSampleRefIdeal.nD Cert.PreSampleRefIdeal.τ).loc Cert.PreSampleRefIdeal.main_arg3)
      ∧ r.2.mem ((c.tc : Thread Cert.PreSampleRefIdeal.nD Cert.PreSampleRefIdeal.τ).loc Cert.PreSampleRefIdeal.main_arg4) = m ((c.tc : Thread Cert.PreSampleRefIdeal.nD Cert.PreSampleRefIdeal.τ).loc Cert.PreSampleRefIdeal.main_arg4)
      ∧ r.2.mem ((c.tc : Thread Cert.PreSampleRefIdeal.nD Cert.PreSampleRefIdeal.τ).loc Cert.PreSampleRefIdeal.main_arg5) = m ((c.tc : Thread Cert.PreSampleRefIdeal.nD Cert.PreSampleRefIdeal.τ).loc Cert.PreSampleRefIdeal.main_arg5)
      ∧ r.2.mem ((c.tc : Thread Cert.PreSampleRefIdeal.nD Cert.PreSampleRefIdeal.τ).loc Cert.PreSampleRefIdeal.main_arg6) = m ((c.tc : Thread Cert.PreSampleRefIdeal.nD Cert.PreSampleRefIdeal.τ).loc Cert.PreSampleRefIdeal.main_arg6)
      ∧ r.2.mem ((c.tc : Thread Cert.PreSampleRefIdeal.nD Cert.PreSampleRefIdeal.τ).loc Cert.PreSampleRefIdeal.main_arg7) = m ((c.tc : Thread Cert.PreSampleRefIdeal.nD Cert.PreSampleRefIdeal.τ).loc Cert.PreSampleRefIdeal.main_arg7)
      ∧ r.2.mem ((c.tc : Thread Cert.PreSampleRefIdeal.nD Cert.PreSampleRefIdeal.τ).loc Cert.PreSampleRefIdeal.main_arg8) = m ((c.tc : Thread Cert.PreSampleRefIdeal.nD Cert.PreSampleRefIdeal.τ).loc Cert.PreSampleRefIdeal.main_arg8)
      ∧ r.2.mem ((c.tc : Thread Cert.PreSampleRefIdeal.nD Cert.PreSampleRefIdeal.τ).loc Cert.PreSampleRefIdeal.main_arg9) = m ((c.tc : Thread Cert.PreSampleRefIdeal.nD Cert.PreSampleRefIdeal.τ).loc Cert.PreSampleRefIdeal.main_arg9)
      ∧ r.2.mem ((c.tc : Thread Cert.PreSampleRefIdeal.nD Cert.PreSampleRefIdeal.τ).loc Cert.PreSampleRefIdeal.main_arg10) = m ((c.tc : Thread Cert.PreSampleRefIdeal.nD Cert.PreSampleRefIdeal.τ).loc Cert.PreSampleRefIdeal.main_arg10))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6)
      ∧ r.2.mem ((c.tc : Thread Cert.PostSample.nD Cert.PostSample.τ).loc Cert.PostSample.main_arg7) = m ((c.tc : Thread Cert.PostSample.nD Cert.PostSample.τ).loc Cert.PostSample.main_arg7)
      ∧ r.2.mem ((c.tc : Thread Cert.PostSample.nD Cert.PostSample.τ).loc Cert.PostSample.main_arg8) = m ((c.tc : Thread Cert.PostSample.nD Cert.PostSample.τ).loc Cert.PostSample.main_arg8)
      ∧ r.2.mem ((c.tc : Thread Cert.PostSample.nD Cert.PostSample.τ).loc Cert.PostSample.main_arg9) = m ((c.tc : Thread Cert.PostSample.nD Cert.PostSample.τ).loc Cert.PostSample.main_arg9)
      ∧ r.2.mem ((c.tc : Thread Cert.PostSample.nD Cert.PostSample.τ).loc Cert.PostSample.main_arg10) = m ((c.tc : Thread Cert.PostSample.nD Cert.PostSample.τ).loc Cert.PostSample.main_arg10)
      ∧ r.2.mem ((c.tc : Thread Cert.PostSample.nD Cert.PostSample.τ).loc Cert.PostSample.main_arg11) = m ((c.tc : Thread Cert.PostSample.nD Cert.PostSample.τ).loc Cert.PostSample.main_arg11)
      ∧ r.2.mem ((c.tc : Thread Cert.PostSample.nD Cert.PostSample.τ).loc Cert.PostSample.main_arg12) = m ((c.tc : Thread Cert.PostSample.nD Cert.PostSample.τ).loc Cert.PostSample.main_arg12)
      ∧ r.2.mem ((c.tc : Thread Cert.PostSample.nD Cert.PostSample.τ).loc Cert.PostSample.main_arg13) = m ((c.tc : Thread Cert.PostSample.nD Cert.PostSample.τ).loc Cert.PostSample.main_arg13)
      ∧ r.2.mem ((c.tc : Thread Cert.PostSample.nD Cert.PostSample.τ).loc Cert.PostSample.main_arg14) = m ((c.tc : Thread Cert.PostSample.nD Cert.PostSample.τ).loc Cert.PostSample.main_arg14)
      ∧ r.2.mem ((c.tc : Thread Cert.PostSample.nD Cert.PostSample.τ).loc Cert.PostSample.main_arg15) = m ((c.tc : Thread Cert.PostSample.nD Cert.PostSample.τ).loc Cert.PostSample.main_arg15))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
      ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
      ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
      ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
      ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12)
      ∧ r.2.mem ((c.tc : Thread Cert.PostSampleIdeal.nD Cert.PostSampleIdeal.τ).loc Cert.PostSampleIdeal.main_arg13) = m ((c.tc : Thread Cert.PostSampleIdeal.nD Cert.PostSampleIdeal.τ).loc Cert.PostSampleIdeal.main_arg13)
      ∧ r.2.mem ((c.tc : Thread Cert.PostSampleIdeal.nD Cert.PostSampleIdeal.τ).loc Cert.PostSampleIdeal.main_arg14) = m ((c.tc : Thread Cert.PostSampleIdeal.nD Cert.PostSampleIdeal.τ).loc Cert.PostSampleIdeal.main_arg14)
      ∧ r.2.mem ((c.tc : Thread Cert.PostSampleIdeal.nD Cert.PostSampleIdeal.τ).loc Cert.PostSampleIdeal.main_arg15) = m ((c.tc : Thread Cert.PostSampleIdeal.nD Cert.PostSampleIdeal.τ).loc Cert.PostSampleIdeal.main_arg15))
      ∧ r.2.sem = fun _ => 0)

def quiescent_PostSampleRefIdeal [hPostSampleRefIdeal : Cert.PostSampleRefIdeal.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4)
      ∧ r.2.mem ((c.tc : Thread Cert.PostSampleRefIdeal.nD Cert.PostSampleRefIdeal.τ).loc Cert.PostSampleRefIdeal.main_arg5) = m ((c.tc : Thread Cert.PostSampleRefIdeal.nD Cert.PostSampleRefIdeal.τ).loc Cert.PostSampleRefIdeal.main_arg5)
      ∧ r.2.mem ((c.tc : Thread Cert.PostSampleRefIdeal.nD Cert.PostSampleRefIdeal.τ).loc Cert.PostSampleRefIdeal.main_arg6) = m ((c.tc : Thread Cert.PostSampleRefIdeal.nD Cert.PostSampleRefIdeal.τ).loc Cert.PostSampleRefIdeal.main_arg6)
      ∧ r.2.mem ((c.tc : Thread Cert.PostSampleRefIdeal.nD Cert.PostSampleRefIdeal.τ).loc Cert.PostSampleRefIdeal.main_arg7) = m ((c.tc : Thread Cert.PostSampleRefIdeal.nD Cert.PostSampleRefIdeal.τ).loc Cert.PostSampleRefIdeal.main_arg7)
      ∧ r.2.mem ((c.tc : Thread Cert.PostSampleRefIdeal.nD Cert.PostSampleRefIdeal.τ).loc Cert.PostSampleRefIdeal.main_arg8) = m ((c.tc : Thread Cert.PostSampleRefIdeal.nD Cert.PostSampleRefIdeal.τ).loc Cert.PostSampleRefIdeal.main_arg8)
      ∧ r.2.mem ((c.tc : Thread Cert.PostSampleRefIdeal.nD Cert.PostSampleRefIdeal.τ).loc Cert.PostSampleRefIdeal.main_arg9) = m ((c.tc : Thread Cert.PostSampleRefIdeal.nD Cert.PostSampleRefIdeal.τ).loc Cert.PostSampleRefIdeal.main_arg9)
      ∧ r.2.mem ((c.tc : Thread Cert.PostSampleRefIdeal.nD Cert.PostSampleRefIdeal.τ).loc Cert.PostSampleRefIdeal.main_arg10) = m ((c.tc : Thread Cert.PostSampleRefIdeal.nD Cert.PostSampleRefIdeal.τ).loc Cert.PostSampleRefIdeal.main_arg10)
      ∧ r.2.mem ((c.tc : Thread Cert.PostSampleRefIdeal.nD Cert.PostSampleRefIdeal.τ).loc Cert.PostSampleRefIdeal.main_arg11) = m ((c.tc : Thread Cert.PostSampleRefIdeal.nD Cert.PostSampleRefIdeal.τ).loc Cert.PostSampleRefIdeal.main_arg11)
      ∧ r.2.mem ((c.tc : Thread Cert.PostSampleRefIdeal.nD Cert.PostSampleRefIdeal.τ).loc Cert.PostSampleRefIdeal.main_arg12) = m ((c.tc : Thread Cert.PostSampleRefIdeal.nD Cert.PostSampleRefIdeal.τ).loc Cert.PostSampleRefIdeal.main_arg12)
      ∧ r.2.mem ((c.tc : Thread Cert.PostSampleRefIdeal.nD Cert.PostSampleRefIdeal.τ).loc Cert.PostSampleRefIdeal.main_arg13) = m ((c.tc : Thread Cert.PostSampleRefIdeal.nD Cert.PostSampleRefIdeal.τ).loc Cert.PostSampleRefIdeal.main_arg13)
      ∧ r.2.mem ((c.tc : Thread Cert.PostSampleRefIdeal.nD Cert.PostSampleRefIdeal.τ).loc Cert.PostSampleRefIdeal.main_arg14) = m ((c.tc : Thread Cert.PostSampleRefIdeal.nD Cert.PostSampleRefIdeal.τ).loc Cert.PostSampleRefIdeal.main_arg14)
      ∧ r.2.mem ((c.tc : Thread Cert.PostSampleRefIdeal.nD Cert.PostSampleRefIdeal.τ).loc Cert.PostSampleRefIdeal.main_arg15) = m ((c.tc : Thread Cert.PostSampleRefIdeal.nD Cert.PostSampleRefIdeal.τ).loc Cert.PostSampleRefIdeal.main_arg15))
      ∧ r.2.sem = fun _ => 0)

def quiescent_SampleMemory [hSampleMemory : Cert.SampleMemory.Facts] : Prop :=
  ∀ (m : (ℓ : Loc Cert.SampleMemory.nD Cert.SampleMemory.τ Cert.SampleMemory.sig) → Buf (Elt Bits) ℓ) (g : Dev Cert.SampleMemory.nD → PrngReg), Pre_SampleMemory m →
    θ_run (Cert.SampleMemory.defs (F := Bits)) (onTc (τ := Cert.SampleMemory.τ) (Cert.SampleMemory.main (F := Bits))) ⟨m, fun _ => 0, g⟩ (fun r => (∀ c : Dev Cert.SampleMemory.nD,
      r.2.mem ((c.tc : Thread Cert.SampleMemory.nD Cert.SampleMemory.τ).loc Cert.SampleMemory.main_arg0) = m ((c.tc : Thread Cert.SampleMemory.nD Cert.SampleMemory.τ).loc Cert.SampleMemory.main_arg0)
      ∧ r.2.mem ((c.tc : Thread Cert.SampleMemory.nD Cert.SampleMemory.τ).loc Cert.SampleMemory.main_arg1) = m ((c.tc : Thread Cert.SampleMemory.nD Cert.SampleMemory.τ).loc Cert.SampleMemory.main_arg1)
      ∧ r.2.mem ((c.tc : Thread Cert.SampleMemory.nD Cert.SampleMemory.τ).loc Cert.SampleMemory.main_arg2) = m ((c.tc : Thread Cert.SampleMemory.nD Cert.SampleMemory.τ).loc Cert.SampleMemory.main_arg2))
      ∧ r.2.sem = fun _ => 0)

def quiescent_SampleMemoryIdeal [hSampleMemoryIdeal : Cert.SampleMemoryIdeal.Facts] : Prop :=
  ∀ (m : (ℓ : Loc Cert.SampleMemoryIdeal.nD Cert.SampleMemoryIdeal.τ Cert.SampleMemoryIdeal.sig) → Buf (Elt Ideal) ℓ) (g : Dev Cert.SampleMemoryIdeal.nD → PrngReg), Pre_SampleMemoryIdeal m →
    θ_run (Cert.SampleMemoryIdeal.defs (F := Ideal)) (onTc (τ := Cert.SampleMemoryIdeal.τ) (Cert.SampleMemoryIdeal.main (F := Ideal))) ⟨m, fun _ => 0, g⟩ (fun r => (∀ c : Dev Cert.SampleMemoryIdeal.nD,
      r.2.mem ((c.tc : Thread Cert.SampleMemoryIdeal.nD Cert.SampleMemoryIdeal.τ).loc Cert.SampleMemoryIdeal.main_arg0) = m ((c.tc : Thread Cert.SampleMemoryIdeal.nD Cert.SampleMemoryIdeal.τ).loc Cert.SampleMemoryIdeal.main_arg0)
      ∧ r.2.mem ((c.tc : Thread Cert.SampleMemoryIdeal.nD Cert.SampleMemoryIdeal.τ).loc Cert.SampleMemoryIdeal.main_arg1) = m ((c.tc : Thread Cert.SampleMemoryIdeal.nD Cert.SampleMemoryIdeal.τ).loc Cert.SampleMemoryIdeal.main_arg1)
      ∧ r.2.mem ((c.tc : Thread Cert.SampleMemoryIdeal.nD Cert.SampleMemoryIdeal.τ).loc Cert.SampleMemoryIdeal.main_arg2) = m ((c.tc : Thread Cert.SampleMemoryIdeal.nD Cert.SampleMemoryIdeal.τ).loc Cert.SampleMemoryIdeal.main_arg2))
      ∧ r.2.sem = fun _ => 0)

def quiescent_SampleMemoryIdeal_pre_finite_mem_s [hSampleMemoryIdeal : Cert.SampleMemoryIdeal.Facts] [hPre_finite_mem_s : Cert.Pre_finite_mem_s.Facts] : Prop :=
  ∀ (m : (ℓ : Loc Cert.SampleMemoryIdeal.nD Cert.SampleMemoryIdeal.τ Cert.SampleMemoryIdeal.sig) → Buf (Elt Ideal) ℓ) (g : Dev Cert.SampleMemoryIdeal.nD → PrngReg), Pre_SampleMemoryIdeal_finite_mem_s m →
    θ_run (Cert.SampleMemoryIdeal.defs (F := Ideal)) (onTc (τ := Cert.SampleMemoryIdeal.τ) (Cert.SampleMemoryIdeal.main (F := Ideal))) ⟨m, fun _ => 0, g⟩ (fun r => (∀ c : Dev Cert.SampleMemoryIdeal.nD,
      r.2.mem ((c.tc : Thread Cert.SampleMemoryIdeal.nD Cert.SampleMemoryIdeal.τ).loc Cert.SampleMemoryIdeal.main_arg0) = m ((c.tc : Thread Cert.SampleMemoryIdeal.nD Cert.SampleMemoryIdeal.τ).loc Cert.SampleMemoryIdeal.main_arg0)
      ∧ r.2.mem ((c.tc : Thread Cert.SampleMemoryIdeal.nD Cert.SampleMemoryIdeal.τ).loc Cert.SampleMemoryIdeal.main_arg1) = m ((c.tc : Thread Cert.SampleMemoryIdeal.nD Cert.SampleMemoryIdeal.τ).loc Cert.SampleMemoryIdeal.main_arg1)
      ∧ r.2.mem ((c.tc : Thread Cert.SampleMemoryIdeal.nD Cert.SampleMemoryIdeal.τ).loc Cert.SampleMemoryIdeal.main_arg2) = m ((c.tc : Thread Cert.SampleMemoryIdeal.nD Cert.SampleMemoryIdeal.τ).loc Cert.SampleMemoryIdeal.main_arg2))
      ∧ r.2.sem = fun _ => 0)

def quiescent_SampleMemoryRefIdeal [hSampleMemoryRefIdeal : Cert.SampleMemoryRefIdeal.Facts] : Prop :=
  ∀ (m : (ℓ : Loc Cert.SampleMemoryRefIdeal.nD Cert.SampleMemoryRefIdeal.τ Cert.SampleMemoryRefIdeal.sig) → Buf (Elt Ideal) ℓ) (g : Dev Cert.SampleMemoryRefIdeal.nD → PrngReg), Pre_SampleMemoryRefIdeal m →
    θ_run (Cert.SampleMemoryRefIdeal.defs (F := Ideal)) (onTc (τ := Cert.SampleMemoryRefIdeal.τ) (Cert.SampleMemoryRefIdeal.main (F := Ideal))) ⟨m, fun _ => 0, g⟩ (fun r => (∀ c : Dev Cert.SampleMemoryRefIdeal.nD,
      r.2.mem ((c.tc : Thread Cert.SampleMemoryRefIdeal.nD Cert.SampleMemoryRefIdeal.τ).loc Cert.SampleMemoryRefIdeal.main_arg0) = m ((c.tc : Thread Cert.SampleMemoryRefIdeal.nD Cert.SampleMemoryRefIdeal.τ).loc Cert.SampleMemoryRefIdeal.main_arg0)
      ∧ r.2.mem ((c.tc : Thread Cert.SampleMemoryRefIdeal.nD Cert.SampleMemoryRefIdeal.τ).loc Cert.SampleMemoryRefIdeal.main_arg1) = m ((c.tc : Thread Cert.SampleMemoryRefIdeal.nD Cert.SampleMemoryRefIdeal.τ).loc Cert.SampleMemoryRefIdeal.main_arg1)
      ∧ r.2.mem ((c.tc : Thread Cert.SampleMemoryRefIdeal.nD Cert.SampleMemoryRefIdeal.τ).loc Cert.SampleMemoryRefIdeal.main_arg2) = m ((c.tc : Thread Cert.SampleMemoryRefIdeal.nD Cert.SampleMemoryRefIdeal.τ).loc Cert.SampleMemoryRefIdeal.main_arg2))
      ∧ r.2.sem = fun _ => 0)

def quiescent_SampleMemoryRefIdeal_pre_finite_mem_s [hSampleMemoryRefIdeal : Cert.SampleMemoryRefIdeal.Facts] [hPre_finite_mem_s : Cert.Pre_finite_mem_s.Facts] : Prop :=
  ∀ (m : (ℓ : Loc Cert.SampleMemoryRefIdeal.nD Cert.SampleMemoryRefIdeal.τ Cert.SampleMemoryRefIdeal.sig) → Buf (Elt Ideal) ℓ) (g : Dev Cert.SampleMemoryRefIdeal.nD → PrngReg), Pre_SampleMemoryRefIdeal_finite_mem_s m →
    θ_run (Cert.SampleMemoryRefIdeal.defs (F := Ideal)) (onTc (τ := Cert.SampleMemoryRefIdeal.τ) (Cert.SampleMemoryRefIdeal.main (F := Ideal))) ⟨m, fun _ => 0, g⟩ (fun r => (∀ c : Dev Cert.SampleMemoryRefIdeal.nD,
      r.2.mem ((c.tc : Thread Cert.SampleMemoryRefIdeal.nD Cert.SampleMemoryRefIdeal.τ).loc Cert.SampleMemoryRefIdeal.main_arg0) = m ((c.tc : Thread Cert.SampleMemoryRefIdeal.nD Cert.SampleMemoryRefIdeal.τ).loc Cert.SampleMemoryRefIdeal.main_arg0)
      ∧ r.2.mem ((c.tc : Thread Cert.SampleMemoryRefIdeal.nD Cert.SampleMemoryRefIdeal.τ).loc Cert.SampleMemoryRefIdeal.main_arg1) = m ((c.tc : Thread Cert.SampleMemoryRefIdeal.nD Cert.SampleMemoryRefIdeal.τ).loc Cert.SampleMemoryRefIdeal.main_arg1)
      ∧ r.2.mem ((c.tc : Thread Cert.SampleMemoryRefIdeal.nD Cert.SampleMemoryRefIdeal.τ).loc Cert.SampleMemoryRefIdeal.main_arg2) = m ((c.tc : Thread Cert.SampleMemoryRefIdeal.nD Cert.SampleMemoryRefIdeal.τ).loc Cert.SampleMemoryRefIdeal.main_arg2))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v49) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Post_PostIdeal : Prop :=
  True

def algebraic_PostIdeal_PostRefIdeal_pre_finite_memory [hPostIdeal : Cert.PostIdeal.Facts] [hPostRefIdeal : Cert.PostRefIdeal.Facts] [hPre_finite_memory : Cert.Pre_finite_memory.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_memory m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v65) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12))

def preserves_MemKv_MemKvIdeal : Prop :=
  True

def algebraic_MemKvIdeal_MemKvRefIdeal_pre_finite_mem [hMemKvIdeal : Cert.MemKvIdeal.Facts] [hMemKvRefIdeal : Cert.MemKvRefIdeal.Facts] [hPre_finite_mem : Cert.Pre_finite_mem.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal_finite_mem m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v17_0)) (v1 : (c : Dev Cert.MemKvIdeal.nD) → Buf (Elt Ideal) ((c.tc : Thread Cert.MemKvIdeal.nD Cert.MemKvIdeal.τ).loc Cert.MemKvIdeal.main_v17_1)) (v2 : (c : Dev Cert.MemKvIdeal.nD) → Buf (Elt Ideal) ((c.tc : Thread Cert.MemKvIdeal.nD Cert.MemKvIdeal.τ).loc Cert.MemKvIdeal.main_v17_2)) (v3 : (c : Dev Cert.MemKvIdeal.nD) → Buf (Elt Ideal) ((c.tc : Thread Cert.MemKvIdeal.nD Cert.MemKvIdeal.τ).loc Cert.MemKvIdeal.main_v17_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v17_0) = v0 c
          ∧ r.2.mem ((c.tc : Thread Cert.MemKvIdeal.nD Cert.MemKvIdeal.τ).loc Cert.MemKvIdeal.main_v17_1) = v1 c
          ∧ r.2.mem ((c.tc : Thread Cert.MemKvIdeal.nD Cert.MemKvIdeal.τ).loc Cert.MemKvIdeal.main_v17_2) = v2 c
          ∧ r.2.mem ((c.tc : Thread Cert.MemKvIdeal.nD Cert.MemKvIdeal.τ).loc Cert.MemKvIdeal.main_v17_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v30) = v0 c
          ∧ r.2.mem ((c.tc : Thread Cert.MemKvRefIdeal.nD Cert.MemKvRefIdeal.τ).loc Cert.MemKvRefIdeal.main_v15) = v1 c
          ∧ r.2.mem ((c.tc : Thread Cert.MemKvRefIdeal.nD Cert.MemKvRefIdeal.τ).loc Cert.MemKvRefIdeal.main_v31) = v2 c
          ∧ r.2.mem ((c.tc : Thread Cert.MemKvRefIdeal.nD Cert.MemKvRefIdeal.τ).loc Cert.MemKvRefIdeal.main_v32) = v3 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Pre_PreIdeal : Prop :=
  True

def algebraic_PreIdeal_PreRefIdeal_pre_finite_pre [hPreIdeal : Cert.PreIdeal.Facts] [hPreRefIdeal : Cert.PreRefIdeal.Facts] [hPre_finite_pre : Cert.Pre_finite_pre.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal_finite_pre m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)) →
    ∃ (v0 : (c : Dev Cert.PreIdeal.nD) → Buf (Elt Ideal) ((c.tc : Thread Cert.PreIdeal.nD Cert.PreIdeal.τ).loc Cert.PreIdeal.main_v40_0)) (v1 : (c : Dev Cert.PreIdeal.nD) → Buf (Elt Ideal) ((c.tc : Thread Cert.PreIdeal.nD Cert.PreIdeal.τ).loc Cert.PreIdeal.main_v40_1)) (v2 : (c : Dev Cert.PreIdeal.nD) → Buf (Elt Ideal) ((c.tc : Thread Cert.PreIdeal.nD Cert.PreIdeal.τ).loc Cert.PreIdeal.main_v40_2)) (v3 : (c : Dev Cert.PreIdeal.nD) → Buf (Elt Ideal) ((c.tc : Thread Cert.PreIdeal.nD Cert.PreIdeal.τ).loc Cert.PreIdeal.main_v40_5)) (v4 : (c : Dev Cert.PreIdeal.nD) → Buf (Elt Ideal) ((c.tc : Thread Cert.PreIdeal.nD Cert.PreIdeal.τ).loc Cert.PreIdeal.main_v40_6)) (v5 : (c : Dev Cert.PreIdeal.nD) → Buf (Elt Ideal) ((c.tc : Thread Cert.PreIdeal.nD Cert.PreIdeal.τ).loc Cert.PreIdeal.main_v40_7)) (v6 : (c : Dev Cert.PreIdeal.nD) → Buf (Elt Ideal) ((c.tc : Thread Cert.PreIdeal.nD Cert.PreIdeal.τ).loc Cert.PreIdeal.main_v40_8)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v40_0) = v0 c
          ∧ r.2.mem ((c.tc : Thread Cert.PreIdeal.nD Cert.PreIdeal.τ).loc Cert.PreIdeal.main_v40_1) = v1 c
          ∧ r.2.mem ((c.tc : Thread Cert.PreIdeal.nD Cert.PreIdeal.τ).loc Cert.PreIdeal.main_v40_2) = v2 c
          ∧ r.2.mem ((c.tc : Thread Cert.PreIdeal.nD Cert.PreIdeal.τ).loc Cert.PreIdeal.main_v40_5) = v3 c
          ∧ r.2.mem ((c.tc : Thread Cert.PreIdeal.nD Cert.PreIdeal.τ).loc Cert.PreIdeal.main_v40_6) = v4 c
          ∧ r.2.mem ((c.tc : Thread Cert.PreIdeal.nD Cert.PreIdeal.τ).loc Cert.PreIdeal.main_v40_7) = v5 c
          ∧ r.2.mem ((c.tc : Thread Cert.PreIdeal.nD Cert.PreIdeal.τ).loc Cert.PreIdeal.main_v40_8) = v6 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v57) = v0 c
          ∧ r.2.mem ((c.tc : Thread Cert.PreRefIdeal.nD Cert.PreRefIdeal.τ).loc Cert.PreRefIdeal.main_v17) = v1 c
          ∧ r.2.mem ((c.tc : Thread Cert.PreRefIdeal.nD Cert.PreRefIdeal.τ).loc Cert.PreRefIdeal.main_v325) = v2 c
          ∧ r.2.mem ((c.tc : Thread Cert.PreRefIdeal.nD Cert.PreRefIdeal.τ).loc Cert.PreRefIdeal.main_v326) = v3 c
          ∧ r.2.mem ((c.tc : Thread Cert.PreRefIdeal.nD Cert.PreRefIdeal.τ).loc Cert.PreRefIdeal.main_v327) = v4 c
          ∧ r.2.mem ((c.tc : Thread Cert.PreRefIdeal.nD Cert.PreRefIdeal.τ).loc Cert.PreRefIdeal.main_v328) = v5 c
          ∧ r.2.mem ((c.tc : Thread Cert.PreRefIdeal.nD Cert.PreRefIdeal.τ).loc Cert.PreRefIdeal.main_v329) = v6 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9))

def preserves_PreSample_PreSampleIdeal : Prop :=
  True

def algebraic_PreSampleIdeal_PreSampleRefIdeal_pre_finite_pre_s [hPreSampleIdeal : Cert.PreSampleIdeal.Facts] [hPreSampleRefIdeal : Cert.PreSampleRefIdeal.Facts] [hPre_finite_pre_s : Cert.Pre_finite_pre_s.Facts] : Prop :=
  ∀ (m : (ℓ : Loc Cert.PreSampleIdeal.nD Cert.PreSampleIdeal.τ Cert.PreSampleIdeal.sig) → Buf (Elt Ideal) ℓ) (g : Dev Cert.PreSampleIdeal.nD → PrngReg)
    (m' : (ℓ : Loc Cert.PreSampleRefIdeal.nD Cert.PreSampleRefIdeal.τ Cert.PreSampleRefIdeal.sig) → Buf (Elt Ideal) ℓ) (g' : Dev Cert.PreSampleRefIdeal.nD → PrngReg), Pre_PreSampleIdeal_finite_pre_s m →
    (∀ c : Dev Cert.PreSampleIdeal.nD,
      m' ((c.tc : Thread Cert.PreSampleRefIdeal.nD Cert.PreSampleRefIdeal.τ).loc Cert.PreSampleRefIdeal.main_arg0) = m ((c.tc : Thread Cert.PreSampleIdeal.nD Cert.PreSampleIdeal.τ).loc Cert.PreSampleIdeal.main_arg0)
      ∧ m' ((c.tc : Thread Cert.PreSampleRefIdeal.nD Cert.PreSampleRefIdeal.τ).loc Cert.PreSampleRefIdeal.main_arg1) = m ((c.tc : Thread Cert.PreSampleIdeal.nD Cert.PreSampleIdeal.τ).loc Cert.PreSampleIdeal.main_arg1)
      ∧ m' ((c.tc : Thread Cert.PreSampleRefIdeal.nD Cert.PreSampleRefIdeal.τ).loc Cert.PreSampleRefIdeal.main_arg2) = m ((c.tc : Thread Cert.PreSampleIdeal.nD Cert.PreSampleIdeal.τ).loc Cert.PreSampleIdeal.main_arg2)
      ∧ m' ((c.tc : Thread Cert.PreSampleRefIdeal.nD Cert.PreSampleRefIdeal.τ).loc Cert.PreSampleRefIdeal.main_arg3) = m ((c.tc : Thread Cert.PreSampleIdeal.nD Cert.PreSampleIdeal.τ).loc Cert.PreSampleIdeal.main_arg3)
      ∧ m' ((c.tc : Thread Cert.PreSampleRefIdeal.nD Cert.PreSampleRefIdeal.τ).loc Cert.PreSampleRefIdeal.main_arg4) = m ((c.tc : Thread Cert.PreSampleIdeal.nD Cert.PreSampleIdeal.τ).loc Cert.PreSampleIdeal.main_arg4)
      ∧ m' ((c.tc : Thread Cert.PreSampleRefIdeal.nD Cert.PreSampleRefIdeal.τ).loc Cert.PreSampleRefIdeal.main_arg5) = m ((c.tc : Thread Cert.PreSampleIdeal.nD Cert.PreSampleIdeal.τ).loc Cert.PreSampleIdeal.main_arg5)
      ∧ m' ((c.tc : Thread Cert.PreSampleRefIdeal.nD Cert.PreSampleRefIdeal.τ).loc Cert.PreSampleRefIdeal.main_arg6) = m ((c.tc : Thread Cert.PreSampleIdeal.nD Cert.PreSampleIdeal.τ).loc Cert.PreSampleIdeal.main_arg6)
      ∧ m' ((c.tc : Thread Cert.PreSampleRefIdeal.nD Cert.PreSampleRefIdeal.τ).loc Cert.PreSampleRefIdeal.main_arg7) = m ((c.tc : Thread Cert.PreSampleIdeal.nD Cert.PreSampleIdeal.τ).loc Cert.PreSampleIdeal.main_arg7)
      ∧ m' ((c.tc : Thread Cert.PreSampleRefIdeal.nD Cert.PreSampleRefIdeal.τ).loc Cert.PreSampleRefIdeal.main_arg8) = m ((c.tc : Thread Cert.PreSampleIdeal.nD Cert.PreSampleIdeal.τ).loc Cert.PreSampleIdeal.main_arg8)
      ∧ m' ((c.tc : Thread Cert.PreSampleRefIdeal.nD Cert.PreSampleRefIdeal.τ).loc Cert.PreSampleRefIdeal.main_arg9) = m ((c.tc : Thread Cert.PreSampleIdeal.nD Cert.PreSampleIdeal.τ).loc Cert.PreSampleIdeal.main_arg9)
      ∧ m' ((c.tc : Thread Cert.PreSampleRefIdeal.nD Cert.PreSampleRefIdeal.τ).loc Cert.PreSampleRefIdeal.main_arg10) = m ((c.tc : Thread Cert.PreSampleIdeal.nD Cert.PreSampleIdeal.τ).loc Cert.PreSampleIdeal.main_arg10)) →
    ∃ (v0 : (c : Dev Cert.PreSampleIdeal.nD) → Buf (Elt Ideal) ((c.tc : Thread Cert.PreSampleIdeal.nD Cert.PreSampleIdeal.τ).loc Cert.PreSampleIdeal.main_v40_0)) (v1 : (c : Dev Cert.PreSampleIdeal.nD) → Buf (Elt Ideal) ((c.tc : Thread Cert.PreSampleIdeal.nD Cert.PreSampleIdeal.τ).loc Cert.PreSampleIdeal.main_v40_1)) (v2 : (c : Dev Cert.PreSampleIdeal.nD) → Buf (Elt Ideal) ((c.tc : Thread Cert.PreSampleIdeal.nD Cert.PreSampleIdeal.τ).loc Cert.PreSampleIdeal.main_v40_2)) (v3 : (c : Dev Cert.PreSampleIdeal.nD) → Buf (Elt Ideal) ((c.tc : Thread Cert.PreSampleIdeal.nD Cert.PreSampleIdeal.τ).loc Cert.PreSampleIdeal.main_v40_3)) (v4 : (c : Dev Cert.PreSampleIdeal.nD) → Buf (Elt Ideal) ((c.tc : Thread Cert.PreSampleIdeal.nD Cert.PreSampleIdeal.τ).loc Cert.PreSampleIdeal.main_v40_4)) (v5 : (c : Dev Cert.PreSampleIdeal.nD) → Buf (Elt Ideal) ((c.tc : Thread Cert.PreSampleIdeal.nD Cert.PreSampleIdeal.τ).loc Cert.PreSampleIdeal.main_v40_5)) (v6 : (c : Dev Cert.PreSampleIdeal.nD) → Buf (Elt Ideal) ((c.tc : Thread Cert.PreSampleIdeal.nD Cert.PreSampleIdeal.τ).loc Cert.PreSampleIdeal.main_v40_6)),
      θ_run (Cert.PreSampleIdeal.defs (F := Ideal)) (onTc (τ := Cert.PreSampleIdeal.τ) (Cert.PreSampleIdeal.main (F := Ideal))) ⟨m, fun _ => 0, g⟩ (fun r => ∀ c : Dev Cert.PreSampleIdeal.nD,
          r.2.mem ((c.tc : Thread Cert.PreSampleIdeal.nD Cert.PreSampleIdeal.τ).loc Cert.PreSampleIdeal.main_v40_0) = v0 c
          ∧ r.2.mem ((c.tc : Thread Cert.PreSampleIdeal.nD Cert.PreSampleIdeal.τ).loc Cert.PreSampleIdeal.main_v40_1) = v1 c
          ∧ r.2.mem ((c.tc : Thread Cert.PreSampleIdeal.nD Cert.PreSampleIdeal.τ).loc Cert.PreSampleIdeal.main_v40_2) = v2 c
          ∧ r.2.mem ((c.tc : Thread Cert.PreSampleIdeal.nD Cert.PreSampleIdeal.τ).loc Cert.PreSampleIdeal.main_v40_3) = v3 c
          ∧ r.2.mem ((c.tc : Thread Cert.PreSampleIdeal.nD Cert.PreSampleIdeal.τ).loc Cert.PreSampleIdeal.main_v40_4) = v4 c
          ∧ r.2.mem ((c.tc : Thread Cert.PreSampleIdeal.nD Cert.PreSampleIdeal.τ).loc Cert.PreSampleIdeal.main_v40_5) = v5 c
          ∧ r.2.mem ((c.tc : Thread Cert.PreSampleIdeal.nD Cert.PreSampleIdeal.τ).loc Cert.PreSampleIdeal.main_v40_6) = v6 c
          ∧ r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
          ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
          ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
          ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
          ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
          ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5)
          ∧ r.2.mem ((c.tc : Thread Cert.PreSampleIdeal.nD Cert.PreSampleIdeal.τ).loc Cert.PreSampleIdeal.main_arg6) = m ((c.tc : Thread Cert.PreSampleIdeal.nD Cert.PreSampleIdeal.τ).loc Cert.PreSampleIdeal.main_arg6)
          ∧ r.2.mem ((c.tc : Thread Cert.PreSampleIdeal.nD Cert.PreSampleIdeal.τ).loc Cert.PreSampleIdeal.main_arg7) = m ((c.tc : Thread Cert.PreSampleIdeal.nD Cert.PreSampleIdeal.τ).loc Cert.PreSampleIdeal.main_arg7)
          ∧ r.2.mem ((c.tc : Thread Cert.PreSampleIdeal.nD Cert.PreSampleIdeal.τ).loc Cert.PreSampleIdeal.main_arg8) = m ((c.tc : Thread Cert.PreSampleIdeal.nD Cert.PreSampleIdeal.τ).loc Cert.PreSampleIdeal.main_arg8)
          ∧ r.2.mem ((c.tc : Thread Cert.PreSampleIdeal.nD Cert.PreSampleIdeal.τ).loc Cert.PreSampleIdeal.main_arg9) = m ((c.tc : Thread Cert.PreSampleIdeal.nD Cert.PreSampleIdeal.τ).loc Cert.PreSampleIdeal.main_arg9)
          ∧ r.2.mem ((c.tc : Thread Cert.PreSampleIdeal.nD Cert.PreSampleIdeal.τ).loc Cert.PreSampleIdeal.main_arg10) = m ((c.tc : Thread Cert.PreSampleIdeal.nD Cert.PreSampleIdeal.τ).loc Cert.PreSampleIdeal.main_arg10))
      ∧ θ_run (Cert.PreSampleRefIdeal.defs (F := Ideal)) (onTc (τ := Cert.PreSampleRefIdeal.τ) (Cert.PreSampleRefIdeal.main (F := Ideal))) ⟨m', fun _ => 0, g'⟩ (fun r => ∀ c : Dev Cert.PreSampleRefIdeal.nD,
          r.2.mem ((c.tc : Thread Cert.PreSampleRefIdeal.nD Cert.PreSampleRefIdeal.τ).loc Cert.PreSampleRefIdeal.main_v28) = v0 c
          ∧ r.2.mem ((c.tc : Thread Cert.PreSampleRefIdeal.nD Cert.PreSampleRefIdeal.τ).loc Cert.PreSampleRefIdeal.main_v350) = v1 c
          ∧ r.2.mem ((c.tc : Thread Cert.PreSampleRefIdeal.nD Cert.PreSampleRefIdeal.τ).loc Cert.PreSampleRefIdeal.main_v57) = v2 c
          ∧ r.2.mem ((c.tc : Thread Cert.PreSampleRefIdeal.nD Cert.PreSampleRefIdeal.τ).loc Cert.PreSampleRefIdeal.main_v17) = v3 c
          ∧ r.2.mem ((c.tc : Thread Cert.PreSampleRefIdeal.nD Cert.PreSampleRefIdeal.τ).loc Cert.PreSampleRefIdeal.main_v72) = v4 c
          ∧ r.2.mem ((c.tc : Thread Cert.PreSampleRefIdeal.nD Cert.PreSampleRefIdeal.τ).loc Cert.PreSampleRefIdeal.main_v19) = v5 c
          ∧ r.2.mem ((c.tc : Thread Cert.PreSampleRefIdeal.nD Cert.PreSampleRefIdeal.τ).loc Cert.PreSampleRefIdeal.main_v351) = v6 c
          ∧ r.2.mem ((c.tc : Thread Cert.PreSampleRefIdeal.nD Cert.PreSampleRefIdeal.τ).loc Cert.PreSampleRefIdeal.main_arg0) = m' ((c.tc : Thread Cert.PreSampleRefIdeal.nD Cert.PreSampleRefIdeal.τ).loc Cert.PreSampleRefIdeal.main_arg0)
          ∧ r.2.mem ((c.tc : Thread Cert.PreSampleRefIdeal.nD Cert.PreSampleRefIdeal.τ).loc Cert.PreSampleRefIdeal.main_arg1) = m' ((c.tc : Thread Cert.PreSampleRefIdeal.nD Cert.PreSampleRefIdeal.τ).loc Cert.PreSampleRefIdeal.main_arg1)
          ∧ r.2.mem ((c.tc : Thread Cert.PreSampleRefIdeal.nD Cert.PreSampleRefIdeal.τ).loc Cert.PreSampleRefIdeal.main_arg2) = m' ((c.tc : Thread Cert.PreSampleRefIdeal.nD Cert.PreSampleRefIdeal.τ).loc Cert.PreSampleRefIdeal.main_arg2)
          ∧ r.2.mem ((c.tc : Thread Cert.PreSampleRefIdeal.nD Cert.PreSampleRefIdeal.τ).loc Cert.PreSampleRefIdeal.main_arg3) = m' ((c.tc : Thread Cert.PreSampleRefIdeal.nD Cert.PreSampleRefIdeal.τ).loc Cert.PreSampleRefIdeal.main_arg3)
          ∧ r.2.mem ((c.tc : Thread Cert.PreSampleRefIdeal.nD Cert.PreSampleRefIdeal.τ).loc Cert.PreSampleRefIdeal.main_arg4) = m' ((c.tc : Thread Cert.PreSampleRefIdeal.nD Cert.PreSampleRefIdeal.τ).loc Cert.PreSampleRefIdeal.main_arg4)
          ∧ r.2.mem ((c.tc : Thread Cert.PreSampleRefIdeal.nD Cert.PreSampleRefIdeal.τ).loc Cert.PreSampleRefIdeal.main_arg5) = m' ((c.tc : Thread Cert.PreSampleRefIdeal.nD Cert.PreSampleRefIdeal.τ).loc Cert.PreSampleRefIdeal.main_arg5)
          ∧ r.2.mem ((c.tc : Thread Cert.PreSampleRefIdeal.nD Cert.PreSampleRefIdeal.τ).loc Cert.PreSampleRefIdeal.main_arg6) = m' ((c.tc : Thread Cert.PreSampleRefIdeal.nD Cert.PreSampleRefIdeal.τ).loc Cert.PreSampleRefIdeal.main_arg6)
          ∧ r.2.mem ((c.tc : Thread Cert.PreSampleRefIdeal.nD Cert.PreSampleRefIdeal.τ).loc Cert.PreSampleRefIdeal.main_arg7) = m' ((c.tc : Thread Cert.PreSampleRefIdeal.nD Cert.PreSampleRefIdeal.τ).loc Cert.PreSampleRefIdeal.main_arg7)
          ∧ r.2.mem ((c.tc : Thread Cert.PreSampleRefIdeal.nD Cert.PreSampleRefIdeal.τ).loc Cert.PreSampleRefIdeal.main_arg8) = m' ((c.tc : Thread Cert.PreSampleRefIdeal.nD Cert.PreSampleRefIdeal.τ).loc Cert.PreSampleRefIdeal.main_arg8)
          ∧ r.2.mem ((c.tc : Thread Cert.PreSampleRefIdeal.nD Cert.PreSampleRefIdeal.τ).loc Cert.PreSampleRefIdeal.main_arg9) = m' ((c.tc : Thread Cert.PreSampleRefIdeal.nD Cert.PreSampleRefIdeal.τ).loc Cert.PreSampleRefIdeal.main_arg9)
          ∧ r.2.mem ((c.tc : Thread Cert.PreSampleRefIdeal.nD Cert.PreSampleRefIdeal.τ).loc Cert.PreSampleRefIdeal.main_arg10) = m' ((c.tc : Thread Cert.PreSampleRefIdeal.nD Cert.PreSampleRefIdeal.τ).loc Cert.PreSampleRefIdeal.main_arg10))

def preserves_PostSample_PostSampleIdeal : Prop :=
  True

def algebraic_PostSampleIdeal_PostSampleRefIdeal [hPostSampleIdeal : Cert.PostSampleIdeal.Facts] [hPostSampleRefIdeal : Cert.PostSampleRefIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleRefIdeal.nD Cert.PostSampleRefIdeal.τ Cert.PostSampleRefIdeal.sig) → Buf (Elt Ideal) ℓ) (g' : Dev Cert.PostSampleRefIdeal.nD → PrngReg), Pre_PostSampleIdeal m →
    (∀ c : Dev Cert.PostSampleIdeal.nD,
      m' ((c.tc : Thread Cert.PostSampleRefIdeal.nD Cert.PostSampleRefIdeal.τ).loc Cert.PostSampleRefIdeal.main_arg0) = m ((c.tc : Thread Cert.PostSampleIdeal.nD Cert.PostSampleIdeal.τ).loc Cert.PostSampleIdeal.main_arg0)
      ∧ m' ((c.tc : Thread Cert.PostSampleRefIdeal.nD Cert.PostSampleRefIdeal.τ).loc Cert.PostSampleRefIdeal.main_arg1) = m ((c.tc : Thread Cert.PostSampleIdeal.nD Cert.PostSampleIdeal.τ).loc Cert.PostSampleIdeal.main_arg1)
      ∧ m' ((c.tc : Thread Cert.PostSampleRefIdeal.nD Cert.PostSampleRefIdeal.τ).loc Cert.PostSampleRefIdeal.main_arg2) = m ((c.tc : Thread Cert.PostSampleIdeal.nD Cert.PostSampleIdeal.τ).loc Cert.PostSampleIdeal.main_arg2)
      ∧ m' ((c.tc : Thread Cert.PostSampleRefIdeal.nD Cert.PostSampleRefIdeal.τ).loc Cert.PostSampleRefIdeal.main_arg3) = m ((c.tc : Thread Cert.PostSampleIdeal.nD Cert.PostSampleIdeal.τ).loc Cert.PostSampleIdeal.main_arg3)
      ∧ m' ((c.tc : Thread Cert.PostSampleRefIdeal.nD Cert.PostSampleRefIdeal.τ).loc Cert.PostSampleRefIdeal.main_arg4) = m ((c.tc : Thread Cert.PostSampleIdeal.nD Cert.PostSampleIdeal.τ).loc Cert.PostSampleIdeal.main_arg4)
      ∧ m' ((c.tc : Thread Cert.PostSampleRefIdeal.nD Cert.PostSampleRefIdeal.τ).loc Cert.PostSampleRefIdeal.main_arg5) = m ((c.tc : Thread Cert.PostSampleIdeal.nD Cert.PostSampleIdeal.τ).loc Cert.PostSampleIdeal.main_arg5)
      ∧ m' ((c.tc : Thread Cert.PostSampleRefIdeal.nD Cert.PostSampleRefIdeal.τ).loc Cert.PostSampleRefIdeal.main_arg6) = m ((c.tc : Thread Cert.PostSampleIdeal.nD Cert.PostSampleIdeal.τ).loc Cert.PostSampleIdeal.main_arg6)
      ∧ m' ((c.tc : Thread Cert.PostSampleRefIdeal.nD Cert.PostSampleRefIdeal.τ).loc Cert.PostSampleRefIdeal.main_arg7) = m ((c.tc : Thread Cert.PostSampleIdeal.nD Cert.PostSampleIdeal.τ).loc Cert.PostSampleIdeal.main_arg7)
      ∧ m' ((c.tc : Thread Cert.PostSampleRefIdeal.nD Cert.PostSampleRefIdeal.τ).loc Cert.PostSampleRefIdeal.main_arg8) = m ((c.tc : Thread Cert.PostSampleIdeal.nD Cert.PostSampleIdeal.τ).loc Cert.PostSampleIdeal.main_arg8)
      ∧ m' ((c.tc : Thread Cert.PostSampleRefIdeal.nD Cert.PostSampleRefIdeal.τ).loc Cert.PostSampleRefIdeal.main_arg9) = m ((c.tc : Thread Cert.PostSampleIdeal.nD Cert.PostSampleIdeal.τ).loc Cert.PostSampleIdeal.main_arg9)
      ∧ m' ((c.tc : Thread Cert.PostSampleRefIdeal.nD Cert.PostSampleRefIdeal.τ).loc Cert.PostSampleRefIdeal.main_arg10) = m ((c.tc : Thread Cert.PostSampleIdeal.nD Cert.PostSampleIdeal.τ).loc Cert.PostSampleIdeal.main_arg10)
      ∧ m' ((c.tc : Thread Cert.PostSampleRefIdeal.nD Cert.PostSampleRefIdeal.τ).loc Cert.PostSampleRefIdeal.main_arg11) = m ((c.tc : Thread Cert.PostSampleIdeal.nD Cert.PostSampleIdeal.τ).loc Cert.PostSampleIdeal.main_arg11)
      ∧ m' ((c.tc : Thread Cert.PostSampleRefIdeal.nD Cert.PostSampleRefIdeal.τ).loc Cert.PostSampleRefIdeal.main_arg12) = m ((c.tc : Thread Cert.PostSampleIdeal.nD Cert.PostSampleIdeal.τ).loc Cert.PostSampleIdeal.main_arg12)
      ∧ m' ((c.tc : Thread Cert.PostSampleRefIdeal.nD Cert.PostSampleRefIdeal.τ).loc Cert.PostSampleRefIdeal.main_arg13) = m ((c.tc : Thread Cert.PostSampleIdeal.nD Cert.PostSampleIdeal.τ).loc Cert.PostSampleIdeal.main_arg13)
      ∧ m' ((c.tc : Thread Cert.PostSampleRefIdeal.nD Cert.PostSampleRefIdeal.τ).loc Cert.PostSampleRefIdeal.main_arg14) = m ((c.tc : Thread Cert.PostSampleIdeal.nD Cert.PostSampleIdeal.τ).loc Cert.PostSampleIdeal.main_arg14)
      ∧ m' ((c.tc : Thread Cert.PostSampleRefIdeal.nD Cert.PostSampleRefIdeal.τ).loc Cert.PostSampleRefIdeal.main_arg15) = m ((c.tc : Thread Cert.PostSampleIdeal.nD Cert.PostSampleIdeal.τ).loc Cert.PostSampleIdeal.main_arg15)) →
    ∃ (v0 : (c : Dev Cert.PostSampleIdeal.nD) → Buf (Elt Ideal) ((c.tc : Thread Cert.PostSampleIdeal.nD Cert.PostSampleIdeal.τ).loc Cert.PostSampleIdeal.main_v10_0)) (v1 : (c : Dev Cert.PostSampleIdeal.nD) → Buf (Elt Ideal) ((c.tc : Thread Cert.PostSampleIdeal.nD Cert.PostSampleIdeal.τ).loc Cert.PostSampleIdeal.main_v10_1)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v10_0) = v0 c
          ∧ r.2.mem ((c.tc : Thread Cert.PostSampleIdeal.nD Cert.PostSampleIdeal.τ).loc Cert.PostSampleIdeal.main_v10_1) = v1 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
          ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
          ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
          ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
          ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
          ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
          ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12)
          ∧ r.2.mem ((c.tc : Thread Cert.PostSampleIdeal.nD Cert.PostSampleIdeal.τ).loc Cert.PostSampleIdeal.main_arg13) = m ((c.tc : Thread Cert.PostSampleIdeal.nD Cert.PostSampleIdeal.τ).loc Cert.PostSampleIdeal.main_arg13)
          ∧ r.2.mem ((c.tc : Thread Cert.PostSampleIdeal.nD Cert.PostSampleIdeal.τ).loc Cert.PostSampleIdeal.main_arg14) = m ((c.tc : Thread Cert.PostSampleIdeal.nD Cert.PostSampleIdeal.τ).loc Cert.PostSampleIdeal.main_arg14)
          ∧ r.2.mem ((c.tc : Thread Cert.PostSampleIdeal.nD Cert.PostSampleIdeal.τ).loc Cert.PostSampleIdeal.main_arg15) = m ((c.tc : Thread Cert.PostSampleIdeal.nD Cert.PostSampleIdeal.τ).loc Cert.PostSampleIdeal.main_arg15))
      ∧ θ_run (Cert.PostSampleRefIdeal.defs (F := Ideal)) (onTc (τ := Cert.PostSampleRefIdeal.τ) (Cert.PostSampleRefIdeal.main (F := Ideal))) ⟨m', fun _ => 0, g'⟩ (fun r => ∀ c : Dev Cert.PostSampleRefIdeal.nD,
          r.2.mem ((c.tc : Thread Cert.PostSampleRefIdeal.nD Cert.PostSampleRefIdeal.τ).loc Cert.PostSampleRefIdeal.main_v55) = v0 c
          ∧ r.2.mem ((c.tc : Thread Cert.PostSampleRefIdeal.nD Cert.PostSampleRefIdeal.τ).loc Cert.PostSampleRefIdeal.main_v40) = v1 c
          ∧ r.2.mem ((c.tc : Thread Cert.PostSampleRefIdeal.nD Cert.PostSampleRefIdeal.τ).loc Cert.PostSampleRefIdeal.main_arg0) = m' ((c.tc : Thread Cert.PostSampleRefIdeal.nD Cert.PostSampleRefIdeal.τ).loc Cert.PostSampleRefIdeal.main_arg0)
          ∧ r.2.mem ((c.tc : Thread Cert.PostSampleRefIdeal.nD Cert.PostSampleRefIdeal.τ).loc Cert.PostSampleRefIdeal.main_arg1) = m' ((c.tc : Thread Cert.PostSampleRefIdeal.nD Cert.PostSampleRefIdeal.τ).loc Cert.PostSampleRefIdeal.main_arg1)
          ∧ r.2.mem ((c.tc : Thread Cert.PostSampleRefIdeal.nD Cert.PostSampleRefIdeal.τ).loc Cert.PostSampleRefIdeal.main_arg2) = m' ((c.tc : Thread Cert.PostSampleRefIdeal.nD Cert.PostSampleRefIdeal.τ).loc Cert.PostSampleRefIdeal.main_arg2)
          ∧ r.2.mem ((c.tc : Thread Cert.PostSampleRefIdeal.nD Cert.PostSampleRefIdeal.τ).loc Cert.PostSampleRefIdeal.main_arg3) = m' ((c.tc : Thread Cert.PostSampleRefIdeal.nD Cert.PostSampleRefIdeal.τ).loc Cert.PostSampleRefIdeal.main_arg3)
          ∧ r.2.mem ((c.tc : Thread Cert.PostSampleRefIdeal.nD Cert.PostSampleRefIdeal.τ).loc Cert.PostSampleRefIdeal.main_arg4) = m' ((c.tc : Thread Cert.PostSampleRefIdeal.nD Cert.PostSampleRefIdeal.τ).loc Cert.PostSampleRefIdeal.main_arg4)
          ∧ r.2.mem ((c.tc : Thread Cert.PostSampleRefIdeal.nD Cert.PostSampleRefIdeal.τ).loc Cert.PostSampleRefIdeal.main_arg5) = m' ((c.tc : Thread Cert.PostSampleRefIdeal.nD Cert.PostSampleRefIdeal.τ).loc Cert.PostSampleRefIdeal.main_arg5)
          ∧ r.2.mem ((c.tc : Thread Cert.PostSampleRefIdeal.nD Cert.PostSampleRefIdeal.τ).loc Cert.PostSampleRefIdeal.main_arg6) = m' ((c.tc : Thread Cert.PostSampleRefIdeal.nD Cert.PostSampleRefIdeal.τ).loc Cert.PostSampleRefIdeal.main_arg6)
          ∧ r.2.mem ((c.tc : Thread Cert.PostSampleRefIdeal.nD Cert.PostSampleRefIdeal.τ).loc Cert.PostSampleRefIdeal.main_arg7) = m' ((c.tc : Thread Cert.PostSampleRefIdeal.nD Cert.PostSampleRefIdeal.τ).loc Cert.PostSampleRefIdeal.main_arg7)
          ∧ r.2.mem ((c.tc : Thread Cert.PostSampleRefIdeal.nD Cert.PostSampleRefIdeal.τ).loc Cert.PostSampleRefIdeal.main_arg8) = m' ((c.tc : Thread Cert.PostSampleRefIdeal.nD Cert.PostSampleRefIdeal.τ).loc Cert.PostSampleRefIdeal.main_arg8)
          ∧ r.2.mem ((c.tc : Thread Cert.PostSampleRefIdeal.nD Cert.PostSampleRefIdeal.τ).loc Cert.PostSampleRefIdeal.main_arg9) = m' ((c.tc : Thread Cert.PostSampleRefIdeal.nD Cert.PostSampleRefIdeal.τ).loc Cert.PostSampleRefIdeal.main_arg9)
          ∧ r.2.mem ((c.tc : Thread Cert.PostSampleRefIdeal.nD Cert.PostSampleRefIdeal.τ).loc Cert.PostSampleRefIdeal.main_arg10) = m' ((c.tc : Thread Cert.PostSampleRefIdeal.nD Cert.PostSampleRefIdeal.τ).loc Cert.PostSampleRefIdeal.main_arg10)
          ∧ r.2.mem ((c.tc : Thread Cert.PostSampleRefIdeal.nD Cert.PostSampleRefIdeal.τ).loc Cert.PostSampleRefIdeal.main_arg11) = m' ((c.tc : Thread Cert.PostSampleRefIdeal.nD Cert.PostSampleRefIdeal.τ).loc Cert.PostSampleRefIdeal.main_arg11)
          ∧ r.2.mem ((c.tc : Thread Cert.PostSampleRefIdeal.nD Cert.PostSampleRefIdeal.τ).loc Cert.PostSampleRefIdeal.main_arg12) = m' ((c.tc : Thread Cert.PostSampleRefIdeal.nD Cert.PostSampleRefIdeal.τ).loc Cert.PostSampleRefIdeal.main_arg12)
          ∧ r.2.mem ((c.tc : Thread Cert.PostSampleRefIdeal.nD Cert.PostSampleRefIdeal.τ).loc Cert.PostSampleRefIdeal.main_arg13) = m' ((c.tc : Thread Cert.PostSampleRefIdeal.nD Cert.PostSampleRefIdeal.τ).loc Cert.PostSampleRefIdeal.main_arg13)
          ∧ r.2.mem ((c.tc : Thread Cert.PostSampleRefIdeal.nD Cert.PostSampleRefIdeal.τ).loc Cert.PostSampleRefIdeal.main_arg14) = m' ((c.tc : Thread Cert.PostSampleRefIdeal.nD Cert.PostSampleRefIdeal.τ).loc Cert.PostSampleRefIdeal.main_arg14)
          ∧ r.2.mem ((c.tc : Thread Cert.PostSampleRefIdeal.nD Cert.PostSampleRefIdeal.τ).loc Cert.PostSampleRefIdeal.main_arg15) = m' ((c.tc : Thread Cert.PostSampleRefIdeal.nD Cert.PostSampleRefIdeal.τ).loc Cert.PostSampleRefIdeal.main_arg15))

def preserves_SampleMemory_SampleMemoryIdeal : Prop :=
  True

def algebraic_SampleMemoryIdeal_SampleMemoryRefIdeal_pre_finite_mem_s [hSampleMemoryIdeal : Cert.SampleMemoryIdeal.Facts] [hSampleMemoryRefIdeal : Cert.SampleMemoryRefIdeal.Facts] [hPre_finite_mem_s : Cert.Pre_finite_mem_s.Facts] : Prop :=
  ∀ (m : (ℓ : Loc Cert.SampleMemoryIdeal.nD Cert.SampleMemoryIdeal.τ Cert.SampleMemoryIdeal.sig) → Buf (Elt Ideal) ℓ) (g : Dev Cert.SampleMemoryIdeal.nD → PrngReg)
    (m' : (ℓ : Loc Cert.SampleMemoryRefIdeal.nD Cert.SampleMemoryRefIdeal.τ Cert.SampleMemoryRefIdeal.sig) → Buf (Elt Ideal) ℓ) (g' : Dev Cert.SampleMemoryRefIdeal.nD → PrngReg), Pre_SampleMemoryIdeal_finite_mem_s m →
    (∀ c : Dev Cert.SampleMemoryIdeal.nD,
      m' ((c.tc : Thread Cert.SampleMemoryRefIdeal.nD Cert.SampleMemoryRefIdeal.τ).loc Cert.SampleMemoryRefIdeal.main_arg0) = m ((c.tc : Thread Cert.SampleMemoryIdeal.nD Cert.SampleMemoryIdeal.τ).loc Cert.SampleMemoryIdeal.main_arg0)
      ∧ m' ((c.tc : Thread Cert.SampleMemoryRefIdeal.nD Cert.SampleMemoryRefIdeal.τ).loc Cert.SampleMemoryRefIdeal.main_arg1) = m ((c.tc : Thread Cert.SampleMemoryIdeal.nD Cert.SampleMemoryIdeal.τ).loc Cert.SampleMemoryIdeal.main_arg1)
      ∧ m' ((c.tc : Thread Cert.SampleMemoryRefIdeal.nD Cert.SampleMemoryRefIdeal.τ).loc Cert.SampleMemoryRefIdeal.main_arg2) = m ((c.tc : Thread Cert.SampleMemoryIdeal.nD Cert.SampleMemoryIdeal.τ).loc Cert.SampleMemoryIdeal.main_arg2)) →
    ∃ (v0 : (c : Dev Cert.SampleMemoryIdeal.nD) → Buf (Elt Ideal) ((c.tc : Thread Cert.SampleMemoryIdeal.nD Cert.SampleMemoryIdeal.τ).loc Cert.SampleMemoryIdeal.main_v3)),
      θ_run (Cert.SampleMemoryIdeal.defs (F := Ideal)) (onTc (τ := Cert.SampleMemoryIdeal.τ) (Cert.SampleMemoryIdeal.main (F := Ideal))) ⟨m, fun _ => 0, g⟩ (fun r => ∀ c : Dev Cert.SampleMemoryIdeal.nD,
          r.2.mem ((c.tc : Thread Cert.SampleMemoryIdeal.nD Cert.SampleMemoryIdeal.τ).loc Cert.SampleMemoryIdeal.main_v3) = v0 c
          ∧ r.2.mem ((c.tc : Thread Cert.SampleMemoryIdeal.nD Cert.SampleMemoryIdeal.τ).loc Cert.SampleMemoryIdeal.main_arg0) = m ((c.tc : Thread Cert.SampleMemoryIdeal.nD Cert.SampleMemoryIdeal.τ).loc Cert.SampleMemoryIdeal.main_arg0)
          ∧ r.2.mem ((c.tc : Thread Cert.SampleMemoryIdeal.nD Cert.SampleMemoryIdeal.τ).loc Cert.SampleMemoryIdeal.main_arg1) = m ((c.tc : Thread Cert.SampleMemoryIdeal.nD Cert.SampleMemoryIdeal.τ).loc Cert.SampleMemoryIdeal.main_arg1)
          ∧ r.2.mem ((c.tc : Thread Cert.SampleMemoryIdeal.nD Cert.SampleMemoryIdeal.τ).loc Cert.SampleMemoryIdeal.main_arg2) = m ((c.tc : Thread Cert.SampleMemoryIdeal.nD Cert.SampleMemoryIdeal.τ).loc Cert.SampleMemoryIdeal.main_arg2))
      ∧ θ_run (Cert.SampleMemoryRefIdeal.defs (F := Ideal)) (onTc (τ := Cert.SampleMemoryRefIdeal.τ) (Cert.SampleMemoryRefIdeal.main (F := Ideal))) ⟨m', fun _ => 0, g'⟩ (fun r => ∀ c : Dev Cert.SampleMemoryRefIdeal.nD,
          r.2.mem ((c.tc : Thread Cert.SampleMemoryRefIdeal.nD Cert.SampleMemoryRefIdeal.τ).loc Cert.SampleMemoryRefIdeal.main_v17) = v0 c
          ∧ r.2.mem ((c.tc : Thread Cert.SampleMemoryRefIdeal.nD Cert.SampleMemoryRefIdeal.τ).loc Cert.SampleMemoryRefIdeal.main_arg0) = m' ((c.tc : Thread Cert.SampleMemoryRefIdeal.nD Cert.SampleMemoryRefIdeal.τ).loc Cert.SampleMemoryRefIdeal.main_arg0)
          ∧ r.2.mem ((c.tc : Thread Cert.SampleMemoryRefIdeal.nD Cert.SampleMemoryRefIdeal.τ).loc Cert.SampleMemoryRefIdeal.main_arg1) = m' ((c.tc : Thread Cert.SampleMemoryRefIdeal.nD Cert.SampleMemoryRefIdeal.τ).loc Cert.SampleMemoryRefIdeal.main_arg1)
          ∧ r.2.mem ((c.tc : Thread Cert.SampleMemoryRefIdeal.nD Cert.SampleMemoryRefIdeal.τ).loc Cert.SampleMemoryRefIdeal.main_arg2) = m' ((c.tc : Thread Cert.SampleMemoryRefIdeal.nD Cert.SampleMemoryRefIdeal.τ).loc Cert.SampleMemoryRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hPost : Cert.Post.Facts) (hPostIdeal : Cert.PostIdeal.Facts) (hPostRefIdeal : Cert.PostRefIdeal.Facts) (hMemKv : Cert.MemKv.Facts) (hMemKvIdeal : Cert.MemKvIdeal.Facts) (hMemKvRefIdeal : Cert.MemKvRefIdeal.Facts) (hPre : Cert.Pre.Facts) (hPreIdeal : Cert.PreIdeal.Facts) (hPreRefIdeal : Cert.PreRefIdeal.Facts) (hPreSample : Cert.PreSample.Facts) (hPreSampleIdeal : Cert.PreSampleIdeal.Facts) (hPreSampleRefIdeal : Cert.PreSampleRefIdeal.Facts) (hPostSample : Cert.PostSample.Facts) (hPostSampleIdeal : Cert.PostSampleIdeal.Facts) (hPostSampleRefIdeal : Cert.PostSampleRefIdeal.Facts) (hSampleMemory : Cert.SampleMemory.Facts) (hSampleMemoryIdeal : Cert.SampleMemoryIdeal.Facts) (hSampleMemoryRefIdeal : Cert.SampleMemoryRefIdeal.Facts) (hPre_finite_memory : Cert.Pre_finite_memory.Facts) (hPre_finite_mem : Cert.Pre_finite_mem.Facts) (hPre_finite_pre : Cert.Pre_finite_pre.Facts) (hPre_finite_pre_s : Cert.Pre_finite_pre_s.Facts) (hPre_finite_mem_s : Cert.Pre_finite_mem_s.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Post (hPost := hPost)
    ∧ quiescent_PostIdeal (hPostIdeal := hPostIdeal)
    ∧ quiescent_PostIdeal_pre_finite_memory (hPostIdeal := hPostIdeal) (hPre_finite_memory := hPre_finite_memory)
    ∧ quiescent_PostRefIdeal (hPostRefIdeal := hPostRefIdeal)
    ∧ quiescent_PostRefIdeal_pre_finite_memory (hPostRefIdeal := hPostRefIdeal) (hPre_finite_memory := hPre_finite_memory)
    ∧ quiescent_MemKv (hMemKv := hMemKv)
    ∧ quiescent_MemKvIdeal (hMemKvIdeal := hMemKvIdeal)
    ∧ quiescent_MemKvIdeal_pre_finite_mem (hMemKvIdeal := hMemKvIdeal) (hPre_finite_mem := hPre_finite_mem)
    ∧ quiescent_MemKvRefIdeal (hMemKvRefIdeal := hMemKvRefIdeal)
    ∧ quiescent_MemKvRefIdeal_pre_finite_mem (hMemKvRefIdeal := hMemKvRefIdeal) (hPre_finite_mem := hPre_finite_mem)
    ∧ quiescent_Pre (hPre := hPre)
    ∧ quiescent_PreIdeal (hPreIdeal := hPreIdeal)
    ∧ quiescent_PreIdeal_pre_finite_pre (hPreIdeal := hPreIdeal) (hPre_finite_pre := hPre_finite_pre)
    ∧ quiescent_PreRefIdeal (hPreRefIdeal := hPreRefIdeal)
    ∧ quiescent_PreRefIdeal_pre_finite_pre (hPreRefIdeal := hPreRefIdeal) (hPre_finite_pre := hPre_finite_pre)
    ∧ quiescent_PreSample (hPreSample := hPreSample)
    ∧ quiescent_PreSampleIdeal (hPreSampleIdeal := hPreSampleIdeal)
    ∧ quiescent_PreSampleIdeal_pre_finite_pre_s (hPreSampleIdeal := hPreSampleIdeal) (hPre_finite_pre_s := hPre_finite_pre_s)
    ∧ quiescent_PreSampleRefIdeal (hPreSampleRefIdeal := hPreSampleRefIdeal)
    ∧ quiescent_PreSampleRefIdeal_pre_finite_pre_s (hPreSampleRefIdeal := hPreSampleRefIdeal) (hPre_finite_pre_s := hPre_finite_pre_s)
    ∧ quiescent_PostSample (hPostSample := hPostSample)
    ∧ quiescent_PostSampleIdeal (hPostSampleIdeal := hPostSampleIdeal)
    ∧ quiescent_PostSampleRefIdeal (hPostSampleRefIdeal := hPostSampleRefIdeal)
    ∧ quiescent_SampleMemory (hSampleMemory := hSampleMemory)
    ∧ quiescent_SampleMemoryIdeal (hSampleMemoryIdeal := hSampleMemoryIdeal)
    ∧ quiescent_SampleMemoryIdeal_pre_finite_mem_s (hSampleMemoryIdeal := hSampleMemoryIdeal) (hPre_finite_mem_s := hPre_finite_mem_s)
    ∧ quiescent_SampleMemoryRefIdeal (hSampleMemoryRefIdeal := hSampleMemoryRefIdeal)
    ∧ quiescent_SampleMemoryRefIdeal_pre_finite_mem_s (hSampleMemoryRefIdeal := hSampleMemoryRefIdeal) (hPre_finite_mem_s := hPre_finite_mem_s)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Post_PostIdeal
    ∧ algebraic_PostIdeal_PostRefIdeal_pre_finite_memory (hPostIdeal := hPostIdeal) (hPostRefIdeal := hPostRefIdeal) (hPre_finite_memory := hPre_finite_memory)
    ∧ preserves_MemKv_MemKvIdeal
    ∧ algebraic_MemKvIdeal_MemKvRefIdeal_pre_finite_mem (hMemKvIdeal := hMemKvIdeal) (hMemKvRefIdeal := hMemKvRefIdeal) (hPre_finite_mem := hPre_finite_mem)
    ∧ preserves_Pre_PreIdeal
    ∧ algebraic_PreIdeal_PreRefIdeal_pre_finite_pre (hPreIdeal := hPreIdeal) (hPreRefIdeal := hPreRefIdeal) (hPre_finite_pre := hPre_finite_pre)
    ∧ preserves_PreSample_PreSampleIdeal
    ∧ algebraic_PreSampleIdeal_PreSampleRefIdeal_pre_finite_pre_s (hPreSampleIdeal := hPreSampleIdeal) (hPreSampleRefIdeal := hPreSampleRefIdeal) (hPre_finite_pre_s := hPre_finite_pre_s)
    ∧ preserves_PostSample_PostSampleIdeal
    ∧ algebraic_PostSampleIdeal_PostSampleRefIdeal (hPostSampleIdeal := hPostSampleIdeal) (hPostSampleRefIdeal := hPostSampleRefIdeal)
    ∧ preserves_SampleMemory_SampleMemoryIdeal
    ∧ algebraic_SampleMemoryIdeal_SampleMemoryRefIdeal_pre_finite_mem_s (hSampleMemoryIdeal := hSampleMemoryIdeal) (hSampleMemoryRefIdeal := hSampleMemoryRefIdeal) (hPre_finite_mem_s := hPre_finite_mem_s)
-- ==== Pre_finite_mem.lean ====
abbrev S1024x1024 : Shape := ⟨2, ![1024, 1024]⟩
abbrev S1024 : Shape := ⟨1, ![1024]⟩
abbrev S128 : Shape := ⟨1, ![128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x1024 .f32) (main_arg1 : FVec F S1024 .f32) (main_arg2 : FVec F S1024x1024 .f32) (main_arg3 : FVec F S128 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_mem_s.lean ====
abbrev S32x512 : Shape := ⟨2, ![32, 512]⟩
abbrev S32x256x4x128 : Shape := ⟨4, ![32, 256, 4, 128]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x256x4x128 : S_.BroadcastsInDim S32x256x4x128 (![] : Fin 0 → Fin S32x256x4x128.rank)
  reducesTo_S32x256x4x128_S_d0_1_2_3 : S32x256x4x128.ReducesTo [0, 1, 2, 3] S_

variable [Facts]

def fn {F : FTy → Type} [FloatOps F] (main_arg0 : FVec F S32x512 .f32) (main_arg1 : FVec F S32x256x4x128 .f32) (main_arg2 : FVec F S32x256x4x128 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x256x4x128 .f32 := Host.absf main_arg1
  let main_cst_0 : FVec F S_ .f32 := constant S_ .f32 0x7F800000#32
  let main_v5 : FVec F S32x256x4x128 .f32 := broadcastInDim S32x256x4x128 ![] bcast_S_S32x256x4x128 main_cst_0
  let main_v6 : IVec S32x256x4x128 1 := cmpf .olt main_v4 main_v5
  let main_c_1 : IVec S_ 1 := constantI S_ 1 1#1
  let main_v7 : IVec S_ 1 := (fun x v => Host.reduce IntOp.andi x v reducesTo_S32x256x4x128_S_d0_1_2_3 h_S_) main_v6 main_c_1
  let main_v8 : IVec S_ 1 := andi main_v3 main_v7
  main_v8
-- ==== Pre_finite_memory.lean ====
abbrev S16384x1024 : Shape := ⟨2, ![16384, 1024]⟩
abbrev S16384x512 : Shape := ⟨2, ![16384, 512]⟩
abbrev S1024x512 : Shape := ⟨2, ![1024, 512]⟩
abbrev S1024 : Shape := ⟨1, ![1024]⟩
abbrev S1024x6144 : Shape := ⟨2, ![1024, 6144]⟩
abbrev S3072 : Shape := ⟨1, ![3072]⟩
abbrev S512x1024 : Shape := ⟨2, ![512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S1024x512 .bf16) (main_arg5 : FVec F S1024x512 .bf16) (main_arg6 : FVec F S1024 .f32) (main_arg7 : FVec F S1024x6144 .f32) (main_arg8 : FVec F S3072 .f32) (main_arg9 : FVec F S512x1024 .f32) (main_arg10 : FVec F S512x1024 .f32) (main_arg11 : FVec F S512x1024 .f32) (main_arg12 : FVec F S1024x1024 .f32) : IVec S_ 1 :=
  let main_v0 : FVec F S16384x512 .f32 := (extf .f32 · bitsLt_bf16_f32) main_arg3
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S1024x512 .f32 := (extf .f32 · bitsLt_bf16_f32) main_arg4
  let main_v6 : FVec F S1024x512 .f32 := Host.absf main_v5
  let main_cst_0 : FVec F S_ .f32 := constant S_ .f32 0x7F800000#32
  let main_v7 : FVec F S1024x512 .f32 := broadcastInDim S1024x512 ![] bcast_S_S1024x512 main_cst_0
  let main_v8 : IVec S1024x512 1 := cmpf .olt main_v6 main_v7
  let main_c_1 : IVec S_ 1 := constantI S_ 1 1#1
  let main_v9 : IVec S_ 1 := (fun x v => Host.reduce IntOp.andi x v reducesTo_S1024x512_S_d0_1 h_S_) main_v8 main_c_1
  let main_v10 : IVec S_ 1 := andi main_v4 main_v9
  main_v10
-- ==== Pre_finite_pre.lean ====
abbrev S16384x1024 : Shape := ⟨2, ![16384, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S31x512 : Shape := ⟨2, ![31, 512]⟩
abbrev S512 : Shape := ⟨1, ![512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S16384x1024 .f32) (main_arg1 : FVec F S1024 .f32) (main_arg2 : FVec F S1024x6144 .f32) (main_arg3 : FVec F S64 .f32) (main_arg4 : FVec F S64 .f32) (main_arg5 : FVec F S128 .f32) (main_arg6 : FVec F S31x512 .f32) (main_arg7 : FVec F S512 .f32) (main_arg8 : FVec F S512 .f32) (main_arg9 : FVec F S512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Pre_finite_pre_s.lean ====
abbrev S32x1024 : Shape := ⟨2, ![32, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S32x30x512 : Shape := ⟨3, ![32, 30, 512]⟩
abbrev S31x512 : Shape := ⟨2, ![31, 512]⟩
abbrev S512 : Shape := ⟨1, ![512]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S32x1024 .f32) (main_arg1 : FVec F S1024 .f32) (main_arg2 : FVec F S1024x6144 .f32) (main_arg3 : FVec F S64 .f32) (main_arg4 : FVec F S64 .f32) (main_arg5 : FVec F S128 .f32) (main_arg6 : FVec F S32x30x512 .f32) (main_arg7 : FVec F S31x512 .f32) (main_arg8 : FVec F S512 .f32) (main_arg9 : FVec F S512 .f32) (main_arg10 : FVec F S512 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Kernel.lean ====
abbrev S4x4096x8x64 : Shape := ⟨4, ![4, 4096, 8, 64]⟩
abbrev S16384x512 : Shape := ⟨2, ![16384, 512]⟩
abbrev S_ : Shape := ⟨0, ![]⟩
abbrev S64x256x512 : Shape := ⟨3, ![64, 256, 512]⟩
abbrev S64x512 : Shape := ⟨2, ![64, 512]⟩
abbrev S64x1x512 : Shape := ⟨3, ![64, 1, 512]⟩
abbrev S16384x128 : Shape := ⟨2, ![16384, 128]⟩
abbrev S16384x64 : Shape := ⟨2, ![16384, 64]⟩
abbrev S16384x1024 : Shape := ⟨2, ![16384, 1024]⟩
abbrev S4x16x8x64 : Shape := ⟨4, ![4, 16, 8, 64]⟩
abbrev S4x8x64x16 : Shape := ⟨4, ![4, 8, 64, 16]⟩
abbrev S4x8x128x16 : Shape := ⟨4, ![4, 8, 128, 16]⟩
abbrev S4x8x128x1x16 : Shape := ⟨5, ![4, 8, 128, 1, 16]⟩
abbrev S8x8 : Shape := ⟨2, ![8, 8]⟩
abbrev S1x8x1x8x1 : Shape := ⟨5, ![1, 8, 1, 8, 1]⟩
abbrev S4x8x128x8x16 : Shape := ⟨5, ![4, 8, 128, 8, 16]⟩
abbrev S4x1024x128 : Shape := ⟨3, ![4, 1024, 128]⟩
abbrev S256x1024 : Shape := ⟨2, ![256, 1024]⟩
abbrev S4096x1024 : Shape := ⟨2, ![4096, 1024]⟩
abbrev S4096x512 : Shape := ⟨2, ![4096, 512]⟩
abbrev S1x1024x128 : Shape := ⟨3, ![1, 1024, 128]⟩
abbrev S256x512 : Shape := ⟨2, ![256, 512]⟩
abbrev S256x128 : Shape := ⟨2, ![256, 128]⟩
abbrev S1024x128 : Shape := ⟨2, ![1024, 128]⟩
abbrev S256x256 : Shape := ⟨2, ![256, 256]⟩
abbrev S256 : Shape := ⟨1, ![256]⟩
abbrev S256x1 : Shape := ⟨2, ![256, 1]⟩

abbrev nBuf : Space → Nat
  | .hbm => 585
  | .vmem => 10
  | .smem => 0
  | _ => 0

abbrev hbmTy0_0 (i : Nat) : BufTy := match i % 128 with
  | 0 => ⟨S4x4096x8x64, .f32⟩
  | 1 => ⟨S4x4096x8x64, .f32⟩
  | 2 => ⟨S4x4096x8x64, .f32⟩
  | 3 => ⟨S16384x512, .f32⟩
  | 4 => ⟨S_, .f32⟩
  | 5 => ⟨S16384x512, .f32⟩
  | 6 => ⟨S16384x512, .f32⟩
  | 7 => ⟨S16384x512, .f32⟩
  | 8 => ⟨S16384x512, .f32⟩
  | 9 => ⟨S64x256x512, .f32⟩
  | 10 => ⟨S_, .f32⟩
  | 11 => ⟨S64x512, .f32⟩
  | 12 => ⟨S64x1x512, .f32⟩
  | 13 => ⟨S_, .f32⟩
  | 14 => ⟨S64x1x512, .f32⟩
  | 15 => ⟨S64x1x512, .f32⟩
  | 16 => ⟨S16384x512, .bf16⟩
  | 17 => ⟨S16384x128, .i32⟩
  | 18 => ⟨S16384x128, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S16384x128, .i32⟩
  | 26 => ⟨S16384x128, .i32⟩
  | 27 => ⟨S_, .i32⟩
  | 28 => ⟨S16384x128, .i32⟩
  | 29 => ⟨S16384x128, .i1⟩
  | 30 => ⟨S_, .i32⟩
  | 31 => ⟨S16384x128, .i32⟩
  | 32 => ⟨S16384x128, .i1⟩
  | 33 => ⟨S_, .i32⟩
  | 34 => ⟨S_, .i1⟩
  | 35 => ⟨S16384x128, .i1⟩
  | 36 => ⟨S16384x128, .i1⟩
  | 37 => ⟨S16384x128, .i1⟩
  | 38 => ⟨S16384x128, .i32⟩
  | 39 => ⟨S16384x128, .i32⟩
  | 40 => ⟨S16384x128, .i32⟩
  | 41 => ⟨S16384x128, .f32⟩
  | 42 => ⟨S_, .i32⟩
  | 43 => ⟨S_, .i32⟩
  | 44 => ⟨S16384x128, .i32⟩
  | 45 => ⟨S16384x128, .i32⟩
  | 46 => ⟨S16384x128, .i32⟩
  | 47 => ⟨S_, .i32⟩
  | 48 => ⟨S16384x128, .i32⟩
  | 49 => ⟨S16384x128, .i1⟩
  | 50 => ⟨S16384x128, .i32⟩
  | 51 => ⟨S16384x128, .i32⟩
  | 52 => ⟨S_, .i32⟩
  | 53 => ⟨S16384x128, .i32⟩
  | 54 => ⟨S16384x128, .i1⟩
  | 55 => ⟨S16384x128, .i1⟩
  | 56 => ⟨S_, .i32⟩
  | 57 => ⟨S16384x128, .i32⟩
  | 58 => ⟨S16384x128, .i32⟩
  | 59 => ⟨S16384x128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S16384x128, .i32⟩
  | 67 => ⟨S16384x128, .i32⟩
  | 68 => ⟨S_, .i32⟩
  | 69 => ⟨S16384x128, .i32⟩
  | 70 => ⟨S16384x128, .i1⟩
  | 71 => ⟨S_, .i32⟩
  | 72 => ⟨S16384x128, .i32⟩
  | 73 => ⟨S16384x128, .i1⟩
  | 74 => ⟨S_, .i32⟩
  | 75 => ⟨S_, .i1⟩
  | 76 => ⟨S16384x128, .i1⟩
  | 77 => ⟨S16384x128, .i1⟩
  | 78 => ⟨S16384x128, .i1⟩
  | 79 => ⟨S16384x128, .i32⟩
  | 80 => ⟨S16384x128, .i32⟩
  | 81 => ⟨S16384x128, .i32⟩
  | 82 => ⟨S16384x128, .f32⟩
  | 83 => ⟨S_, .f32⟩
  | 84 => ⟨S16384x128, .f32⟩
  | 85 => ⟨S_, .i32⟩
  | 86 => ⟨S16384x128, .i32⟩
  | 87 => ⟨S16384x128, .i1⟩
  | 88 => ⟨S_, .i32⟩
  | 89 => ⟨S16384x128, .i32⟩
  | 90 => ⟨S16384x128, .i1⟩
  | 91 => ⟨S_, .i32⟩
  | 92 => ⟨S16384x128, .i32⟩
  | 93 => ⟨S16384x128, .i1⟩
  | 94 => ⟨S_, .i32⟩
  | 95 => ⟨S16384x128, .i32⟩
  | 96 => ⟨S16384x128, .i1⟩
  | 97 => ⟨S_, .f32⟩
  | 98 => ⟨S_, .f32⟩
  | 99 => ⟨S16384x128, .f32⟩
  | 100 => ⟨S16384x128, .f32⟩
  | 101 => ⟨S16384x128, .f32⟩
  | 102 => ⟨S_, .f32⟩
  | 103 => ⟨S_, .f32⟩
  | 104 => ⟨S16384x128, .f32⟩
  | 105 => ⟨S16384x128, .f32⟩
  | 106 => ⟨S16384x128, .f32⟩
  | 107 => ⟨S_, .i32⟩
  | 108 => ⟨S16384x128, .i32⟩
  | 109 => ⟨S16384x128, .i32⟩
  | 110 => ⟨S16384x128, .i1⟩
  | 111 => ⟨S_, .f32⟩
  | 112 => ⟨S_, .f32⟩
  | 113 => ⟨S16384x128, .f32⟩
  | 114 => ⟨S16384x128, .f32⟩
  | 115 => ⟨S_, .i32⟩
  | 116 => ⟨S16384x128, .i32⟩
  | 117 => ⟨S16384x128, .i1⟩
  | 118 => ⟨S_, .i32⟩
  | 119 => ⟨S16384x128, .i32⟩
  | 120 => ⟨S16384x128, .i1⟩
  | 121 => ⟨S_, .f32⟩
  | 122 => ⟨S16384x128, .f32⟩
  | 123 => ⟨S16384x128, .f32⟩
  | 124 => ⟨S_, .i32⟩
  | 125 => ⟨S16384x128, .i32⟩
  | 126 => ⟨S16384x128, .i1⟩
  | 127 => ⟨S_, .i32⟩
  | _ => ⟨S4x4096x8x64, .f32⟩

abbrev hbmTy0_1 (i : Nat) : BufTy := match i % 128 with
  | 0 => ⟨S16384x128, .i32⟩
  | 1 => ⟨S16384x128, .i1⟩
  | 2 => ⟨S_, .f32⟩
  | 3 => ⟨S16384x128, .f32⟩
  | 4 => ⟨S16384x128, .f32⟩
  | 5 => ⟨S_, .f32⟩
  | 6 => ⟨S16384x128, .f32⟩
  | 7 => ⟨S16384x128, .f32⟩
  | 8 => ⟨S16384x128, .f32⟩
  | 9 => ⟨S_, .f32⟩
  | 10 => ⟨S_, .f32⟩
  | 11 => ⟨S16384x128, .f32⟩
  | 12 => ⟨S16384x128, .f32⟩
  | 13 => ⟨S16384x128, .f32⟩
  | 14 => ⟨S_, .f32⟩
  | 15 => ⟨S_, .f32⟩
  | 16 => ⟨S16384x128, .f32⟩
  | 17 => ⟨S16384x128, .f32⟩
  | 18 => ⟨S_, .i32⟩
  | 19 => ⟨S16384x128, .i32⟩
  | 20 => ⟨S16384x128, .i1⟩
  | 21 => ⟨S16384x64, .f32⟩
  | 22 => ⟨S_, .i32⟩
  | 23 => ⟨S_, .f32⟩
  | 24 => ⟨S16384x128, .f32⟩
  | 25 => ⟨S16384x128, .f32⟩
  | 26 => ⟨S16384x128, .bf16⟩
  | 27 => ⟨S_, .i32⟩
  | 28 => ⟨S16384x128, .i32⟩
  | 29 => ⟨S16384x128, .i1⟩
  | 30 => ⟨S16384x64, .f32⟩
  | 31 => ⟨S_, .i32⟩
  | 32 => ⟨S_, .f32⟩
  | 33 => ⟨S16384x128, .f32⟩
  | 34 => ⟨S16384x128, .f32⟩
  | 35 => ⟨S16384x128, .bf16⟩
  | 36 => ⟨S_, .i32⟩
  | 37 => ⟨S16384x128, .i32⟩
  | 38 => ⟨S16384x128, .i32⟩
  | 39 => ⟨S16384x128, .i1⟩
  | 40 => ⟨S_, .f32⟩
  | 41 => ⟨S_, .f32⟩
  | 42 => ⟨S16384x128, .f32⟩
  | 43 => ⟨S16384x128, .f32⟩
  | 44 => ⟨S_, .i32⟩
  | 45 => ⟨S16384x128, .i32⟩
  | 46 => ⟨S16384x128, .i1⟩
  | 47 => ⟨S_, .i32⟩
  | 48 => ⟨S16384x128, .i32⟩
  | 49 => ⟨S16384x128, .i1⟩
  | 50 => ⟨S_, .f32⟩
  | 51 => ⟨S16384x128, .f32⟩
  | 52 => ⟨S16384x128, .f32⟩
  | 53 => ⟨S_, .i32⟩
  | 54 => ⟨S16384x128, .i32⟩
  | 55 => ⟨S16384x128, .i1⟩
  | 56 => ⟨S_, .i32⟩
  | 57 => ⟨S16384x128, .i32⟩
  | 58 => ⟨S16384x128, .i1⟩
  | 59 => ⟨S_, .f32⟩
  | 60 => ⟨S16384x128, .f32⟩
  | 61 => ⟨S16384x128, .f32⟩
  | 62 => ⟨S_, .f32⟩
  | 63 => ⟨S16384x128, .f32⟩
  | 64 => ⟨S16384x128, .f32⟩
  | 65 => ⟨S16384x128, .f32⟩
  | 66 => ⟨S_, .f32⟩
  | 67 => ⟨S_, .f32⟩
  | 68 => ⟨S16384x128, .f32⟩
  | 69 => ⟨S16384x128, .f32⟩
  | 70 => ⟨S16384x128, .f32⟩
  | 71 => ⟨S_, .f32⟩
  | 72 => ⟨S_, .f32⟩
  | 73 => ⟨S16384x128, .f32⟩
  | 74 => ⟨S16384x128, .f32⟩
  | 75 => ⟨S_, .i32⟩
  | 76 => ⟨S16384x128, .i32⟩
  | 77 => ⟨S16384x128, .i1⟩
  | 78 => ⟨S16384x64, .f32⟩
  | 79 => ⟨S_, .i32⟩
  | 80 => ⟨S_, .f32⟩
  | 81 => ⟨S16384x128, .f32⟩
  | 82 => ⟨S16384x128, .f32⟩
  | 83 => ⟨S16384x128, .bf16⟩
  | 84 => ⟨S_, .i32⟩
  | 85 => ⟨S16384x128, .i32⟩
  | 86 => ⟨S16384x128, .i1⟩
  | 87 => ⟨S16384x64, .f32⟩
  | 88 => ⟨S_, .i32⟩
  | 89 => ⟨S_, .f32⟩
  | 90 => ⟨S16384x128, .f32⟩
  | 91 => ⟨S16384x128, .f32⟩
  | 92 => ⟨S16384x128, .bf16⟩
  | 93 => ⟨S_, .i32⟩
  | 94 => ⟨S16384x128, .i32⟩
  | 95 => ⟨S16384x128, .i32⟩
  | 96 => ⟨S16384x128, .i1⟩
  | 97 => ⟨S_, .f32⟩
  | 98 => ⟨S_, .f32⟩
  | 99 => ⟨S16384x128, .f32⟩
  | 100 => ⟨S16384x128, .f32⟩
  | 101 => ⟨S_, .i32⟩
  | 102 => ⟨S16384x128, .i32⟩
  | 103 => ⟨S16384x128, .i1⟩
  | 104 => ⟨S_, .i32⟩
  | 105 => ⟨S16384x128, .i32⟩
  | 106 => ⟨S16384x128, .i1⟩
  | 107 => ⟨S_, .f32⟩
  | 108 => ⟨S16384x128, .f32⟩
  | 109 => ⟨S16384x128, .f32⟩
  | 110 => ⟨S_, .i32⟩
  | 111 => ⟨S16384x128, .i32⟩
  | 112 => ⟨S16384x128, .i1⟩
  | 113 => ⟨S_, .i32⟩
  | 114 => ⟨S16384x128, .i32⟩
  | 115 => ⟨S16384x128, .i1⟩
  | 116 => ⟨S_, .f32⟩
  | 117 => ⟨S16384x128, .f32⟩
  | 118 => ⟨S16384x128, .f32⟩
  | 119 => ⟨S_, .f32⟩
  | 120 => ⟨S16384x128, .f32⟩
  | 121 => ⟨S16384x128, .f32⟩
  | 122 => ⟨S16384x128, .f32⟩
  | 123 => ⟨S_, .f32⟩
  | 124 => ⟨S_, .f32⟩
  | 125 => ⟨S16384x128, .f32⟩
  | 126 => ⟨S16384x128, .f32⟩
  | 127 => ⟨S16384x128, .f32⟩
  | _ => ⟨S4x4096x8x64, .f32⟩

abbrev hbmTy0_2 (i : Nat) : BufTy := match i % 128 with
  | 0 => ⟨S_, .f32⟩
  | 1 => ⟨S_, .f32⟩
  | 2 => ⟨S16384x128, .f32⟩
  | 3 => ⟨S16384x128, .f32⟩
  | 4 => ⟨S_, .i32⟩
  | 5 => ⟨S16384x128, .i32⟩
  | 6 => ⟨S16384x128, .i1⟩
  | 7 => ⟨S16384x64, .f32⟩
  | 8 => ⟨S_, .i32⟩
  | 9 => ⟨S_, .f32⟩
  | 10 => ⟨S16384x128, .f32⟩
  | 11 => ⟨S16384x128, .f32⟩
  | 12 => ⟨S16384x128, .bf16⟩
  | 13 => ⟨S_, .i32⟩
  | 14 => ⟨S16384x128, .i32⟩
  | 15 => ⟨S16384x128, .i1⟩
  | 16 => ⟨S16384x64, .f32⟩
  | 17 => ⟨S_, .i32⟩
  | 18 => ⟨S_, .f32⟩
  | 19 => ⟨S16384x128, .f32⟩
  | 20 => ⟨S16384x128, .f32⟩
  | 21 => ⟨S16384x128, .bf16⟩
  | 22 => ⟨S_, .i32⟩
  | 23 => ⟨S16384x128, .i32⟩
  | 24 => ⟨S16384x128, .i32⟩
  | 25 => ⟨S16384x128, .i1⟩
  | 26 => ⟨S_, .f32⟩
  | 27 => ⟨S_, .f32⟩
  | 28 => ⟨S16384x128, .f32⟩
  | 29 => ⟨S16384x128, .f32⟩
  | 30 => ⟨S_, .i32⟩
  | 31 => ⟨S16384x128, .i32⟩
  | 32 => ⟨S16384x128, .i1⟩
  | 33 => ⟨S_, .i32⟩
  | 34 => ⟨S16384x128, .i32⟩
  | 35 => ⟨S16384x128, .i1⟩
  | 36 => ⟨S_, .f32⟩
  | 37 => ⟨S16384x128, .f32⟩
  | 38 => ⟨S16384x128, .f32⟩
  | 39 => ⟨S_, .i32⟩
  | 40 => ⟨S16384x128, .i32⟩
  | 41 => ⟨S16384x128, .i1⟩
  | 42 => ⟨S_, .i32⟩
  | 43 => ⟨S16384x128, .i32⟩
  | 44 => ⟨S16384x128, .i1⟩
  | 45 => ⟨S_, .f32⟩
  | 46 => ⟨S16384x128, .f32⟩
  | 47 => ⟨S16384x128, .f32⟩
  | 48 => ⟨S_, .f32⟩
  | 49 => ⟨S16384x128, .f32⟩
  | 50 => ⟨S16384x128, .f32⟩
  | 51 => ⟨S16384x128, .f32⟩
  | 52 => ⟨S_, .f32⟩
  | 53 => ⟨S_, .f32⟩
  | 54 => ⟨S16384x128, .f32⟩
  | 55 => ⟨S16384x128, .f32⟩
  | 56 => ⟨S16384x128, .f32⟩
  | 57 => ⟨S_, .f32⟩
  | 58 => ⟨S_, .f32⟩
  | 59 => ⟨S16384x128, .f32⟩
  | 60 => ⟨S16384x128, .f32⟩
  | 61 => ⟨S_, .i32⟩
  | 62 => ⟨S16384x128, .i32⟩
  | 63 => ⟨S16384x128, .i1⟩
  | 64 => ⟨S16384x64, .f32⟩
  | 65 => ⟨S_, .i32⟩
  | 66 => ⟨S_, .f32⟩
  | 67 => ⟨S16384x128, .f32⟩
  | 68 => ⟨S16384x128, .f32⟩
  | 69 => ⟨S16384x128, .bf16⟩
  | 70 => ⟨S_, .i32⟩
  | 71 => ⟨S16384x128, .i32⟩
  | 72 => ⟨S16384x128, .i1⟩
  | 73 => ⟨S16384x64, .f32⟩
  | 74 => ⟨S_, .i32⟩
  | 75 => ⟨S_, .f32⟩
  | 76 => ⟨S16384x128, .f32⟩
  | 77 => ⟨S16384x128, .f32⟩
  | 78 => ⟨S16384x128, .bf16⟩
  | 79 => ⟨S_, .i32⟩
  | 80 => ⟨S16384x128, .i32⟩
  | 81 => ⟨S16384x128, .i32⟩
  | 82 => ⟨S16384x128, .i1⟩
  | 83 => ⟨S_, .f32⟩
  | 84 => ⟨S_, .f32⟩
  | 85 => ⟨S16384x128, .f32⟩
  | 86 => ⟨S16384x128, .f32⟩
  | 87 => ⟨S_, .i32⟩
  | 88 => ⟨S16384x128, .i32⟩
  | 89 => ⟨S16384x128, .i1⟩
  | 90 => ⟨S_, .i32⟩
  | 91 => ⟨S16384x128, .i32⟩
  | 92 => ⟨S16384x128, .i1⟩
  | 93 => ⟨S_, .f32⟩
  | 94 => ⟨S16384x128, .f32⟩
  | 95 => ⟨S16384x128, .f32⟩
  | 96 => ⟨S_, .i32⟩
  | 97 => ⟨S16384x128, .i32⟩
  | 98 => ⟨S16384x128, .i1⟩
  | 99 => ⟨S_, .i32⟩
  | 100 => ⟨S16384x128, .i32⟩
  | 101 => ⟨S16384x128, .i1⟩
  | 102 => ⟨S_, .f32⟩
  | 103 => ⟨S16384x128, .f32⟩
  | 104 => ⟨S16384x128, .f32⟩
  | 105 => ⟨S_, .f32⟩
  | 106 => ⟨S16384x128, .f32⟩
  | 107 => ⟨S16384x128, .f32⟩
  | 108 => ⟨S16384x128, .f32⟩
  | 109 => ⟨S_, .f32⟩
  | 110 => ⟨S_, .f32⟩
  | 111 => ⟨S16384x128, .f32⟩
  | 112 => ⟨S16384x128, .f32⟩
  | 113 => ⟨S16384x128, .f32⟩
  | 114 => ⟨S_, .f32⟩
  | 115 => ⟨S_, .f32⟩
  | 116 => ⟨S16384x128, .f32⟩
  | 117 => ⟨S16384x128, .f32⟩
  | 118 => ⟨S_, .i32⟩
  | 119 => ⟨S16384x128, .i32⟩
  | 120 => ⟨S16384x128, .i1⟩
  | 121 => ⟨S16384x64, .f32⟩
  | 122 => ⟨S_, .i32⟩
  | 123 => ⟨S_, .f32⟩
  | 124 => ⟨S16384x128, .f32⟩
  | 125 => ⟨S16384x128, .f32⟩
  | 126 => ⟨S16384x128, .bf16⟩
  | 127 => ⟨S_, .i32⟩
  | _ => ⟨S4x4096x8x64, .f32⟩

abbrev hbmTy0_3 (i : Nat) : BufTy := match i % 128 with
  | 0 => ⟨S16384x128, .i32⟩
  | 1 => ⟨S16384x128, .i1⟩
  | 2 => ⟨S16384x64, .f32⟩
  | 3 => ⟨S_, .i32⟩
  | 4 => ⟨S_, .f32⟩
  | 5 => ⟨S16384x128, .f32⟩
  | 6 => ⟨S16384x128, .f32⟩
  | 7 => ⟨S16384x128, .bf16⟩
  | 8 => ⟨S_, .i32⟩
  | 9 => ⟨S16384x128, .i32⟩
  | 10 => ⟨S16384x128, .i32⟩
  | 11 => ⟨S16384x128, .i1⟩
  | 12 => ⟨S_, .f32⟩
  | 13 => ⟨S_, .f32⟩
  | 14 => ⟨S16384x128, .f32⟩
  | 15 => ⟨S16384x128, .f32⟩
  | 16 => ⟨S_, .i32⟩
  | 17 => ⟨S16384x128, .i32⟩
  | 18 => ⟨S16384x128, .i1⟩
  | 19 => ⟨S_, .i32⟩
  | 20 => ⟨S16384x128, .i32⟩
  | 21 => ⟨S16384x128, .i1⟩
  | 22 => ⟨S_, .f32⟩
  | 23 => ⟨S16384x128, .f32⟩
  | 24 => ⟨S16384x128, .f32⟩
  | 25 => ⟨S_, .i32⟩
  | 26 => ⟨S16384x128, .i32⟩
  | 27 => ⟨S16384x128, .i1⟩
  | 28 => ⟨S_, .i32⟩
  | 29 => ⟨S16384x128, .i32⟩
  | 30 => ⟨S16384x128, .i1⟩
  | 31 => ⟨S_, .f32⟩
  | 32 => ⟨S16384x128, .f32⟩
  | 33 => ⟨S16384x128, .f32⟩
  | 34 => ⟨S_, .f32⟩
  | 35 => ⟨S16384x128, .f32⟩
  | 36 => ⟨S16384x128, .f32⟩
  | 37 => ⟨S16384x128, .f32⟩
  | 38 => ⟨S_, .f32⟩
  | 39 => ⟨S_, .f32⟩
  | 40 => ⟨S16384x128, .f32⟩
  | 41 => ⟨S16384x128, .f32⟩
  | 42 => ⟨S16384x128, .f32⟩
  | 43 => ⟨S_, .f32⟩
  | 44 => ⟨S_, .f32⟩
  | 45 => ⟨S16384x128, .f32⟩
  | 46 => ⟨S16384x128, .f32⟩
  | 47 => ⟨S_, .i32⟩
  | 48 => ⟨S16384x128, .i32⟩
  | 49 => ⟨S16384x128, .i1⟩
  | 50 => ⟨S16384x64, .f32⟩
  | 51 => ⟨S_, .i32⟩
  | 52 => ⟨S_, .f32⟩
  | 53 => ⟨S16384x128, .f32⟩
  | 54 => ⟨S16384x128, .f32⟩
  | 55 => ⟨S16384x128, .bf16⟩
  | 56 => ⟨S_, .i32⟩
  | 57 => ⟨S16384x128, .i32⟩
  | 58 => ⟨S16384x128, .i1⟩
  | 59 => ⟨S16384x64, .f32⟩
  | 60 => ⟨S_, .i32⟩
  | 61 => ⟨S_, .f32⟩
  | 62 => ⟨S16384x128, .f32⟩
  | 63 => ⟨S16384x128, .f32⟩
  | 64 => ⟨S16384x128, .bf16⟩
  | 65 => ⟨S_, .i32⟩
  | 66 => ⟨S16384x128, .i32⟩
  | 67 => ⟨S16384x128, .i32⟩
  | 68 => ⟨S16384x128, .i1⟩
  | 69 => ⟨S_, .f32⟩
  | 70 => ⟨S_, .f32⟩
  | 71 => ⟨S16384x128, .f32⟩
  | 72 => ⟨S16384x128, .f32⟩
  | 73 => ⟨S_, .i32⟩
  | 74 => ⟨S16384x128, .i32⟩
  | 75 => ⟨S16384x128, .i1⟩
  | 76 => ⟨S_, .i32⟩
  | 77 => ⟨S16384x128, .i32⟩
  | 78 => ⟨S16384x128, .i1⟩
  | 79 => ⟨S_, .f32⟩
  | 80 => ⟨S16384x128, .f32⟩
  | 81 => ⟨S16384x128, .f32⟩
  | 82 => ⟨S_, .i32⟩
  | 83 => ⟨S16384x128, .i32⟩
  | 84 => ⟨S16384x128, .i1⟩
  | 85 => ⟨S_, .i32⟩
  | 86 => ⟨S16384x128, .i32⟩
  | 87 => ⟨S16384x128, .i1⟩
  | 88 => ⟨S_, .f32⟩
  | 89 => ⟨S16384x128, .f32⟩
  | 90 => ⟨S16384x128, .f32⟩
  | 91 => ⟨S_, .f32⟩
  | 92 => ⟨S16384x128, .f32⟩
  | 93 => ⟨S16384x128, .f32⟩
  | 94 => ⟨S16384x128, .f32⟩
  | 95 => ⟨S_, .f32⟩
  | 96 => ⟨S_, .f32⟩
  | 97 => ⟨S16384x128, .f32⟩
  | 98 => ⟨S16384x128, .f32⟩
  | 99 => ⟨S16384x128, .f32⟩
  | 100 => ⟨S_, .f32⟩
  | 101 => ⟨S_, .f32⟩
  | 102 => ⟨S16384x128, .f32⟩
  | 103 => ⟨S16384x128, .f32⟩
  | 104 => ⟨S_, .i32⟩
  | 105 => ⟨S16384x128, .i32⟩
  | 106 => ⟨S16384x128, .i1⟩
  | 107 => ⟨S16384x64, .f32⟩
  | 108 => ⟨S_, .i32⟩
  | 109 => ⟨S_, .f32⟩
  | 110 => ⟨S16384x128, .f32⟩
  | 111 => ⟨S16384x128, .f32⟩
  | 112 => ⟨S16384x128, .bf16⟩
  | 113 => ⟨S_, .i32⟩
  | 114 => ⟨S16384x128, .i32⟩
  | 115 => ⟨S16384x128, .i1⟩
  | 116 => ⟨S16384x64, .f32⟩
  | 117 => ⟨S_, .i32⟩
  | 118 => ⟨S_, .f32⟩
  | 119 => ⟨S16384x128, .f32⟩
  | 120 => ⟨S16384x128, .f32⟩
  | 121 => ⟨S16384x128, .bf16⟩
  | 122 => ⟨S_, .i32⟩
  | 123 => ⟨S16384x128, .i32⟩
  | 124 => ⟨S16384x128, .i32⟩
  | 125 => ⟨S16384x128, .i1⟩
  | 126 => ⟨S_, .f32⟩
  | 127 => ⟨S_, .f32⟩
  | _ => ⟨S4x4096x8x64, .f32⟩

abbrev hbmTy0_4 (i : Nat) : BufTy := match i % 128 with
  | 0 => ⟨S16384x128, .f32⟩
  | 1 => ⟨S16384x128, .f32⟩
  | 2 => ⟨S_, .i32⟩
  | 3 => ⟨S16384x128, .i32⟩
  | 4 => ⟨S16384x128, .i1⟩
  | 5 => ⟨S_, .i32⟩
  | 6 => ⟨S16384x128, .i32⟩
  | 7 => ⟨S16384x128, .i1⟩
  | 8 => ⟨S_, .f32⟩
  | 9 => ⟨S16384x128, .f32⟩
  | 10 => ⟨S16384x128, .f32⟩
  | 11 => ⟨S_, .i32⟩
  | 12 => ⟨S16384x128, .i32⟩
  | 13 => ⟨S16384x128, .i1⟩
  | 14 => ⟨S_, .i32⟩
  | 15 => ⟨S16384x128, .i32⟩
  | 16 => ⟨S16384x128, .i1⟩
  | 17 => ⟨S_, .f32⟩
  | 18 => ⟨S16384x128, .f32⟩
  | 19 => ⟨S16384x128, .f32⟩
  | 20 => ⟨S_, .f32⟩
  | 21 => ⟨S16384x128, .f32⟩
  | 22 => ⟨S16384x128, .f32⟩
  | 23 => ⟨S16384x128, .f32⟩
  | 24 => ⟨S_, .f32⟩
  | 25 => ⟨S_, .f32⟩
  | 26 => ⟨S16384x128, .f32⟩
  | 27 => ⟨S16384x128, .f32⟩
  | 28 => ⟨S16384x128, .f32⟩
  | 29 => ⟨S_, .f32⟩
  | 30 => ⟨S_, .f32⟩
  | 31 => ⟨S16384x128, .f32⟩
  | 32 => ⟨S16384x128, .f32⟩
  | 33 => ⟨S_, .i32⟩
  | 34 => ⟨S16384x128, .i32⟩
  | 35 => ⟨S16384x128, .i1⟩
  | 36 => ⟨S16384x64, .f32⟩
  | 37 => ⟨S_, .i32⟩
  | 38 => ⟨S_, .f32⟩
  | 39 => ⟨S16384x128, .f32⟩
  | 40 => ⟨S16384x128, .f32⟩
  | 41 => ⟨S16384x128, .bf16⟩
  | 42 => ⟨S_, .i32⟩
  | 43 => ⟨S16384x128, .i32⟩
  | 44 => ⟨S16384x128, .i1⟩
  | 45 => ⟨S16384x64, .f32⟩
  | 46 => ⟨S_, .i32⟩
  | 47 => ⟨S_, .f32⟩
  | 48 => ⟨S16384x128, .f32⟩
  | 49 => ⟨S16384x128, .f32⟩
  | 50 => ⟨S16384x128, .bf16⟩
  | 51 => ⟨S16384x1024, .bf16⟩
  | 52 => ⟨S16384x1024, .bf16⟩
  | 53 => ⟨S4x16x8x64, .f32⟩
  | 54 => ⟨S4x8x64x16, .f32⟩
  | 55 => ⟨S_, .i32⟩
  | 56 => ⟨S_, .f32⟩
  | 57 => ⟨S4x8x128x16, .f32⟩
  | 58 => ⟨S4x8x128x1x16, .f32⟩
  | 59 => ⟨S8x8, .i32⟩
  | 60 => ⟨S8x8, .i32⟩
  | 61 => ⟨S_, .i32⟩
  | 62 => ⟨S8x8, .i32⟩
  | 63 => ⟨S8x8, .i32⟩
  | 64 => ⟨S8x8, .i1⟩
  | 65 => ⟨S8x8, .f32⟩
  | 66 => ⟨S1x8x1x8x1, .f32⟩
  | 67 => ⟨S4x8x128x8x16, .f32⟩
  | 68 => ⟨S4x8x128x8x16, .f32⟩
  | 69 => ⟨S4x8x128x8x16, .f32⟩
  | 70 => ⟨S4x1024x128, .f32⟩
  | 71 => ⟨S4x1024x128, .bf16⟩
  | 72 => ⟨S16384x512, .bf16⟩
  | _ => ⟨S4x4096x8x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x4096x8x64, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x512, .bf16⟩
  | .local _ .vmem, ⟨5, _⟩ => ⟨S4096x512, .bf16⟩
  | .local _ .vmem, ⟨6, _⟩ => ⟨S1x1024x128, .bf16⟩
  | .local _ .vmem, ⟨7, _⟩ => ⟨S1x1024x128, .bf16⟩
  | .local _ .vmem, ⟨8, _⟩ => ⟨S256x512, .bf16⟩
  | .local _ .vmem, ⟨9, _⟩ => ⟨S256x512, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v15 : Ref sig .tc := ⟨.hbm, 59, rfl⟩
abbrev main_c_3 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v16 : Ref sig .tc := ⟨.hbm, 81, rfl⟩
abbrev main_v17 : Ref sig .tc := ⟨.hbm, 82, rfl⟩
abbrev main_cst_4 : Ref sig .tc := ⟨.hbm, 83, rfl⟩
abbrev main_v18 : Ref sig .tc := ⟨.hbm, 84, rfl⟩
abbrev main_c_5 : Ref sig .tc := ⟨.hbm, 85, rfl⟩
abbrev main_v19 : Ref sig .tc := ⟨.hbm, 86, rfl⟩
abbrev main_v20 : Ref sig .tc := ⟨.hbm, 87, rfl⟩
abbrev main_c_6 : Ref sig .tc := ⟨.hbm, 88, rfl⟩
abbrev main_v21 : Ref sig .tc := ⟨.hbm, 89, rfl⟩
abbrev main_v22 : Ref sig .tc := ⟨.hbm, 90, rfl⟩
abbrev main_c_7 : Ref sig .tc := ⟨.hbm, 91, rfl⟩
abbrev main_v23 : Ref sig .tc := ⟨.hbm, 92, rfl⟩
abbrev main_v24 : Ref sig .tc := ⟨.hbm, 93, rfl⟩
abbrev main_c_8 : Ref sig .tc := ⟨.hbm, 94, rfl⟩
abbrev main_v25 : Ref sig .tc := ⟨.hbm, 95, rfl⟩
abbrev main_v26 : Ref sig .tc := ⟨.hbm, 96, rfl⟩
abbrev main_cst_9 : Ref sig .tc := ⟨.hbm, 97, rfl⟩
abbrev main_call3_v0 : Ref sig .tc := ⟨.hbm, 98, rfl⟩
abbrev main_call3_v1 : Ref sig .tc := ⟨.hbm, 99, rfl⟩
abbrev main_v27 : Ref sig .tc := ⟨.hbm, 100, rfl⟩
abbrev main_v28 : Ref sig .tc := ⟨.hbm, 101, rfl⟩
abbrev main_cst_10 : Ref sig .tc := ⟨.hbm, 102, rfl⟩
abbrev main_call5_v0 : Ref sig .tc := ⟨.hbm, 103, rfl⟩
abbrev main_call5_v1 : Ref sig .tc := ⟨.hbm, 104, rfl⟩
abbrev main_v29 : Ref sig .tc := ⟨.hbm, 105, rfl⟩
abbrev main_v30 : Ref sig .tc := ⟨.hbm, 106, rfl⟩
abbrev main_c_11 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_cst_12 : Ref sig .tc := ⟨.hbm, 111, rfl⟩
abbrev main_call7_v0 : Ref sig .tc := ⟨.hbm, 112, rfl⟩
abbrev main_call7_v1 : Ref sig .tc := ⟨.hbm, 113, rfl⟩
abbrev main_v34 : Ref sig .tc := ⟨.hbm, 114, rfl⟩
abbrev main_c_13 : Ref sig .tc := ⟨.hbm, 115, rfl⟩
abbrev main_v35 : Ref sig .tc := ⟨.hbm, 116, rfl⟩
abbrev main_v36 : Ref sig .tc := ⟨.hbm, 117, rfl⟩
abbrev main_c_14 : Ref sig .tc := ⟨.hbm, 118, rfl⟩
abbrev main_v37 : Ref sig .tc := ⟨.hbm, 119, rfl⟩
abbrev main_v38 : Ref sig .tc := ⟨.hbm, 120, rfl⟩
abbrev main_cst_15 : Ref sig .tc := ⟨.hbm, 121, rfl⟩
abbrev main_v39 : Ref sig .tc := ⟨.hbm, 122, rfl⟩
abbrev main_v40 : Ref sig .tc := ⟨.hbm, 123, rfl⟩
abbrev main_c_16 : Ref sig .tc := ⟨.hbm, 124, rfl⟩
abbrev main_v41 : Ref sig .tc := ⟨.hbm, 125, rfl⟩
abbrev main_v42 : Ref sig .tc := ⟨.hbm, 126, rfl⟩
abbrev main_c_17 : Ref sig .tc := ⟨.hbm, 127, rfl⟩
abbrev main_v43 : Ref sig .tc := ⟨.hbm, 128, rfl⟩
abbrev main_v44 : Ref sig .tc := ⟨.hbm, 129, rfl⟩
abbrev main_cst_18 : Ref sig .tc := ⟨.hbm, 130, rfl⟩
abbrev main_v45 : Ref sig .tc := ⟨.hbm, 131, rfl⟩
abbrev main_v46 : Ref sig .tc := ⟨.hbm, 132, rfl⟩
abbrev main_cst_19 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_cst_20 : Ref sig .tc := ⟨.hbm, 137, rfl⟩
abbrev main_call9_v0 : Ref sig .tc := ⟨.hbm, 138, rfl⟩
abbrev main_call9_v1 : Ref sig .tc := ⟨.hbm, 139, rfl⟩
abbrev main_v50 : Ref sig .tc := ⟨.hbm, 140, rfl⟩
abbrev main_v51 : Ref sig .tc := ⟨.hbm, 141, rfl⟩
abbrev main_cst_21 : Ref sig .tc := ⟨.hbm, 142, rfl⟩
abbrev main_call11_v0 : Ref sig .tc := ⟨.hbm, 143, rfl⟩
abbrev main_call11_v1 : Ref sig .tc := ⟨.hbm, 144, rfl⟩
abbrev main_v52 : Ref sig .tc := ⟨.hbm, 145, rfl⟩
abbrev main_c_22 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_c_23 : Ref sig .tc := ⟨.hbm, 150, rfl⟩
abbrev main_call12_v0 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_c_24 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_c_25 : Ref sig .tc := ⟨.hbm, 159, rfl⟩
abbrev main_call14_v0 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_c_26 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_cst_27 : Ref sig .tc := ⟨.hbm, 168, rfl⟩
abbrev main_call16_v0 : Ref sig .tc := ⟨.hbm, 169, rfl⟩
abbrev main_call16_v1 : Ref sig .tc := ⟨.hbm, 170, rfl⟩
abbrev main_v68 : Ref sig .tc := ⟨.hbm, 171, rfl⟩
abbrev main_c_28 : Ref sig .tc := ⟨.hbm, 172, rfl⟩
abbrev main_v69 : Ref sig .tc := ⟨.hbm, 173, rfl⟩
abbrev main_v70 : Ref sig .tc := ⟨.hbm, 174, rfl⟩
abbrev main_c_29 : Ref sig .tc := ⟨.hbm, 175, rfl⟩
abbrev main_v71 : Ref sig .tc := ⟨.hbm, 176, rfl⟩
abbrev main_v72 : Ref sig .tc := ⟨.hbm, 177, rfl⟩
abbrev main_cst_30 : Ref sig .tc := ⟨.hbm, 178, rfl⟩
abbrev main_v73 : Ref sig .tc := ⟨.hbm, 179, rfl⟩
abbrev main_v74 : Ref sig .tc := ⟨.hbm, 180, rfl⟩
abbrev main_c_31 : Ref sig .tc := ⟨.hbm, 181, rfl⟩
abbrev main_v75 : Ref sig .tc := ⟨.hbm, 182, rfl⟩
abbrev main_v76 : Ref sig .tc := ⟨.hbm, 183, rfl⟩
abbrev main_c_32 : Ref sig .tc := ⟨.hbm, 184, rfl⟩
abbrev main_v77 : Ref sig .tc := ⟨.hbm, 185, rfl⟩
abbrev main_v78 : Ref sig .tc := ⟨.hbm, 186, rfl⟩
abbrev main_cst_33 : Ref sig .tc := ⟨.hbm, 187, rfl⟩
abbrev main_v79 : Ref sig .tc := ⟨.hbm, 188, rfl⟩
abbrev main_v80 : Ref sig .tc := ⟨.hbm, 189, rfl⟩
abbrev main_cst_34 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_cst_35 : Ref sig .tc := ⟨.hbm, 194, rfl⟩
abbrev main_call18_v0 : Ref sig .tc := ⟨.hbm, 195, rfl⟩
abbrev main_call18_v1 : Ref sig .tc := ⟨.hbm, 196, rfl⟩
abbrev main_v84 : Ref sig .tc := ⟨.hbm, 197, rfl⟩
abbrev main_v85 : Ref sig .tc := ⟨.hbm, 198, rfl⟩
abbrev main_cst_36 : Ref sig .tc := ⟨.hbm, 199, rfl⟩
abbrev main_call20_v0 : Ref sig .tc := ⟨.hbm, 200, rfl⟩
abbrev main_call20_v1 : Ref sig .tc := ⟨.hbm, 201, rfl⟩
abbrev main_v86 : Ref sig .tc := ⟨.hbm, 202, rfl⟩
abbrev main_c_37 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_c_38 : Ref sig .tc := ⟨.hbm, 207, rfl⟩
abbrev main_call21_v0 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_c_39 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_c_40 : Ref sig .tc := ⟨.hbm, 216, rfl⟩
abbrev main_call23_v0 : Ref sig .tc := ⟨.hbm, 217, rfl⟩
abbrev main_v96 : Ref sig .tc := ⟨.hbm, 218, rfl⟩
abbrev main_v97 : Ref sig .tc := ⟨.hbm, 219, rfl⟩
abbrev main_v98 : Ref sig .tc := ⟨.hbm, 220, rfl⟩
abbrev main_c_41 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_cst_42 : Ref sig .tc := ⟨.hbm, 225, rfl⟩
abbrev main_call25_v0 : Ref sig .tc := ⟨.hbm, 226, rfl⟩
abbrev main_call25_v1 : Ref sig .tc := ⟨.hbm, 227, rfl⟩
abbrev main_v102 : Ref sig .tc := ⟨.hbm, 228, rfl⟩
abbrev main_c_43 : Ref sig .tc := ⟨.hbm, 229, rfl⟩
abbrev main_v103 : Ref sig .tc := ⟨.hbm, 230, rfl⟩
abbrev main_v104 : Ref sig .tc := ⟨.hbm, 231, rfl⟩
abbrev main_c_44 : Ref sig .tc := ⟨.hbm, 232, rfl⟩
abbrev main_v105 : Ref sig .tc := ⟨.hbm, 233, rfl⟩
abbrev main_v106 : Ref sig .tc := ⟨.hbm, 234, rfl⟩
abbrev main_cst_45 : Ref sig .tc := ⟨.hbm, 235, rfl⟩
abbrev main_v107 : Ref sig .tc := ⟨.hbm, 236, rfl⟩
abbrev main_v108 : Ref sig .tc := ⟨.hbm, 237, rfl⟩
abbrev main_c_46 : Ref sig .tc := ⟨.hbm, 238, rfl⟩
abbrev main_v109 : Ref sig .tc := ⟨.hbm, 239, rfl⟩
abbrev main_v110 : Ref sig .tc := ⟨.hbm, 240, rfl⟩
abbrev main_c_47 : Ref sig .tc := ⟨.hbm, 241, rfl⟩
abbrev main_v111 : Ref sig .tc := ⟨.hbm, 242, rfl⟩
abbrev main_v112 : Ref sig .tc := ⟨.hbm, 243, rfl⟩
abbrev main_cst_48 : Ref sig .tc := ⟨.hbm, 244, rfl⟩
abbrev main_v113 : Ref sig .tc := ⟨.hbm, 245, rfl⟩
abbrev main_v114 : Ref sig .tc := ⟨.hbm, 246, rfl⟩
abbrev main_cst_49 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_cst_50 : Ref sig .tc := ⟨.hbm, 251, rfl⟩
abbrev main_call27_v0 : Ref sig .tc := ⟨.hbm, 252, rfl⟩
abbrev main_call27_v1 : Ref sig .tc := ⟨.hbm, 253, rfl⟩
abbrev main_v118 : Ref sig .tc := ⟨.hbm, 254, rfl⟩
abbrev main_v119 : Ref sig .tc := ⟨.hbm, 255, rfl⟩
abbrev main_cst_51 : Ref sig .tc := ⟨.hbm, 256, rfl⟩
abbrev main_call29_v0 : Ref sig .tc := ⟨.hbm, 257, rfl⟩
abbrev main_call29_v1 : Ref sig .tc := ⟨.hbm, 258, rfl⟩
abbrev main_v120 : Ref sig .tc := ⟨.hbm, 259, rfl⟩
abbrev main_c_52 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_c_53 : Ref sig .tc := ⟨.hbm, 264, rfl⟩
abbrev main_call30_v0 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_c_54 : Ref sig .tc := ⟨.hbm, 269, rfl⟩
abbrev main_v127 : Ref sig .tc := ⟨.hbm, 270, rfl⟩
abbrev main_v128 : Ref sig .tc := ⟨.hbm, 271, rfl⟩
abbrev main_v129 : Ref sig .tc := ⟨.hbm, 272, rfl⟩
abbrev main_c_55 : Ref sig .tc := ⟨.hbm, 273, rfl⟩
abbrev main_call32_v0 : Ref sig .tc := ⟨.hbm, 274, rfl⟩
abbrev main_v130 : Ref sig .tc := ⟨.hbm, 275, rfl⟩
abbrev main_v131 : Ref sig .tc := ⟨.hbm, 276, rfl⟩
abbrev main_v132 : Ref sig .tc := ⟨.hbm, 277, rfl⟩
abbrev main_c_56 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_cst_57 : Ref sig .tc := ⟨.hbm, 282, rfl⟩
abbrev main_call34_v0 : Ref sig .tc := ⟨.hbm, 283, rfl⟩
abbrev main_call34_v1 : Ref sig .tc := ⟨.hbm, 284, rfl⟩
abbrev main_v136 : Ref sig .tc := ⟨.hbm, 285, rfl⟩
abbrev main_c_58 : Ref sig .tc := ⟨.hbm, 286, rfl⟩
abbrev main_v137 : Ref sig .tc := ⟨.hbm, 287, rfl⟩
abbrev main_v138 : Ref sig .tc := ⟨.hbm, 288, rfl⟩
abbrev main_c_59 : Ref sig .tc := ⟨.hbm, 289, rfl⟩
abbrev main_v139 : Ref sig .tc := ⟨.hbm, 290, rfl⟩
abbrev main_v140 : Ref sig .tc := ⟨.hbm, 291, rfl⟩
abbrev main_cst_60 : Ref sig .tc := ⟨.hbm, 292, rfl⟩
abbrev main_v141 : Ref sig .tc := ⟨.hbm, 293, rfl⟩
abbrev main_v142 : Ref sig .tc := ⟨.hbm, 294, rfl⟩
abbrev main_c_61 : Ref sig .tc := ⟨.hbm, 295, rfl⟩
abbrev main_v143 : Ref sig .tc := ⟨.hbm, 296, rfl⟩
abbrev main_v144 : Ref sig .tc := ⟨.hbm, 297, rfl⟩
abbrev main_c_62 : Ref sig .tc := ⟨.hbm, 298, rfl⟩
abbrev main_v145 : Ref sig .tc := ⟨.hbm, 299, rfl⟩
abbrev main_v146 : Ref sig .tc := ⟨.hbm, 300, rfl⟩
abbrev main_cst_63 : Ref sig .tc := ⟨.hbm, 301, rfl⟩
abbrev main_v147 : Ref sig .tc := ⟨.hbm, 302, rfl⟩
abbrev main_v148 : Ref sig .tc := ⟨.hbm, 303, rfl⟩
abbrev main_cst_64 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_cst_65 : Ref sig .tc := ⟨.hbm, 308, rfl⟩
abbrev main_call36_v0 : Ref sig .tc := ⟨.hbm, 309, rfl⟩
abbrev main_call36_v1 : Ref sig .tc := ⟨.hbm, 310, rfl⟩
abbrev main_v152 : Ref sig .tc := ⟨.hbm, 311, rfl⟩
abbrev main_v153 : Ref sig .tc := ⟨.hbm, 312, rfl⟩
abbrev main_cst_66 : Ref sig .tc := ⟨.hbm, 313, rfl⟩
abbrev main_call38_v0 : Ref sig .tc := ⟨.hbm, 314, rfl⟩
abbrev main_call38_v1 : Ref sig .tc := ⟨.hbm, 315, rfl⟩
abbrev main_v154 : Ref sig .tc := ⟨.hbm, 316, rfl⟩
abbrev main_c_67 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_c_68 : Ref sig .tc := ⟨.hbm, 321, rfl⟩
abbrev main_call39_v0 : Ref sig .tc := ⟨.hbm, 322, rfl⟩
abbrev main_v158 : Ref sig .tc := ⟨.hbm, 323, rfl⟩
abbrev main_v159 : Ref sig .tc := ⟨.hbm, 324, rfl⟩
abbrev main_v160 : Ref sig .tc := ⟨.hbm, 325, rfl⟩
abbrev main_c_69 : Ref sig .tc := ⟨.hbm, 326, rfl⟩
abbrev main_v161 : Ref sig .tc := ⟨.hbm, 327, rfl⟩
abbrev main_v162 : Ref sig .tc := ⟨.hbm, 328, rfl⟩
abbrev main_v163 : Ref sig .tc := ⟨.hbm, 329, rfl⟩
abbrev main_c_70 : Ref sig .tc := ⟨.hbm, 330, rfl⟩
abbrev main_call41_v0 : Ref sig .tc := ⟨.hbm, 331, rfl⟩
abbrev main_v164 : Ref sig .tc := ⟨.hbm, 332, rfl⟩
abbrev main_v165 : Ref sig .tc := ⟨.hbm, 333, rfl⟩
abbrev main_v166 : Ref sig .tc := ⟨.hbm, 334, rfl⟩
abbrev main_c_71 : Ref sig .tc := ⟨.hbm, 335, rfl⟩
abbrev main_v167 : Ref sig .tc := ⟨.hbm, 336, rfl⟩
abbrev main_v168 : Ref sig .tc := ⟨.hbm, 337, rfl⟩
abbrev main_v169 : Ref sig .tc := ⟨.hbm, 338, rfl⟩
abbrev main_cst_72 : Ref sig .tc := ⟨.hbm, 339, rfl⟩
abbrev main_call43_v0 : Ref sig .tc := ⟨.hbm, 340, rfl⟩
abbrev main_call43_v1 : Ref sig .tc := ⟨.hbm, 341, rfl⟩
abbrev main_v170 : Ref sig .tc := ⟨.hbm, 342, rfl⟩
abbrev main_c_73 : Ref sig .tc := ⟨.hbm, 343, rfl⟩
abbrev main_v171 : Ref sig .tc := ⟨.hbm, 344, rfl⟩
abbrev main_v172 : Ref sig .tc := ⟨.hbm, 345, rfl⟩
abbrev main_c_74 : Ref sig .tc := ⟨.hbm, 346, rfl⟩
abbrev main_v173 : Ref sig .tc := ⟨.hbm, 347, rfl⟩
abbrev main_v174 : Ref sig .tc := ⟨.hbm, 348, rfl⟩
abbrev main_cst_75 : Ref sig .tc := ⟨.hbm, 349, rfl⟩
abbrev main_v175 : Ref sig .tc := ⟨.hbm, 350, rfl⟩
abbrev main_v176 : Ref sig .tc := ⟨.hbm, 351, rfl⟩
abbrev main_c_76 : Ref sig .tc := ⟨.hbm, 352, rfl⟩
abbrev main_v177 : Ref sig .tc := ⟨.hbm, 353, rfl⟩
abbrev main_v178 : Ref sig .tc := ⟨.hbm, 354, rfl⟩
abbrev main_c_77 : Ref sig .tc := ⟨.hbm, 355, rfl⟩
abbrev main_v179 : Ref sig .tc := ⟨.hbm, 356, rfl⟩
abbrev main_v180 : Ref sig .tc := ⟨.hbm, 357, rfl⟩
abbrev main_cst_78 : Ref sig .tc := ⟨.hbm, 358, rfl⟩
abbrev main_v181 : Ref sig .tc := ⟨.hbm, 359, rfl⟩
abbrev main_v182 : Ref sig .tc := ⟨.hbm, 360, rfl⟩
abbrev main_cst_79 : Ref sig .tc := ⟨.hbm, 361, rfl⟩
abbrev main_v183 : Ref sig .tc := ⟨.hbm, 362, rfl⟩
abbrev main_v184 : Ref sig .tc := ⟨.hbm, 363, rfl⟩
abbrev main_v185 : Ref sig .tc := ⟨.hbm, 364, rfl⟩
abbrev main_cst_80 : Ref sig .tc := ⟨.hbm, 365, rfl⟩
abbrev main_call45_v0 : Ref sig .tc := ⟨.hbm, 366, rfl⟩
abbrev main_call45_v1 : Ref sig .tc := ⟨.hbm, 367, rfl⟩
abbrev main_v186 : Ref sig .tc := ⟨.hbm, 368, rfl⟩
abbrev main_v187 : Ref sig .tc := ⟨.hbm, 369, rfl⟩
abbrev main_cst_81 : Ref sig .tc := ⟨.hbm, 370, rfl⟩
abbrev main_call47_v0 : Ref sig .tc := ⟨.hbm, 371, rfl⟩
abbrev main_call47_v1 : Ref sig .tc := ⟨.hbm, 372, rfl⟩
abbrev main_v188 : Ref sig .tc := ⟨.hbm, 373, rfl⟩
abbrev main_c_82 : Ref sig .tc := ⟨.hbm, 374, rfl⟩
abbrev main_v189 : Ref sig .tc := ⟨.hbm, 375, rfl⟩
abbrev main_v190 : Ref sig .tc := ⟨.hbm, 376, rfl⟩
abbrev main_v191 : Ref sig .tc := ⟨.hbm, 377, rfl⟩
abbrev main_c_83 : Ref sig .tc := ⟨.hbm, 378, rfl⟩
abbrev main_call48_v0 : Ref sig .tc := ⟨.hbm, 379, rfl⟩
abbrev main_v192 : Ref sig .tc := ⟨.hbm, 380, rfl⟩
abbrev main_v193 : Ref sig .tc := ⟨.hbm, 381, rfl⟩
abbrev main_v194 : Ref sig .tc := ⟨.hbm, 382, rfl⟩
abbrev main_c_84 : Ref sig .tc := ⟨.hbm, 383, rfl⟩
abbrev main_v195 : Ref sig .tc := ⟨.hbm, 384, rfl⟩
abbrev main_v196 : Ref sig .tc := ⟨.hbm, 385, rfl⟩
abbrev main_v197 : Ref sig .tc := ⟨.hbm, 386, rfl⟩
abbrev main_c_85 : Ref sig .tc := ⟨.hbm, 387, rfl⟩
abbrev main_call50_v0 : Ref sig .tc := ⟨.hbm, 388, rfl⟩
abbrev main_v198 : Ref sig .tc := ⟨.hbm, 389, rfl⟩
abbrev main_v199 : Ref sig .tc := ⟨.hbm, 390, rfl⟩
abbrev main_v200 : Ref sig .tc := ⟨.hbm, 391, rfl⟩
abbrev main_c_86 : Ref sig .tc := ⟨.hbm, 392, rfl⟩
abbrev main_v201 : Ref sig .tc := ⟨.hbm, 393, rfl⟩
abbrev main_v202 : Ref sig .tc := ⟨.hbm, 394, rfl⟩
abbrev main_v203 : Ref sig .tc := ⟨.hbm, 395, rfl⟩
abbrev main_cst_87 : Ref sig .tc := ⟨.hbm, 396, rfl⟩
abbrev main_call52_v0 : Ref sig .tc := ⟨.hbm, 397, rfl⟩
abbrev main_call52_v1 : Ref sig .tc := ⟨.hbm, 398, rfl⟩
abbrev main_v204 : Ref sig .tc := ⟨.hbm, 399, rfl⟩
abbrev main_c_88 : Ref sig .tc := ⟨.hbm, 400, rfl⟩
abbrev main_v205 : Ref sig .tc := ⟨.hbm, 401, rfl⟩
abbrev main_v206 : Ref sig .tc := ⟨.hbm, 402, rfl⟩
abbrev main_c_89 : Ref sig .tc := ⟨.hbm, 403, rfl⟩
abbrev main_v207 : Ref sig .tc := ⟨.hbm, 404, rfl⟩
abbrev main_v208 : Ref sig .tc := ⟨.hbm, 405, rfl⟩
abbrev main_cst_90 : Ref sig .tc := ⟨.hbm, 406, rfl⟩
abbrev main_v209 : Ref sig .tc := ⟨.hbm, 407, rfl⟩
abbrev main_v210 : Ref sig .tc := ⟨.hbm, 408, rfl⟩
abbrev main_c_91 : Ref sig .tc := ⟨.hbm, 409, rfl⟩
abbrev main_v211 : Ref sig .tc := ⟨.hbm, 410, rfl⟩
abbrev main_v212 : Ref sig .tc := ⟨.hbm, 411, rfl⟩
abbrev main_c_92 : Ref sig .tc := ⟨.hbm, 412, rfl⟩
abbrev main_v213 : Ref sig .tc := ⟨.hbm, 413, rfl⟩
abbrev main_v214 : Ref sig .tc := ⟨.hbm, 414, rfl⟩
abbrev main_cst_93 : Ref sig .tc := ⟨.hbm, 415, rfl⟩
abbrev main_v215 : Ref sig .tc := ⟨.hbm, 416, rfl⟩
abbrev main_v216 : Ref sig .tc := ⟨.hbm, 417, rfl⟩
abbrev main_cst_94 : Ref sig .tc := ⟨.hbm, 418, rfl⟩
abbrev main_v217 : Ref sig .tc := ⟨.hbm, 419, rfl⟩
abbrev main_v218 : Ref sig .tc := ⟨.hbm, 420, rfl⟩
abbrev main_v219 : Ref sig .tc := ⟨.hbm, 421, rfl⟩
abbrev main_cst_95 : Ref sig .tc := ⟨.hbm, 422, rfl⟩
abbrev main_call54_v0 : Ref sig .tc := ⟨.hbm, 423, rfl⟩
abbrev main_call54_v1 : Ref sig .tc := ⟨.hbm, 424, rfl⟩
abbrev main_v220 : Ref sig .tc := ⟨.hbm, 425, rfl⟩
abbrev main_v221 : Ref sig .tc := ⟨.hbm, 426, rfl⟩
abbrev main_cst_96 : Ref sig .tc := ⟨.hbm, 427, rfl⟩
abbrev main_call56_v0 : Ref sig .tc := ⟨.hbm, 428, rfl⟩
abbrev main_call56_v1 : Ref sig .tc := ⟨.hbm, 429, rfl⟩
abbrev main_v222 : Ref sig .tc := ⟨.hbm, 430, rfl⟩
abbrev main_c_97 : Ref sig .tc := ⟨.hbm, 431, rfl⟩
abbrev main_v223 : Ref sig .tc := ⟨.hbm, 432, rfl⟩
abbrev main_v224 : Ref sig .tc := ⟨.hbm, 433, rfl⟩
abbrev main_v225 : Ref sig .tc := ⟨.hbm, 434, rfl⟩
abbrev main_c_98 : Ref sig .tc := ⟨.hbm, 435, rfl⟩
abbrev main_call57_v0 : Ref sig .tc := ⟨.hbm, 436, rfl⟩
abbrev main_v226 : Ref sig .tc := ⟨.hbm, 437, rfl⟩
abbrev main_v227 : Ref sig .tc := ⟨.hbm, 438, rfl⟩
abbrev main_v228 : Ref sig .tc := ⟨.hbm, 439, rfl⟩
abbrev main_c_99 : Ref sig .tc := ⟨.hbm, 440, rfl⟩
abbrev main_v229 : Ref sig .tc := ⟨.hbm, 441, rfl⟩
abbrev main_v230 : Ref sig .tc := ⟨.hbm, 442, rfl⟩
abbrev main_v231 : Ref sig .tc := ⟨.hbm, 443, rfl⟩
abbrev main_c_100 : Ref sig .tc := ⟨.hbm, 444, rfl⟩
abbrev main_call59_v0 : Ref sig .tc := ⟨.hbm, 445, rfl⟩
abbrev main_v232 : Ref sig .tc := ⟨.hbm, 446, rfl⟩
abbrev main_v233 : Ref sig .tc := ⟨.hbm, 447, rfl⟩
abbrev main_v234 : Ref sig .tc := ⟨.hbm, 448, rfl⟩
abbrev main_c_101 : Ref sig .tc := ⟨.hbm, 449, rfl⟩
abbrev main_v235 : Ref sig .tc := ⟨.hbm, 450, rfl⟩
abbrev main_v236 : Ref sig .tc := ⟨.hbm, 451, rfl⟩
abbrev main_v237 : Ref sig .tc := ⟨.hbm, 452, rfl⟩
abbrev main_cst_102 : Ref sig .tc := ⟨.hbm, 453, rfl⟩
abbrev main_call61_v0 : Ref sig .tc := ⟨.hbm, 454, rfl⟩
abbrev main_call61_v1 : Ref sig .tc := ⟨.hbm, 455, rfl⟩
abbrev main_v238 : Ref sig .tc := ⟨.hbm, 456, rfl⟩
abbrev main_c_103 : Ref sig .tc := ⟨.hbm, 457, rfl⟩
abbrev main_v239 : Ref sig .tc := ⟨.hbm, 458, rfl⟩
abbrev main_v240 : Ref sig .tc := ⟨.hbm, 459, rfl⟩
abbrev main_c_104 : Ref sig .tc := ⟨.hbm, 460, rfl⟩
abbrev main_v241 : Ref sig .tc := ⟨.hbm, 461, rfl⟩
abbrev main_v242 : Ref sig .tc := ⟨.hbm, 462, rfl⟩
abbrev main_cst_105 : Ref sig .tc := ⟨.hbm, 463, rfl⟩
abbrev main_v243 : Ref sig .tc := ⟨.hbm, 464, rfl⟩
abbrev main_v244 : Ref sig .tc := ⟨.hbm, 465, rfl⟩
abbrev main_c_106 : Ref sig .tc := ⟨.hbm, 466, rfl⟩
abbrev main_v245 : Ref sig .tc := ⟨.hbm, 467, rfl⟩
abbrev main_v246 : Ref sig .tc := ⟨.hbm, 468, rfl⟩
abbrev main_c_107 : Ref sig .tc := ⟨.hbm, 469, rfl⟩
abbrev main_v247 : Ref sig .tc := ⟨.hbm, 470, rfl⟩
abbrev main_v248 : Ref sig .tc := ⟨.hbm, 471, rfl⟩
abbrev main_cst_108 : Ref sig .tc := ⟨.hbm, 472, rfl⟩
abbrev main_v249 : Ref sig .tc := ⟨.hbm, 473, rfl⟩
abbrev main_v250 : Ref sig .tc := ⟨.hbm, 474, rfl⟩
abbrev main_cst_109 : Ref sig .tc := ⟨.hbm, 475, rfl⟩
abbrev main_v251 : Ref sig .tc := ⟨.hbm, 476, rfl⟩
abbrev main_v252 : Ref sig .tc := ⟨.hbm, 477, rfl⟩
abbrev main_v253 : Ref sig .tc := ⟨.hbm, 478, rfl⟩
abbrev main_cst_110 : Ref sig .tc := ⟨.hbm, 479, rfl⟩
abbrev main_call63_v0 : Ref sig .tc := ⟨.hbm, 480, rfl⟩
abbrev main_call63_v1 : Ref sig .tc := ⟨.hbm, 481, rfl⟩
abbrev main_v254 : Ref sig .tc := ⟨.hbm, 482, rfl⟩
abbrev main_v255 : Ref sig .tc := ⟨.hbm, 483, rfl⟩
abbrev main_cst_111 : Ref sig .tc := ⟨.hbm, 484, rfl⟩
abbrev main_call65_v0 : Ref sig .tc := ⟨.hbm, 485, rfl⟩
abbrev main_call65_v1 : Ref sig .tc := ⟨.hbm, 486, rfl⟩
abbrev main_v256 : Ref sig .tc := ⟨.hbm, 487, rfl⟩
abbrev main_c_112 : Ref sig .tc := ⟨.hbm, 488, rfl⟩
abbrev main_v257 : Ref sig .tc := ⟨.hbm, 489, rfl⟩
abbrev main_v258 : Ref sig .tc := ⟨.hbm, 490, rfl⟩
abbrev main_v259 : Ref sig .tc := ⟨.hbm, 491, rfl⟩
abbrev main_c_113 : Ref sig .tc := ⟨.hbm, 492, rfl⟩
abbrev main_call66_v0 : Ref sig .tc := ⟨.hbm, 493, rfl⟩
abbrev main_v260 : Ref sig .tc := ⟨.hbm, 494, rfl⟩
abbrev main_v261 : Ref sig .tc := ⟨.hbm, 495, rfl⟩
abbrev main_v262 : Ref sig .tc := ⟨.hbm, 496, rfl⟩
abbrev main_c_114 : Ref sig .tc := ⟨.hbm, 497, rfl⟩
abbrev main_v263 : Ref sig .tc := ⟨.hbm, 498, rfl⟩
abbrev main_v264 : Ref sig .tc := ⟨.hbm, 499, rfl⟩
abbrev main_v265 : Ref sig .tc := ⟨.hbm, 500, rfl⟩
abbrev main_c_115 : Ref sig .tc := ⟨.hbm, 501, rfl⟩
abbrev main_call68_v0 : Ref sig .tc := ⟨.hbm, 502, rfl⟩
abbrev main_v266 : Ref sig .tc := ⟨.hbm, 503, rfl⟩
abbrev main_v267 : Ref sig .tc := ⟨.hbm, 504, rfl⟩
abbrev main_v268 : Ref sig .tc := ⟨.hbm, 505, rfl⟩
abbrev main_c_116 : Ref sig .tc := ⟨.hbm, 506, rfl⟩
abbrev main_v269 : Ref sig .tc := ⟨.hbm, 507, rfl⟩
abbrev main_v270 : Ref sig .tc := ⟨.hbm, 508, rfl⟩
abbrev main_v271 : Ref sig .tc := ⟨.hbm, 509, rfl⟩
abbrev main_cst_117 : Ref sig .tc := ⟨.hbm, 510, rfl⟩
abbrev main_call70_v0 : Ref sig .tc := ⟨.hbm, 511, rfl⟩
abbrev main_call70_v1 : Ref sig .tc := ⟨.hbm, 512, rfl⟩
abbrev main_v272 : Ref sig .tc := ⟨.hbm, 513, rfl⟩
abbrev main_c_118 : Ref sig .tc := ⟨.hbm, 514, rfl⟩
abbrev main_v273 : Ref sig .tc := ⟨.hbm, 515, rfl⟩
abbrev main_v274 : Ref sig .tc := ⟨.hbm, 516, rfl⟩
abbrev main_c_119 : Ref sig .tc := ⟨.hbm, 517, rfl⟩
abbrev main_v275 : Ref sig .tc := ⟨.hbm, 518, rfl⟩
abbrev main_v276 : Ref sig .tc := ⟨.hbm, 519, rfl⟩
abbrev main_cst_120 : Ref sig .tc := ⟨.hbm, 520, rfl⟩
abbrev main_v277 : Ref sig .tc := ⟨.hbm, 521, rfl⟩
abbrev main_v278 : Ref sig .tc := ⟨.hbm, 522, rfl⟩
abbrev main_c_121 : Ref sig .tc := ⟨.hbm, 523, rfl⟩
abbrev main_v279 : Ref sig .tc := ⟨.hbm, 524, rfl⟩
abbrev main_v280 : Ref sig .tc := ⟨.hbm, 525, rfl⟩
abbrev main_c_122 : Ref sig .tc := ⟨.hbm, 526, rfl⟩
abbrev main_v281 : Ref sig .tc := ⟨.hbm, 527, rfl⟩
abbrev main_v282 : Ref sig .tc := ⟨.hbm, 528, rfl⟩
abbrev main_cst_123 : Ref sig .tc := ⟨.hbm, 529, rfl⟩
abbrev main_v283 : Ref sig .tc := ⟨.hbm, 530, rfl⟩
abbrev main_v284 : Ref sig .tc := ⟨.hbm, 531, rfl⟩
abbrev main_cst_124 : Ref sig .tc := ⟨.hbm, 532, rfl⟩
abbrev main_v285 : Ref sig .tc := ⟨.hbm, 533, rfl⟩
abbrev main_v286 : Ref sig .tc := ⟨.hbm, 534, rfl⟩
abbrev main_v287 : Ref sig .tc := ⟨.hbm, 535, rfl⟩
abbrev main_cst_125 : Ref sig .tc := ⟨.hbm, 536, rfl⟩
abbrev main_call72_v0 : Ref sig .tc := ⟨.hbm, 537, rfl⟩
abbrev main_call72_v1 : Ref sig .tc := ⟨.hbm, 538, rfl⟩
abbrev main_v288 : Ref sig .tc := ⟨.hbm, 539, rfl⟩
abbrev main_v289 : Ref sig .tc := ⟨.hbm, 540, rfl⟩
abbrev main_cst_126 : Ref sig .tc := ⟨.hbm, 541, rfl⟩
abbrev main_call74_v0 : Ref sig .tc := ⟨.hbm, 542, rfl⟩
abbrev main_call74_v1 : Ref sig .tc := ⟨.hbm, 543, rfl⟩
abbrev main_v290 : Ref sig .tc := ⟨.hbm, 544, rfl⟩
abbrev main_c_127 : Ref sig .tc := ⟨.hbm, 545, rfl⟩
abbrev main_v291 : Ref sig .tc := ⟨.hbm, 546, rfl⟩
abbrev main_v292 : Ref sig .tc := ⟨.hbm, 547, rfl⟩
abbrev main_v293 : Ref sig .tc := ⟨.hbm, 548, rfl⟩
abbrev main_c_128 : Ref sig .tc := ⟨.hbm, 549, rfl⟩
abbrev main_call75_v0 : Ref sig .tc := ⟨.hbm, 550, rfl⟩
abbrev main_v294 : Ref sig .tc := ⟨.hbm, 551, rfl⟩
abbrev main_v295 : Ref sig .tc := ⟨.hbm, 552, rfl⟩
abbrev main_v296 : Ref sig .tc := ⟨.hbm, 553, rfl⟩
abbrev main_c_129 : Ref sig .tc := ⟨.hbm, 554, rfl⟩
abbrev main_v297 : Ref sig .tc := ⟨.hbm, 555, rfl⟩
abbrev main_v298 : Ref sig .tc := ⟨.hbm, 556, rfl⟩
abbrev main_v299 : Ref sig .tc := ⟨.hbm, 557, rfl⟩
abbrev main_c_130 : Ref sig .tc := ⟨.hbm, 558, rfl⟩
abbrev main_call77_v0 : Ref sig .tc := ⟨.hbm, 559, rfl⟩
abbrev main_v300 : Ref sig .tc := ⟨.hbm, 560, rfl⟩
abbrev main_v301 : Ref sig .tc := ⟨.hbm, 561, rfl⟩
abbrev main_v302 : Ref sig .tc := ⟨.hbm, 562, rfl⟩
abbrev main_v303 : Ref sig .tc := ⟨.hbm, 563, rfl⟩
abbrev main_v304 : Ref sig .tc := ⟨.hbm, 564, rfl⟩
abbrev main_v305 : Ref sig .tc := ⟨.hbm, 565, rfl⟩
abbrev main_v306 : Ref sig .tc := ⟨.hbm, 566, rfl⟩
abbrev main_c_131 : Ref sig .tc := ⟨.hbm, 567, rfl⟩
abbrev main_call79_v0 : Ref sig .tc := ⟨.hbm, 568, rfl⟩
abbrev main_v307 : Ref sig .tc := ⟨.hbm, 569, rfl⟩
abbrev main_v308 : Ref sig .tc := ⟨.hbm, 570, rfl⟩
abbrev main_v309 : Ref sig .tc := ⟨.hbm, 571, rfl⟩
abbrev main_v310 : Ref sig .tc := ⟨.hbm, 572, rfl⟩
abbrev main_c_132 : Ref sig .tc := ⟨.hbm, 573, rfl⟩
abbrev main_v311 : Ref sig .tc := ⟨.hbm, 574, rfl⟩
abbrev main_v312 : Ref sig .tc := ⟨.hbm, 575, rfl⟩
abbrev main_v313 : Ref sig .tc := ⟨.hbm, 576, rfl⟩
abbrev main_v314 : Ref sig .tc := ⟨.hbm, 577, rfl⟩
abbrev main_v315 : Ref sig .tc := ⟨.hbm, 578, rfl⟩
abbrev main_v316 : Ref sig .tc := ⟨.hbm, 579, rfl⟩
abbrev main_v317 : Ref sig .tc := ⟨.hbm, 580, rfl⟩
abbrev main_v318 : Ref sig .tc := ⟨.hbm, 581, rfl⟩
abbrev main_v319 : Ref sig .tc := ⟨.hbm, 582, rfl⟩
abbrev main_v320 : Ref sig .tc := ⟨.hbm, 583, rfl⟩
abbrev main_v321 : Ref sig .tc := ⟨.hbm, 584, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v248 : BitVec 32 := Scalar.muli arg1 c256_i32
  v248
def k0_off1 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v261 : Index := Scalar.indexCast v249
  let c0_89 : Index := 0#32
  ![v261.toNat, 0]
def k0_off2 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v275 : Index := Scalar.indexCast v249
  let c0_94 : Index := 0#32
  ![v275.toNat, 0]
@[reducible] def k0_t1_loop (i : grid0.Coords) : Scf.Loop 32 :=
  let c0_i32 : BitVec 32 := 0#32
  let arg1 : BitVec 32 := BitVec.ofNat 32 (i 1).val
  let v279 : BitVec 32 := Scalar.subi arg1 c0_i32
  let c1_i32_96 : BitVec 32 := 1#32
  let v281 : BitVec 32 := Scalar.divsi v279 c1_i32_96
  let v282 : BitVec 32 := Scalar.muli v281 c1_i32_96
  let v283 : BitVec 32 := Scalar.addi c0_i32 v282
  let c1_i32_97 : BitVec 32 := 1#32
  ⟨c0_i32, v283, c1_i32_97⟩
def k0_mult2 (i : grid0.Coords) (k0_t1 : Fin (k0_t1_loop i).trips) : BitVec 32 :=
  let c0_i32 : BitVec 32 := 0#32
  let c1_i32_97 : BitVec 32 := 1#32
  let arg7 : BitVec 32 := Scf.iv c0_i32 c1_i32_97 k0_t1
  let c256_i32_210 : BitVec 32 := 256#32
  let v573 : BitVec 32 := Scalar.muli arg7 c256_i32_210
  v573
def k0_off3 (i : grid0.Coords) (k0_t1 : Fin (k0_t1_loop i).trips) : Fin 2 → Nat :=
  let c0_i32 : BitVec 32 := 0#32
  let c1_i32_97 : BitVec 32 := 1#32
  let arg7 : BitVec 32 := Scf.iv c0_i32 c1_i32_97 k0_t1
  let c256_i32_210 : BitVec 32 := 256#32
  let v573 : BitVec 32 := Scalar.muli arg7 c256_i32_210
  let v574 : BitVec 32 := v573
  let v575 : Index := Scalar.indexCast v574
  let c0_211 : Index := 0#32
  ![v575.toNat, 0]
def k0_off4 (i : grid0.Coords) (k0_t1 : Fin (k0_t1_loop i).trips) : Fin 2 → Nat :=
  let c0_i32 : BitVec 32 := 0#32
  let c1_i32_97 : BitVec 32 := 1#32
  let arg7 : BitVec 32 := Scf.iv c0_i32 c1_i32_97 k0_t1
  let c256_i32_210 : BitVec 32 := 256#32
  let v573 : BitVec 32 := Scalar.muli arg7 c256_i32_210
  let v574 : BitVec 32 := v573
  let v594 : Index := Scalar.indexCast v574
  let c0_215 : Index := 0#32
  ![v594.toNat, 0]
@[reducible] def k0_t2_loop (i : grid0.Coords) : Scf.Loop 32 :=
  let c0_i32 : BitVec 32 := 0#32
  let arg1 : BitVec 32 := BitVec.ofNat 32 (i 1).val
  let v279 : BitVec 32 := Scalar.subi arg1 c0_i32
  let c1_i32_96 : BitVec 32 := 1#32
  let v281 : BitVec 32 := Scalar.divsi v279 c1_i32_96
  let v282 : BitVec 32 := Scalar.muli v281 c1_i32_96
  let v283 : BitVec 32 := Scalar.addi c0_i32 v282
  let v280 : BitVec 32 := Scalar.addi c0_i32 v279
  let c1_i32_98 : BitVec 32 := 1#32
  ⟨v283, v280, c1_i32_98⟩
def k0_mult3 (i : grid0.Coords) (k0_t2 : Fin (k0_t2_loop i).trips) : BitVec 32 :=
  let c0_i32 : BitVec 32 := 0#32
  let arg1 : BitVec 32 := BitVec.ofNat 32 (i 1).val
  let v279 : BitVec 32 := Scalar.subi arg1 c0_i32
  let c1_i32_96 : BitVec 32 := 1#32
  let v281 : BitVec 32 := Scalar.divsi v279 c1_i32_96
  let v282 : BitVec 32 := Scalar.muli v281 c1_i32_96
  let v283 : BitVec 32 := Scalar.addi c0_i32 v282
  let c1_i32_98 : BitVec 32 := 1#32
  let arg7 : BitVec 32 := Scf.iv v283 c1_i32_98 k0_t2
  let c256_i32_210 : BitVec 32 := 256#32
  let v573 : BitVec 32 := Scalar.muli arg7 c256_i32_210
  v573
def k0_off5 (i : grid0.Coords) (k0_t2 : Fin (k0_t2_loop i).trips) : Fin 2 → Nat :=
  let c0_i32 : BitVec 32 := 0#32
  let arg1 : BitVec 32 := BitVec.ofNat 32 (i 1).val
  let v279 : BitVec 32 := Scalar.subi arg1 c0_i32
  let c1_i32_96 : BitVec 32 := 1#32
  let v281 : BitVec 32 := Scalar.divsi v279 c1_i32_96
  let v282 : BitVec 32 := Scalar.muli v281 c1_i32_96
  let v283 : BitVec 32 := Scalar.addi c0_i32 v282
  let c1_i32_98 : BitVec 32 := 1#32
  let arg7 : BitVec 32 := Scf.iv v283 c1_i32_98 k0_t2
  let c256_i32_210 : BitVec 32 := 256#32
  let v573 : BitVec 32 := Scalar.muli arg7 c256_i32_210
  let v574 : BitVec 32 := v573
  let v575 : Index := Scalar.indexCast v574
  let c0_211 : Index := 0#32
  ![v575.toNat, 0]
def k0_off6 (i : grid0.Coords) (k0_t2 : Fin (k0_t2_loop i).trips) : Fin 2 → Nat :=
  let c0_i32 : BitVec 32 := 0#32
  let arg1 : BitVec 32 := BitVec.ofNat 32 (i 1).val
  let v279 : BitVec 32 := Scalar.subi arg1 c0_i32
  let c1_i32_96 : BitVec 32 := 1#32
  let v281 : BitVec 32 := Scalar.divsi v279 c1_i32_96
  let v282 : BitVec 32 := Scalar.muli v281 c1_i32_96
  let v283 : BitVec 32 := Scalar.addi c0_i32 v282
  let c1_i32_98 : BitVec 32 := 1#32
  let arg7 : BitVec 32 := Scf.iv v283 c1_i32_98 k0_t2
  let c256_i32_210 : BitVec 32 := 256#32
  let v573 : BitVec 32 := Scalar.muli arg7 c256_i32_210
  let v574 : BitVec 32 := v573
  let v594 : Index := Scalar.indexCast v574
  let c0_215 : Index := 0#32
  ![v594.toNat, 0]
def k0_off7 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v299 : Index := Scalar.indexCast v249
  let c128_102 : Index := 128#32
  ![v299.toNat, 128]
@[reducible] def k0_t3_loop (i : grid0.Coords) : Scf.Loop 32 :=
  let c0_i32_109 : BitVec 32 := 0#32
  let arg1 : BitVec 32 := BitVec.ofNat 32 (i 1).val
  let v317 : BitVec 32 := Scalar.subi arg1 c0_i32_109
  let c1_i32_110 : BitVec 32 := 1#32
  let v319 : BitVec 32 := Scalar.divsi v317 c1_i32_110
  let v320 : BitVec 32 := Scalar.muli v319 c1_i32_110
  let v321 : BitVec 32 := Scalar.addi c0_i32_109 v320
  let c1_i32_111 : BitVec 32 := 1#32
  ⟨c0_i32_109, v321, c1_i32_111⟩
def k0_mult4 (i : grid0.Coords) (k0_t3 : Fin (k0_t3_loop i).trips) : BitVec 32 :=
  let c0_i32_109 : BitVec 32 := 0#32
  let c1_i32_111 : BitVec 32 := 1#32
  let arg7 : BitVec 32 := Scf.iv c0_i32_109 c1_i32_111 k0_t3
  let c256_i32_210 : BitVec 32 := 256#32
  let v573 : BitVec 32 := Scalar.muli arg7 c256_i32_210
  v573
def k0_off8 (i : grid0.Coords) (k0_t3 : Fin (k0_t3_loop i).trips) : Fin 2 → Nat :=
  let c0_i32_109 : BitVec 32 := 0#32
  let c1_i32_111 : BitVec 32 := 1#32
  let arg7 : BitVec 32 := Scf.iv c0_i32_109 c1_i32_111 k0_t3
  let c256_i32_210 : BitVec 32 := 256#32
  let v573 : BitVec 32 := Scalar.muli arg7 c256_i32_210
  let v574 : BitVec 32 := v573
  let v575 : Index := Scalar.indexCast v574
  let c128_211 : Index := 128#32
  ![v575.toNat, 128]
def k0_off9 (i : grid0.Coords) (k0_t3 : Fin (k0_t3_loop i).trips) : Fin 2 → Nat :=
  let c0_i32_109 : BitVec 32 := 0#32
  let c1_i32_111 : BitVec 32 := 1#32
  let arg7 : BitVec 32 := Scf.iv c0_i32_109 c1_i32_111 k0_t3
  let c256_i32_210 : BitVec 32 := 256#32
  let v573 : BitVec 32 := Scalar.muli arg7 c256_i32_210
  let v574 : BitVec 32 := v573
  let v594 : Index := Scalar.indexCast v574
  let c0_215 : Index := 0#32
  ![v594.toNat, 0]
@[reducible] def k0_t4_loop (i : grid0.Coords) : Scf.Loop 32 :=
  let c0_i32_109 : BitVec 32 := 0#32
  let arg1 : BitVec 32 := BitVec.ofNat 32 (i 1).val
  let v317 : BitVec 32 := Scalar.subi arg1 c0_i32_109
  let c1_i32_110 : BitVec 32 := 1#32
  let v319 : BitVec 32 := Scalar.divsi v317 c1_i32_110
  let v320 : BitVec 32 := Scalar.muli v319 c1_i32_110
  let v321 : BitVec 32 := Scalar.addi c0_i32_109 v320
  let v318 : BitVec 32 := Scalar.addi c0_i32_109 v317
  let c1_i32_112 : BitVec 32 := 1#32
  ⟨v321, v318, c1_i32_112⟩
def k0_mult5 (i : grid0.Coords) (k0_t4 : Fin (k0_t4_loop i).trips) : BitVec 32 :=
  let c0_i32_109 : BitVec 32 := 0#32
  let arg1 : BitVec 32 := BitVec.ofNat 32 (i 1).val
  let v317 : BitVec 32 := Scalar.subi arg1 c0_i32_109
  let c1_i32_110 : BitVec 32 := 1#32
  let v319 : BitVec 32 := Scalar.divsi v317 c1_i32_110
  let v320 : BitVec 32 := Scalar.muli v319 c1_i32_110
  let v321 : BitVec 32 := Scalar.addi c0_i32_109 v320
  let c1_i32_112 : BitVec 32 := 1#32
  let arg7 : BitVec 32 := Scf.iv v321 c1_i32_112 k0_t4
  let c256_i32_210 : BitVec 32 := 256#32
  let v573 : BitVec 32 := Scalar.muli arg7 c256_i32_210
  v573
def k0_off10 (i : grid0.Coords) (k0_t4 : Fin (k0_t4_loop i).trips) : Fin 2 → Nat :=
  let c0_i32_109 : BitVec 32 := 0#32
  let arg1 : BitVec 32 := BitVec.ofNat 32 (i 1).val
  let v317 : BitVec 32 := Scalar.subi arg1 c0_i32_109
  let c1_i32_110 : BitVec 32 := 1#32
  let v319 : BitVec 32 := Scalar.divsi v317 c1_i32_110
  let v320 : BitVec 32 := Scalar.muli v319 c1_i32_110
  let v321 : BitVec 32 := Scalar.addi c0_i32_109 v320
  let c1_i32_112 : BitVec 32 := 1#32
  let arg7 : BitVec 32 := Scf.iv v321 c1_i32_112 k0_t4
  let c256_i32_210 : BitVec 32 := 256#32
  let v573 : BitVec 32 := Scalar.muli arg7 c256_i32_210
  let v574 : BitVec 32 := v573
  let v575 : Index := Scalar.indexCast v574
  let c128_211 : Index := 128#32
  ![v575.toNat, 128]
def k0_off11 (i : grid0.Coords) (k0_t4 : Fin (k0_t4_loop i).trips) : Fin 2 → Nat :=
  let c0_i32_109 : BitVec 32 := 0#32
  let arg1 : BitVec 32 := BitVec.ofNat 32 (i 1).val
  let v317 : BitVec 32 := Scalar.subi arg1 c0_i32_109
  let c1_i32_110 : BitVec 32 := 1#32
  let v319 : BitVec 32 := Scalar.divsi v317 c1_i32_110
  let v320 : BitVec 32 := Scalar.muli v319 c1_i32_110
  let v321 : BitVec 32 := Scalar.addi c0_i32_109 v320
  let c1_i32_112 : BitVec 32 := 1#32
  let arg7 : BitVec 32 := Scf.iv v321 c1_i32_112 k0_t4
  let c256_i32_210 : BitVec 32 := 256#32
  let v573 : BitVec 32 := Scalar.muli arg7 c256_i32_210
  let v574 : BitVec 32 := v573
  let v594 : Index := Scalar.indexCast v574
  let c0_215 : Index := 0#32
  ![v594.toNat, 0]
def k0_off12 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v342 : Index := Scalar.indexCast v249
  let c256_119 : Index := 256#32
  ![v342.toNat, 256]
def k0_off13 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v356 : Index := Scalar.indexCast v249
  let c128_124 : Index := 128#32
  ![v356.toNat, 128]
@[reducible] def k0_t5_loop (i : grid0.Coords) : Scf.Loop 32 :=
  let c0_i32_126 : BitVec 32 := 0#32
  let arg1 : BitVec 32 := BitVec.ofNat 32 (i 1).val
  let v360 : BitVec 32 := Scalar.subi arg1 c0_i32_126
  let c1_i32_127 : BitVec 32 := 1#32
  let v362 : BitVec 32 := Scalar.divsi v360 c1_i32_127
  let v363 : BitVec 32 := Scalar.muli v362 c1_i32_127
  let v364 : BitVec 32 := Scalar.addi c0_i32_126 v363
  let c1_i32_128 : BitVec 32 := 1#32
  ⟨c0_i32_126, v364, c1_i32_128⟩
def k0_mult6 (i : grid0.Coords) (k0_t5 : Fin (k0_t5_loop i).trips) : BitVec 32 :=
  let c0_i32_126 : BitVec 32 := 0#32
  let c1_i32_128 : BitVec 32 := 1#32
  let arg7 : BitVec 32 := Scf.iv c0_i32_126 c1_i32_128 k0_t5
  let c256_i32_210 : BitVec 32 := 256#32
  let v573 : BitVec 32 := Scalar.muli arg7 c256_i32_210
  v573
def k0_off14 (i : grid0.Coords) (k0_t5 : Fin (k0_t5_loop i).trips) : Fin 2 → Nat :=
  let c0_i32_126 : BitVec 32 := 0#32
  let c1_i32_128 : BitVec 32 := 1#32
  let arg7 : BitVec 32 := Scf.iv c0_i32_126 c1_i32_128 k0_t5
  let c256_i32_210 : BitVec 32 := 256#32
  let v573 : BitVec 32 := Scalar.muli arg7 c256_i32_210
  let v574 : BitVec 32 := v573
  let v575 : Index := Scalar.indexCast v574
  let c256_211 : Index := 256#32
  ![v575.toNat, 256]
def k0_off15 (i : grid0.Coords) (k0_t5 : Fin (k0_t5_loop i).trips) : Fin 2 → Nat :=
  let c0_i32_126 : BitVec 32 := 0#32
  let c1_i32_128 : BitVec 32 := 1#32
  let arg7 : BitVec 32 := Scf.iv c0_i32_126 c1_i32_128 k0_t5
  let c256_i32_210 : BitVec 32 := 256#32
  let v573 : BitVec 32 := Scalar.muli arg7 c256_i32_210
  let v574 : BitVec 32 := v573
  let v594 : Index := Scalar.indexCast v574
  let c128_215 : Index := 128#32
  ![v594.toNat, 128]
@[reducible] def k0_t6_loop (i : grid0.Coords) : Scf.Loop 32 :=
  let c0_i32_126 : BitVec 32 := 0#32
  let arg1 : BitVec 32 := BitVec.ofNat 32 (i 1).val
  let v360 : BitVec 32 := Scalar.subi arg1 c0_i32_126
  let c1_i32_127 : BitVec 32 := 1#32
  let v362 : BitVec 32 := Scalar.divsi v360 c1_i32_127
  let v363 : BitVec 32 := Scalar.muli v362 c1_i32_127
  let v364 : BitVec 32 := Scalar.addi c0_i32_126 v363
  let v361 : BitVec 32 := Scalar.addi c0_i32_126 v360
  let c1_i32_129 : BitVec 32 := 1#32
  ⟨v364, v361, c1_i32_129⟩
def k0_mult7 (i : grid0.Coords) (k0_t6 : Fin (k0_t6_loop i).trips) : BitVec 32 :=
  let c0_i32_126 : BitVec 32 := 0#32
  let arg1 : BitVec 32 := BitVec.ofNat 32 (i 1).val
  let v360 : BitVec 32 := Scalar.subi arg1 c0_i32_126
  let c1_i32_127 : BitVec 32 := 1#32
  let v362 : BitVec 32 := Scalar.divsi v360 c1_i32_127
  let v363 : BitVec 32 := Scalar.muli v362 c1_i32_127
  let v364 : BitVec 32 := Scalar.addi c0_i32_126 v363
  let c1_i32_129 : BitVec 32 := 1#32
  let arg7 : BitVec 32 := Scf.iv v364 c1_i32_129 k0_t6
  let c256_i32_210 : BitVec 32 := 256#32
  let v573 : BitVec 32 := Scalar.muli arg7 c256_i32_210
  v573
def k0_off16 (i : grid0.Coords) (k0_t6 : Fin (k0_t6_loop i).trips) : Fin 2 → Nat :=
  let c0_i32_126 : BitVec 32 := 0#32
  let arg1 : BitVec 32 := BitVec.ofNat 32 (i 1).val
  let v360 : BitVec 32 := Scalar.subi arg1 c0_i32_126
  let c1_i32_127 : BitVec 32 := 1#32
  let v362 : BitVec 32 := Scalar.divsi v360 c1_i32_127
  let v363 : BitVec 32 := Scalar.muli v362 c1_i32_127
  let v364 : BitVec 32 := Scalar.addi c0_i32_126 v363
  let c1_i32_129 : BitVec 32 := 1#32
  let arg7 : BitVec 32 := Scf.iv v364 c1_i32_129 k0_t6
  let c256_i32_210 : BitVec 32 := 256#32
  let v573 : BitVec 32 := Scalar.muli arg7 c256_i32_210
  let v574 : BitVec 32 := v573
  let v575 : Index := Scalar.indexCast v574
  let c256_211 : Index := 256#32
  ![v575.toNat, 256]
def k0_off17 (i : grid0.Coords) (k0_t6 : Fin (k0_t6_loop i).trips) : Fin 2 → Nat :=
  let c0_i32_126 : BitVec 32 := 0#32
  let arg1 : BitVec 32 := BitVec.ofNat 32 (i 1).val
  let v360 : BitVec 32 := Scalar.subi arg1 c0_i32_126
  let c1_i32_127 : BitVec 32 := 1#32
  let v362 : BitVec 32 := Scalar.divsi v360 c1_i32_127
  let v363 : BitVec 32 := Scalar.muli v362 c1_i32_127
  let v364 : BitVec 32 := Scalar.addi c0_i32_126 v363
  let c1_i32_129 : BitVec 32 := 1#32
  let arg7 : BitVec 32 := Scf.iv v364 c1_i32_129 k0_t6
  let c256_i32_210 : BitVec 32 := 256#32
  let v573 : BitVec 32 := Scalar.muli arg7 c256_i32_210
  let v574 : BitVec 32 := v573
  let v594 : Index := Scalar.indexCast v574
  let c128_215 : Index := 128#32
  ![v594.toNat, 128]
def k0_off18 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v380 : Index := Scalar.indexCast v249
  let c384_133 : Index := 384#32
  ![v380.toNat, 384]
@[reducible] def k0_t7_loop (i : grid0.Coords) : Scf.Loop 32 :=
  let c0_i32_140 : BitVec 32 := 0#32
  let arg1 : BitVec 32 := BitVec.ofNat 32 (i 1).val
  let v398 : BitVec 32 := Scalar.subi arg1 c0_i32_140
  let c1_i32_141 : BitVec 32 := 1#32
  let v400 : BitVec 32 := Scalar.divsi v398 c1_i32_141
  let v401 : BitVec 32 := Scalar.muli v400 c1_i32_141
  let v402 : BitVec 32 := Scalar.addi c0_i32_140 v401
  let c1_i32_142 : BitVec 32 := 1#32
  ⟨c0_i32_140, v402, c1_i32_142⟩
def k0_mult8 (i : grid0.Coords) (k0_t7 : Fin (k0_t7_loop i).trips) : BitVec 32 :=
  let c0_i32_140 : BitVec 32 := 0#32
  let c1_i32_142 : BitVec 32 := 1#32
  let arg7 : BitVec 32 := Scf.iv c0_i32_140 c1_i32_142 k0_t7
  let c256_i32_210 : BitVec 32 := 256#32
  let v573 : BitVec 32 := Scalar.muli arg7 c256_i32_210
  v573
def k0_off19 (i : grid0.Coords) (k0_t7 : Fin (k0_t7_loop i).trips) : Fin 2 → Nat :=
  let c0_i32_140 : BitVec 32 := 0#32
  let c1_i32_142 : BitVec 32 := 1#32
  let arg7 : BitVec 32 := Scf.iv c0_i32_140 c1_i32_142 k0_t7
  let c256_i32_210 : BitVec 32 := 256#32
  let v573 : BitVec 32 := Scalar.muli arg7 c256_i32_210
  let v574 : BitVec 32 := v573
  let v575 : Index := Scalar.indexCast v574
  let c384_211 : Index := 384#32
  ![v575.toNat, 384]
def k0_off20 (i : grid0.Coords) (k0_t7 : Fin (k0_t7_loop i).trips) : Fin 2 → Nat :=
  let c0_i32_140 : BitVec 32 := 0#32
  let c1_i32_142 : BitVec 32 := 1#32
  let arg7 : BitVec 32 := Scf.iv c0_i32_140 c1_i32_142 k0_t7
  let c256_i32_210 : BitVec 32 := 256#32
  let v573 : BitVec 32 := Scalar.muli arg7 c256_i32_210
  let v574 : BitVec 32 := v573
  let v594 : Index := Scalar.indexCast v574
  let c128_215 : Index := 128#32
  ![v594.toNat, 128]
@[reducible] def k0_t8_loop (i : grid0.Coords) : Scf.Loop 32 :=
  let c0_i32_140 : BitVec 32 := 0#32
  let arg1 : BitVec 32 := BitVec.ofNat 32 (i 1).val
  let v398 : BitVec 32 := Scalar.subi arg1 c0_i32_140
  let c1_i32_141 : BitVec 32 := 1#32
  let v400 : BitVec 32 := Scalar.divsi v398 c1_i32_141
  let v401 : BitVec 32 := Scalar.muli v400 c1_i32_141
  let v402 : BitVec 32 := Scalar.addi c0_i32_140 v401
  let v399 : BitVec 32 := Scalar.addi c0_i32_140 v398
  let c1_i32_143 : BitVec 32 := 1#32
  ⟨v402, v399, c1_i32_143⟩
def k0_mult9 (i : grid0.Coords) (k0_t8 : Fin (k0_t8_loop i).trips) : BitVec 32 :=
  let c0_i32_140 : BitVec 32 := 0#32
  let arg1 : BitVec 32 := BitVec.ofNat 32 (i 1).val
  let v398 : BitVec 32 := Scalar.subi arg1 c0_i32_140
  let c1_i32_141 : BitVec 32 := 1#32
  let v400 : BitVec 32 := Scalar.divsi v398 c1_i32_141
  let v401 : BitVec 32 := Scalar.muli v400 c1_i32_141
  let v402 : BitVec 32 := Scalar.addi c0_i32_140 v401
  let c1_i32_143 : BitVec 32 := 1#32
  let arg7 : BitVec 32 := Scf.iv v402 c1_i32_143 k0_t8
  let c256_i32_210 : BitVec 32 := 256#32
  let v573 : BitVec 32 := Scalar.muli arg7 c256_i32_210
  v573
def k0_off21 (i : grid0.Coords) (k0_t8 : Fin (k0_t8_loop i).trips) : Fin 2 → Nat :=
  let c0_i32_140 : BitVec 32 := 0#32
  let arg1 : BitVec 32 := BitVec.ofNat 32 (i 1).val
  let v398 : BitVec 32 := Scalar.subi arg1 c0_i32_140
  let c1_i32_141 : BitVec 32 := 1#32
  let v400 : BitVec 32 := Scalar.divsi v398 c1_i32_141
  let v401 : BitVec 32 := Scalar.muli v400 c1_i32_141
  let v402 : BitVec 32 := Scalar.addi c0_i32_140 v401
  let c1_i32_143 : BitVec 32 := 1#32
  let arg7 : BitVec 32 := Scf.iv v402 c1_i32_143 k0_t8
  let c256_i32_210 : BitVec 32 := 256#32
  let v573 : BitVec 32 := Scalar.muli arg7 c256_i32_210
  let v574 : BitVec 32 := v573
  let v575 : Index := Scalar.indexCast v574
  let c384_211 : Index := 384#32
  ![v575.toNat, 384]
def k0_off22 (i : grid0.Coords) (k0_t8 : Fin (k0_t8_loop i).trips) : Fin 2 → Nat :=
  let c0_i32_140 : BitVec 32 := 0#32
  let arg1 : BitVec 32 := BitVec.ofNat 32 (i 1).val
  let v398 : BitVec 32 := Scalar.subi arg1 c0_i32_140
  let c1_i32_141 : BitVec 32 := 1#32
  let v400 : BitVec 32 := Scalar.divsi v398 c1_i32_141
  let v401 : BitVec 32 := Scalar.muli v400 c1_i32_141
  let v402 : BitVec 32 := Scalar.addi c0_i32_140 v401
  let c1_i32_143 : BitVec 32 := 1#32
  let arg7 : BitVec 32 := Scf.iv v402 c1_i32_143 k0_t8
  let c256_i32_210 : BitVec 32 := 256#32
  let v573 : BitVec 32 := Scalar.muli arg7 c256_i32_210
  let v574 : BitVec 32 := v573
  let v594 : Index := Scalar.indexCast v574
  let c128_215 : Index := 128#32
  ![v594.toNat, 128]
def k0_off23 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v422 : Index := Scalar.indexCast v249
  let c512_150 : Index := 512#32
  ![v422.toNat, 512]
def k0_off24 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v436 : Index := Scalar.indexCast v249
  let c256_155 : Index := 256#32
  ![v436.toNat, 256]
@[reducible] def k0_t9_loop (i : grid0.Coords) : Scf.Loop 32 :=
  let c0_i32_157 : BitVec 32 := 0#32
  let arg1 : BitVec 32 := BitVec.ofNat 32 (i 1).val
  let v440 : BitVec 32 := Scalar.subi arg1 c0_i32_157
  let c1_i32_158 : BitVec 32 := 1#32
  let v442 : BitVec 32 := Scalar.divsi v440 c1_i32_158
  let v443 : BitVec 32 := Scalar.muli v442 c1_i32_158
  let v444 : BitVec 32 := Scalar.addi c0_i32_157 v443
  let c1_i32_159 : BitVec 32 := 1#32
  ⟨c0_i32_157, v444, c1_i32_159⟩
def k0_mult10 (i : grid0.Coords) (k0_t9 : Fin (k0_t9_loop i).trips) : BitVec 32 :=
  let c0_i32_157 : BitVec 32 := 0#32
  let c1_i32_159 : BitVec 32 := 1#32
  let arg7 : BitVec 32 := Scf.iv c0_i32_157 c1_i32_159 k0_t9
  let c256_i32_210 : BitVec 32 := 256#32
  let v573 : BitVec 32 := Scalar.muli arg7 c256_i32_210
  v573
def k0_off25 (i : grid0.Coords) (k0_t9 : Fin (k0_t9_loop i).trips) : Fin 2 → Nat :=
  let c0_i32_157 : BitVec 32 := 0#32
  let c1_i32_159 : BitVec 32 := 1#32
  let arg7 : BitVec 32 := Scf.iv c0_i32_157 c1_i32_159 k0_t9
  let c256_i32_210 : BitVec 32 := 256#32
  let v573 : BitVec 32 := Scalar.muli arg7 c256_i32_210
  let v574 : BitVec 32 := v573
  let v575 : Index := Scalar.indexCast v574
  let c512_211 : Index := 512#32
  ![v575.toNat, 512]
def k0_off26 (i : grid0.Coords) (k0_t9 : Fin (k0_t9_loop i).trips) : Fin 2 → Nat :=
  let c0_i32_157 : BitVec 32 := 0#32
  let c1_i32_159 : BitVec 32 := 1#32
  let arg7 : BitVec 32 := Scf.iv c0_i32_157 c1_i32_159 k0_t9
  let c256_i32_210 : BitVec 32 := 256#32
  let v573 : BitVec 32 := Scalar.muli arg7 c256_i32_210
  let v574 : BitVec 32 := v573
  let v594 : Index := Scalar.indexCast v574
  let c256_215 : Index := 256#32
  ![v594.toNat, 256]
@[reducible] def k0_t10_loop (i : grid0.Coords) : Scf.Loop 32 :=
  let c0_i32_157 : BitVec 32 := 0#32
  let arg1 : BitVec 32 := BitVec.ofNat 32 (i 1).val
  let v440 : BitVec 32 := Scalar.subi arg1 c0_i32_157
  let c1_i32_158 : BitVec 32 := 1#32
  let v442 : BitVec 32 := Scalar.divsi v440 c1_i32_158
  let v443 : BitVec 32 := Scalar.muli v442 c1_i32_158
  let v444 : BitVec 32 := Scalar.addi c0_i32_157 v443
  let v441 : BitVec 32 := Scalar.addi c0_i32_157 v440
  let c1_i32_160 : BitVec 32 := 1#32
  ⟨v444, v441, c1_i32_160⟩
def k0_mult11 (i : grid0.Coords) (k0_t10 : Fin (k0_t10_loop i).trips) : BitVec 32 :=
  let c0_i32_157 : BitVec 32 := 0#32
  let arg1 : BitVec 32 := BitVec.ofNat 32 (i 1).val
  let v440 : BitVec 32 := Scalar.subi arg1 c0_i32_157
  let c1_i32_158 : BitVec 32 := 1#32
  let v442 : BitVec 32 := Scalar.divsi v440 c1_i32_158
  let v443 : BitVec 32 := Scalar.muli v442 c1_i32_158
  let v444 : BitVec 32 := Scalar.addi c0_i32_157 v443
  let c1_i32_160 : BitVec 32 := 1#32
  let arg7 : BitVec 32 := Scf.iv v444 c1_i32_160 k0_t10
  let c256_i32_210 : BitVec 32 := 256#32
  let v573 : BitVec 32 := Scalar.muli arg7 c256_i32_210
  v573
def k0_off27 (i : grid0.Coords) (k0_t10 : Fin (k0_t10_loop i).trips) : Fin 2 → Nat :=
  let c0_i32_157 : BitVec 32 := 0#32
  let arg1 : BitVec 32 := BitVec.ofNat 32 (i 1).val
  let v440 : BitVec 32 := Scalar.subi arg1 c0_i32_157
  let c1_i32_158 : BitVec 32 := 1#32
  let v442 : BitVec 32 := Scalar.divsi v440 c1_i32_158
  let v443 : BitVec 32 := Scalar.muli v442 c1_i32_158
  let v444 : BitVec 32 := Scalar.addi c0_i32_157 v443
  let c1_i32_160 : BitVec 32 := 1#32
  let arg7 : BitVec 32 := Scf.iv v444 c1_i32_160 k0_t10
  let c256_i32_210 : BitVec 32 := 256#32
  let v573 : BitVec 32 := Scalar.muli arg7 c256_i32_210
  let v574 : BitVec 32 := v573
  let v575 : Index := Scalar.indexCast v574
  let c512_211 : Index := 512#32
  ![v575.toNat, 512]
def k0_off28 (i : grid0.Coords) (k0_t10 : Fin (k0_t10_loop i).trips) : Fin 2 → Nat :=
  let c0_i32_157 : BitVec 32 := 0#32
  let arg1 : BitVec 32 := BitVec.ofNat 32 (i 1).val
  let v440 : BitVec 32 := Scalar.subi arg1 c0_i32_157
  let c1_i32_158 : BitVec 32 := 1#32
  let v442 : BitVec 32 := Scalar.divsi v440 c1_i32_158
  let v443 : BitVec 32 := Scalar.muli v442 c1_i32_158
  let v444 : BitVec 32 := Scalar.addi c0_i32_157 v443
  let c1_i32_160 : BitVec 32 := 1#32
  let arg7 : BitVec 32 := Scf.iv v444 c1_i32_160 k0_t10
  let c256_i32_210 : BitVec 32 := 256#32
  let v573 : BitVec 32 := Scalar.muli arg7 c256_i32_210
  let v574 : BitVec 32 := v573
  let v594 : Index := Scalar.indexCast v574
  let c256_215 : Index := 256#32
  ![v594.toNat, 256]
def k0_off29 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v460 : Index := Scalar.indexCast v249
  let c640_164 : Index := 640#32
  ![v460.toNat, 640]
@[reducible] def k0_t11_loop (i : grid0.Coords) : Scf.Loop 32 :=
  let c0_i32_171 : BitVec 32 := 0#32
  let arg1 : BitVec 32 := BitVec.ofNat 32 (i 1).val
  let v478 : BitVec 32 := Scalar.subi arg1 c0_i32_171
  let c1_i32_172 : BitVec 32 := 1#32
  let v480 : BitVec 32 := Scalar.divsi v478 c1_i32_172
  let v481 : BitVec 32 := Scalar.muli v480 c1_i32_172
  let v482 : BitVec 32 := Scalar.addi c0_i32_171 v481
  let c1_i32_173 : BitVec 32 := 1#32
  ⟨c0_i32_171, v482, c1_i32_173⟩
def k0_mult12 (i : grid0.Coords) (k0_t11 : Fin (k0_t11_loop i).trips) : BitVec 32 :=
  let c0_i32_171 : BitVec 32 := 0#32
  let c1_i32_173 : BitVec 32 := 1#32
  let arg7 : BitVec 32 := Scf.iv c0_i32_171 c1_i32_173 k0_t11
  let c256_i32_210 : BitVec 32 := 256#32
  let v573 : BitVec 32 := Scalar.muli arg7 c256_i32_210
  v573
def k0_off30 (i : grid0.Coords) (k0_t11 : Fin (k0_t11_loop i).trips) : Fin 2 → Nat :=
  let c0_i32_171 : BitVec 32 := 0#32
  let c1_i32_173 : BitVec 32 := 1#32
  let arg7 : BitVec 32 := Scf.iv c0_i32_171 c1_i32_173 k0_t11
  let c256_i32_210 : BitVec 32 := 256#32
  let v573 : BitVec 32 := Scalar.muli arg7 c256_i32_210
  let v574 : BitVec 32 := v573
  let v575 : Index := Scalar.indexCast v574
  let c640_211 : Index := 640#32
  ![v575.toNat, 640]
def k0_off31 (i : grid0.Coords) (k0_t11 : Fin (k0_t11_loop i).trips) : Fin 2 → Nat :=
  let c0_i32_171 : BitVec 32 := 0#32
  let c1_i32_173 : BitVec 32 := 1#32
  let arg7 : BitVec 32 := Scf.iv c0_i32_171 c1_i32_173 k0_t11
  let c256_i32_210 : BitVec 32 := 256#32
  let v573 : BitVec 32 := Scalar.muli arg7 c256_i32_210
  let v574 : BitVec 32 := v573
  let v594 : Index := Scalar.indexCast v574
  let c256_215 : Index := 256#32
  ![v594.toNat, 256]
@[reducible] def k0_t12_loop (i : grid0.Coords) : Scf.Loop 32 :=
  let c0_i32_171 : BitVec 32 := 0#32
  let arg1 : BitVec 32 := BitVec.ofNat 32 (i 1).val
  let v478 : BitVec 32 := Scalar.subi arg1 c0_i32_171
  let c1_i32_172 : BitVec 32 := 1#32
  let v480 : BitVec 32 := Scalar.divsi v478 c1_i32_172
  let v481 : BitVec 32 := Scalar.muli v480 c1_i32_172
  let v482 : BitVec 32 := Scalar.addi c0_i32_171 v481
  let v479 : BitVec 32 := Scalar.addi c0_i32_171 v478
  let c1_i32_174 : BitVec 32 := 1#32
  ⟨v482, v479, c1_i32_174⟩
def k0_mult13 (i : grid0.Coords) (k0_t12 : Fin (k0_t12_loop i).trips) : BitVec 32 :=
  let c0_i32_171 : BitVec 32 := 0#32
  let arg1 : BitVec 32 := BitVec.ofNat 32 (i 1).val
  let v478 : BitVec 32 := Scalar.subi arg1 c0_i32_171
  let c1_i32_172 : BitVec 32 := 1#32
  let v480 : BitVec 32 := Scalar.divsi v478 c1_i32_172
  let v481 : BitVec 32 := Scalar.muli v480 c1_i32_172
  let v482 : BitVec 32 := Scalar.addi c0_i32_171 v481
  let c1_i32_174 : BitVec 32 := 1#32
  let arg7 : BitVec 32 := Scf.iv v482 c1_i32_174 k0_t12
  let c256_i32_210 : BitVec 32 := 256#32
  let v573 : BitVec 32 := Scalar.muli arg7 c256_i32_210
  v573
def k0_off32 (i : grid0.Coords) (k0_t12 : Fin (k0_t12_loop i).trips) : Fin 2 → Nat :=
  let c0_i32_171 : BitVec 32 := 0#32
  let arg1 : BitVec 32 := BitVec.ofNat 32 (i 1).val
  let v478 : BitVec 32 := Scalar.subi arg1 c0_i32_171
  let c1_i32_172 : BitVec 32 := 1#32
  let v480 : BitVec 32 := Scalar.divsi v478 c1_i32_172
  let v481 : BitVec 32 := Scalar.muli v480 c1_i32_172
  let v482 : BitVec 32 := Scalar.addi c0_i32_171 v481
  let c1_i32_174 : BitVec 32 := 1#32
  let arg7 : BitVec 32 := Scf.iv v482 c1_i32_174 k0_t12
  let c256_i32_210 : BitVec 32 := 256#32
  let v573 : BitVec 32 := Scalar.muli arg7 c256_i32_210
  let v574 : BitVec 32 := v573
  let v575 : Index := Scalar.indexCast v574
  let c640_211 : Index := 640#32
  ![v575.toNat, 640]
def k0_off33 (i : grid0.Coords) (k0_t12 : Fin (k0_t12_loop i).trips) : Fin 2 → Nat :=
  let c0_i32_171 : BitVec 32 := 0#32
  let arg1 : BitVec 32 := BitVec.ofNat 32 (i 1).val
  let v478 : BitVec 32 := Scalar.subi arg1 c0_i32_171
  let c1_i32_172 : BitVec 32 := 1#32
  let v480 : BitVec 32 := Scalar.divsi v478 c1_i32_172
  let v481 : BitVec 32 := Scalar.muli v480 c1_i32_172
  let v482 : BitVec 32 := Scalar.addi c0_i32_171 v481
  let c1_i32_174 : BitVec 32 := 1#32
  let arg7 : BitVec 32 := Scf.iv v482 c1_i32_174 k0_t12
  let c256_i32_210 : BitVec 32 := 256#32
  let v573 : BitVec 32 := Scalar.muli arg7 c256_i32_210
  let v574 : BitVec 32 := v573
  let v594 : Index := Scalar.indexCast v574
  let c256_215 : Index := 256#32
  ![v594.toNat, 256]
def k0_off34 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v503 : Index := Scalar.indexCast v249
  let c768_181 : Index := 768#32
  ![v503.toNat, 768]
def k0_off35 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v517 : Index := Scalar.indexCast v249
  let c384_186 : Index := 384#32
  ![v517.toNat, 384]
@[reducible] def k0_t13_loop (i : grid0.Coords) : Scf.Loop 32 :=
  let c0_i32_188 : BitVec 32 := 0#32
  let arg1 : BitVec 32 := BitVec.ofNat 32 (i 1).val
  let v521 : BitVec 32 := Scalar.subi arg1 c0_i32_188
  let c1_i32_189 : BitVec 32 := 1#32
  let v523 : BitVec 32 := Scalar.divsi v521 c1_i32_189
  let v524 : BitVec 32 := Scalar.muli v523 c1_i32_189
  let v525 : BitVec 32 := Scalar.addi c0_i32_188 v524
  let c1_i32_190 : BitVec 32 := 1#32
  ⟨c0_i32_188, v525, c1_i32_190⟩
def k0_mult14 (i : grid0.Coords) (k0_t13 : Fin (k0_t13_loop i).trips) : BitVec 32 :=
  let c0_i32_188 : BitVec 32 := 0#32
  let c1_i32_190 : BitVec 32 := 1#32
  let arg7 : BitVec 32 := Scf.iv c0_i32_188 c1_i32_190 k0_t13
  let c256_i32_210 : BitVec 32 := 256#32
  let v573 : BitVec 32 := Scalar.muli arg7 c256_i32_210
  v573
def k0_off36 (i : grid0.Coords) (k0_t13 : Fin (k0_t13_loop i).trips) : Fin 2 → Nat :=
  let c0_i32_188 : BitVec 32 := 0#32
  let c1_i32_190 : BitVec 32 := 1#32
  let arg7 : BitVec 32 := Scf.iv c0_i32_188 c1_i32_190 k0_t13
  let c256_i32_210 : BitVec 32 := 256#32
  let v573 : BitVec 32 := Scalar.muli arg7 c256_i32_210
  let v574 : BitVec 32 := v573
  let v575 : Index := Scalar.indexCast v574
  let c768_211 : Index := 768#32
  ![v575.toNat, 768]
def k0_off37 (i : grid0.Coords) (k0_t13 : Fin (k0_t13_loop i).trips) : Fin 2 → Nat :=
  let c0_i32_188 : BitVec 32 := 0#32
  let c1_i32_190 : BitVec 32 := 1#32
  let arg7 : BitVec 32 := Scf.iv c0_i32_188 c1_i32_190 k0_t13
  let c256_i32_210 : BitVec 32 := 256#32
  let v573 : BitVec 32 := Scalar.muli arg7 c256_i32_210
  let v574 : BitVec 32 := v573
  let v594 : Index := Scalar.indexCast v574
  let c384_215 : Index := 384#32
  ![v594.toNat, 384]
@[reducible] def k0_t14_loop (i : grid0.Coords) : Scf.Loop 32 :=
  let c0_i32_188 : BitVec 32 := 0#32
  let arg1 : BitVec 32 := BitVec.ofNat 32 (i 1).val
  let v521 : BitVec 32 := Scalar.subi arg1 c0_i32_188
  let c1_i32_189 : BitVec 32 := 1#32
  let v523 : BitVec 32 := Scalar.divsi v521 c1_i32_189
  let v524 : BitVec 32 := Scalar.muli v523 c1_i32_189
  let v525 : BitVec 32 := Scalar.addi c0_i32_188 v524
  let v522 : BitVec 32 := Scalar.addi c0_i32_188 v521
  let c1_i32_191 : BitVec 32 := 1#32
  ⟨v525, v522, c1_i32_191⟩
def k0_mult15 (i : grid0.Coords) (k0_t14 : Fin (k0_t14_loop i).trips) : BitVec 32 :=
  let c0_i32_188 : BitVec 32 := 0#32
  let arg1 : BitVec 32 := BitVec.ofNat 32 (i 1).val
  let v521 : BitVec 32 := Scalar.subi arg1 c0_i32_188
  let c1_i32_189 : BitVec 32 := 1#32
  let v523 : BitVec 32 := Scalar.divsi v521 c1_i32_189
  let v524 : BitVec 32 := Scalar.muli v523 c1_i32_189
  let v525 : BitVec 32 := Scalar.addi c0_i32_188 v524
  let c1_i32_191 : BitVec 32 := 1#32
  let arg7 : BitVec 32 := Scf.iv v525 c1_i32_191 k0_t14
  let c256_i32_210 : BitVec 32 := 256#32
  let v573 : BitVec 32 := Scalar.muli arg7 c256_i32_210
  v573
def k0_off38 (i : grid0.Coords) (k0_t14 : Fin (k0_t14_loop i).trips) : Fin 2 → Nat :=
  let c0_i32_188 : BitVec 32 := 0#32
  let arg1 : BitVec 32 := BitVec.ofNat 32 (i 1).val
  let v521 : BitVec 32 := Scalar.subi arg1 c0_i32_188
  let c1_i32_189 : BitVec 32 := 1#32
  let v523 : BitVec 32 := Scalar.divsi v521 c1_i32_189
  let v524 : BitVec 32 := Scalar.muli v523 c1_i32_189
  let v525 : BitVec 32 := Scalar.addi c0_i32_188 v524
  let c1_i32_191 : BitVec 32 := 1#32
  let arg7 : BitVec 32 := Scf.iv v525 c1_i32_191 k0_t14
  let c256_i32_210 : BitVec 32 := 256#32
  let v573 : BitVec 32 := Scalar.muli arg7 c256_i32_210
  let v574 : BitVec 32 := v573
  let v575 : Index := Scalar.indexCast v574
  let c768_211 : Index := 768#32
  ![v575.toNat, 768]
def k0_off39 (i : grid0.Coords) (k0_t14 : Fin (k0_t14_loop i).trips) : Fin 2 → Nat :=
  let c0_i32_188 : BitVec 32 := 0#32
  let arg1 : BitVec 32 := BitVec.ofNat 32 (i 1).val
  let v521 : BitVec 32 := Scalar.subi arg1 c0_i32_188
  let c1_i32_189 : BitVec 32 := 1#32
  let v523 : BitVec 32 := Scalar.divsi v521 c1_i32_189
  let v524 : BitVec 32 := Scalar.muli v523 c1_i32_189
  let v525 : BitVec 32 := Scalar.addi c0_i32_188 v524
  let c1_i32_191 : BitVec 32 := 1#32
  let arg7 : BitVec 32 := Scf.iv v525 c1_i32_191 k0_t14
  let c256_i32_210 : BitVec 32 := 256#32
  let v573 : BitVec 32 := Scalar.muli arg7 c256_i32_210
  let v574 : BitVec 32 := v573
  let v594 : Index := Scalar.indexCast v574
  let c384_215 : Index := 384#32
  ![v594.toNat, 384]
def k0_off40 (i : grid0.Coords) : Fin 2 → Nat :=
  let arg1 : BitVec 32 := BitVec.ofNat 32 (i 1).val
  let c256_i32 : BitVec 32 := 256#32
  let v248 : BitVec 32 := Scalar.muli arg1 c256_i32
  let v249 : BitVec 32 := v248
  let v541 : Index := Scalar.indexCast v249
  let c896_196 : Index := 896#32
  ![v541.toNat, 896]
@[reducible] def k0_t15_loop (i : grid0.Coords) : Scf.Loop 32 :=
  let c0_i32_203 : BitVec 32 := 0#32
  let arg1 : BitVec 32 := BitVec.ofNat 32 (i 1).val
  let v559 : BitVec 32 := Scalar.subi arg1 c0_i32_203
  let c1_i32_204 : BitVec 32 := 1#32
  let v561 : BitVec 32 := Scalar.divsi v559 c1_i32_204
  let v562 : BitVec 32 := Scalar.muli v561 c1_i32_204
  let v563 : BitVec 32 := Scalar.addi c0_i32_203 v562
  let c1_i32_205 : BitVec 32 := 1#32
  ⟨c0_i32_203, v563, c1_i32_205⟩
def k0_mult16 (i : grid0.Coords) (k0_t15 : Fin (k0_t15_loop i).trips) : BitVec 32 :=
  let c0_i32_203 : BitVec 32 := 0#32
  let c1_i32_205 : BitVec 32 := 1#32
  let arg7 : BitVec 32 := Scf.iv c0_i32_203 c1_i32_205 k0_t15
  let c256_i32_210 : BitVec 32 := 256#32
  let v573 : BitVec 32 := Scalar.muli arg7 c256_i32_210
  v573
def k0_off41 (i : grid0.Coords) (k0_t15 : Fin (k0_t15_loop i).trips) : Fin 2 → Nat :=
  let c0_i32_203 : BitVec 32 := 0#32
  let c1_i32_205 : BitVec 32 := 1#32
  let arg7 : BitVec 32 := Scf.iv c0_i32_203 c1_i32_205 k0_t15
  let c256_i32_210 : BitVec 32 := 256#32
  let v573 : BitVec 32 := Scalar.muli arg7 c256_i32_210
  let v574 : BitVec 32 := v573
  let v575 : Index := Scalar.indexCast v574
  let c896_211 : Index := 896#32
  ![v575.toNat, 896]
def k0_off42 (i : grid0.Coords) (k0_t15 : Fin (k0_t15_loop i).trips) : Fin 2 → Nat :=
  let c0_i32_203 : BitVec 32 := 0#32
  let c1_i32_205 : BitVec 32 := 1#32
  let arg7 : BitVec 32 := Scf.iv c0_i32_203 c1_i32_205 k0_t15
  let c256_i32_210 : BitVec 32 := 256#32
  let v573 : BitVec 32 := Scalar.muli arg7 c256_i32_210
  let v574 : BitVec 32 := v573
  let v594 : Index := Scalar.indexCast v574
  let c384_215 : Index := 384#32
  ![v594.toNat, 384]
@[reducible] def k0_t16_loop (i : grid0.Coords) : Scf.Loop 32 :=
  let c0_i32_203 : BitVec 32 := 0#32
  let arg1 : BitVec 32 := BitVec.ofNat 32 (i 1).val
  let v559 : BitVec 32 := Scalar.subi arg1 c0_i32_203
  let c1_i32_204 : BitVec 32 := 1#32
  let v561 : BitVec 32 := Scalar.divsi v559 c1_i32_204
  let v562 : BitVec 32 := Scalar.muli v561 c1_i32_204
  let v563 : BitVec 32 := Scalar.addi c0_i32_203 v562
  let v560 : BitVec 32 := Scalar.addi c0_i32_203 v559
  let c1_i32_206 : BitVec 32 := 1#32
  ⟨v563, v560, c1_i32_206⟩
def k0_mult17 (i : grid0.Coords) (k0_t16 : Fin (k0_t16_loop i).trips) : BitVec 32 :=
  let c0_i32_203 : BitVec 32 := 0#32
  let arg1 : BitVec 32 := BitVec.ofNat 32 (i 1).val
  let v559 : BitVec 32 := Scalar.subi arg1 c0_i32_203
  let c1_i32_204 : BitVec 32 := 1#32
  let v561 : BitVec 32 := Scalar.divsi v559 c1_i32_204
  let v562 : BitVec 32 := Scalar.muli v561 c1_i32_204
  let v563 : BitVec 32 := Scalar.addi c0_i32_203 v562
  let c1_i32_206 : BitVec 32 := 1#32
  let arg7 : BitVec 32 := Scf.iv v563 c1_i32_206 k0_t16
  let c256_i32_210 : BitVec 32 := 256#32
  let v573 : BitVec 32 := Scalar.muli arg7 c256_i32_210
  v573
def k0_off43 (i : grid0.Coords) (k0_t16 : Fin (k0_t16_loop i).trips) : Fin 2 → Nat :=
  let c0_i32_203 : BitVec 32 := 0#32
  let arg1 : BitVec 32 := BitVec.ofNat 32 (i 1).val
  let v559 : BitVec 32 := Scalar.subi arg1 c0_i32_203
  let c1_i32_204 : BitVec 32 := 1#32
  let v561 : BitVec 32 := Scalar.divsi v559 c1_i32_204
  let v562 : BitVec 32 := Scalar.muli v561 c1_i32_204
  let v563 : BitVec 32 := Scalar.addi c0_i32_203 v562
  let c1_i32_206 : BitVec 32 := 1#32
  let arg7 : BitVec 32 := Scf.iv v563 c1_i32_206 k0_t16
  let c256_i32_210 : BitVec 32 := 256#32
  let v573 : BitVec 32 := Scalar.muli arg7 c256_i32_210
  let v574 : BitVec 32 := v573
  let v575 : Index := Scalar.indexCast v574
  let c896_211 : Index := 896#32
  ![v575.toNat, 896]
def k0_off44 (i : grid0.Coords) (k0_t16 : Fin (k0_t16_loop i).trips) : Fin 2 → Nat :=
  let c0_i32_203 : BitVec 32 := 0#32
  let arg1 : BitVec 32 := BitVec.ofNat 32 (i 1).val
  let v559 : BitVec 32 := Scalar.subi arg1 c0_i32_203
  let c1_i32_204 : BitVec 32 := 1#32
  let v561 : BitVec 32 := Scalar.divsi v559 c1_i32_204
  let v562 : BitVec 32 := Scalar.muli v561 c1_i32_204
  let v563 : BitVec 32 := Scalar.addi c0_i32_203 v562
  let c1_i32_206 : BitVec 32 := 1#32
  let arg7 : BitVec 32 := Scf.iv v563 c1_i32_206 k0_t16
  let c256_i32_210 : BitVec 32 := 256#32
  let v573 : BitVec 32 := Scalar.muli arg7 c256_i32_210
  let v574 : BitVec 32 := v573
  let v594 : Index := Scalar.indexCast v574
  let c384_215 : Index := 384#32
  ![v594.toNat, 384]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
def κ : String → Option EReal := fun
  | "mask" => some ⊥
  | _ => none
-- ==== ReferenceIdeal.lean ====
abbrev S4x4096x8x64 : Shape := ⟨4, ![4, 4096, 8, 64]⟩
abbrev S_ : Shape := ⟨0, ![]⟩
abbrev S1 : Shape := ⟨1, ![1]⟩
abbrev S8 : Shape := ⟨1, ![8]⟩
abbrev S4x16x256x8x64 : Shape := ⟨5, ![4, 16, 256, 8, 64]⟩
abbrev S4x8x16x256x64 : Shape := ⟨5, ![4, 8, 16, 256, 64]⟩
abbrev S4x8x16x64 : Shape := ⟨4, ![4, 8, 16, 64]⟩
abbrev S4x8x4096x64 : Shape := ⟨4, ![4, 8, 4096, 64]⟩
abbrev S4096 : Shape := ⟨1, ![4096]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S4x8x4096x16 : Shape := ⟨4, ![4, 8, 4096, 16]⟩
abbrev S1x1x4096x16 : Shape := ⟨4, ![1, 1, 4096, 16]⟩
abbrev S4x8x4096x3 : Shape := ⟨4, ![4, 8, 4096, 3]⟩
abbrev S1x1x4096x1 : Shape := ⟨4, ![1, 1, 4096, 1]⟩
abbrev S4x8x4096x1 : Shape := ⟨4, ![4, 8, 4096, 1]⟩
abbrev S4x8x4096x4 : Shape := ⟨4, ![4, 8, 4096, 4]⟩
abbrev S4 : Shape := ⟨1, ![4]⟩
abbrev S4x1x1x1 : Shape := ⟨4, ![4, 1, 1, 1]⟩
abbrev S1x8x1x1 : Shape := ⟨4, ![1, 8, 1, 1]⟩
abbrev S4x8x1x1 : Shape := ⟨4, ![4, 8, 1, 1]⟩
abbrev S512x256x64 : Shape := ⟨3, ![512, 256, 64]⟩
abbrev S4x8x4096x4x1 : Shape := ⟨5, ![4, 8, 4096, 4, 1]⟩
abbrev S4x8x4096x4x256x64 : Shape := ⟨6, ![4, 8, 4096, 4, 256, 64]⟩
abbrev S256 : Shape := ⟨1, ![256]⟩
abbrev S1x1x1x1x256 : Shape := ⟨5, ![1, 1, 1, 1, 256]⟩
abbrev S4x8x4096x4x256 : Shape := ⟨5, ![4, 8, 4096, 4, 256]⟩
abbrev S1x1x4096x1x1 : Shape := ⟨5, ![1, 1, 4096, 1, 1]⟩
abbrev S1x8x1x1x1 : Shape := ⟨5, ![1, 8, 1, 1, 1]⟩
abbrev S4x8x4096x1024 : Shape := ⟨4, ![4, 8, 4096, 1024]⟩
abbrev S4x8x4096 : Shape := ⟨3, ![4, 8, 4096]⟩
abbrev S16384x512 : Shape := ⟨2, ![16384, 512]⟩

abbrev nBuf : Space → Nat
  | .hbm => 159
  | .vmem => 0
  | .smem => 0
  | _ => 0

abbrev hbmTy0_0 (i : Nat) : BufTy := match i % 128 with
  | 0 => ⟨S4x4096x8x64, .f32⟩
  | 1 => ⟨S4x4096x8x64, .f32⟩
  | 2 => ⟨S4x4096x8x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S1, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S1, .f32⟩
  | 19 => ⟨S8, .f32⟩
  | 20 => ⟨S4x16x256x8x64, .f32⟩
  | 21 => ⟨S4x8x16x256x64, .f32⟩
  | 22 => ⟨S4x16x256x8x64, .f32⟩
  | 23 => ⟨S4x8x16x256x64, .f32⟩
  | 24 => ⟨S_, .f32⟩
  | 25 => ⟨S4x8x16x64, .f32⟩
  | 26 => ⟨S_, .f32⟩
  | 27 => ⟨S4x8x16x64, .f32⟩
  | 28 => ⟨S4x8x16x64, .f32⟩
  | 29 => ⟨S4x8x4096x64, .f32⟩
  | 30 => ⟨S4096, .i32⟩
  | 31 => ⟨S_, .i32⟩
  | 32 => ⟨S_, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i1⟩
  | 39 => ⟨S4096, .i32⟩
  | 40 => ⟨S4096, .i32⟩
  | 41 => ⟨S_, .i32⟩
  | 42 => ⟨S4096, .i32⟩
  | 43 => ⟨S4096, .i1⟩
  | 44 => ⟨S4096, .i1⟩
  | 45 => ⟨S_, .i32⟩
  | 46 => ⟨S4096, .i32⟩
  | 47 => ⟨S4096, .i32⟩
  | 48 => ⟨S4096, .i32⟩
  | 49 => ⟨S16, .i32⟩
  | 50 => ⟨S1x16, .i32⟩
  | 51 => ⟨S4096x1, .i32⟩
  | 52 => ⟨S4096x16, .i32⟩
  | 53 => ⟨S4096x16, .i32⟩
  | 54 => ⟨S4096x16, .i1⟩
  | 55 => ⟨S4x8x4096x16, .f32⟩
  | 56 => ⟨S1x1x4096x16, .i1⟩
  | 57 => ⟨S_, .f32⟩
  | 58 => ⟨S_, .f32⟩
  | 59 => ⟨S4x8x4096x16, .i1⟩
  | 60 => ⟨S4x8x4096x16, .f32⟩
  | 61 => ⟨S4x8x4096x16, .f32⟩
  | 62 => ⟨S4x8x4096x3, .f32⟩
  | 63 => ⟨S4x8x4096x3, .i32⟩
  | 64 => ⟨S1x1x4096x1, .i32⟩
  | 65 => ⟨S4x8x4096x1, .i32⟩
  | 66 => ⟨S4x8x4096x4, .i32⟩
  | 67 => ⟨S1x1x4096x1, .i32⟩
  | 68 => ⟨S4x8x4096x3, .i32⟩
  | 69 => ⟨S4x8x4096x3, .i1⟩
  | 70 => ⟨S_, .i1⟩
  | 71 => ⟨S4x8x4096x1, .i1⟩
  | 72 => ⟨S4x8x4096x4, .i1⟩
  | 73 => ⟨S4, .i32⟩
  | 74 => ⟨S4x1x1x1, .i32⟩
  | 75 => ⟨S_, .i32⟩
  | 76 => ⟨S4x1x1x1, .i32⟩
  | 77 => ⟨S4x1x1x1, .i32⟩
  | 78 => ⟨S8, .i32⟩
  | 79 => ⟨S1x8x1x1, .i32⟩
  | 80 => ⟨S4x8x1x1, .i32⟩
  | 81 => ⟨S4x8x1x1, .i32⟩
  | 82 => ⟨S4x8x1x1, .i32⟩
  | 83 => ⟨S_, .i32⟩
  | 84 => ⟨S4x8x1x1, .i32⟩
  | 85 => ⟨S4x8x1x1, .i32⟩
  | 86 => ⟨S4x8x4096x4, .i32⟩
  | 87 => ⟨S4x8x4096x4, .i32⟩
  | 88 => ⟨S512x256x64, .f32⟩
  | 89 => ⟨S_, .i32⟩
  | 90 => ⟨S4x8x4096x4, .i32⟩
  | 91 => ⟨S4x8x4096x4, .i1⟩
  | 92 => ⟨S_, .i32⟩
  | 93 => ⟨S4x8x4096x4, .i32⟩
  | 94 => ⟨S4x8x4096x4, .i32⟩
  | 95 => ⟨S4x8x4096x4, .i32⟩
  | 96 => ⟨S4x8x4096x4x1, .i32⟩
  | 97 => ⟨S4x8x4096x4x256x64, .f32⟩
  | 98 => ⟨S512x256x64, .f32⟩
  | 99 => ⟨S_, .i32⟩
  | 100 => ⟨S4x8x4096x4, .i32⟩
  | 101 => ⟨S4x8x4096x4, .i1⟩
  | 102 => ⟨S_, .i32⟩
  | 103 => ⟨S4x8x4096x4, .i32⟩
  | 104 => ⟨S4x8x4096x4, .i32⟩
  | 105 => ⟨S4x8x4096x4, .i32⟩
  | 106 => ⟨S4x8x4096x4x1, .i32⟩
  | 107 => ⟨S4x8x4096x4x256x64, .f32⟩
  | 108 => ⟨S4x8x4096x4x1, .i32⟩
  | 109 => ⟨S_, .i32⟩
  | 110 => ⟨S4x8x4096x4x1, .i32⟩
  | 111 => ⟨S4x8x4096x4x1, .i32⟩
  | 112 => ⟨S256, .i32⟩
  | 113 => ⟨S1x1x1x1x256, .i32⟩
  | 114 => ⟨S4x8x4096x4x256, .i32⟩
  | 115 => ⟨S4x8x4096x4x256, .i32⟩
  | 116 => ⟨S4x8x4096x4x256, .i32⟩
  | 117 => ⟨S1x1x4096x1x1, .i32⟩
  | 118 => ⟨S4x8x4096x4x256, .i32⟩
  | 119 => ⟨S4x8x4096x4x256, .i32⟩
  | 120 => ⟨S4x8x4096x4x256, .f32⟩
  | 121 => ⟨S4x8x4096x4x256, .f32⟩
  | 122 => ⟨S_, .f32⟩
  | 123 => ⟨S4x8x4096x4x256, .f32⟩
  | 124 => ⟨S4x8x4096x4x256, .f32⟩
  | 125 => ⟨S1x8x1x1x1, .f32⟩
  | 126 => ⟨S4x8x4096x4x256, .f32⟩
  | 127 => ⟨S4x8x4096x4x256, .f32⟩
  | _ => ⟨S4x4096x8x64, .f32⟩

abbrev hbmTy0_1 (i : Nat) : BufTy := match i % 128 with
  | 0 => ⟨S4x8x4096x4x256, .f32⟩
  | 1 => ⟨S4x8x4096x4x1, .i1⟩
  | 2 => ⟨S_, .f32⟩
  | 3 => ⟨S4x8x4096x4x256, .f32⟩
  | 4 => ⟨S4x8x4096x4x256, .i1⟩
  | 5 => ⟨S4x8x4096x4x256, .i1⟩
  | 6 => ⟨S4x8x4096x4x256, .i1⟩
  | 7 => ⟨S_, .f32⟩
  | 8 => ⟨S_, .f32⟩
  | 9 => ⟨S4x8x4096x4x256, .f32⟩
  | 10 => ⟨S4x8x4096x4x256, .f32⟩
  | 11 => ⟨S4x8x4096x1024, .f32⟩
  | 12 => ⟨S_, .f32⟩
  | 13 => ⟨S4x8x4096, .f32⟩
  | 14 => ⟨S_, .f32⟩
  | 15 => ⟨S4x8x4096, .f32⟩
  | 16 => ⟨S4x8x4096, .f32⟩
  | 17 => ⟨S4x8x4096x1, .f32⟩
  | 18 => ⟨S4x8x4096x1024, .f32⟩
  | 19 => ⟨S4x8x4096x1024, .f32⟩
  | 20 => ⟨S4x8x4096x1024, .f32⟩
  | 21 => ⟨S_, .f32⟩
  | 22 => ⟨S4x8x4096, .f32⟩
  | 23 => ⟨S4x8x4096x1, .f32⟩
  | 24 => ⟨S4x8x4096x1024, .f32⟩
  | 25 => ⟨S4x8x4096x1024, .f32⟩
  | 26 => ⟨S4x8x4096x4x256, .f32⟩
  | 27 => ⟨S4x8x4096x64, .f32⟩
  | 28 => ⟨S4x4096x8x64, .f32⟩
  | 29 => ⟨S16384x512, .f32⟩
  | 30 => ⟨S16384x512, .bf16⟩
  | _ => ⟨S4x4096x8x64, .f32⟩

abbrev hbmTy (i : Nat) : BufTy := match i / 128 with
  | 0 => hbmTy0_0 i
  | 1 => hbmTy0_1 i
  | _ => ⟨S4x4096x8x64, .f32⟩

abbrev bufTy : (tb : Table) → Fin (tcTables nBuf tb) → BufTy
  | .hbm, ⟨i, _⟩ => hbmTy i
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_cst_5 : Ref sig .tc := ⟨.hbm, 9, rfl⟩
abbrev main_cst_6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_7 : Ref sig .tc := ⟨.hbm, 24, rfl⟩
abbrev main_v13 : Ref sig .tc := ⟨.hbm, 25, rfl⟩
abbrev main_cst_8 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_9 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v27 : Ref sig .tc := ⟨.hbm, 61, rfl⟩
abbrev main_values : Ref sig .tc := ⟨.hbm, 62, rfl⟩
abbrev main_indices : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_10 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_11 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_12 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_13 : Ref sig .tc := ⟨.hbm, 89, rfl⟩
abbrev main_v50 : Ref sig .tc := ⟨.hbm, 90, rfl⟩
abbrev main_v51 : Ref sig .tc := ⟨.hbm, 91, rfl⟩
abbrev main_c_14 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_15 : Ref sig .tc := ⟨.hbm, 99, rfl⟩
abbrev main_v58 : Ref sig .tc := ⟨.hbm, 100, rfl⟩
abbrev main_v59 : Ref sig .tc := ⟨.hbm, 101, rfl⟩
abbrev main_c_16 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_17 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_18 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_20 : Ref sig .tc := ⟨.hbm, 135, rfl⟩
abbrev main_call2_v0 : Ref sig .tc := ⟨.hbm, 136, rfl⟩
abbrev main_call2_v1 : Ref sig .tc := ⟨.hbm, 137, rfl⟩
abbrev main_v89 : Ref sig .tc := ⟨.hbm, 138, rfl⟩
abbrev main_v90 : Ref sig .tc := ⟨.hbm, 139, rfl⟩
abbrev main_cst_21 : Ref sig .tc := ⟨.hbm, 140, rfl⟩
abbrev main_v91 : Ref sig .tc := ⟨.hbm, 141, rfl⟩
abbrev main_cst_22 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_23 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S4x8x5632 : Shape := ⟨3, ![4, 8, 5632]⟩
abbrev S256x1024 : Shape := ⟨2, ![256, 1024]⟩
abbrev S1x8x5632 : Shape := ⟨3, ![1, 8, 5632]⟩
abbrev S264x5632 : Shape := ⟨2, ![264, 5632]⟩
abbrev S256 : Shape := ⟨1, ![256]⟩
abbrev S256x1 : Shape := ⟨2, ![256, 1]⟩
abbrev S8x5632 : Shape := ⟨2, ![8, 5632]⟩
abbrev S1024x1408 : Shape := ⟨2, ![1024, 1408]⟩
abbrev S256x1408 : Shape := ⟨2, ![256, 1408]⟩
abbrev S1x1408 : Shape := ⟨2, ![1, 1408]⟩
abbrev S1408x1024 : Shape := ⟨2, ![1408, 1024]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S16384x1024, .f32⟩
  | .hbm, ⟨11, _⟩ => ⟨S4x8x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S1x8x5632, .f32⟩
  | .local _ .vmem, ⟨10, _⟩ => ⟨S1x8x5632, .f32⟩
  | .local _ .vmem, ⟨11, _⟩ => ⟨S264x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v144 : BitVec 1 := Scalar.cmpi .eq arg1 c15_i32
  let v145 : BitVec 32 := Scalar.extui v144
  let c0_i32_88 : BitVec 32 := 0#32
  let v146 : BitVec 1 := Scalar.cmpi .ne v145 c0_i32_88
  v146

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S16384x2816 : Shape := ⟨2, ![16384, 2816]⟩
abbrev S4x8x5632 : Shape := ⟨3, ![4, 8, 5632]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S4x4096x5632, .f32⟩
  | .hbm, ⟨24, _⟩ => ⟨S_, .f32⟩
  | .hbm, ⟨25, _⟩ => ⟨S4x2x5632, .f32⟩
  | .hbm, ⟨26, _⟩ => ⟨S4x4098x5632, .f32⟩
  | .hbm, ⟨27, _⟩ => ⟨S1x5632, .f32⟩
  | .hbm, ⟨28, _⟩ => ⟨S5632, .f32⟩
  | .hbm, ⟨29, _⟩ => ⟨S4x4096x5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S_, .f32⟩
  | .hbm, ⟨34, _⟩ => ⟨S4x4096x5632, .f32⟩
  | .hbm, ⟨35, _⟩ => ⟨S4x4096x5632, .f32⟩
  | .hbm, ⟨36, _⟩ => ⟨S1x5632, .f32⟩
  | .hbm, ⟨37, _⟩ => ⟨S5632, .f32⟩
  | .hbm, ⟨38, _⟩ => ⟨S4x4096x5632, .f32⟩
  | .hbm, ⟨39, _⟩ => ⟨S1x1x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S1x5632, .f32⟩
  | .hbm, ⟨44, _⟩ => ⟨S5632, .f32⟩
  | .hbm, ⟨45, _⟩ => ⟨S4x4096x5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S1x1x5632, .f32⟩
  | .hbm, ⟨51, _⟩ => ⟨S4x4096x5632, .f32⟩
  | .hbm, ⟨52, _⟩ => ⟨S4x4096x5632, .f32⟩
  | .hbm, ⟨53, _⟩ => ⟨S16384x5632, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x1024, .f32⟩
  | .hbm, ⟨67, _⟩ => ⟨S16384x1024, .f32⟩
  | .hbm, ⟨68, _⟩ => ⟨S4x8x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S1024x512 : Shape := ⟨2, ![1024, 512]⟩
abbrev S1024 : Shape := ⟨1, ![1024]⟩
abbrev S1024x6144 : Shape := ⟨2, ![1024, 6144]⟩
abbrev S3072 : Shape := ⟨1, ![3072]⟩
abbrev S512x1024 : Shape := ⟨2, ![512, 1024]⟩
abbrev S1024x1024 : Shape := ⟨2, ![1024, 1024]⟩
abbrev S1024x3072 : Shape := ⟨2, ![1024, 3072]⟩
abbrev S1x1024 : Shape := ⟨2, ![1, 1024]⟩
abbrev S1x3072 : Shape := ⟨2, ![1, 3072]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S256x256 : Shape := ⟨2, ![256, 256]⟩

abbrev nBuf : Space → Nat
  | .hbm => 22
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024x512, .bf16⟩
  | .hbm, ⟨5, _⟩ => ⟨S1024x512, .bf16⟩
  | .hbm, ⟨6, _⟩ => ⟨S1024, .f32⟩
  | .hbm, ⟨7, _⟩ => ⟨S1024x6144, .f32⟩
  | .hbm, ⟨8, _⟩ => ⟨S3072, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x6144, .bf16⟩
  | .hbm, ⟨14, _⟩ => ⟨S1024x3072, .bf16⟩
  | .hbm, ⟨15, _⟩ => ⟨S1x1024, .f32⟩
  | .hbm, ⟨16, _⟩ => ⟨S1x3072, .f32⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x1024, .f32⟩
  | .local _ .vmem, ⟨13, _⟩ => ⟨S1024x3072, .bf16⟩
  | .local _ .vmem, ⟨14, _⟩ => ⟨S1x3072, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PostRefIdeal.lean ====
abbrev S16384x1024 : Shape := ⟨2, ![16384, 1024]⟩
abbrev S16384x512 : Shape := ⟨2, ![16384, 512]⟩
abbrev S1024x512 : Shape := ⟨2, ![1024, 512]⟩
abbrev S1024 : Shape := ⟨1, ![1024]⟩
abbrev S1024x6144 : Shape := ⟨2, ![1024, 6144]⟩
abbrev S3072 : Shape := ⟨1, ![3072]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S16384x3072 : Shape := ⟨2, ![16384, 3072]⟩
abbrev S4x4096x4x128 : Shape := ⟨4, ![4, 4096, 4, 128]⟩
abbrev S4x256x4x128 : Shape := ⟨4, ![4, 256, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x3072 : Shape := ⟨2, ![1, 3072]⟩
abbrev S16384x3x1024 : Shape := ⟨3, ![16384, 3, 1024]⟩
abbrev S16384x1x1024 : Shape := ⟨3, ![16384, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024x512, .bf16⟩
  | .hbm, ⟨5, _⟩ => ⟨S1024x512, .bf16⟩
  | .hbm, ⟨6, _⟩ => ⟨S1024, .f32⟩
  | .hbm, ⟨7, _⟩ => ⟨S1024x6144, .f32⟩
  | .hbm, ⟨8, _⟩ => ⟨S3072, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x6144, .f32⟩
  | .hbm, ⟨30, _⟩ => ⟨S16384x3072, .f32⟩
  | .hbm, ⟨31, _⟩ => ⟨S16384x512, .f32⟩
  | .hbm, ⟨32, _⟩ => ⟨S16384x1024, .f32⟩
  | .hbm, ⟨33, _⟩ => ⟨S16384x512, .f32⟩
  | .hbm, ⟨34, _⟩ => ⟨S16384x1024, .f32⟩
  | .hbm, ⟨35, _⟩ => ⟨S16384x512, .f32⟩
  | .hbm, ⟨36, _⟩ => ⟨S1024x512, .f32⟩
  | .hbm, ⟨37, _⟩ => ⟨S1024x512, .f32⟩
  | .hbm, ⟨38, _⟩ => ⟨S4x4096x4x128, .f32⟩
  | .hbm, ⟨39, _⟩ => ⟨S4x256x4x128, .f32⟩
  | .hbm, ⟨40, _⟩ => ⟨S4x256x4x128, .f32⟩
  | .hbm, ⟨41, _⟩ => ⟨S4x4x4096x256, .f32⟩
  | .hbm, ⟨42, _⟩ => ⟨S_, .f32⟩
  | .hbm, ⟨43, _⟩ => ⟨S4x4x4096x256, .f32⟩
  | .hbm, ⟨44, _⟩ => ⟨S4x4x4096x256, .f32⟩
  | .hbm, ⟨45, _⟩ => ⟨S_, .f32⟩
  | .hbm, ⟨46, _⟩ => ⟨S4x4x4096, .f32⟩
  | .hbm, ⟨47, _⟩ => ⟨S_, .f32⟩
  | .hbm, ⟨48, _⟩ => ⟨S4x4x4096, .f32⟩
  | .hbm, ⟨49, _⟩ => ⟨S4x4x4096, .f32⟩
  | .hbm, ⟨50, _⟩ => ⟨S4x4x4096x1, .f32⟩
  | .hbm, ⟨51, _⟩ => ⟨S4x4x4096x256, .f32⟩
  | .hbm, ⟨52, _⟩ => ⟨S4x4x4096x256, .f32⟩
  | .hbm, ⟨53, _⟩ => ⟨S4x4x4096x256, .f32⟩
  | .hbm, ⟨54, _⟩ => ⟨S_, .f32⟩
  | .hbm, ⟨55, _⟩ => ⟨S4x4x4096, .f32⟩
  | .hbm, ⟨56, _⟩ => ⟨S4x4x4096x1, .f32⟩
  | .hbm, ⟨57, _⟩ => ⟨S4x4x4096x256, .f32⟩
  | .hbm, ⟨58, _⟩ => ⟨S4x4x4096x256, .f32⟩
  | .hbm, ⟨59, _⟩ => ⟨S4x4x128x4096, .f32⟩
  | .hbm, ⟨60, _⟩ => ⟨S4x4096x4x128, .f32⟩
  | .hbm, ⟨61, _⟩ => ⟨S16384x512, .f32⟩
  | .hbm, ⟨62, _⟩ => ⟨S16384x1024, .f32⟩
  | .hbm, ⟨63, _⟩ => ⟨S1x3072, .f32⟩
  | .hbm, ⟨64, _⟩ => ⟨S16384x3072, .f32⟩
  | .hbm, ⟨65, _⟩ => ⟨S16384x3072, .f32⟩
  | .hbm, ⟨66, _⟩ => ⟨S16384x3x1024, .f32⟩
  | .hbm, ⟨67, _⟩ => ⟨S16384x3x1024, .f32⟩
  | .hbm, ⟨68, _⟩ => ⟨S16384x3x1024, .f32⟩
  | .hbm, ⟨69, _⟩ => ⟨S_, .f32⟩
  | .hbm, ⟨70, _⟩ => ⟨S16384x3x1024, .f32⟩
  | .hbm, ⟨71, _⟩ => ⟨S16384x3x1024, .f32⟩
  | .hbm, ⟨72, _⟩ => ⟨S_, .f32⟩
  | .hbm, ⟨73, _⟩ => ⟨S16384x3x1024, .f32⟩
  | .hbm, ⟨74, _⟩ => ⟨S16384x3x1024, .f32⟩
  | .hbm, ⟨75, _⟩ => ⟨S16384x1x1024, .f32⟩
  | .hbm, ⟨76, _⟩ => ⟨S16384x1024, .f32⟩
  | .hbm, ⟨77, _⟩ => ⟨S16384x1024, .f32⟩
  | .hbm, ⟨78, _⟩ => ⟨S16384x1x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== MemKv.lean ====
abbrev S1024x1024 : Shape := ⟨2, ![1024, 1024]⟩
abbrev S1024 : Shape := ⟨1, ![1024]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S512x512 : Shape := ⟨2, ![512, 512]⟩
abbrev S_ : Shape := ⟨0, ![]⟩
abbrev S1x1024 : Shape := ⟨2, ![1, 1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 29
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S1x512, .f32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S_, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S1x1024, .f32⟩
  | .hbm, ⟨24, _⟩ => ⟨S1024x1024, .bf16⟩
  | .hbm, ⟨25, _⟩ => ⟨S1024x512, .f32⟩
  | .hbm, ⟨26, _⟩ => ⟨S1024x512, .f32⟩
  | .hbm, ⟨27, _⟩ => ⟨S1024x512, .bf16⟩
  | .hbm, ⟨28, _⟩ => ⟨S1024x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .bf16⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MemKvRefIdeal.lean ====
abbrev S1024x1024 : Shape := ⟨2, ![1024, 1024]⟩
abbrev S1024 : Shape := ⟨1, ![1024]⟩
abbrev S128 : Shape := ⟨1, ![128]⟩
abbrev S_ : Shape := ⟨0, ![]⟩
abbrev S1024x1 : Shape := ⟨2, ![1024, 1]⟩
abbrev S1x1024 : Shape := ⟨2, ![1, 1024]⟩
abbrev S1024x512 : Shape := ⟨2, ![1024, 512]⟩
abbrev S1024x4x128 : Shape := ⟨3, ![1024, 4, 128]⟩
abbrev S1024x4 : Shape := ⟨2, ![1024, 4]⟩
abbrev S1024x4x1 : Shape := ⟨3, ![1024, 4, 1]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x512, .f32⟩
  | .hbm, ⟨22, _⟩ => ⟨S1024x512, .f32⟩
  | .hbm, ⟨23, _⟩ => ⟨S1024x4x128, .f32⟩
  | .hbm, ⟨24, _⟩ => ⟨S1024x4x128, .f32⟩
  | .hbm, ⟨25, _⟩ => ⟨S_, .f32⟩
  | .hbm, ⟨26, _⟩ => ⟨S1024x4, .f32⟩
  | .hbm, ⟨27, _⟩ => ⟨S1024x4x1, .f32⟩
  | .hbm, ⟨28, _⟩ => ⟨S_, .f32⟩
  | .hbm, ⟨29, _⟩ => ⟨S1024x4x1, .f32⟩
  | .hbm, ⟨30, _⟩ => ⟨S1024x4x1, .f32⟩
  | .hbm, ⟨31, _⟩ => ⟨S_, .f32⟩
  | .hbm, ⟨32, _⟩ => ⟨S1024x4x1, .f32⟩
  | .hbm, ⟨33, _⟩ => ⟨S1024x4x1, .f32⟩
  | .hbm, ⟨34, _⟩ => ⟨S1024x4x1, .f32⟩
  | .hbm, ⟨35, _⟩ => ⟨S1024x4x128, .f32⟩
  | .hbm, ⟨36, _⟩ => ⟨S1024x4x128, .f32⟩
  | .hbm, ⟨37, _⟩ => ⟨S1x1x128, .f32⟩
  | .hbm, ⟨38, _⟩ => ⟨S1024x4x128, .f32⟩
  | .hbm, ⟨39, _⟩ => ⟨S1024x4x128, .f32⟩
  | .hbm, ⟨40, _⟩ => ⟨S1024x512, .f32⟩
  | .hbm, ⟨41, _⟩ => ⟨S1024x512, .bf16⟩
  | .hbm, ⟨42, _⟩ => ⟨S1024x512, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Pre.lean ====
abbrev S16384x1024 : Shape := ⟨2, ![16384, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S31x512 : Shape := ⟨2, ![31, 512]⟩
abbrev S512 : Shape := ⟨1, ![512]⟩
abbrev S1x1024 : Shape := ⟨2, ![1, 1024]⟩
abbrev S1024x3072 : Shape := ⟨2, ![1024, 3072]⟩
abbrev S1x64 : Shape := ⟨2, ![1, 64]⟩
abbrev S8x64 : Shape := ⟨2, ![8, 64]⟩
abbrev S1x512 : Shape := ⟨2, ![1, 512]⟩
abbrev S1x128 : Shape := ⟨2, ![1, 128]⟩
abbrev S4x128 : Shape := ⟨2, ![4, 128]⟩
abbrev S512x512 : Shape := ⟨2, ![512, 512]⟩
abbrev S_ : Shape := ⟨0, ![]⟩
abbrev S16384x512 : Shape := ⟨2, ![16384, 512]⟩
abbrev S64x1x512 : Shape := ⟨3, ![64, 1, 512]⟩
abbrev S4x32x512 : Shape := ⟨3, ![4, 32, 512]⟩
abbrev S256x1024 : Shape := ⟨2, ![256, 1024]⟩
abbrev S256x512 : Shape := ⟨2, ![256, 512]⟩
abbrev S1x1x512 : Shape := ⟨3, ![1, 1, 512]⟩
abbrev S1x32x512 : Shape := ⟨3, ![1, 32, 512]⟩
abbrev S288x512 : Shape := ⟨2, ![288, 512]⟩
abbrev S256 : Shape := ⟨1, ![256]⟩
abbrev S256x1 : Shape := ⟨2, ![256, 1]⟩
abbrev S1024x512 : Shape := ⟨2, ![1024, 512]⟩
abbrev S32x512 : Shape := ⟨2, ![32, 512]⟩
abbrev S256x128 : Shape := ⟨2, ![256, 128]⟩

abbrev nBuf : Space → Nat
  | .hbm => 68
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x1024, .f32⟩
  | .hbm, ⟨11, _⟩ => ⟨S1024x6144, .bf16⟩
  | .hbm, ⟨12, _⟩ => ⟨S1024x3072, .bf16⟩
  | .hbm, ⟨13, _⟩ => ⟨S1x1024, .f32⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S1x128, .f32⟩
  | .hbm, ⟨23, _⟩ => ⟨S4x128, .f32⟩
  | .hbm, ⟨24, _⟩ => ⟨S512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S_, .f32⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .bf16⟩
  | .hbm, ⟨44, _⟩ => ⟨S512x512, .i32⟩
  | .hbm, ⟨45, _⟩ => ⟨S512x512, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S_, .f32⟩
  | .hbm, ⟨54, _⟩ => ⟨S512x512, .f32⟩
  | .hbm, ⟨55, _⟩ => ⟨S_, .f32⟩
  | .hbm, ⟨56, _⟩ => ⟨S512x512, .f32⟩
  | .hbm, ⟨57, _⟩ => ⟨S512x512, .f32⟩
  | .hbm, ⟨58, _⟩ => ⟨S512x512, .bf16⟩
  | .hbm, ⟨59, _⟩ => ⟨S16384x512, .f32⟩
  | .hbm, ⟨60, _⟩ => ⟨S16384x512, .f32⟩
  | .hbm, ⟨61, _⟩ => ⟨S64x1x512, .f32⟩
  | .hbm, ⟨62, _⟩ => ⟨S16384x1024, .bf16⟩
  | .hbm, ⟨63, _⟩ => ⟨S16384x1024, .bf16⟩
  | .hbm, ⟨64, _⟩ => ⟨S16384x512, .bf16⟩
  | .hbm, ⟨65, _⟩ => ⟨S16384x512, .bf16⟩
  | .hbm, ⟨66, _⟩ => ⟨S16384x512, .bf16⟩
  | .hbm, ⟨67, _⟩ => ⟨S4x32x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1x1x512, .f32⟩
  | .local _ .vmem, ⟨19, _⟩ => ⟨S1x1x512, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S1x32x512, .f32⟩
  | .local _ .vmem, ⟨31, _⟩ => ⟨S1x32x512, .f32⟩
  | .local _ .vmem, ⟨32, _⟩ => ⟨S288x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev main_v40_3 : Ref sig .tc := ⟨.hbm, 62, rfl⟩
abbrev main_v40_4 : Ref sig .tc := ⟨.hbm, 63, rfl⟩
abbrev main_v40_5 : Ref sig .tc := ⟨.hbm, 64, rfl⟩
abbrev main_v40_6 : Ref sig .tc := ⟨.hbm, 65, rfl⟩
abbrev main_v40_7 : Ref sig .tc := ⟨.hbm, 66, rfl⟩
abbrev main_v40_8 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v233 : BitVec 1 := Scalar.cmpi .eq arg1 c15_i32
  let v234 : BitVec 32 := Scalar.extui v233
  let c0_i32_127 : BitVec 32 := 0#32
  let v235 : BitVec 1 := Scalar.cmpi .ne v234 c0_i32_127
  v235

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x32x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== PreRefIdeal.lean ====
abbrev S16384x1024 : Shape := ⟨2, ![16384, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S31x512 : Shape := ⟨2, ![31, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S16384x512 : Shape := ⟨2, ![16384, 512]⟩
abbrev S16384x3072 : Shape := ⟨2, ![16384, 3072]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S4x30x512 : Shape := ⟨3, ![4, 30, 512]⟩
abbrev S4x4096x512 : Shape := ⟨3, ![4, 4096, 512]⟩
abbrev S4x4126x512 : Shape := ⟨3, ![4, 4126, 512]⟩
abbrev S1x512 : Shape := ⟨2, ![1, 512]⟩
abbrev S1x1x512 : Shape := ⟨3, ![1, 1, 512]⟩
abbrev S64x256x512 : Shape := ⟨3, ![64, 256, 512]⟩
abbrev S64x512 : Shape := ⟨2, ![64, 512]⟩
abbrev S64x1x512 : Shape := ⟨3, ![64, 1, 512]⟩
abbrev S4x32x512 : Shape := ⟨3, ![4, 32, 512]⟩

abbrev nBuf : Space → Nat
  | .hbm => 371
  | .vmem => 0
  | .smem => 0
  | _ => 0

abbrev hbmTy0_0 (i : Nat) : BufTy := match i % 128 with
  | 0 => ⟨S16384x1024, .f32⟩
  | 1 => ⟨S1024, .f32⟩
  | 2 => ⟨S1024x6144, .f32⟩
  | 3 => ⟨S64, .f32⟩
  | 4 => ⟨S64, .f32⟩
  | 5 => ⟨S128, .f32⟩
  | 6 => ⟨S31x512, .f32⟩
  | 7 => ⟨S512, .f32⟩
  | 8 => ⟨S512, .f32⟩
  | 9 => ⟨S512, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x6144, .f32⟩
  | 27 => ⟨S16384x1024, .f32⟩
  | 28 => ⟨S16384x512, .f32⟩
  | 29 => ⟨S16384x512, .f32⟩
  | 30 => ⟨S16384x512, .f32⟩
  | 31 => ⟨S16384x512, .f32⟩
  | 32 => ⟨S16384x3072, .f32⟩
  | 33 => ⟨S16384x512, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S16384x8x64, .f32⟩
  | 45 => ⟨S16384x8x64, .f32⟩
  | 46 => ⟨S_, .f32⟩
  | 47 => ⟨S16384x8, .f32⟩
  | 48 => ⟨S16384x8x1, .f32⟩
  | 49 => ⟨S_, .f32⟩
  | 50 => ⟨S16384x8x1, .f32⟩
  | 51 => ⟨S16384x8x1, .f32⟩
  | 52 => ⟨S_, .f32⟩
  | 53 => ⟨S16384x8x1, .f32⟩
  | 54 => ⟨S16384x8x1, .f32⟩
  | 55 => ⟨S16384x8x1, .f32⟩
  | 56 => ⟨S16384x8x64, .f32⟩
  | 57 => ⟨S16384x8x64, .f32⟩
  | 58 => ⟨S1x1x64, .f32⟩
  | 59 => ⟨S16384x8x64, .f32⟩
  | 60 => ⟨S16384x8x64, .f32⟩
  | 61 => ⟨S16384x8x64, .f32⟩
  | 62 => ⟨S16384x8x64, .f32⟩
  | 63 => ⟨S_, .f32⟩
  | 64 => ⟨S16384x8, .f32⟩
  | 65 => ⟨S16384x8x1, .f32⟩
  | 66 => ⟨S_, .f32⟩
  | 67 => ⟨S16384x8x1, .f32⟩
  | 68 => ⟨S16384x8x1, .f32⟩
  | 69 => ⟨S_, .f32⟩
  | 70 => ⟨S16384x8x1, .f32⟩
  | 71 => ⟨S16384x8x1, .f32⟩
  | 72 => ⟨S16384x8x1, .f32⟩
  | 73 => ⟨S16384x8x64, .f32⟩
  | 74 => ⟨S16384x8x64, .f32⟩
  | 75 => ⟨S1x1x64, .f32⟩
  | 76 => ⟨S16384x8x64, .f32⟩
  | 77 => ⟨S16384x8x64, .f32⟩
  | 78 => ⟨S16384x512, .f32⟩
  | 79 => ⟨S16384x4x128, .f32⟩
  | 80 => ⟨S16384x4x128, .f32⟩
  | 81 => ⟨S_, .f32⟩
  | 82 => ⟨S16384x4, .f32⟩
  | 83 => ⟨S16384x4x1, .f32⟩
  | 84 => ⟨S_, .f32⟩
  | 85 => ⟨S16384x4x1, .f32⟩
  | 86 => ⟨S16384x4x1, .f32⟩
  | 87 => ⟨S_, .f32⟩
  | 88 => ⟨S16384x4x1, .f32⟩
  | 89 => ⟨S16384x4x1, .f32⟩
  | 90 => ⟨S16384x4x1, .f32⟩
  | 91 => ⟨S16384x4x128, .f32⟩
  | 92 => ⟨S16384x4x128, .f32⟩
  | 93 => ⟨S1x1x128, .f32⟩
  | 94 => ⟨S16384x4x128, .f32⟩
  | 95 => ⟨S16384x4x128, .f32⟩
  | 96 => ⟨S16384x512, .f32⟩
  | 97 => ⟨S_, .f32⟩
  | 98 => ⟨S4x30x512, .f32⟩
  | 99 => ⟨S4x4096x512, .f32⟩
  | 100 => ⟨S4x4126x512, .f32⟩
  | 101 => ⟨S1x512, .f32⟩
  | 102 => ⟨S512, .f32⟩
  | 103 => ⟨S4x4096x512, .f32⟩
  | 104 => ⟨S1x1x512, .f32⟩
  | 105 => ⟨S4x4096x512, .f32⟩
  | 106 => ⟨S4x4096x512, .f32⟩
  | 107 => ⟨S_, .f32⟩
  | 108 => ⟨S4x4096x512, .f32⟩
  | 109 => ⟨S4x4096x512, .f32⟩
  | 110 => ⟨S1x512, .f32⟩
  | 111 => ⟨S512, .f32⟩
  | 112 => ⟨S4x4096x512, .f32⟩
  | 113 => ⟨S1x1x512, .f32⟩
  | 114 => ⟨S4x4096x512, .f32⟩
  | 115 => ⟨S4x4096x512, .f32⟩
  | 116 => ⟨S4x4096x512, .f32⟩
  | 117 => ⟨S1x512, .f32⟩
  | 118 => ⟨S512, .f32⟩
  | 119 => ⟨S4x4096x512, .f32⟩
  | 120 => ⟨S1x1x512, .f32⟩
  | 121 => ⟨S4x4096x512, .f32⟩
  | 122 => ⟨S4x4096x512, .f32⟩
  | 123 => ⟨S4x4096x512, .f32⟩
  | 124 => ⟨S1x512, .f32⟩
  | 125 => ⟨S512, .f32⟩
  | 126 => ⟨S4x4096x512, .f32⟩
  | 127 => ⟨S1x1x512, .f32⟩
  | _ => ⟨S16384x1024, .f32⟩

abbrev hbmTy0_1 (i : Nat) : BufTy := match i % 128 with
  | 0 => ⟨S4x4096x512, .f32⟩
  | 1 => ⟨S4x4096x512, .f32⟩
  | 2 => ⟨S4x4096x512, .f32⟩
  | 3 => ⟨S1x512, .f32⟩
  | 4 => ⟨S512, .f32⟩
  | 5 => ⟨S4x4096x512, .f32⟩
  | 6 => ⟨S1x1x512, .f32⟩
  | 7 => ⟨S4x4096x512, .f32⟩
  | 8 => ⟨S4x4096x512, .f32⟩
  | 9 => ⟨S4x4096x512, .f32⟩
  | 10 => ⟨S1x512, .f32⟩
  | 11 => ⟨S512, .f32⟩
  | 12 => ⟨S4x4096x512, .f32⟩
  | 13 => ⟨S1x1x512, .f32⟩
  | 14 => ⟨S4x4096x512, .f32⟩
  | 15 => ⟨S4x4096x512, .f32⟩
  | 16 => ⟨S4x4096x512, .f32⟩
  | 17 => ⟨S1x512, .f32⟩
  | 18 => ⟨S512, .f32⟩
  | 19 => ⟨S4x4096x512, .f32⟩
  | 20 => ⟨S1x1x512, .f32⟩
  | 21 => ⟨S4x4096x512, .f32⟩
  | 22 => ⟨S4x4096x512, .f32⟩
  | 23 => ⟨S4x4096x512, .f32⟩
  | 24 => ⟨S1x512, .f32⟩
  | 25 => ⟨S512, .f32⟩
  | 26 => ⟨S4x4096x512, .f32⟩
  | 27 => ⟨S1x1x512, .f32⟩
  | 28 => ⟨S4x4096x512, .f32⟩
  | 29 => ⟨S4x4096x512, .f32⟩
  | 30 => ⟨S4x4096x512, .f32⟩
  | 31 => ⟨S1x512, .f32⟩
  | 32 => ⟨S512, .f32⟩
  | 33 => ⟨S4x4096x512, .f32⟩
  | 34 => ⟨S1x1x512, .f32⟩
  | 35 => ⟨S4x4096x512, .f32⟩
  | 36 => ⟨S4x4096x512, .f32⟩
  | 37 => ⟨S4x4096x512, .f32⟩
  | 38 => ⟨S1x512, .f32⟩
  | 39 => ⟨S512, .f32⟩
  | 40 => ⟨S4x4096x512, .f32⟩
  | 41 => ⟨S1x1x512, .f32⟩
  | 42 => ⟨S4x4096x512, .f32⟩
  | 43 => ⟨S4x4096x512, .f32⟩
  | 44 => ⟨S4x4096x512, .f32⟩
  | 45 => ⟨S1x512, .f32⟩
  | 46 => ⟨S512, .f32⟩
  | 47 => ⟨S4x4096x512, .f32⟩
  | 48 => ⟨S1x1x512, .f32⟩
  | 49 => ⟨S4x4096x512, .f32⟩
  | 50 => ⟨S4x4096x512, .f32⟩
  | 51 => ⟨S4x4096x512, .f32⟩
  | 52 => ⟨S1x512, .f32⟩
  | 53 => ⟨S512, .f32⟩
  | 54 => ⟨S4x4096x512, .f32⟩
  | 55 => ⟨S1x1x512, .f32⟩
  | 56 => ⟨S4x4096x512, .f32⟩
  | 57 => ⟨S4x4096x512, .f32⟩
  | 58 => ⟨S4x4096x512, .f32⟩
  | 59 => ⟨S1x512, .f32⟩
  | 60 => ⟨S512, .f32⟩
  | 61 => ⟨S4x4096x512, .f32⟩
  | 62 => ⟨S1x1x512, .f32⟩
  | 63 => ⟨S4x4096x512, .f32⟩
  | 64 => ⟨S4x4096x512, .f32⟩
  | 65 => ⟨S4x4096x512, .f32⟩
  | 66 => ⟨S1x512, .f32⟩
  | 67 => ⟨S512, .f32⟩
  | 68 => ⟨S4x4096x512, .f32⟩
  | 69 => ⟨S1x1x512, .f32⟩
  | 70 => ⟨S4x4096x512, .f32⟩
  | 71 => ⟨S4x4096x512, .f32⟩
  | 72 => ⟨S4x4096x512, .f32⟩
  | 73 => ⟨S1x512, .f32⟩
  | 74 => ⟨S512, .f32⟩
  | 75 => ⟨S4x4096x512, .f32⟩
  | 76 => ⟨S1x1x512, .f32⟩
  | 77 => ⟨S4x4096x512, .f32⟩
  | 78 => ⟨S4x4096x512, .f32⟩
  | 79 => ⟨S4x4096x512, .f32⟩
  | 80 => ⟨S1x512, .f32⟩
  | 81 => ⟨S512, .f32⟩
  | 82 => ⟨S4x4096x512, .f32⟩
  | 83 => ⟨S1x1x512, .f32⟩
  | 84 => ⟨S4x4096x512, .f32⟩
  | 85 => ⟨S4x4096x512, .f32⟩
  | 86 => ⟨S4x4096x512, .f32⟩
  | 87 => ⟨S1x512, .f32⟩
  | 88 => ⟨S512, .f32⟩
  | 89 => ⟨S4x4096x512, .f32⟩
  | 90 => ⟨S1x1x512, .f32⟩
  | 91 => ⟨S4x4096x512, .f32⟩
  | 92 => ⟨S4x4096x512, .f32⟩
  | 93 => ⟨S4x4096x512, .f32⟩
  | 94 => ⟨S1x512, .f32⟩
  | 95 => ⟨S512, .f32⟩
  | 96 => ⟨S4x4096x512, .f32⟩
  | 97 => ⟨S1x1x512, .f32⟩
  | 98 => ⟨S4x4096x512, .f32⟩
  | 99 => ⟨S4x4096x512, .f32⟩
  | 100 => ⟨S4x4096x512, .f32⟩
  | 101 => ⟨S1x512, .f32⟩
  | 102 => ⟨S512, .f32⟩
  | 103 => ⟨S4x4096x512, .f32⟩
  | 104 => ⟨S1x1x512, .f32⟩
  | 105 => ⟨S4x4096x512, .f32⟩
  | 106 => ⟨S4x4096x512, .f32⟩
  | 107 => ⟨S4x4096x512, .f32⟩
  | 108 => ⟨S1x512, .f32⟩
  | 109 => ⟨S512, .f32⟩
  | 110 => ⟨S4x4096x512, .f32⟩
  | 111 => ⟨S1x1x512, .f32⟩
  | 112 => ⟨S4x4096x512, .f32⟩
  | 113 => ⟨S4x4096x512, .f32⟩
  | 114 => ⟨S4x4096x512, .f32⟩
  | 115 => ⟨S1x512, .f32⟩
  | 116 => ⟨S512, .f32⟩
  | 117 => ⟨S4x4096x512, .f32⟩
  | 118 => ⟨S1x1x512, .f32⟩
  | 119 => ⟨S4x4096x512, .f32⟩
  | 120 => ⟨S4x4096x512, .f32⟩
  | 121 => ⟨S4x4096x512, .f32⟩
  | 122 => ⟨S1x512, .f32⟩
  | 123 => ⟨S512, .f32⟩
  | 124 => ⟨S4x4096x512, .f32⟩
  | 125 => ⟨S1x1x512, .f32⟩
  | 126 => ⟨S4x4096x512, .f32⟩
  | 127 => ⟨S4x4096x512, .f32⟩
  | _ => ⟨S16384x1024, .f32⟩

abbrev hbmTy0_2 (i : Nat) : BufTy := match i % 128 with
  | 0 => ⟨S4x4096x512, .f32⟩
  | 1 => ⟨S1x512, .f32⟩
  | 2 => ⟨S512, .f32⟩
  | 3 => ⟨S4x4096x512, .f32⟩
  | 4 => ⟨S1x1x512, .f32⟩
  | 5 => ⟨S4x4096x512, .f32⟩
  | 6 => ⟨S4x4096x512, .f32⟩
  | 7 => ⟨S4x4096x512, .f32⟩
  | 8 => ⟨S1x512, .f32⟩
  | 9 => ⟨S512, .f32⟩
  | 10 => ⟨S4x4096x512, .f32⟩
  | 11 => ⟨S1x1x512, .f32⟩
  | 12 => ⟨S4x4096x512, .f32⟩
  | 13 => ⟨S4x4096x512, .f32⟩
  | 14 => ⟨S4x4096x512, .f32⟩
  | 15 => ⟨S1x512, .f32⟩
  | 16 => ⟨S512, .f32⟩
  | 17 => ⟨S4x4096x512, .f32⟩
  | 18 => ⟨S1x1x512, .f32⟩
  | 19 => ⟨S4x4096x512, .f32⟩
  | 20 => ⟨S4x4096x512, .f32⟩
  | 21 => ⟨S4x4096x512, .f32⟩
  | 22 => ⟨S1x512, .f32⟩
  | 23 => ⟨S512, .f32⟩
  | 24 => ⟨S4x4096x512, .f32⟩
  | 25 => ⟨S1x1x512, .f32⟩
  | 26 => ⟨S4x4096x512, .f32⟩
  | 27 => ⟨S4x4096x512, .f32⟩
  | 28 => ⟨S4x4096x512, .f32⟩
  | 29 => ⟨S1x512, .f32⟩
  | 30 => ⟨S512, .f32⟩
  | 31 => ⟨S4x4096x512, .f32⟩
  | 32 => ⟨S1x1x512, .f32⟩
  | 33 => ⟨S4x4096x512, .f32⟩
  | 34 => ⟨S4x4096x512, .f32⟩
  | 35 => ⟨S4x4096x512, .f32⟩
  | 36 => ⟨S1x512, .f32⟩
  | 37 => ⟨S512, .f32⟩
  | 38 => ⟨S4x4096x512, .f32⟩
  | 39 => ⟨S1x1x512, .f32⟩
  | 40 => ⟨S4x4096x512, .f32⟩
  | 41 => ⟨S4x4096x512, .f32⟩
  | 42 => ⟨S4x4096x512, .f32⟩
  | 43 => ⟨S1x512, .f32⟩
  | 44 => ⟨S512, .f32⟩
  | 45 => ⟨S4x4096x512, .f32⟩
  | 46 => ⟨S1x1x512, .f32⟩
  | 47 => ⟨S4x4096x512, .f32⟩
  | 48 => ⟨S4x4096x512, .f32⟩
  | 49 => ⟨S4x4096x512, .f32⟩
  | 50 => ⟨S1x512, .f32⟩
  | 51 => ⟨S512, .f32⟩
  | 52 => ⟨S4x4096x512, .f32⟩
  | 53 => ⟨S1x1x512, .f32⟩
  | 54 => ⟨S4x4096x512, .f32⟩
  | 55 => ⟨S4x4096x512, .f32⟩
  | 56 => ⟨S4x4096x512, .f32⟩
  | 57 => ⟨S1x512, .f32⟩
  | 58 => ⟨S512, .f32⟩
  | 59 => ⟨S4x4096x512, .f32⟩
  | 60 => ⟨S1x1x512, .f32⟩
  | 61 => ⟨S4x4096x512, .f32⟩
  | 62 => ⟨S4x4096x512, .f32⟩
  | 63 => ⟨S4x4096x512, .f32⟩
  | 64 => ⟨S1x1x512, .f32⟩
  | 65 => ⟨S4x4096x512, .f32⟩
  | 66 => ⟨S4x4096x512, .f32⟩
  | 67 => ⟨S16384x512, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S16384x512, .f32⟩
  | 75 => ⟨S16384x512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S16384x512, .f32⟩
  | 88 => ⟨S16384x512, .f32⟩
  | 89 => ⟨S1x512, .f32⟩
  | 90 => ⟨S16384x512, .f32⟩
  | 91 => ⟨S16384x512, .f32⟩
  | 92 => ⟨S1x512, .f32⟩
  | 93 => ⟨S16384x512, .f32⟩
  | 94 => ⟨S16384x512, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S16384x512, .f32⟩
  | 104 => ⟨S64x256x512, .f32⟩
  | 105 => ⟨S_, .f32⟩
  | 106 => ⟨S64x512, .f32⟩
  | 107 => ⟨S64x1x512, .f32⟩
  | 108 => ⟨S_, .f32⟩
  | 109 => ⟨S64x1x512, .f32⟩
  | 110 => ⟨S64x1x512, .f32⟩
  | 111 => ⟨S16384x512, .bf16⟩
  | 112 => ⟨S16384x512, .bf16⟩
  | 113 => ⟨S16384x512, .bf16⟩
  | 114 => ⟨S4x32x512, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_cst_15 : Ref sig .tc := ⟨.hbm, 324, rfl⟩
abbrev main_v298 : Ref sig .tc := ⟨.hbm, 325, rfl⟩
abbrev main_v299 : Ref sig .tc := ⟨.hbm, 326, rfl⟩
abbrev main_cst_16 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_cst_17 : Ref sig .tc := ⟨.hbm, 333, rfl⟩
abbrev main_v305 : Ref sig .tc := ⟨.hbm, 334, rfl⟩
abbrev main_v306 : Ref sig .tc := ⟨.hbm, 335, rfl⟩
abbrev main_cst_18 : Ref sig .tc := ⟨.hbm, 336, rfl⟩
abbrev main_v307 : Ref sig .tc := ⟨.hbm, 337, rfl⟩
abbrev main_v308 : Ref sig .tc := ⟨.hbm, 338, rfl⟩
abbrev main_cst_19 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_v318 : Ref sig .tc := ⟨.hbm, 349, rfl⟩
abbrev main_v319 : Ref sig .tc := ⟨.hbm, 350, rfl⟩
abbrev main_call0_v0 : Ref sig .tc := ⟨.hbm, 351, rfl⟩
abbrev main_call0_v1 : Ref sig .tc := ⟨.hbm, 352, rfl⟩
abbrev main_call0_cst : Ref sig .tc := ⟨.hbm, 353, rfl⟩
abbrev main_call0_v2 : Ref sig .tc := ⟨.hbm, 354, rfl⟩
abbrev main_call0_v3 : Ref sig .tc := ⟨.hbm, 355, rfl⟩
abbrev main_call0_cst_0 : Ref sig .tc := ⟨.hbm, 356, rfl⟩
abbrev main_call0_v4 : Ref sig .tc := ⟨.hbm, 357, rfl⟩
abbrev main_call0_v5 : Ref sig .tc := ⟨.hbm, 358, rfl⟩
abbrev main_v320 : Ref sig .tc := ⟨.hbm, 359, rfl⟩
abbrev main_v321 : Ref sig .tc := ⟨.hbm, 360, rfl⟩
abbrev main_cst_20 : Ref sig .tc := ⟨.hbm, 361, rfl⟩
abbrev main_v322 : Ref sig .tc := ⟨.hbm, 362, rfl⟩
abbrev main_v323 : Ref sig .tc := ⟨.hbm, 363, rfl⟩
abbrev main_cst_21 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩

abbrev nD : Nat := 1
abbrev τ : Topo := Topo.v7x

variable {F : FTy → Type} [FloatOps F]
-- ==== PreSample.lean ====
abbrev S32x1024 : Shape := ⟨2, ![32, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S32x30x512 : Shape := ⟨3, ![32, 30, 512]⟩
abbrev S31x512 : Shape := ⟨2, ![31, 512]⟩
abbrev S512 : Shape := ⟨1, ![512]⟩
abbrev S1x64 : Shape := ⟨2, ![1, 64]⟩
abbrev S8x64 : Shape := ⟨2, ![8, 64]⟩
abbrev S1x512 : Shape := ⟨2, ![1, 512]⟩
abbrev S1x128 : Shape := ⟨2, ![1, 128]⟩
abbrev S4x128 : Shape := ⟨2, ![4, 128]⟩
abbrev S30x32x512 : Shape := ⟨3, ![30, 32, 512]⟩
abbrev S1x1024 : Shape := ⟨2, ![1, 1024]⟩
abbrev S512x512 : Shape := ⟨2, ![512, 512]⟩
abbrev S_ : Shape := ⟨0, ![]⟩
abbrev S32x512 : Shape := ⟨2, ![32, 512]⟩
abbrev S32x3072 : Shape := ⟨2, ![32, 3072]⟩
abbrev S32 : Shape := ⟨1, ![32]⟩
abbrev S32x1 : Shape := ⟨2, ![32, 1]⟩
abbrev S1024x512 : Shape := ⟨2, ![1024, 512]⟩
abbrev S1x32x512 : Shape := ⟨3, ![1, 32, 512]⟩
abbrev S1024x3072 : Shape := ⟨2, ![1024, 3072]⟩

abbrev nBuf : Space → Nat
  | .hbm => 66
  | .vmem => 20
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S32x30x512, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x128, .f32⟩
  | .hbm, ⟨20, _⟩ => ⟨S4x128, .f32⟩
  | .hbm, ⟨21, _⟩ => ⟨S512, .f32⟩
  | .hbm, ⟨22, _⟩ => ⟨S1x512, .f32⟩
  | .hbm, ⟨23, _⟩ => ⟨S30x32x512, .f32⟩
  | .hbm, ⟨24, _⟩ => ⟨S1x1024, .f32⟩
  | .hbm, ⟨25, _⟩ => ⟨S1024x6144, .bf16⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .f32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S32x512, .f32⟩
  | .hbm, ⟨60, _⟩ => ⟨S32x512, .f32⟩
  | .hbm, ⟨61, _⟩ => ⟨S32x512, .f32⟩
  | .hbm, ⟨62, _⟩ => ⟨S32x512, .f32⟩
  | .hbm, ⟨63, _⟩ => ⟨S32x512, .f32⟩
  | .hbm, ⟨64, _⟩ => ⟨S32x3072, .f32⟩
  | .hbm, ⟨65, _⟩ => ⟨S32x512, .bf16⟩
  | .local _ .vmem, ⟨0, _⟩ => ⟨S32x1024, .f32⟩
  | .local _ .vmem, ⟨1, _⟩ => ⟨S1x1024, .f32⟩
  | .local _ .vmem, ⟨2, _⟩ => ⟨S1024x6144, .bf16⟩
  | .local _ .vmem, ⟨3, _⟩ => ⟨S512x512, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S30x32x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x3072, .f32⟩
  | .local _ .vmem, ⟨19, _⟩ => ⟨S32x512, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev main_v40_3 : Ref sig .tc := ⟨.hbm, 62, rfl⟩
abbrev main_v40_4 : Ref sig .tc := ⟨.hbm, 63, rfl⟩
abbrev main_v40_5 : Ref sig .tc := ⟨.hbm, 64, rfl⟩
abbrev main_v40_6 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S30x32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S31x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x3072 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== PreSampleRefIdeal.lean ====
abbrev S32x1024 : Shape := ⟨2, ![32, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S32x30x512 : Shape := ⟨3, ![32, 30, 512]⟩
abbrev S31x512 : Shape := ⟨2, ![31, 512]⟩
abbrev S512 : Shape := ⟨1, ![512]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x6144 : Shape := ⟨2, ![32, 6144]⟩
abbrev S32x512 : Shape := ⟨2, ![32, 512]⟩
abbrev S32x3072 : Shape := ⟨2, ![32, 3072]⟩
abbrev S32x8x64 : Shape := ⟨3, ![32, 8, 64]⟩
abbrev S32x8 : Shape := ⟨2, ![32, 8]⟩
abbrev S32x8x1 : Shape := ⟨3, ![32, 8, 1]⟩
abbrev S1x1x64 : Shape := ⟨3, ![1, 1, 64]⟩
abbrev S32x4x128 : Shape := ⟨3, ![32, 4, 128]⟩
abbrev S32x4 : Shape := ⟨2, ![32, 4]⟩
abbrev S32x4x1 : Shape := ⟨3, ![32, 4, 1]⟩
abbrev S1x1x128 : Shape := ⟨3, ![1, 1, 128]⟩
abbrev S32x1x512 : Shape := ⟨3, ![32, 1, 512]⟩
abbrev S32x31x512 : Shape := ⟨3, ![32, 31, 512]⟩
abbrev S1x512 : Shape := ⟨2, ![1, 512]⟩

abbrev nBuf : Space → Nat
  | .hbm => 391
  | .vmem => 0
  | .smem => 0
  | _ => 0

abbrev hbmTy0_0 (i : Nat) : BufTy := match i % 128 with
  | 0 => ⟨S32x1024, .f32⟩
  | 1 => ⟨S1024, .f32⟩
  | 2 => ⟨S1024x6144, .f32⟩
  | 3 => ⟨S64, .f32⟩
  | 4 => ⟨S64, .f32⟩
  | 5 => ⟨S128, .f32⟩
  | 6 => ⟨S32x30x512, .f32⟩
  | 7 => ⟨S31x512, .f32⟩
  | 8 => ⟨S512, .f32⟩
  | 9 => ⟨S512, .f32⟩
  | 10 => ⟨S512, .f32⟩
  | 11 => ⟨S32x1024, .f32⟩
  | 12 => ⟨S_, .f32⟩
  | 13 => ⟨S32, .f32⟩
  | 14 => ⟨S32x1, .f32⟩
  | 15 => ⟨S_, .f32⟩
  | 16 => ⟨S32x1, .f32⟩
  | 17 => ⟨S32x1, .f32⟩
  | 18 => ⟨S_, .f32⟩
  | 19 => ⟨S32x1, .f32⟩
  | 20 => ⟨S32x1, .f32⟩
  | 21 => ⟨S32x1, .f32⟩
  | 22 => ⟨S32x1024, .f32⟩
  | 23 => ⟨S32x1024, .f32⟩
  | 24 => ⟨S1x1024, .f32⟩
  | 25 => ⟨S32x1024, .f32⟩
  | 26 => ⟨S32x1024, .f32⟩
  | 27 => ⟨S32x6144, .f32⟩
  | 28 => ⟨S32x1024, .f32⟩
  | 29 => ⟨S32x512, .f32⟩
  | 30 => ⟨S32x512, .f32⟩
  | 31 => ⟨S32x512, .f32⟩
  | 32 => ⟨S32x512, .f32⟩
  | 33 => ⟨S32x3072, .f32⟩
  | 34 => ⟨S32x512, .f32⟩
  | 35 => ⟨S32x512, .f32⟩
  | 36 => ⟨S32x512, .f32⟩
  | 37 => ⟨S32x512, .f32⟩
  | 38 => ⟨S_, .f32⟩
  | 39 => ⟨S32x512, .f32⟩
  | 40 => ⟨S32x512, .f32⟩
  | 41 => ⟨S_, .f32⟩
  | 42 => ⟨S32x512, .f32⟩
  | 43 => ⟨S32x512, .f32⟩
  | 44 => ⟨S32x512, .f32⟩
  | 45 => ⟨S32x8x64, .f32⟩
  | 46 => ⟨S32x8x64, .f32⟩
  | 47 => ⟨S_, .f32⟩
  | 48 => ⟨S32x8, .f32⟩
  | 49 => ⟨S32x8x1, .f32⟩
  | 50 => ⟨S_, .f32⟩
  | 51 => ⟨S32x8x1, .f32⟩
  | 52 => ⟨S32x8x1, .f32⟩
  | 53 => ⟨S_, .f32⟩
  | 54 => ⟨S32x8x1, .f32⟩
  | 55 => ⟨S32x8x1, .f32⟩
  | 56 => ⟨S32x8x1, .f32⟩
  | 57 => ⟨S32x8x64, .f32⟩
  | 58 => ⟨S32x8x64, .f32⟩
  | 59 => ⟨S1x1x64, .f32⟩
  | 60 => ⟨S32x8x64, .f32⟩
  | 61 => ⟨S32x8x64, .f32⟩
  | 62 => ⟨S32x8x64, .f32⟩
  | 63 => ⟨S32x8x64, .f32⟩
  | 64 => ⟨S_, .f32⟩
  | 65 => ⟨S32x8, .f32⟩
  | 66 => ⟨S32x8x1, .f32⟩
  | 67 => ⟨S_, .f32⟩
  | 68 => ⟨S32x8x1, .f32⟩
  | 69 => ⟨S32x8x1, .f32⟩
  | 70 => ⟨S_, .f32⟩
  | 71 => ⟨S32x8x1, .f32⟩
  | 72 => ⟨S32x8x1, .f32⟩
  | 73 => ⟨S32x8x1, .f32⟩
  | 74 => ⟨S32x8x64, .f32⟩
  | 75 => ⟨S32x8x64, .f32⟩
  | 76 => ⟨S1x1x64, .f32⟩
  | 77 => ⟨S32x8x64, .f32⟩
  | 78 => ⟨S32x8x64, .f32⟩
  | 79 => ⟨S32x512, .f32⟩
  | 80 => ⟨S32x4x128, .f32⟩
  | 81 => ⟨S32x4x128, .f32⟩
  | 82 => ⟨S_, .f32⟩
  | 83 => ⟨S32x4, .f32⟩
  | 84 => ⟨S32x4x1, .f32⟩
  | 85 => ⟨S_, .f32⟩
  | 86 => ⟨S32x4x1, .f32⟩
  | 87 => ⟨S32x4x1, .f32⟩
  | 88 => ⟨S_, .f32⟩
  | 89 => ⟨S32x4x1, .f32⟩
  | 90 => ⟨S32x4x1, .f32⟩
  | 91 => ⟨S32x4x1, .f32⟩
  | 92 => ⟨S32x4x128, .f32⟩
  | 93 => ⟨S32x4x128, .f32⟩
  | 94 => ⟨S1x1x128, .f32⟩
  | 95 => ⟨S32x4x128, .f32⟩
  | 96 => ⟨S32x4x128, .f32⟩
  | 97 => ⟨S32x512, .f32⟩
  | 98 => ⟨S32x1x512, .f32⟩
  | 99 => ⟨S32x31x512, .f32⟩
  | 100 => ⟨S1x512, .f32⟩
  | 101 => ⟨S512, .f32⟩
  | 102 => ⟨S32x1x512, .f32⟩
  | 103 => ⟨S32x512, .f32⟩
  | 104 => ⟨S1x512, .f32⟩
  | 105 => ⟨S32x512, .f32⟩
  | 106 => ⟨S32x512, .f32⟩
  | 107 => ⟨S_, .f32⟩
  | 108 => ⟨S32x512, .f32⟩
  | 109 => ⟨S32x512, .f32⟩
  | 110 => ⟨S1x512, .f32⟩
  | 111 => ⟨S512, .f32⟩
  | 112 => ⟨S32x1x512, .f32⟩
  | 113 => ⟨S32x512, .f32⟩
  | 114 => ⟨S1x512, .f32⟩
  | 115 => ⟨S32x512, .f32⟩
  | 116 => ⟨S32x512, .f32⟩
  | 117 => ⟨S32x512, .f32⟩
  | 118 => ⟨S1x512, .f32⟩
  | 119 => ⟨S512, .f32⟩
  | 120 => ⟨S32x1x512, .f32⟩
  | 121 => ⟨S32x512, .f32⟩
  | 122 => ⟨S1x512, .f32⟩
  | 123 => ⟨S32x512, .f32⟩
  | 124 => ⟨S32x512, .f32⟩
  | 125 => ⟨S32x512, .f32⟩
  | 126 => ⟨S1x512, .f32⟩
  | 127 => ⟨S512, .f32⟩
  | _ => ⟨S32x1024, .f32⟩

abbrev hbmTy0_1 (i : Nat) : BufTy := match i % 128 with
  | 0 => ⟨S32x1x512, .f32⟩
  | 1 => ⟨S32x512, .f32⟩
  | 2 => ⟨S1x512, .f32⟩
  | 3 => ⟨S32x512, .f32⟩
  | 4 => ⟨S32x512, .f32⟩
  | 5 => ⟨S32x512, .f32⟩
  | 6 => ⟨S1x512, .f32⟩
  | 7 => ⟨S512, .f32⟩
  | 8 => ⟨S32x1x512, .f32⟩
  | 9 => ⟨S32x512, .f32⟩
  | 10 => ⟨S1x512, .f32⟩
  | 11 => ⟨S32x512, .f32⟩
  | 12 => ⟨S32x512, .f32⟩
  | 13 => ⟨S32x512, .f32⟩
  | 14 => ⟨S1x512, .f32⟩
  | 15 => ⟨S512, .f32⟩
  | 16 => ⟨S32x1x512, .f32⟩
  | 17 => ⟨S32x512, .f32⟩
  | 18 => ⟨S1x512, .f32⟩
  | 19 => ⟨S32x512, .f32⟩
  | 20 => ⟨S32x512, .f32⟩
  | 21 => ⟨S32x512, .f32⟩
  | 22 => ⟨S1x512, .f32⟩
  | 23 => ⟨S512, .f32⟩
  | 24 => ⟨S32x1x512, .f32⟩
  | 25 => ⟨S32x512, .f32⟩
  | 26 => ⟨S1x512, .f32⟩
  | 27 => ⟨S32x512, .f32⟩
  | 28 => ⟨S32x512, .f32⟩
  | 29 => ⟨S32x512, .f32⟩
  | 30 => ⟨S1x512, .f32⟩
  | 31 => ⟨S512, .f32⟩
  | 32 => ⟨S32x1x512, .f32⟩
  | 33 => ⟨S32x512, .f32⟩
  | 34 => ⟨S1x512, .f32⟩
  | 35 => ⟨S32x512, .f32⟩
  | 36 => ⟨S32x512, .f32⟩
  | 37 => ⟨S32x512, .f32⟩
  | 38 => ⟨S1x512, .f32⟩
  | 39 => ⟨S512, .f32⟩
  | 40 => ⟨S32x1x512, .f32⟩
  | 41 => ⟨S32x512, .f32⟩
  | 42 => ⟨S1x512, .f32⟩
  | 43 => ⟨S32x512, .f32⟩
  | 44 => ⟨S32x512, .f32⟩
  | 45 => ⟨S32x512, .f32⟩
  | 46 => ⟨S1x512, .f32⟩
  | 47 => ⟨S512, .f32⟩
  | 48 => ⟨S32x1x512, .f32⟩
  | 49 => ⟨S32x512, .f32⟩
  | 50 => ⟨S1x512, .f32⟩
  | 51 => ⟨S32x512, .f32⟩
  | 52 => ⟨S32x512, .f32⟩
  | 53 => ⟨S32x512, .f32⟩
  | 54 => ⟨S1x512, .f32⟩
  | 55 => ⟨S512, .f32⟩
  | 56 => ⟨S32x1x512, .f32⟩
  | 57 => ⟨S32x512, .f32⟩
  | 58 => ⟨S1x512, .f32⟩
  | 59 => ⟨S32x512, .f32⟩
  | 60 => ⟨S32x512, .f32⟩
  | 61 => ⟨S32x512, .f32⟩
  | 62 => ⟨S1x512, .f32⟩
  | 63 => ⟨S512, .f32⟩
  | 64 => ⟨S32x1x512, .f32⟩
  | 65 => ⟨S32x512, .f32⟩
  | 66 => ⟨S1x512, .f32⟩
  | 67 => ⟨S32x512, .f32⟩
  | 68 => ⟨S32x512, .f32⟩
  | 69 => ⟨S32x512, .f32⟩
  | 70 => ⟨S1x512, .f32⟩
  | 71 => ⟨S512, .f32⟩
  | 72 => ⟨S32x1x512, .f32⟩
  | 73 => ⟨S32x512, .f32⟩
  | 74 => ⟨S1x512, .f32⟩
  | 75 => ⟨S32x512, .f32⟩
  | 76 => ⟨S32x512, .f32⟩
  | 77 => ⟨S32x512, .f32⟩
  | 78 => ⟨S1x512, .f32⟩
  | 79 => ⟨S512, .f32⟩
  | 80 => ⟨S32x1x512, .f32⟩
  | 81 => ⟨S32x512, .f32⟩
  | 82 => ⟨S1x512, .f32⟩
  | 83 => ⟨S32x512, .f32⟩
  | 84 => ⟨S32x512, .f32⟩
  | 85 => ⟨S32x512, .f32⟩
  | 86 => ⟨S1x512, .f32⟩
  | 87 => ⟨S512, .f32⟩
  | 88 => ⟨S32x1x512, .f32⟩
  | 89 => ⟨S32x512, .f32⟩
  | 90 => ⟨S1x512, .f32⟩
  | 91 => ⟨S32x512, .f32⟩
  | 92 => ⟨S32x512, .f32⟩
  | 93 => ⟨S32x512, .f32⟩
  | 94 => ⟨S1x512, .f32⟩
  | 95 => ⟨S512, .f32⟩
  | 96 => ⟨S32x1x512, .f32⟩
  | 97 => ⟨S32x512, .f32⟩
  | 98 => ⟨S1x512, .f32⟩
  | 99 => ⟨S32x512, .f32⟩
  | 100 => ⟨S32x512, .f32⟩
  | 101 => ⟨S32x512, .f32⟩
  | 102 => ⟨S1x512, .f32⟩
  | 103 => ⟨S512, .f32⟩
  | 104 => ⟨S32x1x512, .f32⟩
  | 105 => ⟨S32x512, .f32⟩
  | 106 => ⟨S1x512, .f32⟩
  | 107 => ⟨S32x512, .f32⟩
  | 108 => ⟨S32x512, .f32⟩
  | 109 => ⟨S32x512, .f32⟩
  | 110 => ⟨S1x512, .f32⟩
  | 111 => ⟨S512, .f32⟩
  | 112 => ⟨S32x1x512, .f32⟩
  | 113 => ⟨S32x512, .f32⟩
  | 114 => ⟨S1x512, .f32⟩
  | 115 => ⟨S32x512, .f32⟩
  | 116 => ⟨S32x512, .f32⟩
  | 117 => ⟨S32x512, .f32⟩
  | 118 => ⟨S1x512, .f32⟩
  | 119 => ⟨S512, .f32⟩
  | 120 => ⟨S32x1x512, .f32⟩
  | 121 => ⟨S32x512, .f32⟩
  | 122 => ⟨S1x512, .f32⟩
  | 123 => ⟨S32x512, .f32⟩
  | 124 => ⟨S32x512, .f32⟩
  | 125 => ⟨S32x512, .f32⟩
  | 126 => ⟨S1x512, .f32⟩
  | 127 => ⟨S512, .f32⟩
  | _ => ⟨S32x1024, .f32⟩

abbrev hbmTy0_2 (i : Nat) : BufTy := match i % 128 with
  | 0 => ⟨S32x1x512, .f32⟩
  | 1 => ⟨S32x512, .f32⟩
  | 2 => ⟨S1x512, .f32⟩
  | 3 => ⟨S32x512, .f32⟩
  | 4 => ⟨S32x512, .f32⟩
  | 5 => ⟨S32x512, .f32⟩
  | 6 => ⟨S1x512, .f32⟩
  | 7 => ⟨S512, .f32⟩
  | 8 => ⟨S32x1x512, .f32⟩
  | 9 => ⟨S32x512, .f32⟩
  | 10 => ⟨S1x512, .f32⟩
  | 11 => ⟨S32x512, .f32⟩
  | 12 => ⟨S32x512, .f32⟩
  | 13 => ⟨S32x512, .f32⟩
  | 14 => ⟨S1x512, .f32⟩
  | 15 => ⟨S512, .f32⟩
  | 16 => ⟨S32x1x512, .f32⟩
  | 17 => ⟨S32x512, .f32⟩
  | 18 => ⟨S1x512, .f32⟩
  | 19 => ⟨S32x512, .f32⟩
  | 20 => ⟨S32x512, .f32⟩
  | 21 => ⟨S32x512, .f32⟩
  | 22 => ⟨S1x512, .f32⟩
  | 23 => ⟨S512, .f32⟩
  | 24 => ⟨S32x1x512, .f32⟩
  | 25 => ⟨S32x512, .f32⟩
  | 26 => ⟨S1x512, .f32⟩
  | 27 => ⟨S32x512, .f32⟩
  | 28 => ⟨S32x512, .f32⟩
  | 29 => ⟨S32x512, .f32⟩
  | 30 => ⟨S1x512, .f32⟩
  | 31 => ⟨S512, .f32⟩
  | 32 => ⟨S32x1x512, .f32⟩
  | 33 => ⟨S32x512, .f32⟩
  | 34 => ⟨S1x512, .f32⟩
  | 35 => ⟨S32x512, .f32⟩
  | 36 => ⟨S32x512, .f32⟩
  | 37 => ⟨S32x512, .f32⟩
  | 38 => ⟨S1x512, .f32⟩
  | 39 => ⟨S512, .f32⟩
  | 40 => ⟨S32x1x512, .f32⟩
  | 41 => ⟨S32x512, .f32⟩
  | 42 => ⟨S1x512, .f32⟩
  | 43 => ⟨S32x512, .f32⟩
  | 44 => ⟨S32x512, .f32⟩
  | 45 => ⟨S32x512, .f32⟩
  | 46 => ⟨S1x512, .f32⟩
  | 47 => ⟨S512, .f32⟩
  | 48 => ⟨S32x1x512, .f32⟩
  | 49 => ⟨S32x512, .f32⟩
  | 50 => ⟨S1x512, .f32⟩
  | 51 => ⟨S32x512, .f32⟩
  | 52 => ⟨S32x512, .f32⟩
  | 53 => ⟨S32x512, .f32⟩
  | 54 => ⟨S1x512, .f32⟩
  | 55 => ⟨S512, .f32⟩
  | 56 => ⟨S32x1x512, .f32⟩
  | 57 => ⟨S32x512, .f32⟩
  | 58 => ⟨S1x512, .f32⟩
  | 59 => ⟨S32x512, .f32⟩
  | 60 => ⟨S32x512, .f32⟩
  | 61 => ⟨S32x512, .f32⟩
  | 62 => ⟨S1x512, .f32⟩
  | 63 => ⟨S512, .f32⟩
  | 64 => ⟨S32x1x512, .f32⟩
  | 65 => ⟨S32x512, .f32⟩
  | 66 => ⟨S1x512, .f32⟩
  | 67 => ⟨S32x512, .f32⟩
  | 68 => ⟨S32x512, .f32⟩
  | 69 => ⟨S32x512, .f32⟩
  | 70 => ⟨S1x512, .f32⟩
  | 71 => ⟨S512, .f32⟩
  | 72 => ⟨S32x1x512, .f32⟩
  | 73 => ⟨S32x512, .f32⟩
  | 74 => ⟨S1x512, .f32⟩
  | 75 => ⟨S32x512, .f32⟩
  | 76 => ⟨S32x512, .f32⟩
  | 77 => ⟨S32x512, .f32⟩
  | 78 => ⟨S1x512, .f32⟩
  | 79 => ⟨S512, .f32⟩
  | 80 => ⟨S32x1x512, .f32⟩
  | 81 => ⟨S32x512, .f32⟩
  | 82 => ⟨S1x512, .f32⟩
  | 83 => ⟨S32x512, .f32⟩
  | 84 => ⟨S32x512, .f32⟩
  | 85 => ⟨S32x512, .f32⟩
  | 86 => ⟨S1x512, .f32⟩
  | 87 => ⟨S512, .f32⟩
  | 88 => ⟨S32x1x512, .f32⟩
  | 89 => ⟨S32x512, .f32⟩
  | 90 => ⟨S1x512, .f32⟩
  | 91 => ⟨S32x512, .f32⟩
  | 92 => ⟨S32x512, .f32⟩
  | 93 => ⟨S32x512, .f32⟩
  | 94 => ⟨S1x512, .f32⟩
  | 95 => ⟨S32x512, .f32⟩
  | 96 => ⟨S32x512, .f32⟩
  | 97 => ⟨S_, .f32⟩
  | 98 => ⟨S32, .f32⟩
  | 99 => ⟨S32x1, .f32⟩
  | 100 => ⟨S_, .f32⟩
  | 101 => ⟨S32x1, .f32⟩
  | 102 => ⟨S32x1, .f32⟩
  | 103 => ⟨S32x512, .f32⟩
  | 104 => ⟨S32x512, .f32⟩
  | 105 => ⟨S32x512, .f32⟩
  | 106 => ⟨S_, .f32⟩
  | 107 => ⟨S32, .f32⟩
  | 108 => ⟨S32x1, .f32⟩
  | 109 => ⟨S_, .f32⟩
  | 110 => ⟨S32x1, .f32⟩
  | 111 => ⟨S32x1, .f32⟩
  | 112 => ⟨S_, .f32⟩
  | 113 => ⟨S32x1, .f32⟩
  | 114 => ⟨S32x1, .f32⟩
  | 115 => ⟨S32x1, .f32⟩
  | 116 => ⟨S32x512, .f32⟩
  | 117 => ⟨S32x512, .f32⟩
  | 118 => ⟨S1x512, .f32⟩
  | 119 => ⟨S32x512, .f32⟩
  | 120 => ⟨S32x512, .f32⟩
  | 121 => ⟨S1x512, .f32⟩
  | 122 => ⟨S32x512, .f32⟩
  | 123 => ⟨S32x512, .f32⟩
  | 124 => ⟨S32x512, .f32⟩
  | 125 => ⟨S32x512, .f32⟩
  | 126 => ⟨S_, .f32⟩
  | 127 => ⟨S32x512, .f32⟩
  | _ => ⟨S32x1024, .f32⟩

abbrev hbmTy0_3 (i : Nat) : BufTy := match i % 128 with
  | 0 => ⟨S32x512, .f32⟩
  | 1 => ⟨S_, .f32⟩
  | 2 => ⟨S32x512, .f32⟩
  | 3 => ⟨S32x512, .f32⟩
  | 4 => ⟨S32x512, .f32⟩
  | 5 => ⟨S32x512, .f32⟩
  | 6 => ⟨S32x512, .bf16⟩
  | _ => ⟨S32x1024, .f32⟩

abbrev hbmTy (i : Nat) : BufTy := match i / 128 with
  | 0 => hbmTy0_0 i
  | 1 => hbmTy0_1 i
  | 2 => hbmTy0_2 i
  | 3 => hbmTy0_3 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_v314 : Ref sig .tc := ⟨.hbm, 340, rfl⟩
abbrev main_v315 : Ref sig .tc := ⟨.hbm, 341, rfl⟩
abbrev main_v316 : Ref sig .tc := ⟨.hbm, 342, rfl⟩
abbrev main_v317 : Ref sig .tc := ⟨.hbm, 343, rfl⟩
abbrev main_v318 : Ref sig .tc := ⟨.hbm, 344, rfl⟩
abbrev main_v319 : Ref sig .tc := ⟨.hbm, 345, rfl⟩
abbrev main_v320 : Ref sig .tc := ⟨.hbm, 346, rfl⟩
abbrev main_v321 : Ref sig .tc := ⟨.hbm, 347, rfl⟩
abbrev main_v322 : Ref sig .tc := ⟨.hbm, 348, rfl⟩
abbrev main_v323 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_cst_14 : Ref sig .tc := ⟨.hbm, 353, rfl⟩
abbrev main_v327 : Ref sig .tc := ⟨.hbm, 354, rfl⟩
abbrev main_v328 : Ref sig .tc := ⟨.hbm, 355, rfl⟩
abbrev main_cst_15 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_cst_16 : Ref sig .tc := ⟨.hbm, 362, rfl⟩
abbrev main_v334 : Ref sig .tc := ⟨.hbm, 363, rfl⟩
abbrev main_v335 : Ref sig .tc := ⟨.hbm, 364, rfl⟩
abbrev main_cst_17 : Ref sig .tc := ⟨.hbm, 365, rfl⟩
abbrev main_v336 : Ref sig .tc := ⟨.hbm, 366, rfl⟩
abbrev main_v337 : Ref sig .tc := ⟨.hbm, 367, rfl⟩
abbrev main_cst_18 : Ref sig .tc := ⟨.hbm, 368, rfl⟩
abbrev main_v338 : Ref sig .tc := ⟨.hbm, 369, rfl⟩
abbrev main_v339 : Ref sig .tc := ⟨.hbm, 370, rfl⟩
abbrev main_v340 : Ref sig .tc := ⟨.hbm, 371, rfl⟩
abbrev main_v341 : Ref sig .tc := ⟨.hbm, 372, rfl⟩
abbrev main_v342 : Ref sig .tc := ⟨.hbm, 373, rfl⟩
abbrev main_v343 : Ref sig .tc := ⟨.hbm, 374, rfl⟩
abbrev main_v344 : Ref sig .tc := ⟨.hbm, 375, rfl⟩
abbrev main_v345 : Ref sig .tc := ⟨.hbm, 376, rfl⟩
abbrev main_v346 : Ref sig .tc := ⟨.hbm, 377, rfl⟩
abbrev main_v347 : Ref sig .tc := ⟨.hbm, 378, rfl⟩
abbrev main_v348 : Ref sig .tc := ⟨.hbm, 379, rfl⟩
abbrev main_call0_v0 : Ref sig .tc := ⟨.hbm, 380, rfl⟩
abbrev main_call0_v1 : Ref sig .tc := ⟨.hbm, 381, rfl⟩
abbrev main_call0_cst : Ref sig .tc := ⟨.hbm, 382, rfl⟩
abbrev main_call0_v2 : Ref sig .tc := ⟨.hbm, 383, rfl⟩
abbrev main_call0_v3 : Ref sig .tc := ⟨.hbm, 384, rfl⟩
abbrev main_call0_cst_0 : Ref sig .tc := ⟨.hbm, 385, rfl⟩
abbrev main_call0_v4 : Ref sig .tc := ⟨.hbm, 386, rfl⟩
abbrev main_call0_v5 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩

abbrev nD : Nat := 1
abbrev τ : Topo := Topo.v7x

variable {F : FTy → Type} [FloatOps F]
-- ==== PostSample.lean ====
abbrev S32x1024 : Shape := ⟨2, ![32, 1024]⟩
abbrev S32x512 : Shape := ⟨2, ![32, 512]⟩
abbrev S32x3072 : Shape := ⟨2, ![32, 3072]⟩
abbrev S3072 : Shape := ⟨1, ![3072]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S32x2x5632 : Shape := ⟨3, ![32, 2, 5632]⟩
abbrev S3x5632 : Shape := ⟨2, ![3, 5632]⟩
abbrev S5632 : Shape := ⟨1, ![5632]⟩
abbrev S2816x1024 : Shape := ⟨2, ![2816, 1024]⟩
abbrev S2x32x5632 : Shape := ⟨3, ![2, 32, 5632]⟩
abbrev S1x3072 : Shape := ⟨2, ![1, 3072]⟩
abbrev S1x1024 : Shape := ⟨2, ![1, 1024]⟩
abbrev S1x5632 : Shape := ⟨2, ![1, 5632]⟩
abbrev S32x5632 : Shape := ⟨2, ![32, 5632]⟩
abbrev S32 : Shape := ⟨1, ![32]⟩
abbrev S32x1 : Shape := ⟨2, ![32, 1]⟩
abbrev S1x32x5632 : Shape := ⟨3, ![1, 32, 5632]⟩
abbrev S32x2816 : Shape := ⟨2, ![32, 2816]⟩

abbrev nBuf : Space → Nat
  | .hbm => 28
  | .vmem => 18
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S32x512, .f32⟩
  | .hbm, ⟨3, _⟩ => ⟨S32x512, .f32⟩
  | .hbm, ⟨4, _⟩ => ⟨S32x3072, .f32⟩
  | .hbm, ⟨5, _⟩ => ⟨S3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x5632, .f32⟩
  | .hbm, ⟨12, _⟩ => ⟨S32x2x5632, .f32⟩
  | .hbm, ⟨13, _⟩ => ⟨S3x5632, .f32⟩
  | .hbm, ⟨14, _⟩ => ⟨S5632, .f32⟩
  | .hbm, ⟨15, _⟩ => ⟨S2816x1024, .f32⟩
  | .hbm, ⟨16, _⟩ => ⟨S2x32x5632, .f32⟩
  | .hbm, ⟨17, _⟩ => ⟨S1x3072, .f32⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1024x5632, .bf16⟩
  | .hbm, ⟨24, _⟩ => ⟨S1x5632, .f32⟩
  | .hbm, ⟨25, _⟩ => ⟨S2816x1024, .bf16⟩
  | .hbm, ⟨26, _⟩ => ⟨S32x1024, .f32⟩
  | .hbm, ⟨27, _⟩ => ⟨S32x5632, .f32⟩
  | .local _ .vmem, ⟨0, _⟩ => ⟨S32x1024, .f32⟩
  | .local _ .vmem, ⟨1, _⟩ => ⟨S32x512, .bf16⟩
  | .local _ .vmem, ⟨2, _⟩ => ⟨S32x512, .f32⟩
  | .local _ .vmem, ⟨3, _⟩ => ⟨S32x512, .f32⟩
  | .local _ .vmem, ⟨4, _⟩ => ⟨S32x3072, .f32⟩
  | .local _ .vmem, ⟨5, _⟩ => ⟨S1x3072, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2x32x5632, .f32⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S32x1024, .f32⟩
  | .local _ .vmem, ⟨17, _⟩ => ⟨S32x5632, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== PostSampleRefIdeal.lean ====
abbrev S32x1024 : Shape := ⟨2, ![32, 1024]⟩
abbrev S32x512 : Shape := ⟨2, ![32, 512]⟩
abbrev S32x3072 : Shape := ⟨2, ![32, 3072]⟩
abbrev S3072 : Shape := ⟨1, ![3072]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S32x2x5632 : Shape := ⟨3, ![32, 2, 5632]⟩
abbrev S3x5632 : Shape := ⟨2, ![3, 5632]⟩
abbrev S5632 : Shape := ⟨1, ![5632]⟩
abbrev S2816x1024 : Shape := ⟨2, ![2816, 1024]⟩
abbrev S1x3072 : Shape := ⟨2, ![1, 3072]⟩
abbrev S32x3x1024 : Shape := ⟨3, ![32, 3, 1024]⟩
abbrev S_ : Shape := ⟨0, ![]⟩
abbrev S32x1x1024 : Shape := ⟨3, ![32, 1, 1024]⟩
abbrev S32 : Shape := ⟨1, ![32]⟩
abbrev S32x1 : Shape := ⟨2, ![32, 1]⟩
abbrev S1x1024 : Shape := ⟨2, ![1, 1024]⟩
abbrev S32x5632 : Shape := ⟨2, ![32, 5632]⟩
abbrev S32x1x5632 : Shape := ⟨3, ![32, 1, 5632]⟩
abbrev S32x3x5632 : Shape := ⟨3, ![32, 3, 5632]⟩
abbrev S1x3x5632 : Shape := ⟨3, ![1, 3, 5632]⟩
abbrev S1x5632 : Shape := ⟨2, ![1, 5632]⟩
abbrev S32x2816 : Shape := ⟨2, ![32, 2816]⟩

abbrev nBuf : Space → Nat
  | .hbm => 86
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S32x512, .f32⟩
  | .hbm, ⟨3, _⟩ => ⟨S32x512, .f32⟩
  | .hbm, ⟨4, _⟩ => ⟨S32x3072, .f32⟩
  | .hbm, ⟨5, _⟩ => ⟨S3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x5632, .f32⟩
  | .hbm, ⟨12, _⟩ => ⟨S32x2x5632, .f32⟩
  | .hbm, ⟨13, _⟩ => ⟨S3x5632, .f32⟩
  | .hbm, ⟨14, _⟩ => ⟨S5632, .f32⟩
  | .hbm, ⟨15, _⟩ => ⟨S2816x1024, .f32⟩
  | .hbm, ⟨16, _⟩ => ⟨S32x512, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S1x3072, .f32⟩
  | .hbm, ⟨21, _⟩ => ⟨S32x3072, .f32⟩
  | .hbm, ⟨22, _⟩ => ⟨S32x3072, .f32⟩
  | .hbm, ⟨23, _⟩ => ⟨S32x3x1024, .f32⟩
  | .hbm, ⟨24, _⟩ => ⟨S32x3x1024, .f32⟩
  | .hbm, ⟨25, _⟩ => ⟨S32x3x1024, .f32⟩
  | .hbm, ⟨26, _⟩ => ⟨S_, .f32⟩
  | .hbm, ⟨27, _⟩ => ⟨S32x3x1024, .f32⟩
  | .hbm, ⟨28, _⟩ => ⟨S32x3x1024, .f32⟩
  | .hbm, ⟨29, _⟩ => ⟨S_, .f32⟩
  | .hbm, ⟨30, _⟩ => ⟨S32x3x1024, .f32⟩
  | .hbm, ⟨31, _⟩ => ⟨S32x3x1024, .f32⟩
  | .hbm, ⟨32, _⟩ => ⟨S32x1x1024, .f32⟩
  | .hbm, ⟨33, _⟩ => ⟨S32x1024, .f32⟩
  | .hbm, ⟨34, _⟩ => ⟨S32x1024, .f32⟩
  | .hbm, ⟨35, _⟩ => ⟨S32x1x1024, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S32x1x1024, .f32⟩
  | .hbm, ⟨40, _⟩ => ⟨S32x1024, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32x1, .f32⟩
  | .hbm, ⟨56, _⟩ => ⟨S32x1024, .f32⟩
  | .hbm, ⟨57, _⟩ => ⟨S32x1024, .f32⟩
  | .hbm, ⟨58, _⟩ => ⟨S1x1024, .f32⟩
  | .hbm, ⟨59, _⟩ => ⟨S32x1024, .f32⟩
  | .hbm, ⟨60, _⟩ => ⟨S32x1024, .f32⟩
  | .hbm, ⟨61, _⟩ => ⟨S32x5632, .f32⟩
  | .hbm, ⟨62, _⟩ => ⟨S32x1x5632, .f32⟩
  | .hbm, ⟨63, _⟩ => ⟨S32x3x5632, .f32⟩
  | .hbm, ⟨64, _⟩ => ⟨S1x3x5632, .f32⟩
  | .hbm, ⟨65, _⟩ => ⟨S32x3x5632, .f32⟩
  | .hbm, ⟨66, _⟩ => ⟨S32x3x5632, .f32⟩
  | .hbm, ⟨67, _⟩ => ⟨S_, .f32⟩
  | .hbm, ⟨68, _⟩ => ⟨S32x5632, .f32⟩
  | .hbm, ⟨69, _⟩ => ⟨S1x5632, .f32⟩
  | .hbm, ⟨70, _⟩ => ⟨S32x5632, .f32⟩
  | .hbm, ⟨71, _⟩ => ⟨S32x5632, .f32⟩
  | .hbm, ⟨72, _⟩ => ⟨S32x2816, .f32⟩
  | .hbm, ⟨73, _⟩ => ⟨S32x2816, .f32⟩
  | .hbm, ⟨74, _⟩ => ⟨S32x2816, .f32⟩
  | .hbm, ⟨75, _⟩ => ⟨S32x2816, .f32⟩
  | .hbm, ⟨76, _⟩ => ⟨S_, .f32⟩
  | .hbm, ⟨77, _⟩ => ⟨S32x2816, .f32⟩
  | .hbm, ⟨78, _⟩ => ⟨S32x2816, .f32⟩
  | .hbm, ⟨79, _⟩ => ⟨S_, .f32⟩
  | .hbm, ⟨80, _⟩ => ⟨S32x2816, .f32⟩
  | .hbm, ⟨81, _⟩ => ⟨S32x2816, .f32⟩
  | .hbm, ⟨82, _⟩ => ⟨S32x2816, .f32⟩
  | .hbm, ⟨83, _⟩ => ⟨S32x2816, .f32⟩
  | .hbm, ⟨84, _⟩ => ⟨S32x1024, .f32⟩
  | .hbm, ⟨85, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== SampleMemory.lean ====
abbrev S32x512 : Shape := ⟨2, ![32, 512]⟩
abbrev S32x256x4x128 : Shape := ⟨4, ![32, 256, 4, 128]⟩
abbrev S32x1x512 : Shape := ⟨3, ![32, 1, 512]⟩
abbrev S32x256x512 : Shape := ⟨3, ![32, 256, 512]⟩
abbrev S1x1x512 : Shape := ⟨3, ![1, 1, 512]⟩
abbrev S1x256x512 : Shape := ⟨3, ![1, 256, 512]⟩
abbrev S1x512 : Shape := ⟨2, ![1, 512]⟩
abbrev S8x512 : Shape := ⟨2, ![8, 512]⟩
abbrev S256x512 : Shape := ⟨2, ![256, 512]⟩
abbrev S8x128 : Shape := ⟨2, ![8, 128]⟩
abbrev S256x128 : Shape := ⟨2, ![256, 128]⟩
abbrev S8x256 : Shape := ⟨2, ![8, 256]⟩
abbrev S8 : Shape := ⟨1, ![8]⟩
abbrev S8x1 : Shape := ⟨2, ![8, 1]⟩

abbrev nBuf : Space → Nat
  | .hbm => 7
  | .vmem => 8
  | .smem => 0
  | _ => 0

abbrev bufTy : (tb : Table) → Fin (tcTables nBuf tb) → BufTy
  | .hbm, ⟨0, _⟩ => ⟨S32x512, .f32⟩
  | .hbm, ⟨1, _⟩ => ⟨S32x256x4x128, .f32⟩
  | .hbm, ⟨2, _⟩ => ⟨S32x256x4x128, .f32⟩
  | .hbm, ⟨3, _⟩ => ⟨S32x1x512, .f32⟩
  | .hbm, ⟨4, _⟩ => ⟨S32x256x512, .f32⟩
  | .hbm, ⟨5, _⟩ => ⟨S32x256x512, .f32⟩
  | .hbm, ⟨6, _⟩ => ⟨S32x1x512, .f32⟩
  | .local _ .vmem, ⟨0, _⟩ => ⟨S1x1x512, .f32⟩
  | .local _ .vmem, ⟨1, _⟩ => ⟨S1x1x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x512, .f32⟩
  | .local _ .vmem, ⟨7, _⟩ => ⟨S1x1x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SampleMemoryRefIdeal.lean ====
abbrev S32x512 : Shape := ⟨2, ![32, 512]⟩
abbrev S32x256x4x128 : Shape := ⟨4, ![32, 256, 4, 128]⟩
abbrev S32x1x4x128 : Shape := ⟨4, ![32, 1, 4, 128]⟩
abbrev S32x4x1x256 : Shape := ⟨4, ![32, 4, 1, 256]⟩
abbrev S_ : Shape := ⟨0, ![]⟩
abbrev S32x4x1 : Shape := ⟨3, ![32, 4, 1]⟩
abbrev S32x4x1x1 : Shape := ⟨4, ![32, 4, 1, 1]⟩
abbrev S32x4x128x1 : Shape := ⟨4, ![32, 4, 128, 1]⟩
abbrev S32x1x512 : Shape := ⟨3, ![32, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x256x4x128, .f32⟩
  | .hbm, ⟨2, _⟩ => ⟨S32x256x4x128, .f32⟩
  | .hbm, ⟨3, _⟩ => ⟨S32x1x4x128, .f32⟩
  | .hbm, ⟨4, _⟩ => ⟨S32x4x1x256, .f32⟩
  | .hbm, ⟨5, _⟩ => ⟨S_, .f32⟩
  | .hbm, ⟨6, _⟩ => ⟨S32x4x1x256, .f32⟩
  | .hbm, ⟨7, _⟩ => ⟨S32x4x1x256, .f32⟩
  | .hbm, ⟨8, _⟩ => ⟨S_, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1x1, .f32⟩
  | .hbm, ⟨14, _⟩ => ⟨S32x4x1x256, .f32⟩
  | .hbm, ⟨15, _⟩ => ⟨S32x4x1x256, .f32⟩
  | .hbm, ⟨16, _⟩ => ⟨S32x4x1x256, .f32⟩
  | .hbm, ⟨17, _⟩ => ⟨S_, .f32⟩
  | .hbm, ⟨18, _⟩ => ⟨S32x4x1, .f32⟩
  | .hbm, ⟨19, _⟩ => ⟨S32x4x1x1, .f32⟩
  | .hbm, ⟨20, _⟩ => ⟨S32x4x1x256, .f32⟩
  | .hbm, ⟨21, _⟩ => ⟨S32x4x1x256, .f32⟩
  | .hbm, ⟨22, _⟩ => ⟨S32x4x128x1, .f32⟩
  | .hbm, ⟨23, _⟩ => ⟨S32x1x4x128, .f32⟩
  | .hbm, ⟨24, _⟩ => ⟨S32x1x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Softmax.lean ====
/- The softmax average over the extended reals: the weighted sum `∑ exp(sᵢ) vᵢ / ∑ exp(sᵢ)` of scores that are
   real or `-∞` (not all of them `-∞`) and of any values. Subtracting a real number from every score, dividing
   each weight or the whole sum, and rescaling both sums by one positive real number all leave it as it is. -/
module

public import Idealize.ShloMosaic.Lib.Pointwise

@[expose] public section

noncomputable section

namespace Cert.Softmax

open Idealize.ShloMosaic

variable {ι : Type} [Fintype ι]

/-- A factor that is neither negative nor `+∞` goes into a sum. -/
theorem mul_sum_of_nonneg {κ : Type} (c : EReal) (h0 : 0 ≤ c) (ht : c ≠ ⊤) (s : Finset κ) (f : κ → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

theorem sum_mul_of_nonneg {κ : Type} (c : EReal) (h0 : 0 ≤ c) (ht : c ≠ ⊤) (s : Finset κ) (f : κ → EReal) :
    (∑ i ∈ s, f i) * c = ∑ i ∈ s, f i * c := by
  rw [mul_comm, mul_sum_of_nonneg c h0 ht]
  exact Finset.sum_congr rfl fun i _ => mul_comm _ _

/-- The sum of real numbers, taken over the extended reals, is their sum. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a score that is not `+∞` is a real number that is not negative. -/
theorem exp_real (x : EReal) (h : x ≠ ⊤) : ∃ r : ℝ, 0 ≤ r ∧ Ideal.exp x = (r : EReal) := by
  induction x using EReal.rec with
  | bot => exact ⟨0, le_refl _, rfl⟩
  | top => exact absurd rfl h
  | coe r => exact ⟨Real.exp r, (Real.exp_pos r).le, rfl⟩

/-- Subtracting a real number from a score divides its exponential. -/
theorem exp_sub_real (x : EReal) (h : x ≠ ⊤) (r : ℝ) :
    Ideal.exp (x - (r : EReal)) = ((Real.exp (-r) : ℝ) : EReal) * Ideal.exp x := by
  induction x using EReal.rec with
  | bot =>
    rw [EReal.bot_sub]
    show (0 : EReal) = _ * 0
    rw [mul_zero]
  | top => exact absurd rfl h
  | coe a =>
    rw [← EReal.coe_sub]
    show ((Real.exp (a - r) : ℝ) : EReal) = _ * ((Real.exp a : ℝ) : EReal)
    rw [← EReal.coe_mul, ← Real.exp_add]
    congr 2; ring

/-- The sum of the exponentials of scores none of which is `+∞`, one of them real, is a positive real number. -/
theorem sum_exp_pos (s : ι → EReal) (hs : ∀ i, s i ≠ ⊤) (h1 : ∃ i, s i ≠ ⊥) :
    ∃ r : ℝ, 0 < r ∧ ∑ i, Ideal.exp (s i) = (r : EReal) := by
  choose f hf0 hf using fun i => exp_real (s i) (hs i)
  refine ⟨∑ i, f i, ?_, ?_⟩
  · obtain ⟨i, hi⟩ := h1
    refine Finset.sum_pos' (fun j _ => hf0 j) ⟨i, Finset.mem_univ i, ?_⟩
    have e := hf i
    revert e hi
    have ht := hs i
    generalize s i = x at *
    induction x using EReal.rec with
    | bot => intro h; exact absurd rfl h
    | top => exact absurd rfl ht
    | coe a =>
      intro _ e
      have : (Real.exp a : ℝ) = f i := by exact_mod_cast (show ((Real.exp a : ℝ) : EReal) = (f i : EReal) from e)
      rw [← this]; exact Real.exp_pos a
  · simp only [hf, coe_sum]

/-- The softmax average of the values `v` by the scores `s`. -/
def attn (s v : ι → EReal) : EReal := Ideal.div (∑ i, Ideal.exp (s i) * v i) (∑ i, Ideal.exp (s i))

/-- Both sums of a softmax average may be rescaled by one positive real number. -/
theorem div_scale (c : ℝ) (hc : 0 < c) (l : ℝ) (hl : 0 < l) (a : EReal) :
    Ideal.div ((c : EReal) * a) ((c : EReal) * (l : EReal)) = Ideal.div a (l : EReal) := by
  rw [← EReal.coe_mul, Ideal.div_coe (mul_pos hc hl).ne', Ideal.div_coe hl.ne', mul_comm (c : EReal) a, mul_assoc,
    ← EReal.coe_mul]
  congr 2; field_simp

/-- Dividing every weight by one positive real number divides the weighted sum. -/
theorem sum_div_mul (e v : ι → EReal) (l : ℝ) (hl : 0 < l) :
    ∑ i, Ideal.div (e i) (l : EReal) * v i = Ideal.div (∑ i, e i * v i) (l : EReal) := by
  have h0 : (0 : EReal) ≤ ((1 / l : ℝ) : EReal) := by exact_mod_cast (one_div_pos.2 hl).le
  rw [Ideal.div_coe hl.ne', sum_mul_of_nonneg _ h0 (EReal.coe_ne_top _)]
  refine Finset.sum_congr rfl fun i _ => ?_
  rw [Ideal.div_coe hl.ne', mul_assoc, mul_assoc, mul_comm (v i)]

/-- Scores less one real number, the whole sum divided: the softmax average. -/
theorem attn_shift (s v : ι → EReal) (hs : ∀ i, s i ≠ ⊤) (h1 : ∃ i, s i ≠ ⊥) (m : ℝ) :
    Ideal.div (∑ i, Ideal.exp (s i - (m : EReal)) * v i) (∑ i, Ideal.exp (s i - (m : EReal))) = attn s v := by
  have h0 : (0 : EReal) ≤ ((Real.exp (-m) : ℝ) : EReal) := by exact_mod_cast (Real.exp_pos _).le
  obtain ⟨l, hl, e⟩ := sum_exp_pos s hs h1
  simp only [fun i => exp_sub_real (s i) (hs i) m, mul_assoc]
  rw [← mul_sum_of_nonneg _ h0 (EReal.coe_ne_top _), ← mul_sum_of_nonneg _ h0 (EReal.coe_ne_top _), e,
    div_scale _ (Real.exp_pos _) _ hl, attn, e]

/-- Scores less one real number, each weight divided: the softmax average. -/
theorem attn_weights (s v : ι → EReal) (hs : ∀ i, s i ≠ ⊤) (h1 : ∃ i, s i ≠ ⊥) (m : ℝ) :
    ∑ i, Ideal.div (Ideal.exp (s i - (m : EReal))) (∑ j, Ideal.exp (s j - (m : EReal))) * v i = attn s v := by
  rw [← attn_shift s v hs h1 m]
  have hs' : ∀ i, s i - (m : EReal) ≠ ⊤ := fun i => by
    have := hs i
    generalize s i = x at *
    induction x using EReal.rec with
    | bot => rw [EReal.bot_sub]; exact bot_ne_top
    | top => exact absurd rfl this
    | coe a => rw [← EReal.coe_sub]; exact EReal.coe_ne_top _
  have h1' : ∃ i, s i - (m : EReal) ≠ ⊥ := by
    obtain ⟨i, hi⟩ := h1
    refine ⟨i, ?_⟩
    have := hs i
    generalize s i = x at *
    induction x using EReal.rec with
    | bot => exact absurd rfl hi
    | top => exact absurd rfl this
    | coe a => rw [← EReal.coe_sub]; exact EReal.coe_ne_bot _
  obtain ⟨l, hl, e⟩ := sum_exp_pos _ hs' h1'
  rw [e, sum_div_mul _ _ _ hl]

/-- The greatest of scores none of which is `+∞`, one of them real, is a real number. -/
theorem max_real (s : ι → EReal) (hs : ∀ i, s i ≠ ⊤) (h1 : ∃ i, s i ≠ ⊥) :
    ∃ r : ℝ, Finset.univ.fold max (⊥ : EReal) s = (r : EReal) := by
  obtain ⟨i, hi⟩ := h1
  have hlt : Finset.univ.fold max (⊥ : EReal) s ≠ ⊤ := by
    refine ne_of_lt ?_
    rw [Finset.fold_max_lt]
    exact ⟨bot_lt_top, fun j _ => lt_top_iff_ne_top.2 (hs j)⟩
  have hgt : Finset.univ.fold max (⊥ : EReal) s ≠ ⊥ := by
    refine bot_lt_iff_ne_bot.1 ?_
    rw [Finset.lt_fold_max]
    exact Or.inr ⟨i, Finset.mem_univ i, bot_lt_iff_ne_bot.2 hi⟩
  exact ⟨_, (EReal.coe_toReal hlt hgt).symm⟩

/-- The bits of `-∞` denote `-∞`. -/
theorem ofBits_neg_inf : Ideal.ofBits .f32 0xFF800000#32 = (⊥ : EReal) := by
  simp [Ideal.ofBits, Ideal.ieee]

/-- The bits of `+∞` denote `+∞`. -/
theorem ofBits_inf : Ideal.ofBits .f32 0x7F800000#32 = (⊤ : EReal) := by
  simp [Ideal.ofBits, Ideal.ieee]

/-- Bits whose exponent is not all ones denote a real number. -/
theorem ofBits_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split
  · exact ⟨_, rfl⟩
  · exact ⟨_, rfl⟩

/-- A number whose absolute value is below `+∞` is real. -/
theorem real_of_abs_lt (x : EReal) (h : max x (-x) < ⊤) : ∃ r : ℝ, x = (r : EReal) := by
  induction x using EReal.rec with
  | bot => simp at h
  | top => simp at h
  | coe a => exact ⟨a, rfl⟩

/-- A finite sum of products of real numbers is real. -/
theorem sum_mul_real {κ : Type} [Fintype κ] (f g : κ → EReal) (hf : ∀ i, ∃ r : ℝ, f i = (r : EReal))
    (hg : ∀ i, ∃ r : ℝ, g i = (r : EReal)) :
    ∃ r : ℝ, ∑ i, f i * g i = (r : EReal) := by
  choose a ha using hf
  choose b hb using hg
  refine ⟨∑ i, a i * b i, ?_⟩
  simp only [ha, hb, coe_sum, EReal.coe_mul]

end Cert.Softmax

end
-- ==== Proof.PostSpec.lean ====
/- What the post-mixing call computes, as plain sums over the rows of its arguments: the row's root-mean-square norm,
   the three gates, the attention over the memory, and the gated sum of the three projected branches, projected and
   added to the row. -/
module

public import proofs.«01_k».proof.Proof.Softmax

@[expose] public section

noncomputable section

namespace Cert.Post

open Idealize.ShloMosaic Cert.Softmax

/-- The one-over-root-128 constant of the attention's scores. -/
def scale : EReal := Ideal.ofBits .f32 0x3DB504F3#32

theorem scale_real : ∃ r : ℝ, scale = (r : EReal) := ofBits_real _ (by decide)

/-- The columns of one head. -/
def col (h : Fin 4) (d : Fin 128) : Fin 512 := ⟨128 * h.val + d.val, by omega⟩

/-- The head a column belongs to. -/
def head (c : Fin 512) : Fin 4 := ⟨c.val / 128, by omega⟩

/-- The score of a query row against one memory row, over the columns of one head. -/
def score (q : Fin 512 → EReal) (k : Fin 256 → Fin 512 → EReal) (col : Fin 128 → Fin 512) (i : Fin 256) : EReal :=
  (∑ d, q (col d) * k i (col d)) * scale

/-- Column `c` of the attention over the memory. -/
def memory (q : Fin 512 → EReal) (k v : Fin 256 → Fin 512 → EReal) (c : Fin 512) : EReal :=
  attn (score q k (col (head c))) (fun i => v i c)

/-- Scores of real queries and real keys are real. -/
theorem score_real (q : Fin 512 → EReal) (k : Fin 256 → Fin 512 → EReal) (col : Fin 128 → Fin 512)
    (hq : ∀ c, ∃ r : ℝ, q c = (r : EReal)) (hk : ∀ i c, ∃ r : ℝ, k i c = (r : EReal)) (i : Fin 256) :
    ∃ r : ℝ, score q k col i = (r : EReal) := by
  obtain ⟨a, ha⟩ := sum_mul_real (fun d => q (col d)) (fun d => k i (col d)) (fun d => hq _) (fun d => hk i _)
  obtain ⟨b, hb⟩ := scale_real
  exact ⟨a * b, by rw [score, ha, hb, EReal.coe_mul]⟩

/-- The greatest of 256 real scores is real. -/
theorem fold_real (s : Fin 256 → EReal) (hs : ∀ i, ∃ r : ℝ, s i = (r : EReal)) :
    ∃ r : ℝ, Finset.univ.fold max (Ideal.ofBits .f32 0xFF800000#32) s = (r : EReal) := by
  rw [ofBits_neg_inf]
  refine max_real s (fun i => ?_) ⟨0, ?_⟩
  · obtain ⟨r, h⟩ := hs i; rw [h]; exact EReal.coe_ne_top _
  · obtain ⟨r, h⟩ := hs 0; rw [h]; exact EReal.coe_ne_bot _

/-- Real scores less their greatest, the whole sum divided: the softmax average. -/
theorem attn_max (s v : Fin 256 → EReal) (hs : ∀ i, ∃ r : ℝ, s i = (r : EReal)) :
    Ideal.div (∑ i, Ideal.exp (s i - Finset.univ.fold max (Ideal.ofBits .f32 0xFF800000#32) s) * v i)
      (∑ i, Ideal.exp (s i - Finset.univ.fold max (Ideal.ofBits .f32 0xFF800000#32) s)) = attn s v := by
  obtain ⟨m, hm⟩ := fold_real s hs
  rw [hm]
  refine attn_shift s v (fun i => ?_) ⟨0, ?_⟩ m
  · obtain ⟨r, h⟩ := hs i; rw [h]; exact EReal.coe_ne_top _
  · obtain ⟨r, h⟩ := hs 0; rw [h]; exact EReal.coe_ne_bot _

/-- Real scores less their greatest, each weight divided and multiplied on the right: the softmax average. -/
theorem attn_max_weights (s v : Fin 256 → EReal) (hs : ∀ i, ∃ r : ℝ, s i = (r : EReal)) :
    ∑ i, v i * Ideal.div (Ideal.exp (s i - Finset.univ.fold max (Ideal.ofBits .f32 0xFF800000#32) s))
      (∑ i, Ideal.exp (s i - Finset.univ.fold max (Ideal.ofBits .f32 0xFF800000#32) s)) = attn s v := by
  obtain ⟨m, hm⟩ := fold_real s hs
  rw [hm]
  simp only [mul_comm (v _)]
  refine attn_weights s v (fun i => ?_) ⟨0, ?_⟩ m
  · obtain ⟨r, h⟩ := hs i; rw [h]; exact EReal.coe_ne_top _
  · obtain ⟨r, h⟩ := hs 0; rw [h]; exact EReal.coe_ne_bot _

/-- The root-mean-square norm of a row, with its gain. -/
def norm (x g : Fin 1024 → EReal) (c : Fin 1024) : EReal :=
  x c * Ideal.rsqrt (Ideal.div (∑ k, x k * x k) (Ideal.ofBits .f32 1149239296#32) + Ideal.ofBits .f32 897988541#32) * g c

/-- The columns of one gate. -/
def gcol (j : Fin 3) (c : Fin 1024) : Fin 3072 := ⟨1024 * j.val + c.val, by omega⟩

/-- The logistic function. -/
def sigma (z : EReal) : EReal := Ideal.div 1 (1 + Ideal.exp (-z))

/-- One gate of a normed row. -/
def gate (h : Fin 1024 → EReal) (w : Fin 1024 → Fin 3072 → EReal) (b : Fin 3072 → EReal) (c : Fin 3072) : EReal :=
  sigma (∑ k, h k * w k c + b c)

/-- A row of a branch, projected. -/
def proj (a : Fin 512 → EReal) (w : Fin 512 → Fin 1024 → EReal) (c : Fin 1024) : EReal := ∑ k, a k * w k c

/-- The gated sum of the three projected branches. -/
def merged (h : Fin 1024 → EReal) (w : Fin 1024 → Fin 3072 → EReal) (b : Fin 3072 → EReal)
    (a₀ a₁ a₂ : Fin 512 → EReal) (w₀ w₁ w₂ : Fin 512 → Fin 1024 → EReal) (c : Fin 1024) : EReal :=
  gate h w b (gcol 0 c) * proj a₀ w₀ c + gate h w b (gcol 1 c) * proj a₁ w₁ c + gate h w b (gcol 2 c) * proj a₂ w₂ c

/-- A row of the call's result. -/
def post (x : Fin 1024 → EReal) (a₀ a₁ q : Fin 512 → EReal) (k v : Fin 256 → Fin 512 → EReal) (g : Fin 1024 → EReal)
    (w : Fin 1024 → Fin 3072 → EReal) (b : Fin 3072 → EReal) (w₀ w₁ w₂ : Fin 512 → Fin 1024 → EReal)
    (wo : Fin 1024 → Fin 1024 → EReal) (c : Fin 1024) : EReal :=
  x c + ∑ e, merged (norm x g) w b a₀ a₁ (memory q k v) w₀ w₁ w₂ e * wo e c

/-- The batch row a row of the flat batch belongs to. -/
def batch (r : Fin 16384) : Fin 4 := ⟨r.val / 4096, by omega⟩

/-- The memory row of a batch row. -/
def mrow (b : Fin 4) (i : Fin 256) : Fin 1024 := ⟨256 * b.val + i.val, by omega⟩

/-- The columns of the projection that the gates use. -/
def gateCol (c : Fin 3072) : Fin 6144 := ⟨3072 + c.val, by omega⟩

end Cert.Post

end
-- ==== Proof.FfnSpec.lean ====
/- The feed-forward call's mathematics, for one row: the normed row is projected up, each column passes a causal
   convolution over three rows, the first half of the columns is gated and multiplied with the second, and the product is
   projected down and added to the row. -/
module

public import proofs.«01_k».proof.Proof.PostSpec
public import Idealize.ShloMosaic.Lib.Pointwise.Sums

@[expose] public section

noncomputable section

open Idealize.ShloMosaic

namespace Cert.FeedForward

open Cert.Post

/-- A normed row, projected up. -/
def up (x g : Fin 1024 → EReal) (w : Fin 1024 → Fin 5632 → EReal) (c : Fin 5632) : EReal := ∑ k, norm x g k * w k c

/-- The convolution over the row before last, the row before and the row itself. -/
def conv (w : Fin 3 → Fin 5632 → EReal) (b u₀ u₁ u₂ : Fin 5632 → EReal) (c : Fin 5632) : EReal :=
  b c + w 0 c * u₀ c + w 1 c * u₁ c + w 2 c * u₂ c

/-- The columns of the first and of the second half. -/
def left (e : Fin 2816) : Fin 5632 := ⟨e.val, by omega⟩
def right (e : Fin 2816) : Fin 5632 := ⟨2816 + e.val, by omega⟩

/-- The gated product of the two halves. -/
def act (z : Fin 5632 → EReal) (e : Fin 2816) : EReal := z (left e) * sigma (z (left e)) * z (right e)

/-- A row of the call's result, from the row and its convolved columns. -/
def down (x : Fin 1024 → EReal) (z : Fin 5632 → EReal) (w : Fin 2816 → Fin 1024 → EReal) (c : Fin 1024) : EReal :=
  x c + ∑ e, act z e * w e c

/-- The two halves of the contracted axis. -/
def half (j : Fin 2) (e : Fin 1408) : Fin 2816 := ⟨1408 * j.val + e.val, by omega⟩

/-- The sum over the contracted axis, half by half. -/
theorem sum_halves (f : Fin 2816 → EReal) : ∑ e, f e = ∑ e, f (half 0 e) + ∑ e, f (half 1 e) := by
  refine (Fin.sum_univ_two_halves 1408 1408 rfl f).trans (congrArg₂ (· + ·) (Finset.sum_congr rfl fun e _ => congrArg f (Fin.ext ?_))
    (Finset.sum_congr rfl fun e _ => congrArg f (Fin.ext ?_)))
  · show e.val = 1408 * 0 + e.val
    omega
  · show 1408 + e.val = 1408 * 1 + e.val
    omega

theorem down_halves (x : Fin 1024 → EReal) (z : Fin 5632 → EReal) (w : Fin 2816 → Fin 1024 → EReal) (c : Fin 1024) :
    down x z w c = x c + ∑ e, act z (half 0 e) * w (half 0 e) c + ∑ e, act z (half 1 e) * w (half 1 e) c := by
  rw [down, sum_halves, add_assoc]

end Cert.FeedForward

end
-- ==== Proof.FfnBody.lean ====
/- The feed-forward call's body, value by value: each vector it computes, read at a row and a column, is the plain
   formula of `FfnSpec` of the rows it was given. -/
module

public import proofs.«01_k».proof.Proof.Gen.FfnIdeal.Skeleton
public import proofs.«01_k».proof.Proof.FfnSpec
public import Idealize.ShloMosaic.Lib.WritesUnit

@[expose] public section

set_option maxRecDepth 16384

noncomputable section

open Idealize.ShloMosaic Idealize.ShloMosaic.TcCoe Idealize.SL.Sem

namespace Cert.FfnIdeal.Value

open Cert.FfnIdeal Cert.FfnIdeal.Gen Cert.Post Cert.FeedForward

section ups

variable (x0 : Vec Ideal S256x1024 .f32) (x1 : Vec Ideal S1x1024 .f32)

/-- The normed row. -/
theorem hn_at (r : Fin 256) (c : Fin 1024) :
    k0_pay4 (F := Ideal) x0 x1 (ix2 r c) = norm (fun c => x0 (ix2 r c)) (fun c => x1 (ix2 0 c)) c := by
  pointwise [k0_pay4]
  rfl

variable (w : Vec Ideal S1024x1408 .bf16) (r : Fin 256) (c : Fin 1408)

theorem up0_at : k0_pay6 (F := Ideal) x0 x1 w (ix2 r c)
    = ∑ k, norm (fun c => x0 (ix2 r c)) (fun c => x1 (ix2 0 c)) k * w (ix2 k c) := by
  have h := hn_at x0 x1 r
  generalize e : k0_pay4 (F := Ideal) x0 x1 = p at *
  pointwise [k0_pay6, e, h]
theorem up1_at : k0_pay7 (F := Ideal) x0 x1 w (ix2 r c)
    = ∑ k, norm (fun c => x0 (ix2 r c)) (fun c => x1 (ix2 0 c)) k * w (ix2 k c) := by
  have h := hn_at x0 x1 r
  generalize e : k0_pay4 (F := Ideal) x0 x1 = p at *
  pointwise [k0_pay7, e, h]
theorem up2_at : k0_pay9 (F := Ideal) (k0_pay4 x0 x1) (k0_pay8 w) (constant S256x1408 .f32 0#32) (ix2 r c)
    = ∑ k, norm (fun c => x0 (ix2 r c)) (fun c => x1 (ix2 0 c)) k * w (ix2 k c) := by
  have h := hn_at x0 x1 r
  generalize e : k0_pay4 (F := Ideal) x0 x1 = p at *
  pointwise [k0_pay9, k0_pay8, h]
theorem up3_at : k0_pay10 (F := Ideal) (k0_pay4 x0 x1) w (ix2 r c)
    = ∑ k, norm (fun c => x0 (ix2 r c)) (fun c => x1 (ix2 0 c)) k * w (ix2 k c) := by
  have h := hn_at x0 x1 r
  generalize e : k0_pay4 (F := Ideal) x0 x1 = p at *
  pointwise [k0_pay10, h]

end ups

section convs

variable (b w0 w1 w2 : Vec Ideal S1x1408 .f32) (u0 u1 u2 : Vec Ideal S256x1408 .f32) (r : Fin 256) (e : Fin 1408)

/-- One column of the convolution. -/
def cv : EReal := b (ix2 0 e) + w0 (ix2 0 e) * u0 (ix2 r e) + w1 (ix2 0 e) * u1 (ix2 r e) + w2 (ix2 0 e) * u2 (ix2 r e)

theorem conv0_at : k0_pay11 (F := Ideal) b w0 u0 w1 u1 w2 u2 (ix2 r e) = cv b w0 w1 w2 u0 u1 u2 r e := by
  pointwise [k0_pay11]
  rfl

variable (b' w0' w1' w2' : Vec Ideal S1x1408 .f32) (u0' u1' u2' : Vec Ideal S256x1408 .f32)

theorem first_at (x : Vec Ideal S256x1024 .f32) (a : FVec Ideal S256x1408 .f32) (wd : Vec Ideal S1408x1024 .bf16) (c : Fin 1024) :
    k0_pay13 (F := Ideal) x a (k0_pay12 b) w0 u0 w1 u1 w2 u2 wd (ix2 r c)
      = x (ix2 r c) + ∑ e, a (ix2 r e) * sigma (a (ix2 r e)) * cv b w0 w1 w2 u0 u1 u2 r e * wd (ix2 e c) := by
  pointwise [k0_pay13, k0_pay12]
  simp only [zero_sub]
  rfl

theorem act1_at : k0_pay15 (F := Ideal) (k0_pay14 b w0 u0) w1 u1 w2 u2 b' w0' u0' w1' u1' w2' u2' (ix2 r e)
    = cv b w0 w1 w2 u0 u1 u2 r e * sigma (cv b w0 w1 w2 u0 u1 u2 r e) * cv b' w0' w1' w2' u0' u1' u2' r e := by
  pointwise [k0_pay15, k0_pay14]
  simp only [zero_sub]
  rfl

theorem last_at (a : FVec Ideal S256x1024 .f32) (z : FVec Ideal S256x1408 .bf16) (wd : Vec Ideal S1408x1024 .bf16) (c : Fin 1024) :
    k0_pay1 (F := Ideal) a z wd (ix2 r c) = a (ix2 r c) + ∑ e, z (ix2 r e) * wd (ix2 e c) := by
  pointwise [k0_pay1]

end convs

end Cert.FfnIdeal.Value

end
-- ==== Proof.FfnRows.lean ====
/- The feed-forward call's scratch: eight rows of the tile before, then the tile's own projected rows. Each store and
   each load of it is read here at a row and a column. -/
module

public import proofs.«01_k».proof.Proof.FfnBody
public import Idealize.ShloMosaic.Lib.Pipeline.ValueKit

@[expose] public section

set_option maxRecDepth 16384

noncomputable section

open Idealize.ShloMosaic Idealize.ShloMosaic.TcCoe Idealize.SL.Sem

namespace Cert.FfnIdeal.Value

open Cert.FfnIdeal Cert.FfnIdeal.Gen Cert.Post Cert.FeedForward

/-- Some columns of a block, from column `q` on. -/
theorem ld_cols {N M a b : ℕ} {e : EltTy} (X : Vec Ideal (⟨2, ![N, M]⟩ : Shape) e) (o q : ℕ)
    (inb : ∀ x, (![o, q] : Fin 2 → ℕ) x + (![a, b] : Fin 2 → ℕ) x ≤ (⟨2, ![N, M]⟩ : Shape).size x) (i : Fin a) (j : Fin b)
    (R : Fin N) (C : Fin M) (hR : R.val = o + i.val) (hC : C.val = q + j.val) :
    View.ld X (Rect.unit (s := ⟨2, ![N, M]⟩) ![o, q] ![a, b] inb) (ix2 i j) = X (ix2 R C) :=
  congrArg X (funext fun x => Fin.ext (by
    match x with
    | ⟨0, _⟩ => show o + 1 * i.val = R.val; omega
    | ⟨1, _⟩ => show q + 1 * j.val = C.val; omega))

variable (x0 : Vec Ideal S256x1024 .f32) (x1 : Vec Ideal S1x1024 .f32) (x2 : Vec Ideal S1024x5632 .bf16)

/-- The tile's projected rows. -/
def ups (r : Fin 256) (c : Fin 5632) : EReal :=
  up (fun k => x0 (ix2 r k)) (fun k => x1 (ix2 0 k)) (fun k c => x2 (ix2 k c)) c

/-- Row `n` of the scratch: the eight rows before the tile, then the tile's. -/
def past (h : Fin 8 → Fin 5632 → EReal) (u : Fin 256 → Fin 5632 → EReal) (n : Fin 264) (c : Fin 5632) : EReal :=
  if hn : n.val < 8 then h ⟨n.val, hn⟩ c else u ⟨n.val - 8, by omega⟩ c

/-- The four stores of the projected rows, the newest first. -/
abbrev stores : List (View.Piece (Elt Ideal) S264x5632 .f32) :=
  [⟨Rect.unit ![8, 4224] ![256, 1408] inb_S264x5632_S256x1408_8_4224,
      k0_pay10 (F := Ideal) (k0_pay4 x0 x1) (View.ld x2 (Rect.unit ![0, 4224] ![1024, 1408] inb_S1024x5632_S1024x1408_0_4224))⟩,
   ⟨Rect.unit ![8, 2816] ![256, 1408] inb_S264x5632_S256x1408_8_2816,
      k0_pay9 (F := Ideal) (k0_pay4 x0 x1) (k0_pay8 (View.ld x2 (Rect.unit ![0, 2816] ![1024, 1408] inb_S1024x5632_S1024x1408_0_2816)))
        (constant S256x1408 FTy.f32 0#32)⟩,
   ⟨Rect.unit ![8, 1408] ![256, 1408] inb_S264x5632_S256x1408_8_1408,
      k0_pay7 (F := Ideal) x0 x1 (View.ld x2 (Rect.unit ![0, 1408] ![1024, 1408] inb_S1024x5632_S1024x1408_0_1408))⟩,
   ⟨Rect.unit ![8, 0] ![256, 1408] inb_S264x5632_S256x1408_8_0,
      k0_pay6 (F := Ideal) x0 x1 (View.ld x2 (Rect.unit ![0, 0] ![1024, 1408] inb_S1024x5632_S1024x1408_0_0))⟩]

/-- The stores, and before them the zeros at a sequence's start. -/
abbrev storesZero : List (View.Piece (Elt Ideal) S264x5632 .f32) :=
  stores x0 x1 x2 ++ [⟨Rect.unit ![0, 0] ![8, 5632] inb_S264x5632_S8x5632_0_0, k0_pay5 (F := Ideal)⟩]

section read

variable (f : (View.whole cc0_scratch0).ty.Contents (Elt Ideal))

/-- A row of the eight is not touched by the stores. -/
theorem read_old (n : Fin 264) (c : Fin 5632) (hn : n.val < 8) :
    (View.whole cc0_scratch0).read (Elt Ideal) ((View.whole cc0_scratch0).writes (Elt Ideal) f (stores x0 x1 x2)) (ix2 n c)
      = (View.whole cc0_scratch0).read (Elt Ideal) f (ix2 n c) := by
  rw [View.read_writes_cons_unit_of_not_mem _ _ _ _ _ _ rfl 0 (Or.inl (by show n.val < 8; omega)),
    View.read_writes_cons_unit_of_not_mem _ _ _ _ _ _ rfl 0 (Or.inl (by show n.val < 8; omega)),
    View.read_writes_cons_unit_of_not_mem _ _ _ _ _ _ rfl 0 (Or.inl (by show n.val < 8; omega)),
    View.read_writes_cons_unit_of_not_mem _ _ _ _ _ _ rfl 0 (Or.inl (by show n.val < 8; omega))]
  rfl

/-- A tile's row reads what was stored there. -/
theorem read_new (r : Fin 256) (n : Fin 264) (c : Fin 5632) (hn : n.val = 8 + r.val) :
    (View.whole cc0_scratch0).read (Elt Ideal) ((View.whole cc0_scratch0).writes (Elt Ideal) f (stores x0 x1 x2)) (ix2 n c)
      = ups x0 x1 x2 r c := by
  by_cases h3 : 4224 ≤ c.val
  · rw [View.read_writes_cons_unit_of_mem _ _ _ _ _ _ (ix2 r ⟨c.val - 4224, by omega⟩) rfl
      (fun a => by match a with | ⟨0, _⟩ => exact hn | ⟨1, _⟩ => show c.val = 4224 + (c.val - 4224); omega), up3_at]
    show _ = ∑ k, norm (fun k => x0 (ix2 r k)) (fun k => x1 (ix2 0 k)) k * x2 (ix2 k c)
    exact Finset.sum_congr rfl fun k _ => congrArg (norm (fun k => x0 (ix2 r k)) (fun k => x1 (ix2 0 k)) k * ·) (ld_cols x2 0 4224 _ k (⟨c.val - 4224, by omega⟩ : Fin 1408) k c (by omega) (by show c.val = 4224 + (c.val - 4224); omega))
  rw [View.read_writes_cons_unit_of_not_mem _ _ _ _ _ _ rfl 1 (Or.inl (by show c.val < 4224; omega))]
  by_cases h2 : 2816 ≤ c.val
  · rw [View.read_writes_cons_unit_of_mem _ _ _ _ _ _ (ix2 r ⟨c.val - 2816, by omega⟩) rfl
      (fun a => by match a with | ⟨0, _⟩ => exact hn | ⟨1, _⟩ => show c.val = 2816 + (c.val - 2816); omega), up2_at]
    show _ = ∑ k, norm (fun k => x0 (ix2 r k)) (fun k => x1 (ix2 0 k)) k * x2 (ix2 k c)
    exact Finset.sum_congr rfl fun k _ => congrArg (norm (fun k => x0 (ix2 r k)) (fun k => x1 (ix2 0 k)) k * ·) (ld_cols x2 0 2816 _ k (⟨c.val - 2816, by omega⟩ : Fin 1408) k c (by omega) (by show c.val = 2816 + (c.val - 2816); omega))
  rw [View.read_writes_cons_unit_of_not_mem _ _ _ _ _ _ rfl 1 (Or.inl (by show c.val < 2816; omega))]
  by_cases h1 : 1408 ≤ c.val
  · rw [View.read_writes_cons_unit_of_mem _ _ _ _ _ _ (ix2 r ⟨c.val - 1408, by omega⟩) rfl
      (fun a => by match a with | ⟨0, _⟩ => exact hn | ⟨1, _⟩ => show c.val = 1408 + (c.val - 1408); omega), up1_at]
    show _ = ∑ k, norm (fun k => x0 (ix2 r k)) (fun k => x1 (ix2 0 k)) k * x2 (ix2 k c)
    exact Finset.sum_congr rfl fun k _ => congrArg (norm (fun k => x0 (ix2 r k)) (fun k => x1 (ix2 0 k)) k * ·) (ld_cols x2 0 1408 _ k (⟨c.val - 1408, by omega⟩ : Fin 1408) k c (by omega) (by show c.val = 1408 + (c.val - 1408); omega))
  rw [View.read_writes_cons_unit_of_not_mem _ _ _ _ _ _ rfl 1 (Or.inl (by show c.val < 1408; omega)),
    View.read_writes_cons_unit_of_mem _ _ _ _ _ _ (ix2 r ⟨c.val, by omega⟩) rfl
      (fun a => by match a with | ⟨0, _⟩ => exact hn | ⟨1, _⟩ => show c.val = 0 + c.val; omega), up0_at]
  show _ = ∑ k, norm (fun k => x0 (ix2 r k)) (fun k => x1 (ix2 0 k)) k * x2 (ix2 k c)
  exact Finset.sum_congr rfl fun k _ => congrArg (norm (fun k => x0 (ix2 r k)) (fun k => x1 (ix2 0 k)) k * ·) (ld_cols x2 0 0 _ k (⟨c.val, by omega⟩ : Fin 1408) k c (by omega) (by show c.val = 0 + c.val; omega))

theorem read_past (h : Fin 8 → Fin 5632 → EReal)
    (hf : ∀ (n : Fin 264) (hn : n.val < 8) c, (View.whole cc0_scratch0).read (Elt Ideal) f (ix2 n c) = h ⟨n.val, hn⟩ c)
    (n : Fin 264) (c : Fin 5632) :
    (View.whole cc0_scratch0).read (Elt Ideal) ((View.whole cc0_scratch0).writes (Elt Ideal) f (stores x0 x1 x2)) (ix2 n c)
      = past h (ups x0 x1 x2) n c := by
  unfold past
  split
  · next hn => exact (read_old x0 x1 x2 f n c hn).trans (hf n hn c)
  · next hn => exact read_new x0 x1 x2 f _ n c (by show n.val = 8 + (n.val - 8); omega)

end read

/-- A load of 256 rows when the eight rows before the tile were zeroed. -/
theorem load_zero (o q : ℕ) (inb : ∀ a, ![o, q] a + (![256, 1408] : Fin 2 → ℕ) a ≤ S264x5632.size a) (r : Fin 256) (e : Fin 1408)
    (n : Fin 264) (c : Fin 5632) (hn : n.val = o + r.val) (hc : c.val = q + e.val) :
    (View.whole cc0_scratch0).readCov (storesZero x0 x1 x2) (Rect.unit (s := S264x5632) ![o, q] ![256, 1408] inb).toLoadRect (ix2 r e)
      = past (fun _ _ => 0) (ups x0 x1 x2) n c := by
  have e : (Rect.unit (s := S264x5632) ![o, q] ![256, 1408] inb).toLoadRect.idx (ix2 r e) = ix2 n c :=
    funext fun a => Fin.ext (by
      match a with
      | ⟨0, _⟩ => show o + 1 * r.val = n.val; omega
      | ⟨1, _⟩ => show q + 1 * e.val = c.val; omega)
  unfold View.readCov
  rw [View.readAt_apply, e]
  refine read_past x0 x1 x2 ((View.whole cc0_scratch0).writes (Elt Ideal) (View.whole cc0_scratch0).junk
    [⟨Rect.unit ![0, 0] ![8, 5632] inb_S264x5632_S8x5632_0_0, k0_pay5 (F := Ideal)⟩]) _ (fun n hn c => ?_) n c
  rw [View.read_writes_cons_unit_of_mem _ _ _ _ _ _ (ix2 ⟨n.val, hn⟩ c) rfl
      (fun a => by match a with | ⟨0, _⟩ => show n.val = 0 + n.val; omega | ⟨1, _⟩ => show c.val = 0 + c.val; omega)]
  pointwise [k0_pay5]

/-- A load of the tile's own rows. -/
theorem load_own (h : Fin 8 → Fin 5632 → EReal) (q : ℕ) (inb : ∀ a, ![8, q] a + (![256, 1408] : Fin 2 → ℕ) a ≤ S264x5632.size a)
    (r : Fin 256) (e : Fin 1408) (n : Fin 264) (c : Fin 5632) (hn : n.val = 8 + r.val) (hc : c.val = q + e.val) :
    (View.whole cc0_scratch0).readCov (stores x0 x1 x2) (Rect.unit (s := S264x5632) ![8, q] ![256, 1408] inb).toLoadRect (ix2 r e)
      = past h (ups x0 x1 x2) n c := by
  have e : (Rect.unit (s := S264x5632) ![8, q] ![256, 1408] inb).toLoadRect.idx (ix2 r e) = ix2 n c :=
    funext fun a => Fin.ext (by
      match a with
      | ⟨0, _⟩ => show 8 + 1 * r.val = n.val; omega
      | ⟨1, _⟩ => show q + 1 * e.val = c.val; omega)
  unfold View.readCov
  rw [View.readAt_apply, e, read_new x0 x1 x2 _ r n c hn, past, dif_neg (by omega)]
  exact congrArg (ups x0 x1 x2 · c) (Fin.ext (by show r.val = n.val - 8; omega))

/-- A load that begins in the eight rows before the tile. -/
theorem load_past (f : (View.whole cc0_scratch0).ty.Contents (Elt Ideal)) (p : Vec Ideal S264x5632 .f32)
    (hf : (View.whole cc0_scratch0).read (Elt Ideal) f = p) (o q : ℕ)
    (inb : ∀ a, ![o, q] a + (![256, 1408] : Fin 2 → ℕ) a ≤ S264x5632.size a)
    (r : Fin 256) (e : Fin 1408) (n : Fin 264) (c : Fin 5632) (hn : n.val = o + r.val) (hc : c.val = q + e.val) :
    View.ld (View.read (Elt Ideal) (View.whole cc0_scratch0) ((View.whole cc0_scratch0).writes (Elt Ideal) f (stores x0 x1 x2)))
        (Rect.unit (s := S264x5632) ![o, q] ![256, 1408] inb) (ix2 r e)
      = past (fun i c => p (ix2 ⟨i.val, by omega⟩ c)) (ups x0 x1 x2) n c :=
  (ld_cols _ o q inb r e n c hn hc).trans (read_past x0 x1 x2 f _ (fun n hn c => congrFun hf _) n c)

theorem pay3_at (y : Vec Ideal S8x5632 .f32) (i : Fin 8) (c : Fin 5632) : k0_pay3 (F := Ideal) y (ix2 i c) = y (ix2 i c) := by
  pointwise [k0_pay3]

/-- The last eight rows, moved to the front. -/
theorem moved (L : List (View.Piece (Elt Ideal) S264x5632 .f32)) (i : Fin 264) (hi : i.val < 8) (c : Fin 5632) (n : Fin 264)
    (hn : n.val = 256 + i.val) (v : EReal)
    (hv : (View.whole cc0_scratch0).read (Elt Ideal) ((View.whole cc0_scratch0).writes (Elt Ideal) (View.whole cc0_scratch0).junk L) (ix2 n c) = v) :
    View.canon (⟨Rect.unit ![0, 0] ![8, 5632] inb_S264x5632_S8x5632_0_0, k0_pay3 (F := Ideal) ((View.whole cc0_scratch0).readCov L
        (Rect.unit (s := S264x5632) ![256, 0] ![8, 5632] inb_S264x5632_S8x5632_256_0).toLoadRect)⟩ :: L) (ix2 i c) = v := by
  have e : (Rect.unit (s := S264x5632) ![256, 0] ![8, 5632] inb_S264x5632_S8x5632_256_0).toLoadRect.idx (ix2 ⟨i.val, hi⟩ c) = ix2 n c :=
    funext fun a => Fin.ext (by
      match a with
      | ⟨0, _⟩ => show 256 + 1 * i.val = n.val; omega
      | ⟨1, _⟩ => show 0 + 1 * c.val = c.val; omega)
  rw [← View.read_writes_junk_eq_canon (View.whole cc0_scratch0),
    View.read_writes_cons_unit_of_mem _ _ _ _ _ _ (ix2 ⟨i.val, hi⟩ c) rfl
      (fun a => by match a with | ⟨0, _⟩ => show i.val = 0 + i.val; omega | ⟨1, _⟩ => show c.val = 0 + c.val; omega)]
  rw [pay3_at]
  unfold View.readCov
  rw [View.readAt_apply, e]
  exact hv

end Cert.FfnIdeal.Value

end
-- ==== Proof.FfnTile.lean ====
/- The feed-forward call's grid points: what each leaves in its block of the rows, in the scratch and in the tail. -/
module

public import proofs.«01_k».proof.Proof.Gen.FfnIdeal.Value
public import proofs.«01_k».proof.Proof.FfnRows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.Post Cert.FeedForward

section tile

variable (x3 : Vec Ideal S3x5632 .f32) (x4 : Vec Ideal S1x5632 .f32)

/-- The scratch row that tap `j` reads for the tile's row `r`. -/
def tapRow (j : Fin 3) (r : Fin 256) : Fin 264 := ⟨6 + j.val + r.val, by omega⟩

/-- The tile's convolved rows, from the scratch's rows. -/
def mixed (s : Fin 264 → Fin 5632 → EReal) (r : Fin 256) (c : Fin 5632) : EReal :=
  conv (fun j c => x3 (ix2 j c)) (fun c => x4 (ix2 0 c)) (s (tapRow 0 r)) (s (tapRow 1 r)) (s (tapRow 2 r)) c

/-- One column of the convolution, from what its seven loads read. -/
theorem cv_eq (s : Fin 264 → Fin 5632 → EReal) (b w0 w1 w2 : Vec Ideal S1x1408 .f32) (u0 u1 u2 : Vec Ideal S256x1408 .f32)
    (r : Fin 256) (e : Fin 1408) (c : Fin 5632) (hb : b (ix2 0 e) = x4 (ix2 0 c)) (h0 : w0 (ix2 0 e) = x3 (ix2 0 c))
    (h1 : w1 (ix2 0 e) = x3 (ix2 1 c)) (h2 : w2 (ix2 0 e) = x3 (ix2 2 c)) (k0 : u0 (ix2 r e) = s (tapRow 0 r) c)
    (k1 : u1 (ix2 r e) = s (tapRow 1 r) c) (k2 : u2 (ix2 r e) = s (tapRow 2 r) c) :
    cv b w0 w1 w2 u0 u1 u2 r e = mixed x3 x4 s r c := by
  rw [cv, hb, h0, h1, h2, k0, k1, k2]
  rfl

/-- The tile's result from its four convolutions. -/
theorem tile_at (s : Fin 264 → Fin 5632 → EReal) (x : Vec Ideal S256x1024 .f32) (x5 : Vec Ideal S2816x1024 .bf16)
    (b w0 w1 w2 : Vec Ideal S1x1408 .f32) (u0 u1 u2 : Vec Ideal S256x1408 .f32)
    (b' w0' w1' w2' : Vec Ideal S1x1408 .f32) (u0' u1' u2' : Vec Ideal S256x1408 .f32)
    (c v0 v1 v2 : Vec Ideal S1x1408 .f32) (p0 p1 p2 : Vec Ideal S256x1408 .f32)
    (c' v0' v1' v2' : Vec Ideal S1x1408 .f32) (p0' p1' p2' : Vec Ideal S256x1408 .f32)
    (d d' : Vec Ideal S1408x1024 .bf16) (r : Fin 256) (k : Fin 1024)
    (h1 : ∀ e, cv b w0 w1 w2 u0 u1 u2 r e = mixed x3 x4 s r (left (half 0 e)))
    (h2 : ∀ e, cv b' w0' w1' w2' u0' u1' u2' r e = mixed x3 x4 s r (right (half 0 e)))
    (h3 : ∀ e, cv c v0 v1 v2 p0 p1 p2 r e = mixed x3 x4 s r (left (half 1 e)))
    (h4 : ∀ e, cv c' v0' v1' v2' p0' p1' p2' r e = mixed x3 x4 s r (right (half 1 e)))
    (h5 : ∀ e, d (ix2 e k) = x5 (ix2 (half 0 e) k)) (h6 : ∀ e, d' (ix2 e k) = x5 (ix2 (half 1 e) k)) :
    k0_pay1 (F := Ideal) (k0_pay13 x (k0_pay11 b w0 u0 w1 u1 w2 u2) (k0_pay12 b') w0' u0' w1' u1' w2' u2' d)
        (k0_pay15 (k0_pay14 c v0 p0) v1 p1 v2 p2 c' v0' p0' v1' p1' v2' p2') d' (ix2 r k)
      = down (fun k => x (ix2 r k)) (mixed x3 x4 s r) (fun e k => x5 (ix2 e k)) k := by
  rw [last_at, first_at, down_halves]
  simp only [act1_at, conv0_at, h1, h2, h3, h4, h5, h6]
  rfl

end tile

variable (m : (ℓ : Loc nD τ sig) → Buf (Elt Ideal) ℓ)

theorem q0 (e : Fin 1408) : (left (half 0 e)).val = 0 + e.val := rfl
theorem q1 (e : Fin 1408) : (left (half 1 e)).val = 1408 + e.val := rfl
theorem q2 (e : Fin 1408) : (right (half 0 e)).val = 2816 + e.val := by
  show 2816 + (1408 * 0 + e.val) = _
  omega
theorem q3 (e : Fin 1408) : (right (half 1 e)).val = 4224 + e.val := by
  show 2816 + (1408 * 1 + e.val) = _
  omega

/-- The projected rows of point `t`'s block. -/
abbrev U (c : Dev nD) (t : Fin cfg0.N) (r : Fin 256) (e : Fin 5632) : EReal :=
  ups (iblk m c 0 t) (iblk m c 1 t) (iblk m c 2 t) r e

/-- Point `t`'s block of the result, from the eight rows before it. -/
abbrev tile (c : Dev nD) (t : Fin cfg0.N) (h : Fin 8 → Fin 5632 → EReal) (r : Fin 256) (k : Fin 1024) : EReal :=
  down (fun k => (iblk m c 0 t : Vec Ideal S256x1024 .f32) (ix2 r k))
    (mixed (iblk m c 3 t) (iblk m c 4 t) (past h (U m c t)) r)
    (fun e k => (iblk m c 5 t : Vec Ideal S2816x1024 .bf16) (ix2 e k)) k

/-- The block of a sequence's first point: the eight rows before it are zeros. -/
theorem y_first (c : Dev nD) (t : Fin cfg0.N) (h0 : t.val % 16 = 0) (h1 : ¬t.val % 16 = 15) (r : Fin 256) (k : Fin 1024) :
    (outsAt0 m c t.val t.isLt).1 (ix2 r k) = tile m c t (fun _ _ => 0) r k := by
  rw [outsAt0_A m c t h0 h1]
  frame_out
  refine tile_at (iblk m c 3 t) (iblk m c 4 t) (past (fun _ _ => 0) (U m c t)) _ (iblk m c 5 t) _ _ _ _ _ _ _ _ _ _ _ _ _ _ _ _ _ _ _ _ _ _ _ _ _ _ _ _ _ _ r k
    (fun e => ?_) (fun e => ?_) (fun e => ?_) (fun e => ?_) (fun e => ?_) (fun e => ?_)
  · exact cv_eq _ _ _ _ _ _ _ _ _ _ r e _ (ld_cols _ 0 0 _ 0 e 0 _ rfl (q0 e)) (ld_cols _ 0 0 _ 0 e 0 _ rfl (q0 e))
      (ld_cols _ 1 0 _ 0 e 1 _ rfl (q0 e)) (ld_cols _ 2 0 _ 0 e 2 _ rfl (q0 e))
      (load_zero _ _ _ 6 0 _ r e _ _ rfl (q0 e)) (load_zero _ _ _ 7 0 _ r e _ _ rfl (q0 e))
      (load_zero _ _ _ 8 0 _ r e _ _ rfl (q0 e))
  · exact cv_eq _ _ _ _ _ _ _ _ _ _ r e _ (ld_cols _ 0 2816 _ 0 e 0 _ rfl (q2 e)) (ld_cols _ 0 2816 _ 0 e 0 _ rfl (q2 e))
      (ld_cols _ 1 2816 _ 0 e 1 _ rfl (q2 e)) (ld_cols _ 2 2816 _ 0 e 2 _ rfl (q2 e))
      (load_zero _ _ _ 6 2816 _ r e _ _ rfl (q2 e)) (load_zero _ _ _ 7 2816 _ r e _ _ rfl (q2 e))
      (load_zero _ _ _ 8 2816 _ r e _ _ rfl (q2 e))
  · exact cv_eq _ _ _ _ _ _ _ _ _ _ r e _ (ld_cols _ 0 1408 _ 0 e 0 _ rfl (q1 e)) (ld_cols _ 0 1408 _ 0 e 0 _ rfl (q1 e))
      (ld_cols _ 1 1408 _ 0 e 1 _ rfl (q1 e)) (ld_cols _ 2 1408 _ 0 e 2 _ rfl (q1 e))
      (load_zero _ _ _ 6 1408 _ r e _ _ rfl (q1 e)) (load_zero _ _ _ 7 1408 _ r e _ _ rfl (q1 e))
      (load_zero _ _ _ 8 1408 _ r e _ _ rfl (q1 e))
  · exact cv_eq _ _ _ _ _ _ _ _ _ _ r e _ (ld_cols _ 0 4224 _ 0 e 0 _ rfl (q3 e)) (ld_cols _ 0 4224 _ 0 e 0 _ rfl (q3 e))
      (ld_cols _ 1 4224 _ 0 e 1 _ rfl (q3 e)) (ld_cols _ 2 4224 _ 0 e 2 _ rfl (q3 e))
      (load_zero _ _ _ 6 4224 _ r e _ _ rfl (q3 e)) (load_zero _ _ _ 7 4224 _ r e _ _ rfl (q3 e))
      (load_zero _ _ _ 8 4224 _ r e _ _ rfl (q3 e))
  · exact ld_cols _ 0 0 _ _ _ _ _ (by show 1408 * 0 + e.val = _; omega) (by omega)
  · exact ld_cols _ 1408 0 _ _ _ _ _ (by show 1408 * 1 + e.val = _; omega) (by omega)

/-- The first eight rows of the scratch before a point that is not a sequence's first. -/
abbrev older (c : Dev nD) (t : Fin cfg0.N) (h0 : ¬t.val % 16 = 0) (i : Fin 8) (e : Fin 5632) : EReal :=
  (outsAt0 m c (t.val - 1) (by omega)).2.2 (ix2 ⟨i.val, by omega⟩ e)

/-- The block of a point within a sequence. -/
theorem y_inner (c : Dev nD) (t : Fin cfg0.N) (h0 : ¬t.val % 16 = 0) (h1 : ¬t.val % 16 = 15) (r : Fin 256) (k : Fin 1024) :
    (outsAt0 m c t.val t.isLt).1 (ix2 r k) = tile m c t (older m c t h0) r k := by
  rw [outsAt0_B m c t h0 h1]
  frame_out
  refine tile_at (iblk m c 3 t) (iblk m c 4 t) (past (older m c t h0) (U m c t)) _ (iblk m c 5 t) _ _ _ _ _ _ _ _ _ _ _ _ _ _ _ _ _ _ _ _ _ _ _ _ _ _ _ _ _ _ r k
    (fun e => ?_) (fun e => ?_) (fun e => ?_) (fun e => ?_) (fun e => ?_) (fun e => ?_)
  · exact cv_eq _ _ _ _ _ _ _ _ _ _ r e _ (ld_cols _ 0 0 _ 0 e 0 _ rfl (q0 e)) (ld_cols _ 0 0 _ 0 e 0 _ rfl (q0 e))
      (ld_cols _ 1 0 _ 0 e 1 _ rfl (q0 e)) (ld_cols _ 2 0 _ 0 e 2 _ rfl (q0 e))
      (load_past _ _ _ _ _ (Memref.IsWhole.read_unread _ _) 6 0 _ r e _ _ rfl (q0 e)) (load_past _ _ _ _ _ (Memref.IsWhole.read_unread _ _) 7 0 _ r e _ _ rfl (q0 e))
      (load_own _ _ _ _ 0 _ r e _ _ rfl (q0 e))
  · exact cv_eq _ _ _ _ _ _ _ _ _ _ r e _ (ld_cols _ 0 2816 _ 0 e 0 _ rfl (q2 e)) (ld_cols _ 0 2816 _ 0 e 0 _ rfl (q2 e))
      (ld_cols _ 1 2816 _ 0 e 1 _ rfl (q2 e)) (ld_cols _ 2 2816 _ 0 e 2 _ rfl (q2 e))
      (load_past _ _ _ _ _ (Memref.IsWhole.read_unread _ _) 6 2816 _ r e _ _ rfl (q2 e)) (load_past _ _ _ _ _ (Memref.IsWhole.read_unread _ _) 7 2816 _ r e _ _ rfl (q2 e))
      (load_own _ _ _ _ 2816 _ r e _ _ rfl (q2 e))
  · exact cv_eq _ _ _ _ _ _ _ _ _ _ r e _ (ld_cols _ 0 1408 _ 0 e 0 _ rfl (q1 e)) (ld_cols _ 0 1408 _ 0 e 0 _ rfl (q1 e))
      (ld_cols _ 1 1408 _ 0 e 1 _ rfl (q1 e)) (ld_cols _ 2 1408 _ 0 e 2 _ rfl (q1 e))
      (load_past _ _ _ _ _ (Memref.IsWhole.read_unread _ _) 6 1408 _ r e _ _ rfl (q1 e)) (load_past _ _ _ _ _ (Memref.IsWhole.read_unread _ _) 7 1408 _ r e _ _ rfl (q1 e))
      (load_own _ _ _ _ 1408 _ r e _ _ rfl (q1 e))
  · exact cv_eq _ _ _ _ _ _ _ _ _ _ r e _ (ld_cols _ 0 4224 _ 0 e 0 _ rfl (q3 e)) (ld_cols _ 0 4224 _ 0 e 0 _ rfl (q3 e))
      (ld_cols _ 1 4224 _ 0 e 1 _ rfl (q3 e)) (ld_cols _ 2 4224 _ 0 e 2 _ rfl (q3 e))
      (load_past _ _ _ _ _ (Memref.IsWhole.read_unread _ _) 6 4224 _ r e _ _ rfl (q3 e)) (load_past _ _ _ _ _ (Memref.IsWhole.read_unread _ _) 7 4224 _ r e _ _ rfl (q3 e))
      (load_own _ _ _ _ 4224 _ r e _ _ rfl (q3 e))
  · exact ld_cols _ 0 0 _ _ _ _ _ (by show 1408 * 0 + e.val = _; omega) (by omega)
  · exact ld_cols _ 1408 0 _ _ _ _ _ (by show 1408 * 1 + e.val = _; omega) (by omega)

/-- The block of a sequence's last point. -/
theorem y_last (c : Dev nD) (t : Fin cfg0.N) (h0 : ¬t.val % 16 = 0) (h1 : t.val % 16 = 15) (r : Fin 256) (k : Fin 1024) :
    (outsAt0 m c t.val t.isLt).1 (ix2 r k) = tile m c t (older m c t h0) r k := by
  rw [outsAt0_C m c t h0 h1]
  frame_out
  refine tile_at (iblk m c 3 t) (iblk m c 4 t) (past (older m c t h0) (U m c t)) _ (iblk m c 5 t) _ _ _ _ _ _ _ _ _ _ _ _ _ _ _ _ _ _ _ _ _ _ _ _ _ _ _ _ _ _ r k
    (fun e => ?_) (fun e => ?_) (fun e => ?_) (fun e => ?_) (fun e => ?_) (fun e => ?_)
  · exact cv_eq _ _ _ _ _ _ _ _ _ _ r e _ (ld_cols _ 0 0 _ 0 e 0 _ rfl (q0 e)) (ld_cols _ 0 0 _ 0 e 0 _ rfl (q0 e))
      (ld_cols _ 1 0 _ 0 e 1 _ rfl (q0 e)) (ld_cols _ 2 0 _ 0 e 2 _ rfl (q0 e))
      (load_past _ _ _ _ _ (Memref.IsWhole.read_unread _ _) 6 0 _ r e _ _ rfl (q0 e)) (load_past _ _ _ _ _ (Memref.IsWhole.read_unread _ _) 7 0 _ r e _ _ rfl (q0 e))
      (load_own _ _ _ _ 0 _ r e _ _ rfl (q0 e))
  · exact cv_eq _ _ _ _ _ _ _ _ _ _ r e _ (ld_cols _ 0 2816 _ 0 e 0 _ rfl (q2 e)) (ld_cols _ 0 2816 _ 0 e 0 _ rfl (q2 e))
      (ld_cols _ 1 2816 _ 0 e 1 _ rfl (q2 e)) (ld_cols _ 2 2816 _ 0 e 2 _ rfl (q2 e))
      (load_past _ _ _ _ _ (Memref.IsWhole.read_unread _ _) 6 2816 _ r e _ _ rfl (q2 e)) (load_past _ _ _ _ _ (Memref.IsWhole.read_unread _ _) 7 2816 _ r e _ _ rfl (q2 e))
      (load_own _ _ _ _ 2816 _ r e _ _ rfl (q2 e))
  · exact cv_eq _ _ _ _ _ _ _ _ _ _ r e _ (ld_cols _ 0 1408 _ 0 e 0 _ rfl (q1 e)) (ld_cols _ 0 1408 _ 0 e 0 _ rfl (q1 e))
      (ld_cols _ 1 1408 _ 0 e 1 _ rfl (q1 e)) (ld_cols _ 2 1408 _ 0 e 2 _ rfl (q1 e))
      (load_past _ _ _ _ _ (Memref.IsWhole.read_unread _ _) 6 1408 _ r e _ _ rfl (q1 e)) (load_past _ _ _ _ _ (Memref.IsWhole.read_unread _ _) 7 1408 _ r e _ _ rfl (q1 e))
      (load_own _ _ _ _ 1408 _ r e _ _ rfl (q1 e))
  · exact cv_eq _ _ _ _ _ _ _ _ _ _ r e _ (ld_cols _ 0 4224 _ 0 e 0 _ rfl (q3 e)) (ld_cols _ 0 4224 _ 0 e 0 _ rfl (q3 e))
      (ld_cols _ 1 4224 _ 0 e 1 _ rfl (q3 e)) (ld_cols _ 2 4224 _ 0 e 2 _ rfl (q3 e))
      (load_past _ _ _ _ _ (Memref.IsWhole.read_unread _ _) 6 4224 _ r e _ _ rfl (q3 e)) (load_past _ _ _ _ _ (Memref.IsWhole.read_unread _ _) 7 4224 _ r e _ _ rfl (q3 e))
      (load_own _ _ _ _ 4224 _ r e _ _ rfl (q3 e))
  · exact ld_cols _ 0 0 _ _ _ _ _ (by show 1408 * 0 + e.val = _; omega) (by omega)
  · exact ld_cols _ 1408 0 _ _ _ _ _ (by show 1408 * 1 + e.val = _; omega) (by omega)

/-- After any point the scratch's first eight rows are the tile's last. -/
theorem scratch_at (c : Dev nD) (t : Fin cfg0.N) (i : Fin 264) (hi : i.val < 8) (e : Fin 5632) :
    (outsAt0 m c t.val t.isLt).2.2 (ix2 i e) = U m c t ⟨248 + i.val, by omega⟩ e := by
  by_cases h0 : t.val % 16 = 0
  · rw [outsAt0_A m c t h0 (by omega)]
    frame_out
    exact moved (storesZero _ _ _) i hi e ⟨256 + i.val, by omega⟩ rfl _
      (read_new _ _ _ ((View.whole cc0_scratch0).writes (Elt Ideal) (View.whole cc0_scratch0).junk
        [⟨Rect.unit ![0, 0] ![8, 5632] inb_S264x5632_S8x5632_0_0, k0_pay5 (F := Ideal)⟩]) _ _ _ (by show 256 + i.val = 8 + (248 + i.val); omega))
  by_cases h1 : t.val % 16 = 15
  · rw [outsAt0_C m c t h0 h1]
    frame_out
    exact moved (stores _ _ _) i hi e ⟨256 + i.val, by omega⟩ rfl _ (read_new _ _ _ _ _ _ _ (by show 256 + i.val = 8 + (248 + i.val); omega))
  · rw [outsAt0_B m c t h0 h1]
    frame_out
    exact moved (stores _ _ _) i hi e ⟨256 + i.val, by omega⟩ rfl _ (read_new _ _ _ _ _ _ _ (by show 256 + i.val = 8 + (248 + i.val); omega))

theorem pay2_at (y : Vec Ideal S8x5632 .f32) (i : Fin 8) (e : Fin 5632) : k0_pay2 (F := Ideal) y (ix3 0 i e) = y (ix2 i e) := by
  pointwise [k0_pay2]

/-- The load of the tile's last eight rows. -/
theorem load_tail (x0 : Vec Ideal S256x1024 .f32) (x1 : Vec Ideal S1x1024 .f32) (x2 : Vec Ideal S1024x5632 .bf16)
    (i : Fin 8) (e : Fin 5632) (r : Fin 256) (hr : r.val = 248 + i.val) :
    (View.whole cc0_scratch0).readCov (stores x0 x1 x2)
        (Rect.unit (s := S264x5632) ![256, 0] ![8, 5632] inb_S264x5632_S8x5632_256_0).toLoadRect (ix2 i e) = ups x0 x1 x2 r e := by
  have h : (Rect.unit (s := S264x5632) ![256, 0] ![8, 5632] inb_S264x5632_S8x5632_256_0).toLoadRect.idx (ix2 i e)
      = ix2 (⟨256 + i.val, by omega⟩ : Fin 264) e :=
    funext fun a => Fin.ext (by
      match a with
      | ⟨0, _⟩ => show 256 + 1 * i.val = 256 + i.val; omega
      | ⟨1, _⟩ => show 0 + 1 * e.val = e.val; omega)
  unfold View.readCov
  rw [View.readAt_apply, h]
  exact read_new x0 x1 x2 _ r _ e (by show 256 + i.val = 8 + r.val; omega)

/-- The tail a sequence's last point leaves: its tile's last eight rows. -/
theorem tail_at (c : Dev nD) (t : Fin cfg0.N) (h1 : t.val % 16 = 15) (i : Fin 8) (e : Fin 5632) :
    (outsAt0 m c t.val t.isLt).2.1 (ix3 0 i e) = U m c t ⟨248 + i.val, by omega⟩ e := by
  rw [outsAt0_C m c t (by omega) h1]
  frame_out
  rw [pay2_at]
  exact load_tail _ _ _ i e _ rfl

/-- The eight rows before point `t`'s tile: zeros at a sequence's start, the tile before's last rows elsewhere. -/
def before (c : Dev nD) (t : Fin cfg0.N) (i : Fin 8) (e : Fin 5632) : EReal :=
  if t.val % 16 = 0 then 0 else U m c ⟨t.val - 1, by omega⟩ ⟨248 + i.val, by omega⟩ e

/-- Every point's block of the result. -/
theorem y_at (c : Dev nD) (t : Fin cfg0.N) (r : Fin 256) (k : Fin 1024) :
    (outsAt0 m c t.val t.isLt).1 (ix2 r k) = tile m c t (before m c t) r k := by
  by_cases h0 : t.val % 16 = 0
  · rw [y_first m c t h0 (by omega)]
    exact congrArg (tile m c t · r k) (funext fun i => funext fun e => (if_pos h0).symm)
  have hb : older m c t h0 = before m c t := funext fun i => funext fun e =>
    (scratch_at m c ⟨t.val - 1, by omega⟩ ⟨i.val, by omega⟩ i.isLt e).trans (if_neg h0).symm
  by_cases h1 : t.val % 16 = 15
  · rw [y_last m c t h0 h1, hb]
  · rw [y_inner m c t h0 h1, hb]

end Cert.FfnIdeal.Value

end
-- ==== Proof.FfnRowSpec.lean ====
/- The feed-forward call's two results, row by row: every row of the first from the projected rows of its sequence up to
   it, the second the last eight projected rows of each sequence. -/
module

public import proofs.«01_k».proof.Proof.FfnSpec

@[expose] public section

noncomputable section

open Idealize.ShloMosaic Idealize.ShloMosaic.TcCoe Idealize.SL.Sem

namespace Cert.FeedForward

/-- A row of all the projected rows. -/
def upRow (X : Vec Ideal (⟨2, ![16384, 1024]⟩ : Shape) .f32) (g : Vec Ideal (⟨1, ![1024]⟩ : Shape) .f32)
    (w : Vec Ideal (⟨2, ![1024, 5632]⟩ : Shape) .f32) (n : Fin 16384) (c : Fin 5632) : EReal :=
  up (fun k => X (ix2 n k)) (fun k => g (ix1 k)) (fun k c => w (ix2 k c)) c

/-- The row that tap `j` reads at row `n`: two rows before it, one before it or itself; zero before a sequence's start. -/
def tapped (u : Fin 16384 → Fin 5632 → EReal) (n : Fin 16384) (j : Fin 3) (c : Fin 5632) : EReal :=
  if n.val % 4096 + j.val < 2 then 0 else u ⟨n.val + j.val - 2, by omega⟩ c

/-- A convolved row. -/
def convRow (u : Fin 16384 → Fin 5632 → EReal) (w : Vec Ideal (⟨2, ![3, 5632]⟩ : Shape) .f32)
    (b : Vec Ideal (⟨1, ![5632]⟩ : Shape) .f32) (n : Fin 16384) (c : Fin 5632) : EReal :=
  conv (fun j c => w (ix2 j c)) (fun c => b (ix1 c)) (tapped u n 0) (tapped u n 1) (tapped u n 2) c

/-- A row of the first result. -/
def outRow (X : Vec Ideal (⟨2, ![16384, 1024]⟩ : Shape) .f32) (g : Vec Ideal (⟨1, ![1024]⟩ : Shape) .f32)
    (w : Vec Ideal (⟨2, ![1024, 5632]⟩ : Shape) .f32) (wd : Vec Ideal (⟨2, ![3, 5632]⟩ : Shape) .f32)
    (b : Vec Ideal (⟨1, ![5632]⟩ : Shape) .f32) (d : Vec Ideal (⟨2, ![2816, 1024]⟩ : Shape) .f32)
    (n : Fin 16384) (k : Fin 1024) : EReal :=
  down (fun k => X (ix2 n k)) (convRow (upRow X g w) wd b n) (fun e k => d (ix2 e k)) k

/-- The row of all the rows that a sequence's tail has at `i`. -/
def tailRow (s : Fin 4) (i : Fin 8) : Fin 16384 := ⟨4096 * s.val + 4088 + i.val, by omega⟩

end Cert.FeedForward

end
-- ==== Proof.FfnValue.lean ====
/- The feed-forward call's two result arrays: every row is the plain formula of `FfnSpec` of the rows of the arguments. -/
module

public import proofs.«01_k».proof.Proof.FfnTile
public import proofs.«01_k».proof.Proof.FfnRowSpec

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.Post Cert.FeedForward

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val / 16, 0, 0] :=
  (by decide +kernel : ∀ t : Fin grid0.N, _)

/-- The row of the arrays that row `r` of point `t`'s blocks is. -/
def rowAt (t : Fin cfg0.N) (r : Fin 256) : Fin 16384 := ⟨256 * t.val + r.val, by have : t.val < 64 := t.isLt; omega⟩

/-- The arguments' arrays. -/
abbrev A0 (c : Dev nD) : Vec Ideal S16384x1024 .f32 := m ((c : Thread nD τ).loc main_arg0)
abbrev A1 (c : Dev nD) : Vec Ideal S1024 .f32 := m ((c : Thread nD τ).loc main_arg1)
abbrev A2 (c : Dev nD) : Vec Ideal S1024x5632 .f32 := m ((c : Thread nD τ).loc main_arg2)
abbrev A3 (c : Dev nD) : Vec Ideal S3x5632 .f32 := m ((c : Thread nD τ).loc main_arg3)
abbrev A4 (c : Dev nD) : Vec Ideal S5632 .f32 := m ((c : Thread nD τ).loc main_arg4)
abbrev A5 (c : Dev nD) : Vec Ideal S2816x1024 .f32 := m ((c : Thread nD τ).loc main_arg5)

section blocks

variable (c : Dev nD) (t : Fin cfg0.N)

theorem block0 (r : Fin 256) (k : Fin 1024) : iblk m c 0 t (ix2 r k) = A0 m c (ix2 (rowAt t r) k) := by
  blk_ext [iblk, V, idx t, rowAt]
theorem block1 (k : Fin 1024) : iblk m c 1 t (ix2 0 k) = A1 m c (ix1 k) := by
  blk_point [iblk, V, idx t]
theorem block2 (i : Fin 1024) (k : Fin 5632) : iblk m c 2 t (ix2 i k) = A2 m c (ix2 i k) := by
  blk_point [iblk, V, idx t]
theorem block3 (i : Fin 3) (k : Fin 5632) : iblk m c 3 t (ix2 i k) = A3 m c (ix2 i k) := by
  blk_ext [iblk, V, idx t]
theorem block4 (k : Fin 5632) : iblk m c 4 t (ix2 0 k) = A4 m c (ix1 k) := by
  blk_point [iblk, V, idx t]
theorem block5 (i : Fin 2816) (k : Fin 1024) : iblk m c 5 t (ix2 i k) = A5 m c (ix2 i k) := by
  blk_point [iblk, V, idx t]

/-- The tile's projected rows are rows of all the projected rows. -/
theorem U_at (r : Fin 256) (e : Fin 5632) : U m c t r e = upRow (A0 m c) (A1 m c) (A2 m c) (rowAt t r) e := by
  show up _ _ _ e = up _ _ _ e
  congr 1
  · exact funext fun k => block0 m c t r k
  · exact funext fun k => block1 m c t k
  · exact funext fun i => funext fun k => block2 m c t i k

/-- What a tap reads, in the scratch and among all the rows. -/
theorem tap_at (r : Fin 256) (j : Fin 3) (e : Fin 5632) :
    past (before m c t) (U m c t) (tapRow j r) e = tapped (upRow (A0 m c) (A1 m c) (A2 m c)) (rowAt t r) j e := by
  have ht : t.val < 64 := t.isLt
  unfold past tapped before
  split
  · next h =>
    have h' : 6 + j.val + r.val < 8 := h
    split
    · next h0 => exact (if_pos (by show (256 * t.val + r.val) % 4096 + j.val < 2; omega)).symm
    · next h0 =>
      rw [if_neg (by show ¬(256 * t.val + r.val) % 4096 + j.val < 2; omega), U_at]
      exact congrArg (upRow _ _ _ · e) (Fin.ext (by
        show 256 * (t.val - 1) + (248 + (6 + j.val + r.val)) = 256 * t.val + r.val + j.val - 2
        omega))
  · next h =>
    have h' : ¬6 + j.val + r.val < 8 := h
    rw [if_neg (by show ¬(256 * t.val + r.val) % 4096 + j.val < 2; omega), U_at]
    exact congrArg (upRow _ _ _ · e) (Fin.ext (by
      show 256 * t.val + (6 + j.val + r.val - 8) = 256 * t.val + r.val + j.val - 2
      omega))

/-- What point `t` writes back is its block of the first result. -/
theorem point (r : Fin 256) (k : Fin 1024) :
    (outsAt0 m c t.val t.isLt).1 (ix2 r k) = outRow (A0 m c) (A1 m c) (A2 m c) (A3 m c) (A4 m c) (A5 m c) (rowAt t r) k := by
  rw [y_at]
  show down _ _ _ k = down _ _ _ k
  congr 1
  · exact funext fun k => block0 m c t r k
  · funext e
    show conv _ _ _ _ _ e = conv _ _ _ _ _ e
    congr 1
    · exact funext fun i => funext fun k => block3 m c t i k
    · exact funext fun k => block4 m c t k
    · exact funext fun e => tap_at m c t r 0 e
    · exact funext fun e => tap_at m c t r 1 e
    · exact funext fun e => tap_at m c t r 2 e
  · exact funext fun i => funext fun k => block5 m c t i k

end blocks

/-- The first result's array. -/
abbrev result (c : Dev nD) : Vec Ideal S16384x1024 .f32 := fun j =>
  outRow (A0 m c) (A1 m c) (A2 m c) (A3 m c) (A4 m c) (A5 m c) (j 0) (j 1)

/-- The second result's array. -/
abbrev tails (c : Dev nD) : Vec Ideal S4x8x5632 .f32 := fun j =>
  upRow (A0 m c) (A1 m c) (A2 m c) (tailRow (j 0) (j 1)) (j 2)

theorem final (c : Dev nD) : (dats m 0 c).arrAt 6 (cfgs 0).N = result m c := by
  refine (dats m 0 c).arrAt_eq_of_covers 6 _ (by decide +kernel) fun t _ y => ?_
  blk_simp
  rw [after0_6]
  idx_vars y
  refine (point m c t y0 y1).trans (congrArg (result m c) (a₁ := ix2 (rowAt t y0) y1) ?_)
  blk_ext [idx t, rowAt]

theorem final_tail (c : Dev nD) : (dats m 0 c).arrAt 7 (cfgs 0).N = tails m c := by
  refine (dats m 0 c).arrAt_eq_of_covers 7 _ (by decide +kernel) fun t h y => ?_
  have ht : t.val < 64 := t.isLt
  have h15 : t.val % 16 = 15 := (flush0_7 t).1 h
  blk_simp
  rw [after0_7]
  idx_vars y
  obtain rfl : y0 = 0 := Fin.ext (by omega)
  refine ((tail_at m c t h15 y1 y2).trans (U_at m c t _ y2)).trans ?_
  have e : ((View.whole main_v4_1).slice (win0_7.rect t)).emb (ix3 0 y1 y2) = ix3 (⟨t.val / 16, by omega⟩ : Fin 4) y1 y2 := by
    blk_ext [idx t]
  rw [e]
  exact congrArg (upRow _ _ _ · y2) (Fin.ext (by
    show 256 * t.val + (248 + y1.val) = 4096 * (t.val / 16) + 4088 + y1.val
    omega))

end Cert.FfnIdeal.Value

end
-- ==== Proof.FfnReference.lean ====
/- The reference of the feed-forward call, value by value: the plain formulas of `FfnSpec` of the rows of its arguments. -/
module

public import proofs.«01_k».proof.Proof.Gen.FfnRefIdeal.Read
public import proofs.«01_k».proof.Proof.FfnRowSpec

@[expose] public section

set_option maxRecDepth 16384

noncomputable section

open Idealize.ShloMosaic Idealize.ShloMosaic.TcCoe Idealize.SL.Sem

namespace Cert.FfnRefIdeal.Value

open Cert.FfnRefIdeal Cert.FfnRefIdeal.Gen Cert.FfnRefIdeal.Read Cert.Post Cert.FeedForward

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x3 : (⟨S3x5632, .f32⟩ : BufTy).Contents (Elt Ideal))
  (x4 : (⟨S5632, .f32⟩ : BufTy).Contents (Elt Ideal)) (x5 : (⟨S2816x1024, .f32⟩ : BufTy).Contents (Elt Ideal))

/-- The normed row. -/
theorem norm_at (r : Fin 16384) (c : Fin 1024) :
    val_main_v12 x0 x1 (ix2 r c) = norm (fun c => x0 (ix2 r c)) (fun c => x1 (ix1 c)) c := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- A projected row. -/
theorem up_at (r : Fin 16384) (c : Fin 5632) : val_main_v13 x0 x1 x2 (ix2 r c) = upRow x0 x1 x2 r c := by
  have h := norm_at x0 x1 r
  unfold val_main_v13
  generalize val_main_v12 x0 x1 = y at *
  pointwise
  simp only [h]
  rfl

/-- A row of the flat batch. -/
def row (b : Fin 4) (t : Fin 4096) : Fin 16384 := ⟨b.val * 4096 + t.val, by omega⟩

/-- A row of the padded sequences: two rows of zeros, then the projected rows. -/
theorem full_at (b : Fin 4) (s : Fin 4098) (c : Fin 5632) :
    val_main_v16 x0 x1 x2 (ix3 b s c)
      = if h : s.val < 2 then 0 else upRow x0 x1 x2 (row b ⟨s.val - 2, by omega⟩) c := by
  simp only [← up_at]
  unfold val_main_v16 val_main_v14
  generalize val_main_v13 x0 x1 x2 = y
  pointwise [val_main_v15, val_main_cst_2]
  rfl

/-- What a tap reads. -/
theorem tapped_at (b : Fin 4) (t : Fin 4096) (j : Fin 3) (s : Fin 4098) (hs : s.val = t.val + j.val) (c : Fin 5632) :
    val_main_v16 x0 x1 x2 (ix3 b s c) = tapped (upRow x0 x1 x2) (row b t) j c := by
  rw [full_at]
  unfold tapped
  by_cases h : s.val < 2
  · rw [dif_pos h, if_pos (by show (b.val * 4096 + t.val) % 4096 + j.val < 2; omega)]
  · rw [dif_neg h, if_neg (by show ¬(b.val * 4096 + t.val) % 4096 + j.val < 2; omega)]
    exact congrArg (upRow x0 x1 x2 · c) (Fin.ext (by
      show b.val * 4096 + (s.val - 2) = b.val * 4096 + t.val + j.val - 2
      omega))

/-- A convolved row. -/
theorem conv_at (b : Fin 4) (t : Fin 4096) (c : Fin 5632) :
    val_main_v41 x0 x1 x2 x3 x4 (ix3 b t c) = convRow (upRow x0 x1 x2) x3 x4 (row b t) c := by
  have h := tapped_at x0 x1 x2 b t
  have h0 := h 0 ⟨t.val, by omega⟩ rfl c
  have h1 := h 1 ⟨1 + t.val, by omega⟩ (Nat.add_comm _ _) c
  have h2 := h 2 ⟨2 + t.val, by omega⟩ (Nat.add_comm _ _) c
  clear h
  unfold val_main_v41 val_main_v38 val_main_v37 val_main_v34 val_main_v31 val_main_v30 val_main_v27 val_main_v24
    val_main_v22 val_main_v19
  generalize val_main_v16 x0 x1 x2 = y at *
  pointwise [val_main_v40, val_main_v39, val_main_v36, val_main_v35, val_main_v33, val_main_v32, val_main_v29,
    val_main_v28, val_main_v26, val_main_v25, val_main_v23, val_main_cst_3, val_main_v21, val_main_v20, val_main_v18,
    val_main_v17]
  rw [h0, h1, h2, ← add_assoc, ← add_assoc]
  rfl

/-- The second result. -/
theorem tails_at (s : Fin 4) (i : Fin 8) (c : Fin 5632) :
    val_main_v49 x0 x1 x2 (ix3 s i c) = upRow x0 x1 x2 (tailRow s i) c := by
  have h := full_at x0 x1 x2 s ⟨4090 + i.val, by omega⟩ c
  unfold val_main_v49
  generalize val_main_v16 x0 x1 x2 = y at *
  pointwise
  refine h.trans ?_
  rw [dif_neg (by show ¬4090 + i.val < 2; omega)]
  exact congrArg (upRow x0 x1 x2 · c) (Fin.ext (by
    show s.val * 4096 + (4090 + i.val - 2) = 4096 * s.val + 4088 + i.val
    omega))

/-- A convolved row of the flat batch. -/
theorem flat_at (n : Fin 16384) (c : Fin 5632) :
    val_main_v42 x0 x1 x2 x3 x4 (ix2 n c) = convRow (upRow x0 x1 x2) x3 x4 n c := by
  have h := conv_at x0 x1 x2 x3 x4 ⟨n.val / 4096, by omega⟩ ⟨n.val % 4096, by omega⟩ c
  have e : row ⟨n.val / 4096, by omega⟩ ⟨n.val % 4096, by omega⟩ = n := Fin.ext (by
    show n.val / 4096 * 4096 + n.val % 4096 = n.val
    omega)
  rw [e] at h
  refine Eq.trans ?_ h
  unfold val_main_v42
  generalize val_main_v41 x0 x1 x2 x3 x4 = y
  pointwise

/-- The gated product of the two halves. -/
theorem act_at (n : Fin 16384) (e : Fin 2816) :
    val_main_v46 x0 x1 x2 x3 x4 (ix2 n e) = act (convRow (upRow x0 x1 x2) x3 x4 n) e := by
  have h := flat_at x0 x1 x2 x3 x4 n
  unfold val_main_v46 val_main_v45 val_main_call0_v5 val_main_call0_v3 val_main_call0_v1 val_main_call0_v0 val_main_v44
    val_main_v43
  generalize val_main_v42 x0 x1 x2 x3 x4 = y at *
  pointwise [val_main_call0_v4, val_main_call0_cst_0, val_main_call0_v2, val_main_call0_cst]
  simp only [h]
  rfl

/-- The first result. -/
theorem rows_at (n : Fin 16384) (k : Fin 1024) :
    val_main_v48 x0 x1 x2 x3 x4 x5 (ix2 n k) = outRow x0 x1 x2 x3 x4 x5 n k := by
  have h := act_at x0 x1 x2 x3 x4 n
  unfold val_main_v48 val_main_v47
  generalize val_main_v46 x0 x1 x2 x3 x4 = y at *
  pointwise
  simp only [h]
  rfl

end Cert.FfnRefIdeal.Value

end
-- ==== Proof.FfnClaim.lean ====
/- The feed-forward call and its reference end with equal results. -/
module

public import proofs.«01_k».proof.Defs
public import proofs.«01_k».proof.Proof.FfnValue
public import proofs.«01_k».proof.Proof.FfnReference
public import proofs.«01_k».proof.Proof.Gen.FfnRefIdeal.Run
public import proofs.«01_k».proof.Proof.Gen.FfnRefIdeal.Read
public import Idealize.ShloMosaic.Lib.Claim

@[expose] public section

set_option maxRecDepth 16384

noncomputable section

open Idealize.ShloMosaic Idealize.ShloMosaic.TcCoe Idealize.SL.Sem

namespace Cert.Proof

theorem ffn_algebraic :
    Cert.algebraic_FfnIdeal_FfnRefIdeal (hFfnIdeal := Cert.FfnIdeal.Gen.facts)
      (hFfnRefIdeal := Cert.FfnRefIdeal.Gen.facts) := by
  pair_intro
  · run_from Cert.FfnIdeal.Gen.run_main m g
  · run_from Cert.FfnRefIdeal.Value.run m' g'
    · rw [Cert.FfnIdeal.Value.final m c, Cert.FfnRefIdeal.Read.val_main_v48_eq]
      obtain ⟨a0, a1, a2, a3, a4, a5⟩ := hagree c
      rw [a0, a1, a2, a3, a4, a5]
      funext j
      obtain ⟨n, k, rfl⟩ : ∃ (n : Fin 16384) (k : Fin 1024), j = ValueIdx.ix2 n k :=
        ⟨j 0, j 1, by funext a; match a with | ⟨0, _⟩ => rfl | ⟨1, _⟩ => rfl⟩
      exact Cert.FfnRefIdeal.Value.rows_at _ _ _ _ _ _ n k
    · rw [Cert.FfnIdeal.Value.final_tail m c]
      funext j
      obtain ⟨s, i, k, rfl⟩ : ∃ (s : Fin 4) (i : Fin 8) (k : Fin 5632), j = ValueIdx.ix3 s i k :=
        ⟨j 0, j 1, j 2, by funext a; match a with | ⟨0, _⟩ => rfl | ⟨1, _⟩ => rfl | ⟨2, _⟩ => rfl⟩
      exact Cert.FfnRefIdeal.Value.tails_at _ _ _ s i k

end Cert.Proof

end
-- ==== Proof.PostBody.lean ====
/- The post-mixing call's body, value by value: each vector it computes, read at a row and a column, is the plain
   formula of `PostSpec` of the rows it was given. -/
module

public import proofs.«01_k».proof.Proof.Gen.PostIdeal.Skeleton
public import proofs.«01_k».proof.Proof.PostSpec

@[expose] public section

set_option maxRecDepth 16384

noncomputable section

open Idealize.ShloMosaic Idealize.ShloMosaic.TcCoe Idealize.SL.Sem

namespace Cert.PostIdeal.Value

open Cert.PostIdeal Cert.PostIdeal.Gen Cert.Softmax Cert.Post

/-- The normed row. -/
theorem hn_at (x : Vec Ideal S256x1024 .f32) (g : Vec Ideal S1x1024 .f32) (r : Fin 256) (c : Fin 1024) :
    k0_pay2 (F := Ideal) x g (ix2 r c) = norm (fun c => x (ix2 r c)) (fun c => g (ix2 0 c)) c := by
  pointwise [k0_pay2]
  rfl

section heads

variable (q : Vec Ideal S256x512 .bf16) (k v : Vec Ideal S256x512 .bf16)

/-- The scores of a row of the block in one head. -/
abbrev scores (r : Fin 256) (h : Fin 4) : Fin 256 → EReal :=
  score (fun c => q (ix2 r c)) (fun i c => k (ix2 i c)) (col h)

theorem col0 (d : Fin 128) (h : d.val < 512) : (⟨d.val, h⟩ : Fin 512) = col 0 d :=
  Fin.ext (show d.val = 128 * 0 + d.val by omega)

variable (hq : ∀ r c, ∃ a : ℝ, q (ix2 r c) = (a : EReal)) (hk : ∀ i c, ∃ a : ℝ, k (ix2 i c) = (a : EReal))

include hq hk

theorem scores_real (r : Fin 256) (h : Fin 4) (i : Fin 256) : ∃ a : ℝ, scores q k r h i = (a : EReal) :=
  score_real _ _ _ (fun c => hq r c) hk i

theorem head0_at (r : Fin 256) (c : Fin 128) :
    k0_pay3 (F := Ideal) q k v (ix2 r c) = attn (scores q k r 0) (fun i => v (ix2 i (col 0 c))) := by
  rw [← attn_max _ _ (scores_real q k hq hk r 0)]
  pointwise [k0_pay3]
  simp only [col0]
  rfl

theorem head1_at (r : Fin 256) (c : Fin 128) :
    k0_pay5 (F := Ideal) v (k0_pay4 (F := Ideal) q k) (ix2 r c)
      = attn (scores q k r 1) (fun i => v (ix2 i (col 1 c))) := by
  rw [← attn_max _ _ (scores_real q k hq hk r 1)]
  pointwise [k0_pay5, k0_pay4]
  rfl

theorem head2_at (r : Fin 256) (c : Fin 128) :
    k0_pay6 (F := Ideal) q k v (ix2 r c) = attn (scores q k r 2) (fun i => v (ix2 i (col 2 c))) := by
  rw [← attn_max _ _ (scores_real q k hq hk r 2)]
  pointwise [k0_pay6]
  rfl

theorem head3_at (r : Fin 256) (c : Fin 128) :
    Ideal.div (k0_pay9 (F := Ideal) q k v (ix2 r c)) (k0_pay8 (F := Ideal) q k (ix2 r 0))
      = attn (scores q k r 3) (fun i => v (ix2 i (col 3 c))) := by
  rw [← attn_max _ _ (scores_real q k hq hk r 3)]
  pointwise [k0_pay9, k0_pay8, k0_pay7]
  rfl

theorem memory_col (r : Fin 256) (h : Fin 4) (d : Fin 128) (c : Fin 512) (e : c.val = 128 * h.val + d.val) :
    attn (scores q k r h) (fun i => v (ix2 i (col h d)))
      = memory (fun c => q (ix2 r c)) (fun i c => k (ix2 i c)) (fun i c => v (ix2 i c)) c := by
  have e1 : col h d = c := Fin.ext e.symm
  have e2 : head c = h := Fin.ext (show c.val / 128 = h.val by omega)
  rw [memory, e2, e1]

/-- The attention over the memory, projected. -/
theorem mem_at (w : Vec Ideal S512x1024 .bf16) (r : Fin 256) (c : Fin 1024) :
    k0_pay11 (F := Ideal) (k0_pay3 q k v) (k0_pay5 v (k0_pay4 q k)) (k0_pay6 q k v) (k0_pay8 q k) (k0_pay9 q k v) w (ix2 r c)
      = proj (memory (fun c => q (ix2 r c)) (fun i c => k (ix2 i c)) (fun i c => v (ix2 i c))) (fun i c => w (ix2 i c)) c := by
  have h0 := head0_at q k v hq hk r
  have h1 := head1_at q k v hq hk r
  have h2 := head2_at q k v hq hk r
  have h3 := head3_at q k v hq hk r
  generalize k0_pay3 (F := Ideal) q k v = p3 at *
  generalize k0_pay5 (F := Ideal) v (k0_pay4 q k) = p5 at *
  generalize k0_pay6 (F := Ideal) q k v = p6 at *
  generalize k0_pay8 (F := Ideal) q k = p8 at *
  generalize k0_pay9 (F := Ideal) q k v = p9 at *
  pointwise [k0_pay11]
  refine Finset.sum_congr rfl fun x _ => ?_
  congr 1
  by_cases e0 : x.val < 128
  · rw [dif_pos e0, h0]
    exact memory_col q k v hq hk r 0 ⟨x.val, e0⟩ x (show x.val = 128 * 0 + x.val by omega)
  rw [dif_neg e0]
  by_cases e1 : x.val - 128 < 128
  · rw [dif_pos e1, h1]
    exact memory_col q k v hq hk r 1 ⟨x.val - 128, e1⟩ x (show x.val = 128 * 1 + (x.val - 128) by omega)
  rw [dif_neg e1]
  by_cases e2 : x.val - 128 - 128 < 128
  · rw [dif_pos e2, h2]
    exact memory_col q k v hq hk r 2 ⟨x.val - 128 - 128, e2⟩ x (show x.val = 128 * 2 + (x.val - 128 - 128) by omega)
  rw [dif_neg e2, h3]
  exact memory_col q k v hq hk r 3 ⟨x.val - 128 - 128 - 128, by omega⟩ x
    (show x.val = 128 * 3 + (x.val - 128 - 128 - 128) by omega)

end heads

/-- The first branch, gated and projected. -/
theorem gate0_at (h : FVec Ideal S256x1024 .bf16) (a : Vec Ideal S256x512 .bf16) (wa : Vec Ideal S512x1024 .bf16)
    (w : Vec Ideal S1024x1024 .bf16) (b : Vec Ideal S1x1024 .f32) (r : Fin 256) (c : Fin 1024) :
    k0_pay12 (F := Ideal) h a wa w b (ix2 r c)
      = sigma (∑ k, h (ix2 r k) * w (ix2 k c) + b (ix2 0 c)) * proj (fun k => a (ix2 r k)) (fun k c => wa (ix2 k c)) c := by
  pointwise [k0_pay12]
  simp only [zero_sub]
  rfl

theorem proj_at (a : Vec Ideal S256x512 .bf16) (w : Vec Ideal S512x1024 .bf16) (r : Fin 256) (c : Fin 1024) :
    k0_pay10 (F := Ideal) a w (ix2 r c) = proj (fun k => a (ix2 r k)) (fun k c => w (ix2 k c)) c := by
  pointwise [k0_pay10]
  rfl

theorem gate1_at (h : FVec Ideal S256x1024 .bf16) (w : Vec Ideal S1024x1024 .bf16) (r : Fin 256) (c : Fin 1024) :
    k0_pay13 (F := Ideal) h w (ix2 r c) = ∑ k, h (ix2 r k) * w (ix2 k c) := by
  pointwise [k0_pay13]

/-- The last step: the gated sum, projected and added to the row. -/
theorem last_at (x : Vec Ideal S256x1024 .f32) (h : FVec Ideal S256x1024 .bf16) (v96 v99 v116 v119 : FVec Ideal S256x1024 .f32)
    (b1 : Vec Ideal S1x1024 .f32) (w2 : Vec Ideal S1024x1024 .bf16) (b2 : Vec Ideal S1x1024 .f32)
    (wo : Vec Ideal S1024x1024 .bf16) (r : Fin 256) (c : Fin 1024) :
    k0_pay1 (F := Ideal) x h v96 v99 v116 v119 b1 w2 b2 wo (ix2 r c)
      = x (ix2 r c) + ∑ e, (v116 (ix2 r e) + sigma (v119 (ix2 r e) + b1 (ix2 0 e)) * v96 (ix2 r e)
          + sigma (∑ k, h (ix2 r k) * w2 (ix2 k e) + b2 (ix2 0 e)) * v99 (ix2 r e)) * wo (ix2 e c) := by
  pointwise [k0_pay1]
  simp only [zero_sub]
  rfl

end Cert.PostIdeal.Value

end
-- ==== Proof.PostValue.lean ====
/- The post-mixing call's result array: every row is the plain formula of `PostSpec` of the rows of the arguments. -/
module

public import proofs.«01_k».proof.Proof.Gen.PostIdeal.Value
public import proofs.«01_k».proof.Proof.PostBody
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.Softmax Cert.Post

/-- The columns of one gate, read from the gates' weights and biases. -/
theorem w0_at (x : Vec Ideal S1024x3072 .bf16) (k : Fin 1024) (c : Fin 1024) :
    View.ld x r0_4 (ix2 k c) = x (ix2 k (gcol 0 c)) :=
  congrArg x (funext fun a => Fin.ext (by match a with | ⟨0, _⟩ => show 0 + 1 * k.val = k.val; omega | ⟨1, _⟩ => show 0 + 1 * c.val = 1024 * 0 + c.val; omega))
theorem w1_at (x : Vec Ideal S1024x3072 .bf16) (k : Fin 1024) (c : Fin 1024) :
    View.ld x r0_6 (ix2 k c) = x (ix2 k (gcol 1 c)) :=
  congrArg x (funext fun a => Fin.ext (by match a with | ⟨0, _⟩ => show 0 + 1 * k.val = k.val; omega | ⟨1, _⟩ => show 1024 + 1 * c.val = 1024 * 1 + c.val; omega))
theorem w2_at (x : Vec Ideal S1024x3072 .bf16) (k : Fin 1024) (c : Fin 1024) :
    View.ld x r0_8 (ix2 k c) = x (ix2 k (gcol 2 c)) :=
  congrArg x (funext fun a => Fin.ext (by match a with | ⟨0, _⟩ => show 0 + 1 * k.val = k.val; omega | ⟨1, _⟩ => show 2048 + 1 * c.val = 1024 * 2 + c.val; omega))
theorem b0_at (x : Vec Ideal S1x3072 .f32) (c : Fin 1024) : View.ld x r0_5 (ix2 0 c) = x (ix2 0 (gcol 0 c)) :=
  congrArg x (funext fun a => Fin.ext (by match a with | ⟨0, _⟩ => rfl | ⟨1, _⟩ => show 0 + 1 * c.val = 1024 * 0 + c.val; omega))
theorem b1_at (x : Vec Ideal S1x3072 .f32) (c : Fin 1024) : View.ld x r0_7 (ix2 0 c) = x (ix2 0 (gcol 1 c)) :=
  congrArg x (funext fun a => Fin.ext (by match a with | ⟨0, _⟩ => rfl | ⟨1, _⟩ => show 1024 + 1 * c.val = 1024 * 1 + c.val; omega))
theorem b2_at (x : Vec Ideal S1x3072 .f32) (c : Fin 1024) : View.ld x r0_9 (ix2 0 c) = x (ix2 0 (gcol 2 c)) :=
  congrArg x (funext fun a => Fin.ext (by match a with | ⟨0, _⟩ => rfl | ⟨1, _⟩ => show 2048 + 1 * c.val = 1024 * 2 + c.val; omega))

/-- What the body stores, of the blocks it was given. -/
theorem body_at (x0 : Vec Ideal S256x1024 .f32) (x1 x2 x3 x4 x5 : Vec Ideal S256x512 .bf16) (x6 : Vec Ideal S1x1024 .f32)
    (x7 : Vec Ideal S1024x3072 .bf16) (x8 : Vec Ideal S1x3072 .f32) (x9 x10 x11 : Vec Ideal S512x1024 .bf16)
    (x12 : Vec Ideal S1024x1024 .bf16) (hq : ∀ r c, ∃ a : ℝ, x3 (ix2 r c) = (a : EReal))
    (hk : ∀ i c, ∃ a : ℝ, x4 (ix2 i c) = (a : EReal)) (r : Fin 256) (c : Fin 1024) :
    out0_13 (F := Ideal) x0 x1 x2 x3 x4 x5 x6 x7 x8 x9 x10 x11 x12 (ix2 r c)
      = post (fun c => x0 (ix2 r c)) (fun c => x1 (ix2 r c)) (fun c => x2 (ix2 r c)) (fun c => x3 (ix2 r c))
          (fun i c => x4 (ix2 i c)) (fun i c => x5 (ix2 i c)) (fun c => x6 (ix2 0 c))
          (fun k c => x7 (ix2 k c)) (fun c => x8 (ix2 0 c)) (fun k c => x9 (ix2 k c)) (fun k c => x10 (ix2 k c))
          (fun k c => x11 (ix2 k c)) (fun k c => x12 (ix2 k c)) c := by
  have hn : ∀ k, k0_pay14 x0 x1 x2 x3 x4 x5 x6 x7 x8 x9 x10 x11 x12 (ix2 r k)
      = norm (fun c => x0 (ix2 r c)) (fun c => x6 (ix2 0 c)) k := fun k => by
    unfold k0_pay14
    frame_out
    exact hn_at x0 x6 r k
  frame_out
  rw [last_at]
  simp only [gate0_at, proj_at, gate1_at, mem_at _ _ _ hq hk, hn]
  have g (H : Fin 1024 → EReal) (w : Fin 1024 → EReal) (w' : Fin 1024 → EReal) (b b' : EReal) (hw : ∀ k, w k = w' k) (hb : b = b') :
      sigma (∑ k, H k * w k + b) = sigma (∑ k, H k * w' k + b') := by rw [funext hw, hb]
  refine congrArg (x0 (ix2 r c) + ·) (Finset.sum_congr rfl fun e _ => congrArg (· * x12 (ix2 e c)) ?_)
  exact congrArg₂ (· + ·) (congrArg₂ (· + ·) (congrArg (· * _) (g _ _ _ _ _ (fun k => w0_at x7 k e) (b0_at x8 e)))
    (congrArg (· * _) (g _ _ _ _ _ (fun k => w1_at x7 k e) (b1_at x8 e))))
    (congrArg (· * _) (g _ _ _ _ _ (fun k => w2_at x7 k e) (b2_at x8 e)))

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val / 16, 0] ∧ win0_5.index t = ![t.val / 16, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0] :=
  (by decide +kernel : ∀ t : Fin grid0.N, _)

/-- A row of the result's array, from the arrays of the arguments. -/
def rowOf (X0 : Vec Ideal S16384x1024 .f32) (X1 X2 X3 : Vec Ideal S16384x512 .bf16) (X4 X5 : Vec Ideal S1024x512 .bf16)
    (X6 : Vec Ideal S1024 .f32) (X7 : Vec Ideal S1024x6144 .f32) (X8 : Vec Ideal S3072 .f32)
    (X9 X10 X11 : Vec Ideal S512x1024 .f32) (X12 : Vec Ideal S1024x1024 .f32) (r : Fin 16384) (c : Fin 1024) : EReal :=
  post (fun c => X0 (ix2 r c)) (fun c => X1 (ix2 r c)) (fun c => X2 (ix2 r c)) (fun c => X3 (ix2 r c))
    (fun i c => X4 (ix2 (mrow (batch r) i) c)) (fun i c => X5 (ix2 (mrow (batch r) i) c)) (fun c => X6 (ix1 c))
    (fun k c => X7 (ix2 k (gateCol c))) (fun c => X8 (ix1 c)) (fun k c => X9 (ix2 k c)) (fun k c => X10 (ix2 k c))
    (fun k c => X11 (ix2 k c)) (fun k c => X12 (ix2 k c)) c

/-- The result's array. -/
abbrev result (c : Dev nD) : Vec Ideal S16384x1024 .f32 := fun j =>
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (j 0) (j 1)

/-- The row of the arrays that row `r` of point `t`'s blocks is. -/
def rowAt (t : Fin cfg0.N) (r : Fin 256) : Fin 16384 := ⟨256 * t.val + r.val, by have : t.val < 64 := t.isLt; omega⟩

section blocks

variable (c : Dev nD) (t : Fin cfg0.N)

theorem block0 (r : Fin 256) (k : Fin 1024) :
    iblk m c 0 t (ix2 r k) = (m ((c : Thread nD τ).loc main_arg0) : Vec Ideal S16384x1024 .f32) (ix2 (rowAt t r) k) := by
  blk_ext [iblk, V, idx t, rowAt]
theorem block1 (r : Fin 256) (k : Fin 512) :
    iblk m c 1 t (ix2 r k) = (m ((c : Thread nD τ).loc main_arg1) : Vec Ideal S16384x512 .bf16) (ix2 (rowAt t r) k) := by
  blk_ext [iblk, V, idx t, rowAt]
theorem block2 (r : Fin 256) (k : Fin 512) :
    iblk m c 2 t (ix2 r k) = (m ((c : Thread nD τ).loc main_arg2) : Vec Ideal S16384x512 .bf16) (ix2 (rowAt t r) k) := by
  blk_ext [iblk, V, idx t, rowAt]
theorem block3 (r : Fin 256) (k : Fin 512) :
    iblk m c 3 t (ix2 r k) = (m ((c : Thread nD τ).loc main_arg3) : Vec Ideal S16384x512 .bf16) (ix2 (rowAt t r) k) := by
  blk_ext [iblk, V, idx t, rowAt]
theorem block4 (r : Fin 256) (i : Fin 256) (k : Fin 512) :
    iblk m c 4 t (ix2 i k) = (m ((c : Thread nD τ).loc main_arg4) : Vec Ideal S1024x512 .bf16) (ix2 (mrow (batch (rowAt t r)) i) k) := by
  have e : (mrow (batch (rowAt t r)) i).val = t.val / 16 * 256 + i.val := by
    show 256 * ((256 * t.val + r.val) / 4096) + i.val = _
    omega
  blk_ext [iblk, V, idx t, e]
theorem block5 (r : Fin 256) (i : Fin 256) (k : Fin 512) :
    iblk m c 5 t (ix2 i k) = (m ((c : Thread nD τ).loc main_arg5) : Vec Ideal S1024x512 .bf16) (ix2 (mrow (batch (rowAt t r)) i) k) := by
  have e : (mrow (batch (rowAt t r)) i).val = t.val / 16 * 256 + i.val := by
    show 256 * ((256 * t.val + r.val) / 4096) + i.val = _
    omega
  blk_ext [iblk, V, idx t, e]
theorem block6 (k : Fin 1024) :
    iblk m c 6 t (ix2 0 k) = (m ((c : Thread nD τ).loc main_arg6) : Vec Ideal S1024 .f32) (ix1 k) := by
  blk_point [iblk, V, idx t]
theorem block7 (i : Fin 1024) (k : Fin 3072) :
    iblk m c 7 t (ix2 i k) = (m ((c : Thread nD τ).loc main_arg7) : Vec Ideal S1024x6144 .f32) (ix2 i (gateCol k)) := by
  blk_point [iblk, V, idx t, gateCol]
theorem block8 (k : Fin 3072) :
    iblk m c 8 t (ix2 0 k) = (m ((c : Thread nD τ).loc main_arg8) : Vec Ideal S3072 .f32) (ix1 k) := by
  blk_point [iblk, V, idx t]
theorem block9 (i : Fin 512) (k : Fin 1024) :
    iblk m c 9 t (ix2 i k) = (m ((c : Thread nD τ).loc main_arg9) : Vec Ideal S512x1024 .f32) (ix2 i k) := by
  blk_point [iblk, V, idx t]
theorem block10 (i : Fin 512) (k : Fin 1024) :
    iblk m c 10 t (ix2 i k) = (m ((c : Thread nD τ).loc main_arg10) : Vec Ideal S512x1024 .f32) (ix2 i k) := by
  blk_point [iblk, V, idx t]
theorem block11 (i : Fin 512) (k : Fin 1024) :
    iblk m c 11 t (ix2 i k) = (m ((c : Thread nD τ).loc main_arg11) : Vec Ideal S512x1024 .f32) (ix2 i k) := by
  blk_point [iblk, V, idx t]
theorem block12 (i : Fin 1024) (k : Fin 1024) :
    iblk m c 12 t (ix2 i k) = (m ((c : Thread nD τ).loc main_arg12) : Vec Ideal S1024x1024 .f32) (ix2 i k) := by
  blk_point [iblk, V, idx t]

end blocks

/-- What point `t` writes back is its block of the result. -/
theorem point (c : Dev nD) (hq : ∀ r k, ∃ a : ℝ, (m ((c : Thread nD τ).loc main_arg3) : Vec Ideal S16384x512 .bf16) (ix2 r k) = (a : EReal))
    (hk : ∀ r k, ∃ a : ℝ, (m ((c : Thread nD τ).loc main_arg4) : Vec Ideal S1024x512 .bf16) (ix2 r k) = (a : EReal))
    (t : Fin cfg0.N) (y0 : Fin 256) (y1 : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y0 y1)
      = result m c (ix2 (rowAt t y0) y1) := by
  refine (body_at _ _ _ _ _ _ _ _ _ _ _ _ _ ?_ ?_ _ _).trans ?_
  · intro r k
    obtain ⟨a, ha⟩ := hq (rowAt t r) k
    exact ⟨a, (block3 m c t r k).trans ha⟩
  · intro i k
    obtain ⟨a, ha⟩ := hk (mrow (batch (rowAt t y0)) i) k
    exact ⟨a, (block4 m c t y0 i k).trans ha⟩
  · show _ = rowOf _ _ _ _ _ _ _ _ _ _ _ _ _ (rowAt t y0) y1
    unfold rowOf
    congr 1
    · exact funext fun k => block0 m c t y0 k
    · exact funext fun k => block1 m c t y0 k
    · exact funext fun k => block2 m c t y0 k
    · exact funext fun k => block3 m c t y0 k
    · exact funext fun i => funext fun k => block4 m c t y0 i k
    · exact funext fun i => funext fun k => block5 m c t y0 i k
    · exact funext fun k => block6 m c t k
    · exact funext fun i => funext fun k => block7 m c t i k
    · exact funext fun k => block8 m c t k
    · exact funext fun i => funext fun k => block9 m c t i k
    · exact funext fun i => funext fun k => block10 m c t i k
    · exact funext fun i => funext fun k => block11 m c t i k
    · exact funext fun i => funext fun k => block12 m c t i k

/-- The result's array after the run. -/
theorem final (c : Dev nD) (hq : ∀ r k, ∃ a : ℝ, (m ((c : Thread nD τ).loc main_arg3) : Vec Ideal S16384x512 .bf16) (ix2 r k) = (a : EReal))
    (hk : ∀ r k, ∃ a : ℝ, (m ((c : Thread nD τ).loc main_arg4) : Vec Ideal S1024x512 .bf16) (ix2 r k) = (a : EReal)) :
    (dats m 0 c).arrAt 13 (cfgs 0).N = result m c := by
  refine (dats m 0 c).arrAt_eq_of_covers 13 _ (by decide +kernel) fun t _ y => ?_
  blk_simp
  rw [after0_13]
  idx_vars y
  refine (point m c hq hk t y0 y1).trans (congrArg (result m c) ?_)
  blk_ext [idx t, rowAt]

end Cert.PostIdeal.Value

end
-- ==== Proof.PostReference.lean ====
/- The reference of the post-mixing call, value by value: the plain formula of `PostSpec` of the rows of its arguments. -/
module

public import proofs.«01_k».proof.Proof.Gen.PostRefIdeal.Read
public import proofs.«01_k».proof.Proof.PostSpec

@[expose] public section

set_option maxRecDepth 16384

noncomputable section

open Idealize.ShloMosaic Idealize.ShloMosaic.TcCoe Idealize.SL.Sem

namespace Cert.PostRefIdeal.Value

open Cert.PostRefIdeal Cert.PostRefIdeal.Gen Cert.PostRefIdeal.Read Cert.Softmax Cert.Post

variable (x0 : (⟨S16384x1024, .f32⟩ : BufTy).Contents (Elt Ideal)) (x1 x2 x3 : (⟨S16384x512, .bf16⟩ : BufTy).Contents (Elt Ideal))
  (x4 x5 : (⟨S1024x512, .bf16⟩ : BufTy).Contents (Elt Ideal)) (x6 : (⟨S1024, .f32⟩ : BufTy).Contents (Elt Ideal))
  (x7 : (⟨S1024x6144, .f32⟩ : BufTy).Contents (Elt Ideal)) (x8 : (⟨S3072, .f32⟩ : BufTy).Contents (Elt Ideal))
  (x9 x10 x11 : (⟨S512x1024, .f32⟩ : BufTy).Contents (Elt Ideal)) (x12 : (⟨S1024x1024, .f32⟩ : BufTy).Contents (Elt Ideal))

/-- The normed row. -/
theorem norm_at (r : Fin 16384) (c : Fin 1024) :
    val_main_v12 x0 x6 (ix2 r c) = norm (fun c => x0 (ix2 r c)) (fun c => x6 (ix1 c)) c := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The three gates of a row. -/
theorem gates_at (r : Fin 16384) (j : Fin 3) (c : Fin 1024) :
    val_main_v52 x0 x6 x7 x8 (ix3 r j c)
      = gate (norm (fun c => x0 (ix2 r c)) (fun c => x6 (ix1 c))) (fun k c => x7 (ix2 k (gateCol c)))
          (fun c => x8 (ix1 c)) (gcol j c) := by
  have h := norm_at x0 x6 r
  pointwise [val_main_v52, val_main_v51, val_main_cst_7, val_main_cst_6, val_main_v50, val_main_v49, val_main_v48,
    val_main_v47, val_main_v46, val_main_v45, val_main_v44, val_main_v43, val_main_v14, val_main_v13]
  simp only [h]
  have e : ∀ p : j.val * 1024 + c.val < 3072, (⟨j.val * 1024 + c.val, p⟩ : Fin 3072) = gcol j c := fun p =>
    Fin.ext (show j.val * 1024 + c.val = 1024 * j.val + c.val by omega)
  have e' : ∀ p : 3072 + (j.val * 1024 + c.val) < 6144, (⟨3072 + (j.val * 1024 + c.val), p⟩ : Fin 6144)
      = gateCol (gcol j c) := fun p =>
    Fin.ext (show 3072 + (j.val * 1024 + c.val) = 3072 + (1024 * j.val + c.val) by omega)
  simp only [e, e']
  rfl

/-- A row of the flat batch. -/
def row (b : Fin 4) (t : Fin 4096) : Fin 16384 := ⟨b.val * 4096 + t.val, by omega⟩

/-- The scores of a query row against its batch row's memory. -/
theorem score_at (b h : Fin 4) (t : Fin 4096) (i : Fin 256) :
    val_main_v27 x3 x4 (ix4 b h t i)
      = score (fun c => x3 (ix2 (row b t) c)) (fun i c => x4 (ix2 (mrow b i) c)) (col h) i := by
  pointwise [val_main_v27, val_main_v26, val_main_cst_2, val_main_v25, val_main_v23, val_main_v22, val_main_v20, val_main_v19]
  unfold score
  have e : ∀ (x : Fin 128) (p : h.val * 128 + x.val < 512), (⟨h.val * 128 + x.val, p⟩ : Fin 512) = col h x := fun x p =>
    Fin.ext (show h.val * 128 + x.val = 128 * h.val + x.val by omega)
  have e' : ∀ p : b.val * 256 + i.val < 1024, (⟨b.val * 256 + i.val, p⟩ : Fin 1024) = mrow b i := fun p =>
    Fin.ext (show b.val * 256 + i.val = 256 * b.val + i.val by omega)
  simp only [e, e']
  rfl

/-- The greatest score of a query row. -/
theorem max_at (b h : Fin 4) (t : Fin 4096) :
    val_main_v28 x3 x4 (ix3 b h t)
      = Finset.univ.fold max (Ideal.ofBits .f32 0xFF800000#32) (fun i => val_main_v27 x3 x4 (ix4 b h t i)) := by
  unfold val_main_v28
  generalize val_main_v27 x3 x4 = y
  pointwise [val_main_cst_3]

theorem max'_at (b h : Fin 4) (t : Fin 4096) :
    val_main_v30 x3 x4 (ix3 b h t) = val_main_v28 x3 x4 (ix3 b h t) := by
  rw [val_main_v30_apply]
  generalize val_main_v28 x3 x4 = y
  have e : val_main_v29 (F := Ideal) (ix3 b h t) = (⊥ : EReal) := by
    pointwise [val_main_v29, val_main_cst_4]
    exact ofBits_neg_inf
  rw [e]
  exact max_eq_right bot_le

/-- A score's weight, not yet divided. -/
theorem weight_at (b h : Fin 4) (t : Fin 4096) (i : Fin 256) :
    val_main_v34 x3 x4 (ix4 b h t i) = Ideal.exp (val_main_v27 x3 x4 (ix4 b h t i) - val_main_v30 x3 x4 (ix3 b h t)) := by
  unfold val_main_v34 val_main_v33 val_main_v32 val_main_v31
  generalize val_main_v27 x3 x4 = y
  generalize val_main_v30 x3 x4 = z
  pointwise

/-- A score's weight. -/
theorem prob_at (b h : Fin 4) (t : Fin 4096) (i : Fin 256) :
    val_main_v38 x3 x4 (ix4 b h t i)
      = Ideal.div (val_main_v34 x3 x4 (ix4 b h t i)) (∑ i, val_main_v34 x3 x4 (ix4 b h t i)) := by
  unfold val_main_v38 val_main_v37 val_main_v36 val_main_v35
  generalize val_main_v34 x3 x4 = y
  pointwise [val_main_cst_5]

/-- The weighted sum of the memory's values. -/
theorem attn_at (b h : Fin 4) (t : Fin 4096) (d : Fin 128) :
    val_main_v39 x3 x4 x5 (ix4 b h d t)
      = ∑ i, x5 (ix2 (mrow b i) (col h d)) * val_main_v38 x3 x4 (ix4 b h t i) := by
  unfold val_main_v39
  generalize val_main_v38 x3 x4 = y
  pointwise [val_main_v24, val_main_v21]
  refine Finset.sum_congr rfl fun i _ => ?_
  have e : ∀ (x : Fin 128) (p : h.val * 128 + x.val < 512), (⟨h.val * 128 + x.val, p⟩ : Fin 512) = col h x := fun x p =>
    Fin.ext (show h.val * 128 + x.val = 128 * h.val + x.val by omega)
  have e' : ∀ p : b.val * 256 + i.val < 1024, (⟨b.val * 256 + i.val, p⟩ : Fin 1024) = mrow b i := fun p =>
    Fin.ext (show b.val * 256 + i.val = 256 * b.val + i.val by omega)
  simp only [e, e']

/-- The rows and columns of the attention's result. -/
theorem flat_at (r : Fin 16384) (c : Fin 512) :
    val_main_v41 x3 x4 x5 (ix2 r c)
      = val_main_v39 x3 x4 x5 (ix4 (batch r) (head c) ⟨c.val % 128, by omega⟩ ⟨r.val % 4096, by omega⟩) := by
  unfold val_main_v41 val_main_v40
  generalize val_main_v39 x3 x4 x5 = y
  pointwise
  rfl

/-- The attention over the memory, of real queries and keys. -/
theorem memory_at (hq : ∀ r c, ∃ a : ℝ, x3 (ix2 r c) = (a : EReal)) (hk : ∀ i c, ∃ a : ℝ, x4 (ix2 i c) = (a : EReal))
    (r : Fin 16384) (c : Fin 512) :
    val_main_v41 x3 x4 x5 (ix2 r c)
      = memory (fun c => x3 (ix2 r c)) (fun i c => x4 (ix2 (mrow (batch r) i) c))
          (fun i c => x5 (ix2 (mrow (batch r) i) c)) c := by
  have er : row (batch r) ⟨r.val % 4096, by omega⟩ = r :=
    Fin.ext (show r.val / 4096 * 4096 + r.val % 4096 = r.val by omega)
  have ec : ∀ p, col (head c) ⟨c.val % 128, p⟩ = c := fun p =>
    Fin.ext (show 128 * (c.val / 128) + c.val % 128 = c.val by omega)
  have hs := score_real (fun c => x3 (ix2 r c)) (fun i c => x4 (ix2 (mrow (batch r) i) c)) (col (head c))
    (fun c => hq r c) (fun i c => hk _ c)
  rw [flat_at, attn_at]
  simp only [prob_at, weight_at, max'_at, max_at, score_at, er, ec]
  exact attn_max_weights _ _ hs

/-- The reference's result, at a row and a column. -/
theorem reference_at (hq : ∀ r c, ∃ a : ℝ, x3 (ix2 r c) = (a : EReal)) (hk : ∀ i c, ∃ a : ℝ, x4 (ix2 i c) = (a : EReal))
    (r : Fin 16384) (c : Fin 1024) :
    val_main_v65 x0 x1 x2 x3 x4 x5 x6 x7 x8 x9 x10 x11 x12 (ix2 r c)
      = post (fun c => x0 (ix2 r c)) (fun c => x1 (ix2 r c)) (fun c => x2 (ix2 r c)) (fun c => x3 (ix2 r c))
          (fun i c => x4 (ix2 (mrow (batch r) i) c)) (fun i c => x5 (ix2 (mrow (batch r) i) c)) (fun c => x6 (ix1 c))
          (fun k c => x7 (ix2 k (gateCol c))) (fun c => x8 (ix1 c)) (fun k c => x9 (ix2 k c)) (fun k c => x10 (ix2 k c))
          (fun k c => x11 (ix2 k c)) (fun k c => x12 (ix2 k c)) c := by
  have hg := gates_at x0 x6 x7 x8 r
  have hm := memory_at x3 x4 x5 hq hk r
  unfold val_main_v65 val_main_v64 val_main_v63 val_main_v62 val_main_v61 val_main_v60 val_main_v59 val_main_v58
    val_main_v57 val_main_v56 val_main_v55 val_main_v54 val_main_v53 val_main_v42
  generalize val_main_v52 x0 x6 x7 x8 = y at *
  generalize val_main_v41 x3 x4 x5 = z at *
  pointwise [val_main_v18, val_main_v17, val_main_v16, val_main_v15]
  simp only [hg, hm]
  rfl

end Cert.PostRefIdeal.Value

end
-- ==== Proof.PostPre.lean ====
/- The precondition of the post-mixing call: the memory's queries and keys are real numbers. -/
module

public import proofs.«01_k».proof.Proof.Gen.Pre_finite_memory
public import proofs.«01_k».proof.Proof.Softmax
public import Idealize.ShloMosaic.Lib.ReduceAll

@[expose] public section

noncomputable section

open Idealize.ShloMosaic Idealize.ShloMosaic.TcCoe Idealize.SL.Sem

namespace Cert.Pre_finite_memory

open Cert.Pre_finite_memory.Gen Cert.Softmax

instance : Subsingleton S_.Idx := ⟨fun a b => funext fun x => x.elim0⟩

theorem both (a b : BitVec 1) (h : a &&& b = 1#1) : a = 1#1 ∧ b = 1#1 := by revert a b; decide

/-- An entry whose absolute value compares below the bits of `+∞` is real. -/
theorem real_of_cmp (x : EReal) (h : FloatOps.cmpf (F := Ideal) (φ := .f32) .olt (max x (-x)) (Ideal.ofBits .f32 0x7F800000#32) = 1#1) :
    ∃ a : ℝ, x = (a : EReal) := by
  rw [ofBits_inf] at h
  apply real_of_abs_lt
  by_contra hc
  have : FloatOps.cmpf (F := Ideal) (φ := .f32) .olt (max x (-x)) (⊤ : EReal) = 0#1 := by
    show BitVec.ofBool (decide (max x (-x) < ⊤)) = 0#1
    rw [decide_eq_false hc]; rfl
  rw [this] at h
  exact absurd h (by decide)

theorem real (a0 : FVec Ideal S16384x1024 .f32) (a1 a2 a3 : FVec Ideal S16384x512 .bf16) (a4 a5 : FVec Ideal S1024x512 .bf16)
    (a6 : FVec Ideal S1024 .f32) (a7 : FVec Ideal S1024x6144 .f32) (a8 : FVec Ideal S3072 .f32)
    (a9 a10 a11 : FVec Ideal S512x1024 .f32) (a12 : FVec Ideal S1024x1024 .f32) (j : S_.Idx)
    (h : fn (F := Ideal) a0 a1 a2 a3 a4 a5 a6 a7 a8 a9 a10 a11 a12 j = 1#1) :
    (∀ i, ∃ a : ℝ, a3 i = (a : EReal)) ∧ (∀ i, ∃ a : ℝ, a4 i = (a : EReal)) := by
  obtain ⟨h1, h2⟩ := both _ _ h
  exact ⟨fun i => real_of_cmp (a3 i) (Host.reduce_andi_all _ _ _ _ j h1 i),
    fun i => real_of_cmp (a4 i) (Host.reduce_andi_all _ _ _ _ j h2 i)⟩

end Cert.Pre_finite_memory

end
-- ==== Proof.PostClaim.lean ====
/- The post-mixing call and its reference end with equal results. -/
module

public import proofs.«01_k».proof.Defs
public import proofs.«01_k».proof.Proof.PostValue
public import proofs.«01_k».proof.Proof.PostReference
public import proofs.«01_k».proof.Proof.PostPre
public import proofs.«01_k».proof.Proof.Gen.PostRefIdeal.Run
public import proofs.«01_k».proof.Proof.Gen.PostRefIdeal.Read
public import Idealize.ShloMosaic.Lib.Claim

@[expose] public section

set_option maxRecDepth 16384

noncomputable section

open Idealize.ShloMosaic Idealize.ShloMosaic.TcCoe Idealize.SL.Sem

namespace Cert.Proof

theorem post_algebraic :
    Cert.algebraic_PostIdeal_PostRefIdeal_pre_finite_memory (hPostIdeal := Cert.PostIdeal.Gen.facts)
      (hPostRefIdeal := Cert.PostRefIdeal.Gen.facts) (hPre_finite_memory := Cert.Pre_finite_memory.Gen.facts) := by
  pair_intro
  · run_from Cert.PostIdeal.Gen.run_main m g
  · run_from Cert.PostRefIdeal.Value.run m' g'
    obtain ⟨h3, h4⟩ := Cert.Pre_finite_memory.real _ _ _ _ _ _ _ _ _ _ _ _ _ ValueIdx.ix0 (congrFun (hpre c) ValueIdx.ix0)
    rw [Cert.PostIdeal.Value.final m c (fun r k => h3 _) (fun r k => h4 _), Cert.PostRefIdeal.Read.val_main_v65_eq]
    obtain ⟨a0, a1, a2, a3, a4, a5, a6, a7, a8, a9, a10, a11, a12⟩ := hagree c
    rw [a0, a1, a2, a3, a4, a5, a6, a7, a8, a9, a10, a11, a12]
    funext j
    obtain ⟨r, k, rfl⟩ : ∃ (r : Fin 16384) (k : Fin 1024), j = ValueIdx.ix2 r k :=
      ⟨j 0, j 1, by funext a; match a with | ⟨0, _⟩ => rfl | ⟨1, _⟩ => rfl⟩
    exact Cert.PostRefIdeal.Value.reference_at _ _ _ _ _ _ _ _ _ _ _ _ _ (fun r k => h3 _) (fun r k => h4 _) r k

end Cert.Proof

end
-- ==== Proof.GroupNorm.lean ====
/- The root-mean-square norm over groups of adjacent columns, and the same norm with the groups' means taken as a
   product with a block matrix of `1 / width` entries: equal where the entries are real numbers. -/
module

public import proofs.«01_k».proof.Proof.PostSpec

@[expose] public section

noncomputable section

namespace Cert.Group

open Idealize.ShloMosaic Cert.Softmax

/-- The constant added below the root. -/
def eps : EReal := Ideal.ofBits .f32 897988541#32

theorem eps_pos : ∃ e : ℝ, 0 < e ∧ eps = (e : EReal) := by
  refine ⟨8796093 * (2 : ℝ) ^ (-43 : ℤ), by positivity, ?_⟩
  simp [eps, Ideal.ofBits, Ideal.ieee]

/-- The columns of a column's group of 64. -/
def mem64 (c : Fin 512) (d : Fin 64) : Fin 512 := ⟨c.val / 64 * 64 + d.val, by omega⟩

/-- The columns of a column's group of 128. -/
def mem128 (c : Fin 512) (d : Fin 128) : Fin 512 := ⟨c.val / 128 * 128 + d.val, by omega⟩

/-- Column `c` of a row after the norm over its group's columns `e`, the sum of squares divided by `n`. -/
def gnorm {D : ℕ} (n : EReal) (z : Fin 512 → EReal) (e : Fin D → Fin 512) (g : EReal) (c : Fin 512) : EReal :=
  z c * Ideal.rsqrt (Ideal.div (∑ d, z (e d) * z (e d)) n + eps) * g

/-- The same with the mean taken as two products with a column of weights: of the squares' rounded part and of the rest. -/
def wnorm (z w : Fin 512 → EReal) (g : EReal) (c : Fin 512) : EReal :=
  z c * Ideal.rsqrt (∑ k, z k * z k * w k + ∑ k, (z k * z k - z k * z k) * w k + eps) * g

/-- A sum against weights that are `κ` in one group and zero outside is the group's sum times `κ`. -/
theorem sum_group {D : ℕ} (p : Fin 512 → Prop) [DecidablePred p] (e : Fin D → Fin 512) (he : Function.Injective e)
    (hp : ∀ k, p k ↔ ∃ d, e d = k) (f : Fin 512 → EReal) (κ : EReal) :
    ∑ k, f k * (if p k then κ else 0) = ∑ d, f (e d) * κ := by
  symm
  refine Finset.sum_of_injOn e he.injOn (fun _ _ => Finset.mem_univ _) (fun k _ hk => ?_) (fun d _ => ?_)
  · rw [if_neg, mul_zero]
    intro h
    obtain ⟨d, rfl⟩ := (hp k).1 h
    exact hk ⟨d, Finset.mem_coe.2 (Finset.mem_univ d), rfl⟩
  · rw [if_pos ((hp _).2 ⟨d, rfl⟩)]

/-- The two norms agree on real entries, for weights `1 / n`. -/
theorem wnorm_eq {D : ℕ} (n : ℝ) (hn : 0 < n) (p : Fin 512 → Prop) [DecidablePred p] (e : Fin D → Fin 512)
    (he : Function.Injective e) (hp : ∀ k, p k ↔ ∃ d, e d = k) (z : Fin 512 → EReal)
    (hz : ∀ k, ∃ a : ℝ, z k = (a : EReal)) (g : EReal) (c : Fin 512) :
    wnorm z (fun k => if p k then ((n⁻¹ : ℝ) : EReal) else 0) g c = gnorm (n : EReal) z e g c := by
  have h0 : ∀ k, z k * z k - z k * z k = 0 := fun k => by
    obtain ⟨a, ha⟩ := hz k
    rw [ha, ← EReal.coe_mul, ← EReal.coe_sub, sub_self, EReal.coe_zero]
  have hn0 : ((n : ℝ) : EReal) ≠ 0 := by
    rw [← EReal.coe_zero]; exact fun h => hn.ne' (EReal.coe_eq_coe_iff.1 h)
  unfold wnorm gnorm Ideal.div
  rw [sum_group p e he hp (fun k => z k * z k), if_neg hn0]
  simp only [h0, zero_mul, Finset.sum_const_zero, add_zero]
  rw [← sum_mul_of_nonneg _ (EReal.coe_nonneg.2 (inv_nonneg.2 hn.le)) (EReal.coe_ne_top _), EReal.coe_inv]

theorem mem64_inj (c : Fin 512) : Function.Injective (mem64 c) := fun a b h =>
  Fin.ext (by have := Fin.ext_iff.1 h; simp only [mem64] at this; omega)

theorem mem128_inj (c : Fin 512) : Function.Injective (mem128 c) := fun a b h =>
  Fin.ext (by have := Fin.ext_iff.1 h; simp only [mem128] at this; omega)

theorem mem64_iff (c k : Fin 512) : k.val / 64 = c.val / 64 ↔ ∃ d, mem64 c d = k :=
  ⟨fun h => ⟨⟨k.val % 64, by omega⟩, Fin.ext (show c.val / 64 * 64 + k.val % 64 = k.val by omega)⟩,
    fun ⟨d, h⟩ => by have := Fin.ext_iff.1 h; simp only [mem64] at this; omega⟩

theorem mem128_iff (c k : Fin 512) : k.val / 128 = c.val / 128 ↔ ∃ d, mem128 c d = k :=
  ⟨fun h => ⟨⟨k.val % 128, by omega⟩, Fin.ext (show c.val / 128 * 128 + k.val % 128 = k.val by omega)⟩,
    fun ⟨d, h⟩ => by have := Fin.ext_iff.1 h; simp only [mem128] at this; omega⟩

/-- The widths and their reciprocals, as the programs write them. -/
theorem width64 : Ideal.ofBits .f32 1115684864#32 = ((64 : ℝ) : EReal) := by
  simp [Ideal.ofBits, Ideal.ieee, -EReal.coe_mul]; norm_num
theorem width128 : Ideal.ofBits .f32 1124073472#32 = ((128 : ℝ) : EReal) := by
  simp [Ideal.ofBits, Ideal.ieee, -EReal.coe_mul]; norm_num
theorem recip64 : Ideal.ofBits .f32 1015021568#32 = (((64 : ℝ)⁻¹ : ℝ) : EReal) := by
  simp [Ideal.ofBits, Ideal.ieee, -EReal.coe_mul]; norm_num
theorem recip128 : Ideal.ofBits .f32 1006632960#32 = (((128 : ℝ)⁻¹ : ℝ) : EReal) := by
  simp [Ideal.ofBits, Ideal.ieee, -EReal.coe_mul]; norm_num

/-- The weights of a column: the reciprocal of the width in the column's own group. -/
def wt64 (c k : Fin 512) : EReal := if k.val / 64 = c.val / 64 then Ideal.ofBits .f32 1015021568#32 else 0
def wt128 (c k : Fin 512) : EReal := if k.val / 128 = c.val / 128 then Ideal.ofBits .f32 1006632960#32 else 0

theorem wnorm64 (z : Fin 512 → EReal) (hz : ∀ k, ∃ a : ℝ, z k = (a : EReal)) (g : EReal) (c : Fin 512) :
    wnorm z (wt64 c) g c = gnorm (Ideal.ofBits .f32 1115684864#32) z (mem64 c) g c := by
  rw [width64, ← wnorm_eq 64 (by norm_num) _ _ (mem64_inj c) (mem64_iff c) z hz, ← recip64]; rfl

theorem wnorm128 (z : Fin 512 → EReal) (hz : ∀ k, ∃ a : ℝ, z k = (a : EReal)) (g : EReal) (c : Fin 512) :
    wnorm z (wt128 c) g c = gnorm (Ideal.ofBits .f32 1124073472#32) z (mem128 c) g c := by
  rw [width128, ← wnorm_eq 128 (by norm_num) _ _ (mem128_inj c) (mem128_iff c) z hz, ← recip128]; rfl

/-- The host's 32-bit quotient of a column's number is the column's group. -/
theorem quot64 (k : Fin 512) : IntOp.divsi .host (BitVec.ofNat 32 k.val) 64#32 = BitVec.ofNat 32 (k.val / 64) := by
  unfold IntOp.divsi
  rw [if_neg (by unfold IntOp.SDivCorner; decide +revert +kernel)]
  exact (by decide +kernel : ∀ k : Fin 512, (BitVec.ofNat 32 k.val).sdiv 64#32 = BitVec.ofNat 32 (k.val / 64)) k
theorem quot128 (k : Fin 512) : IntOp.divsi .host (BitVec.ofNat 32 k.val) 128#32 = BitVec.ofNat 32 (k.val / 128) := by
  unfold IntOp.divsi
  rw [if_neg (by unfold IntOp.SDivCorner; decide +revert +kernel)]
  exact (by decide +kernel : ∀ k : Fin 512, (BitVec.ofNat 32 k.val).sdiv 128#32 = BitVec.ofNat 32 (k.val / 128)) k

theorem ofNat_eq (a b : ℕ) (ha : a < 512) (hb : b < 512) : BitVec.ofNat 32 a = BitVec.ofNat 32 b ↔ a = b :=
  ⟨fun h => by have := congrArg BitVec.toNat h; simp only [BitVec.toNat_ofNat] at this; omega, fun h => by rw [h]⟩

/-- A choice on the equality of two small numbers written with 32 bits. -/
theorem choose_eq (a b : ℕ) (ha : a < 512) (hb : b < 512) (x y : EReal) :
    Scalar.select (IntOp.cmpi .eq (BitVec.ofNat 32 a) (BitVec.ofNat 32 b)) x y = if a = b then x else y := by
  by_cases h : a = b
  · subst h; simp [IntOp.cmpi, Scalar.select]
  · have h' : ¬ BitVec.ofNat 32 a = BitVec.ofNat 32 b := fun e => h ((ofNat_eq a b ha hb).1 e)
    have e : IntOp.cmpi .eq (BitVec.ofNat 32 a) (BitVec.ofNat 32 b) = 0#1 := by
      show BitVec.ofBool (BitVec.ofNat 32 a == BitVec.ofNat 32 b) = 0#1
      rw [beq_eq_false_iff_ne.2 h']; rfl
    rw [e, if_neg h]; rfl

/-- The weights as the host computes them. -/
theorem host64 (c k : Fin 512) :
    Scalar.select (IntOp.cmpi .eq (IntOp.divsi .host (BitVec.ofNat 32 k.val) 64#32) (IntOp.divsi .host (BitVec.ofNat 32 c.val) 64#32))
      (Ideal.ofBits .f32 1015021568#32) (Ideal.ofBits .f32 0#32) = wt64 c k := by
  rw [quot64, quot64, choose_eq _ _ (by omega) (by omega), Ideal.ofBits_zero_f32]; rfl
theorem host128 (c k : Fin 512) :
    Scalar.select (IntOp.cmpi .eq (IntOp.divsi .host (BitVec.ofNat 32 k.val) 128#32) (IntOp.divsi .host (BitVec.ofNat 32 c.val) 128#32))
      (Ideal.ofBits .f32 1006632960#32) (Ideal.ofBits .f32 0#32) = wt128 c k := by
  rw [quot128, quot128, choose_eq _ _ (by omega) (by omega), Ideal.ofBits_zero_f32]; rfl

/-- The one-over-root of a mean of squares is real, where the squares are. -/
theorem rsqrt_real (f : Fin 1024 → EReal) (hf : ∀ k, ∃ a : ℝ, f k = (a : EReal)) :
    ∃ a : ℝ, Ideal.rsqrt (Ideal.div (∑ k, f k * f k) (Ideal.ofBits .f32 1149239296#32) + eps) = (a : EReal) := by
  obtain ⟨e, he, heq⟩ := eps_pos
  choose a ha using hf
  have hw : Ideal.ofBits .f32 1149239296#32 = ((1024 : ℝ) : EReal) := by simp [Ideal.ofBits, Ideal.ieee, -EReal.coe_mul]; norm_num
  have hw0 : ((1024 : ℝ) : EReal) ≠ 0 := by
    rw [← EReal.coe_zero]; exact fun h => by have := EReal.coe_eq_coe_iff.1 h; norm_num at this
  have hs : ∑ k, f k * f k = ((∑ k, a k * a k : ℝ) : EReal) := by simp only [ha, coe_sum, EReal.coe_mul]
  have hd : Ideal.div (∑ k, f k * f k) (Ideal.ofBits .f32 1149239296#32) + eps
      = (((∑ k, a k * a k) * (1024 : ℝ)⁻¹ + e : ℝ) : EReal) := by
    rw [hw, hs, heq]; unfold Ideal.div; rw [if_neg hw0, ← EReal.coe_inv, ← EReal.coe_mul, ← EReal.coe_add]
  have hp : 0 < (∑ k, a k * a k) * (1024 : ℝ)⁻¹ + e :=
    add_pos_of_nonneg_of_pos (mul_nonneg (Finset.sum_nonneg fun k _ => mul_self_nonneg _) (by norm_num)) he
  rw [hd]
  refine ⟨(Real.sqrt ((∑ k, a k * a k) * (1024 : ℝ)⁻¹ + e))⁻¹, ?_⟩
  show (if _ < 0 then _ else if _ = 0 then _ else _ : EReal) = _
  rw [if_neg (not_lt.2 hp.le), if_neg hp.ne']

/-- The norm of a row of real numbers with real gains is real. -/
theorem norm_real (x g : Fin 1024 → EReal) (hx : ∀ k, ∃ a : ℝ, x k = (a : EReal)) (hg : ∀ k, ∃ a : ℝ, g k = (a : EReal))
    (c : Fin 1024) : ∃ a : ℝ, Post.norm x g c = (a : EReal) := by
  obtain ⟨r, hr⟩ := rsqrt_real x hx
  obtain ⟨a, ha⟩ := hx c
  obtain ⟨b, hb⟩ := hg c
  refine ⟨a * r * b, ?_⟩
  rw [EReal.coe_mul, EReal.coe_mul, ← ha, ← hb, ← hr]; rfl

/-- A column of the normed row's product with a matrix of real numbers is real. -/
theorem product_real {n : ℕ} (x g : Fin 1024 → EReal) (w : Fin 1024 → Fin n → EReal) (hx : ∀ k, ∃ a : ℝ, x k = (a : EReal))
    (hg : ∀ k, ∃ a : ℝ, g k = (a : EReal)) (hw : ∀ k c, ∃ a : ℝ, w k c = (a : EReal)) (c : Fin n) :
    ∃ a : ℝ, ∑ k, Post.norm x g k * w k c = (a : EReal) :=
  sum_mul_real _ _ (norm_real x g hx hg) (fun k => hw k c)

end Cert.Group

end
-- ==== Proof.MemKvBody.lean ====
/- The memory projection's body, value by value: the normed row, its keys normed over each head, its values. -/
module

public import proofs.«01_k».proof.Proof.Gen.MemKvIdeal.Skeleton
public import proofs.«01_k».proof.Proof.GroupNorm

@[expose] public section

set_option maxRecDepth 16384

noncomputable section

open Idealize.ShloMosaic Idealize.ShloMosaic.TcCoe Idealize.SL.Sem

namespace Cert.MemKvIdeal.Value

open Cert.MemKvIdeal Cert.MemKvIdeal.Gen Cert.Post Cert.Group

/-- The normed row. -/
theorem hn_at (x : Vec Ideal S256x1024 .f32) (g : Vec Ideal S1x1024 .f32) (r : Fin 256) (c : Fin 1024) :
    k0_pay4 (F := Ideal) x g (ix2 r c) = norm (fun c => x (ix2 r c)) (fun c => g (ix2 0 c)) c := by
  pointwise [k0_pay4]
  rfl

/-- The keys, with the groups' means taken through the weights `b`. -/
theorem keys_at (x : Vec Ideal S256x1024 .f32) (g : Vec Ideal S1x1024 .f32) (w : Vec Ideal S1024x512 .bf16)
    (b : Vec Ideal S512x512 .bf16) (gk : Vec Ideal S1x512 .f32) (r : Fin 256) (c : Fin 512) :
    k0_pay5 (F := Ideal) x g w b gk (ix2 r c)
      = wnorm (fun c => ∑ k, norm (fun c => x (ix2 r c)) (fun c => g (ix2 0 c)) k * w (ix2 k c)) (fun k => b (ix2 k c))
          (gk (ix2 0 c)) c := by
  have h := hn_at x g r
  generalize e : k0_pay4 (F := Ideal) x g = p at *
  pointwise [k0_pay5, e, h]
  rfl

/-- The values. -/
theorem values_at (p : Vec Ideal S256x1024 .bf16) (w : Vec Ideal S1024x512 .bf16) (r : Fin 256) (c : Fin 512) :
    k0_pay1 (F := Ideal) p (k0_pay6 (F := Ideal) w) (constant S256x512 .f32 0x00000000#32) (ix2 r c)
      = ∑ k, p (ix2 r k) * w (ix2 k c) := by
  pointwise [k0_pay1, k0_pay6]

end Cert.MemKvIdeal.Value

end
-- ==== Proof.MemKvValue.lean ====
/- The memory projection's result arrays: every row is the plain formula of the rows of the arguments. -/
module

public import proofs.«01_k».proof.Proof.Gen.MemKvIdeal.Value
public import proofs.«01_k».proof.Proof.MemKvBody
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Value

open Cert.MemKvIdeal Cert.MemKvIdeal.Gen Cert.Softmax Cert.Post Cert.Group

/-- The two halves of the projection's columns. -/
abbrev kcol (c : Fin 512) : Fin 1024 := ⟨c.val, by omega⟩
abbrev vcol (c : Fin 512) : Fin 1024 := ⟨512 + c.val, by omega⟩

theorem wk_at (x : Vec Ideal S1024x1024 .bf16) (k : Fin 1024) (c : Fin 512) : View.ld x r0_2 (ix2 k c) = x (ix2 k (kcol c)) :=
  congrArg x (funext fun a => Fin.ext (by match a with | ⟨0, _⟩ => show 0 + 1 * k.val = k.val; omega | ⟨1, _⟩ => show 0 + 1 * c.val = c.val; omega))
theorem wv_at (x : Vec Ideal S1024x1024 .bf16) (k : Fin 1024) (c : Fin 512) : View.ld x r0_5 (ix2 k c) = x (ix2 k (vcol c)) :=
  congrArg x (funext fun a => Fin.ext (by match a with | ⟨0, _⟩ => show 0 + 1 * k.val = k.val; omega | ⟨1, _⟩ => show 512 + 1 * c.val = 512 + c.val; omega))

/-- A row's column of the product. -/
def prod (x g : Fin 1024 → EReal) (w : Fin 1024 → Fin 1024 → EReal) (col : Fin 512 → Fin 1024) (c : Fin 512) : EReal :=
  ∑ k, norm x g k * w k (col c)

variable (x0 : Vec Ideal S256x1024 .f32) (x1 : Vec Ideal S1x1024 .f32) (x2 : Vec Ideal S1024x1024 .bf16)
  (x3 : Vec Ideal S512x512 .bf16) (x4 : Vec Ideal S1x512 .f32) (r : Fin 256) (c : Fin 512)

/-- What the body stores, of the blocks it was given. -/
theorem out5_at :
    out0_5 (F := Ideal) x0 x1 x2 x3 x4 (ix2 r c)
      = wnorm (prod (fun c => x0 (ix2 r c)) (fun c => x1 (ix2 0 c)) (fun k c => x2 (ix2 k c)) kcol) (fun k => x3 (ix2 k c))
          (x4 (ix2 0 c)) c := by
  frame_out
  unfold k0_pay9
  frame_out
  exact (keys_at x0 x1 _ x3 x4 r c).trans (congrArg (fun z => wnorm z (fun k => x3 (ix2 k c)) (x4 (ix2 0 c)) c)
    (funext fun c => Finset.sum_congr rfl fun k _ => congrArg (_ * ·) (wk_at x2 k c)))
theorem out6_at :
    out0_6 (F := Ideal) x0 x1 x2 x3 x4 (ix2 r c)
      = prod (fun c => x0 (ix2 r c)) (fun c => x1 (ix2 0 c)) (fun k c => x2 (ix2 k c)) vcol c := by
  frame_out
  refine (values_at _ _ _ _).trans (Finset.sum_congr rfl fun k _ => ?_)
  rw [wv_at]
  exact congrArg (· * _) (show k0_pay8 (F := Ideal) x0 x1 x2 x3 x4 (ix2 r k) = _ by unfold k0_pay8; frame_out; exact hn_at x0 x1 r k)
theorem out7_at : out0_7 (F := Ideal) x0 x1 x2 x3 x4 (ix2 r c) = out0_5 (F := Ideal) x0 x1 x2 x3 x4 (ix2 r c) := by
  frame_out
  rfl
theorem out8_at : out0_8 (F := Ideal) x0 x1 x2 x3 x4 (ix2 r c) = out0_6 (F := Ideal) x0 x1 x2 x3 x4 (ix2 r c) := by
  frame_out
  rfl

end Cert.MemKvIdeal.Value

namespace Cert.MemKvIdeal.Value

open Cert.MemKvIdeal Cert.MemKvIdeal.Gen Cert.Softmax Cert.Post Cert.Group

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- A row's column of the product, from the arrays of the arguments. -/
def prodOf (X0 : Vec Ideal S1024x1024 .f32) (X1 : Vec Ideal S1024 .f32) (X2 : Vec Ideal S1024x1024 .f32)
    (col : Fin 512 → Fin 1024) (r : Fin 1024) : Fin 512 → EReal :=
  prod (fun c => X0 (ix2 r c)) (fun c => X1 (ix1 c)) (fun k c => X2 (ix2 k c)) col

/-- The keys' array and the values' array. -/
abbrev keys (c : Dev nD) : Vec Ideal S1024x512 .f32 := fun j =>
  gnorm (Ideal.ofBits .f32 1124073472#32)
    (prodOf (m ((c : Thread nD τ).loc main_arg0)) (m ((c : Thread nD τ).loc main_arg1)) (m ((c : Thread nD τ).loc main_arg2)) kcol (j 0))
    (mem128 (j 1)) ((m ((c : Thread nD τ).loc main_arg3) : Vec Ideal S128 .f32) (ix1 (⟨(j 1).val % 128, by omega⟩ : Fin 128))) (j 1)
abbrev values (c : Dev nD) : Vec Ideal S1024x512 .f32 := fun j =>
  prodOf (m ((c : Thread nD τ).loc main_arg0)) (m ((c : Thread nD τ).loc main_arg1)) (m ((c : Thread nD τ).loc main_arg2)) vcol (j 0) (j 1)

/-- The row of the arrays that row `r` of point `t`'s blocks is. -/
def rowAt (t : Fin cfg0.N) (r : Fin 256) : Fin 1024 := ⟨256 * t.val + r.val, by have : t.val < 4 := t.isLt; omega⟩

section blocks

variable (c : Dev nD) (t : Fin cfg0.N)

theorem block0 (r : Fin 256) (k : Fin 1024) :
    iblk m c 0 t (ix2 r k) = (m ((c : Thread nD τ).loc main_arg0) : Vec Ideal S1024x1024 .f32) (ix2 (rowAt t r) k) := by
  blk_ext [iblk, V, idx t, rowAt]
theorem block1 (k : Fin 1024) :
    iblk m c 1 t (ix2 0 k) = (m ((c : Thread nD τ).loc main_arg1) : Vec Ideal S1024 .f32) (ix1 k) := by
  blk_point [iblk, V, idx t]
theorem block2 (i : Fin 1024) (k : Fin 1024) :
    iblk m c 2 t (ix2 i k) = (m ((c : Thread nD τ).loc main_arg2) : Vec Ideal S1024x1024 .f32) (ix2 i k) := by
  blk_point [iblk, V, idx t]
theorem block4 (k : Fin 512) :
    iblk m c 4 t (ix2 0 k) = (m ((c : Thread nD τ).loc main_arg3) : Vec Ideal S128 .f32) (ix1 (⟨k.val % 128, by omega⟩ : Fin 128)) := by
  blk_point [iblk, V, idx t]
theorem block3 (i k : Fin 512) : iblk m c 3 t (ix2 i k) = wt128 k i := by
  have e : (win0_3.blk t).view.emb (ix2 i k) = ix2 i k := by blk_ext [idx t]
  show V m c main_v14 ((win0_3.blk t).view.emb (ix2 i k)) = _
  rw [e]
  exact host128 k i

end blocks

/-- Row `r` of point `t`'s blocks gives row `rowAt t r` of the product. -/
theorem prod_eq (c : Dev nD) (t : Fin cfg0.N) (r : Fin 256) (col : Fin 512 → Fin 1024) :
    prod (fun k => iblk m c 0 t (ix2 r k)) (fun k => iblk m c 1 t (ix2 0 k)) (fun i k => iblk m c 2 t (ix2 i k)) col
      = prodOf (m ((c : Thread nD τ).loc main_arg0)) (m ((c : Thread nD τ).loc main_arg1)) (m ((c : Thread nD τ).loc main_arg2))
          col (rowAt t r) := by
  unfold prodOf
  congr 1
  · exact funext fun k => block0 m c t r k
  · exact funext fun k => block1 m c t k
  · exact funext fun i => funext fun k => block2 m c t i k

theorem prodOf_real (X0 : Vec Ideal S1024x1024 .f32) (X1 : Vec Ideal S1024 .f32) (X2 : Vec Ideal S1024x1024 .f32)
    (h0 : ∀ i, ∃ a : ℝ, X0 i = (a : EReal)) (h1 : ∀ i, ∃ a : ℝ, X1 i = (a : EReal)) (h2 : ∀ i, ∃ a : ℝ, X2 i = (a : EReal))
    (col : Fin 512 → Fin 1024) (r : Fin 1024) (c : Fin 512) : ∃ a : ℝ, prodOf X0 X1 X2 col r c = (a : EReal) :=
  product_real _ _ (fun k c => X2 (ix2 k (col c))) (fun k => h0 _) (fun k => h1 _) (fun k c => h2 _) c

section finals

variable (c : Dev nD) (h0 : ∀ i, ∃ a : ℝ, (m ((c : Thread nD τ).loc main_arg0) : Vec Ideal S1024x1024 .f32) i = (a : EReal))
  (h1 : ∀ i, ∃ a : ℝ, (m ((c : Thread nD τ).loc main_arg1) : Vec Ideal S1024 .f32) i = (a : EReal))
  (h2 : ∀ i, ∃ a : ℝ, (m ((c : Thread nD τ).loc main_arg2) : Vec Ideal S1024x1024 .f32) i = (a : EReal))

include h0 h1 h2 in
/-- What point `t` writes back of the keys. -/
theorem keys_point (t : Fin cfg0.N) (y0 : Fin 256) (y1 : Fin 512) :
    out0_5 (F := Ideal) (iblk m c 0 t) (iblk m c 1 t) (iblk m c 2 t) (iblk m c 3 t) (iblk m c 4 t) (ix2 y0 y1)
      = keys m c (ix2 (rowAt t y0) y1) := by
  refine (out5_at _ _ _ _ _ y0 y1).trans ?_
  show _ = gnorm _ (prodOf _ _ _ kcol (rowAt t y0)) (mem128 y1) _ y1
  rw [prod_eq m c t y0 kcol, ← wnorm128 _ (prodOf_real _ _ _ h0 h1 h2 kcol (rowAt t y0))]
  congr 1
  · exact funext fun k => block3 m c t k y1
  · exact block4 m c t y1

/-- What point `t` writes back of the values. -/
theorem values_point (t : Fin cfg0.N) (y0 : Fin 256) (y1 : Fin 512) :
    out0_6 (F := Ideal) (iblk m c 0 t) (iblk m c 1 t) (iblk m c 2 t) (iblk m c 3 t) (iblk m c 4 t) (ix2 y0 y1)
      = values m c (ix2 (rowAt t y0) y1) :=
  (out6_at _ _ _ _ _ y0 y1).trans (congrFun (prod_eq m c t y0 vcol) y1)

include h0 h1 h2 in
/-- The result arrays after the run. -/
theorem final5 : (dats m 0 c).arrAt 5 (cfgs 0).N = keys m c := by
  refine (dats m 0 c).arrAt_eq_of_covers 5 _ (by decide +kernel) fun t _ y => ?_
  blk_simp
  rw [after0_5]
  idx_vars y
  refine (keys_point m c h0 h1 h2 t y0 y1).trans (congrArg (keys m c) (a₁ := ix2 (rowAt t y0) y1) ?_)
  blk_ext [idx t, rowAt]
theorem final6 : (dats m 0 c).arrAt 6 (cfgs 0).N = values m c := by
  refine (dats m 0 c).arrAt_eq_of_covers 6 _ (by decide +kernel) fun t _ y => ?_
  blk_simp
  rw [after0_6]
  idx_vars y
  refine (values_point m c t y0 y1).trans (congrArg (values m c) (a₁ := ix2 (rowAt t y0) y1) ?_)
  blk_ext [idx t, rowAt]
include h0 h1 h2 in
theorem final7 : (dats m 0 c).arrAt 7 (cfgs 0).N = (keys m c : Vec Ideal S1024x512 .bf16) := by
  refine (dats m 0 c).arrAt_eq_of_covers 7 _ (by decide +kernel) fun t _ y => ?_
  blk_simp
  rw [after0_7]
  idx_vars y
  refine ((out7_at _ _ _ _ _ y0 y1).trans (keys_point m c h0 h1 h2 t y0 y1)).trans
    (congrArg (keys m c) (a₁ := ix2 (rowAt t y0) y1) ?_)
  blk_ext [idx t, rowAt]
theorem final8 : (dats m 0 c).arrAt 8 (cfgs 0).N = (values m c : Vec Ideal S1024x512 .bf16) := by
  refine (dats m 0 c).arrAt_eq_of_covers 8 _ (by decide +kernel) fun t _ y => ?_
  blk_simp
  rw [after0_8]
  idx_vars y
  refine ((out8_at _ _ _ _ _ y0 y1).trans (values_point m c t y0 y1)).trans
    (congrArg (values m c) (a₁ := ix2 (rowAt t y0) y1) ?_)
  blk_ext [idx t, rowAt]

end finals

end Cert.MemKvIdeal.Value

end
-- ==== Proof.MemKvReference.lean ====
/- The memory projection's reference, value by value. -/
module

public import proofs.«01_k».proof.Proof.Gen.MemKvRefIdeal.Read
public import proofs.«01_k».proof.Proof.GroupNorm

@[expose] public section

set_option maxRecDepth 16384

noncomputable section

open Idealize.ShloMosaic Idealize.ShloMosaic.TcCoe Idealize.SL.Sem

namespace Cert.MemKvRefIdeal.Value

open Cert.MemKvRefIdeal Cert.MemKvRefIdeal.Gen Cert.MemKvRefIdeal.Read Cert.Post Cert.Group

variable (x0 : (⟨S1024x1024, .f32⟩ : BufTy).Contents (Elt Ideal)) (x1 : (⟨S1024, .f32⟩ : BufTy).Contents (Elt Ideal))
  (x2 : (⟨S1024x1024, .f32⟩ : BufTy).Contents (Elt Ideal)) (x3 : (⟨S128, .f32⟩ : BufTy).Contents (Elt Ideal))

/-- The normed row. -/
theorem norm_at (r : Fin 1024) (c : Fin 1024) :
    val_main_v12 x0 x1 (ix2 r c) = norm (fun c => x0 (ix2 r c)) (fun c => x1 (ix1 c)) c := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The keys before their norm. -/
theorem flat_at (r : Fin 1024) (c : Fin 512) :
    val_main_v14 x0 x1 x2 (ix2 r c)
      = ∑ k, norm (fun c => x0 (ix2 r c)) (fun c => x1 (ix1 c)) k * x2 (ix2 k (⟨c.val, by omega⟩ : Fin 1024)) := by
  have h := norm_at x0 x1 r
  unfold val_main_v14 val_main_v13
  generalize val_main_v12 x0 x1 = y at *
  pointwise [h]

/-- The values. -/
theorem values_at (r : Fin 1024) (c : Fin 512) :
    val_main_v15 x0 x1 x2 (ix2 r c)
      = ∑ k, norm (fun c => x0 (ix2 r c)) (fun c => x1 (ix1 c)) k * x2 (ix2 k (⟨512 + c.val, by omega⟩ : Fin 1024)) := by
  have h := norm_at x0 x1 r
  unfold val_main_v15 val_main_v13
  generalize val_main_v12 x0 x1 = y at *
  pointwise [h]

/-- The keys. -/
theorem keys_at (r : Fin 1024) (c : Fin 512) :
    val_main_v30 x0 x1 x2 x3 (ix2 r c)
      = gnorm (Ideal.ofBits .f32 1124073472#32)
          (fun c => ∑ k, norm (fun c => x0 (ix2 r c)) (fun c => x1 (ix1 c)) k * x2 (ix2 k (⟨c.val, by omega⟩ : Fin 1024)))
          (mem128 c) (x3 (ix1 (⟨c.val % 128, by omega⟩ : Fin 128))) c := by
  have h := flat_at x0 x1 x2 r
  unfold val_main_v30 val_main_v29 val_main_v26 val_main_v25 val_main_v24 val_main_v23 val_main_v21 val_main_v19 val_main_v18 val_main_v17 val_main_v16
  generalize val_main_v14 x0 x1 x2 = y at *
  pointwise [val_main_v20, val_main_v22, val_main_v27, val_main_v28, val_main_cst_2, val_main_cst_3, val_main_cst_4]
  simp only [h]
  rfl

/-- The rounded keys and values are the same numbers. -/
theorem keys16_at (r : Fin 1024) (c : Fin 512) : val_main_v31 x0 x1 x2 x3 (ix2 r c) = val_main_v30 x0 x1 x2 x3 (ix2 r c) := rfl
theorem values16_at (r : Fin 1024) (c : Fin 512) : val_main_v32 x0 x1 x2 (ix2 r c) = val_main_v15 x0 x1 x2 (ix2 r c) := rfl

end Cert.MemKvRefIdeal.Value

end
-- ==== Proof.MemKvPre.lean ====
/- The precondition of the memory projection: its rows, gains and weights are real numbers. -/
module

public import proofs.«01_k».proof.Proof.Gen.Pre_finite_mem
public import proofs.«01_k».proof.Proof.PostPre

@[expose] public section

noncomputable section

open Idealize.ShloMosaic Idealize.ShloMosaic.TcCoe Idealize.SL.Sem

namespace Cert.Pre_finite_mem

open Cert.Pre_finite_mem.Gen Cert.Pre_finite_memory

theorem real (a0 : FVec Ideal S1024x1024 .f32) (a1 : FVec Ideal S1024 .f32) (a2 : FVec Ideal S1024x1024 .f32)
    (a3 : FVec Ideal S128 .f32) (j : S_.Idx) (h : fn (F := Ideal) a0 a1 a2 a3 j = 1#1) :
    (∀ i, ∃ a : ℝ, a0 i = (a : EReal)) ∧ (∀ i, ∃ a : ℝ, a1 i = (a : EReal)) ∧ (∀ i, ∃ a : ℝ, a2 i = (a : EReal)) := by
  obtain ⟨h01, h2⟩ := both _ _ h
  obtain ⟨h0, h1⟩ := both _ _ h01
  exact ⟨fun i => real_of_cmp (a0 i) (Host.reduce_andi_all _ _ _ _ j h0 i),
    fun i => real_of_cmp (a1 i) (Host.reduce_andi_all _ _ _ _ j h1 i),
    fun i => real_of_cmp (a2 i) (Host.reduce_andi_all _ _ _ _ j h2 i)⟩

end Cert.Pre_finite_mem

end
-- ==== Proof.MemKvClaim.lean ====
/- The memory projection and its reference end with equal results. -/
module

public import proofs.«01_k».proof.Defs
public import proofs.«01_k».proof.Proof.MemKvValue
public import proofs.«01_k».proof.Proof.MemKvReference
public import proofs.«01_k».proof.Proof.MemKvPre
public import proofs.«01_k».proof.Proof.Gen.MemKvRefIdeal.Run
public import proofs.«01_k».proof.Proof.Gen.MemKvRefIdeal.Read
public import Idealize.ShloMosaic.Lib.Claim

@[expose] public section

set_option maxRecDepth 16384

noncomputable section

open Idealize.ShloMosaic Idealize.ShloMosaic.TcCoe Idealize.SL.Sem

namespace Cert.Proof

/-- An index of a result's array, as its row and column. -/
theorem row_col {a b : ℕ} (j : (⟨2, ![a, b]⟩ : Shape).Idx) : ∃ (r : Fin a) (k : Fin b), j = ValueIdx.ix2 r k :=
  ⟨j 0, j 1, by funext x; match x with | ⟨0, _⟩ => rfl | ⟨1, _⟩ => rfl⟩

theorem memkv_algebraic :
    Cert.algebraic_MemKvIdeal_MemKvRefIdeal_pre_finite_mem (hMemKvIdeal := Cert.MemKvIdeal.Gen.facts)
      (hMemKvRefIdeal := Cert.MemKvRefIdeal.Gen.facts) (hPre_finite_mem := Cert.Pre_finite_mem.Gen.facts) := by
  pair_intro
  · run_from Cert.MemKvIdeal.Gen.run_main m g
  · run_from Cert.MemKvRefIdeal.Value.run m' g'
    · obtain ⟨h0, h1, h2⟩ := Cert.Pre_finite_mem.real _ _ _ _ ValueIdx.ix0 (congrFun (hpre c) ValueIdx.ix0)
      rw [Cert.MemKvIdeal.Value.final5 m c h0 h1 h2]
      funext j
      obtain ⟨r, k, rfl⟩ := row_col (a := 1024) (b := 512) j
      exact Cert.MemKvRefIdeal.Value.keys_at _ _ _ _ r k
    · rw [Cert.MemKvIdeal.Value.final6 m c]
      funext j
      obtain ⟨r, k, rfl⟩ := row_col (a := 1024) (b := 512) j
      exact Cert.MemKvRefIdeal.Value.values_at _ _ _ r k
    · obtain ⟨h0, h1, h2⟩ := Cert.Pre_finite_mem.real _ _ _ _ ValueIdx.ix0 (congrFun (hpre c) ValueIdx.ix0)
      rw [Cert.MemKvIdeal.Value.final7 m c h0 h1 h2]
      funext j
      obtain ⟨r, k, rfl⟩ := row_col (a := 1024) (b := 512) j
      exact (Cert.MemKvRefIdeal.Value.keys16_at _ _ _ _ r k).trans (Cert.MemKvRefIdeal.Value.keys_at _ _ _ _ r k)
    · rw [Cert.MemKvIdeal.Value.final8 m c]
      funext j
      obtain ⟨r, k, rfl⟩ := row_col (a := 1024) (b := 512) j
      exact (Cert.MemKvRefIdeal.Value.values16_at _ _ _ r k).trans (Cert.MemKvRefIdeal.Value.values_at _ _ _ r k)

end Cert.Proof

end
-- ==== Proof.PreSpec.lean ====
/- The mixer's projections in plain words: the gated branch, its long convolution, the norm and activation after it. -/
module

public import proofs.«01_k».proof.Proof.GroupNorm

@[expose] public section

set_option maxRecDepth 16384

noncomputable section

open Idealize.ShloMosaic Idealize.ShloMosaic.TcCoe Idealize.SL.Sem

namespace Cert.Mix

open Cert.Post

/-- One column of a product. -/
def dot (h w : Fin 1024 → EReal) : EReal := ∑ k, h k * w k

/-- One column of the gated branch: a projection times the sigmoid of another. -/
def glu (h wa wg : Fin 1024 → EReal) : EReal := dot h wa * sigma (dot h wg)

/-- The convolution's bias and its thirty-one taps. -/
def taps (b : EReal) (p : Fin 31 → EReal) : EReal := b + ∑ j, p j

theorem taps_left (b : EReal) (p : Fin 31 → EReal) :
    b + p 0 + p 1 + p 2 + p 3 + p 4 + p 5 + p 6 + p 7 + p 8 + p 9 + p 10 + p 11 + p 12 + p 13 + p 14 + p 15 + p 16 + p 17
      + p 18 + p 19 + p 20 + p 21 + p 22 + p 23 + p 24 + p 25 + p 26 + p 27 + p 28 + p 29 + p 30 = taps b p := by
  unfold taps
  simp only [Fin.sum_univ_castSucc, Fin.sum_univ_zero, zero_add, add_assoc]
  rfl

theorem taps_right (b : EReal) (p : Fin 31 → EReal) :
    b + (p 0 + p 1 + p 2 + p 3 + p 4 + p 5 + p 6 + p 7 + p 8 + p 9 + p 10 + p 11 + p 12 + p 13 + p 14 + p 15 + p 16 + p 17
      + p 18 + p 19 + p 20 + p 21 + p 22 + p 23 + p 24 + p 25 + p 26 + p 27 + p 28 + p 29 + p 30) = taps b p := by
  unfold taps
  simp only [Fin.sum_univ_castSucc, Fin.sum_univ_zero, zero_add, add_assoc]
  rfl

/-- A row less its mean. -/
def centred (z : Fin 512 → EReal) (c : Fin 512) : EReal := z c - Ideal.div (∑ d, z d) (Ideal.ofBits .f32 0x44000000#32)

/-- The layer norm of a row. -/
def lnorm (z g b : Fin 512 → EReal) (c : Fin 512) : EReal :=
  centred z c * Ideal.rsqrt (Ideal.div (∑ d, centred z d * centred z d) (Ideal.ofBits .f32 0x44000000#32)
    + Ideal.ofBits .f32 0x358637BD#32) * g c + b c

/-- The activation. -/
def act (z : EReal) : EReal := z * sigma z

/-- The mean of a block of rows, column by column. -/
def mean (k : Fin 256 → EReal) : EReal := Ideal.div (∑ r, k r) (Ideal.ofBits .f32 0x43800000#32)

end Cert.Mix

end
-- ==== Proof.PreBody.lean ====
/- The mixer's body, value by value: the gated branch, the taps of its convolution, the norm after it, the keys, the values
   and the memory's queries, the mean of the keys. -/
module

public import proofs.«01_k».proof.Proof.Gen.PreIdeal.Skeleton
public import proofs.«01_k».proof.Proof.PreSpec

@[expose] public section

set_option maxRecDepth 16384

noncomputable section

open Idealize.ShloMosaic Idealize.ShloMosaic.TcCoe Idealize.SL.Sem

namespace Cert.PreIdeal.Value

open Cert.PreIdeal Cert.PreIdeal.Gen Cert.Post Cert.Group Cert.Mix

/-- The normed row. -/
theorem hn_at (x : Vec Ideal S256x1024 .f32) (g : Vec Ideal S1x1024 .f32) (r : Fin 256) (c : Fin 1024) :
    k0_pay3 (F := Ideal) x g (ix2 r c) = norm (fun c => x (ix2 r c)) (fun c => g (ix2 0 c)) c := by
  pointwise [k0_pay3]
  rfl

/-- The gated branch. -/
theorem glu_at (x : Vec Ideal S256x1024 .f32) (g : Vec Ideal S1x1024 .f32) (wa wg : Vec Ideal S1024x512 .bf16) (r : Fin 256)
    (c : Fin 512) :
    k0_pay4 (F := Ideal) x g wa wg (ix2 r c)
      = glu (norm (fun c => x (ix2 r c)) (fun c => g (ix2 0 c))) (fun k => wa (ix2 k c)) (fun k => wg (ix2 k c)) := by
  have h := hn_at x g r
  unfold k0_pay4
  generalize e : k0_pay3 (F := Ideal) x g = p at *
  pointwise [h, zero_sub]
  rfl

theorem glu6_at (x : Vec Ideal S256x1024 .f32) (g : Vec Ideal S1x1024 .f32) (wa wg : Vec Ideal S1024x512 .bf16) (r : Fin 256)
    (c : Fin 512) :
    k0_pay6 (F := Ideal) x g wa wg (ix2 r c) = k0_pay4 (F := Ideal) x g wa wg (ix2 r c) := by
  unfold k0_pay6
  generalize k0_pay4 (F := Ideal) x g wa wg = p
  pointwise []

theorem zero_at (i : Fin 32) (c : Fin 512) : k0_pay5 (F := Ideal) (ix2 i c) = 0 := by
  pointwise [k0_pay5]

theorem halo_at (y : Vec Ideal S32x512 .f32) (i : Fin 32) (c : Fin 512) : k0_pay12 (F := Ideal) y (ix2 i c) = y (ix2 i c) := by
  pointwise [k0_pay12]

theorem tail15_at (y : Vec Ideal S256x512 .f32) (i : Fin 32) (c : Fin 512) :
    k0_pay15 (F := Ideal) y (ix3 0 i c) = y (ix2 (⟨224 + i.val, by omega⟩ : Fin 256) c) := by
  pointwise [k0_pay15]

theorem taps7_at (b : Vec Ideal S1x512 .f32) (w0 w1 w2 w3 w4 w5 : Vec Ideal S1x512 .f32) (u0 u1 u2 u3 u4 u5 : Vec Ideal S256x512 .f32) (r : Fin 256) (c : Fin 512) :
    k0_pay7 (F := Ideal) b w0 u0 w1 u1 w2 u2 w3 u3 w4 u4 w5 u5 (ix2 r c)
      = b (ix2 0 c) + w0 (ix2 0 c) * u0 (ix2 r c) + w1 (ix2 0 c) * u1 (ix2 r c) + w2 (ix2 0 c) * u2 (ix2 r c) + w3 (ix2 0 c) * u3 (ix2 r c) + w4 (ix2 0 c) * u4 (ix2 r c) + w5 (ix2 0 c) * u5 (ix2 r c) := by
  pointwise [k0_pay7]

theorem taps8_at (b : Vec Ideal S256x512 .f32) (w0 w1 w2 w3 w4 w5 : Vec Ideal S1x512 .f32) (u0 u1 u2 u3 u4 u5 : Vec Ideal S256x512 .f32) (r : Fin 256) (c : Fin 512) :
    k0_pay8 (F := Ideal) b w0 u0 w1 u1 w2 u2 w3 u3 w4 u4 w5 u5 (ix2 r c)
      = b (ix2 r c) + w0 (ix2 0 c) * u0 (ix2 r c) + w1 (ix2 0 c) * u1 (ix2 r c) + w2 (ix2 0 c) * u2 (ix2 r c) + w3 (ix2 0 c) * u3 (ix2 r c) + w4 (ix2 0 c) * u4 (ix2 r c) + w5 (ix2 0 c) * u5 (ix2 r c) := by
  pointwise [k0_pay8]

theorem taps9_at (b : Vec Ideal S256x512 .f32) (w0 w1 w2 w3 w4 w5 w6 : Vec Ideal S1x512 .f32) (u0 u1 u2 u3 u4 u5 u6 : Vec Ideal S256x512 .f32) (r : Fin 256) (c : Fin 512) :
    k0_pay9 (F := Ideal) b w0 u0 w1 u1 w2 u2 w3 u3 w4 u4 w5 u5 w6 u6 (ix2 r c)
      = b (ix2 r c) + w0 (ix2 0 c) * u0 (ix2 r c) + w1 (ix2 0 c) * u1 (ix2 r c) + w2 (ix2 0 c) * u2 (ix2 r c) + w3 (ix2 0 c) * u3 (ix2 r c) + w4 (ix2 0 c) * u4 (ix2 r c) + w5 (ix2 0 c) * u5 (ix2 r c) + w6 (ix2 0 c) * u6 (ix2 r c) := by
  pointwise [k0_pay9]

theorem taps10_at (b : Vec Ideal S256x512 .f32) (w0 w1 w2 w3 w4 w5 w6 : Vec Ideal S1x512 .f32) (u0 u1 u2 u3 u4 u5 u6 : Vec Ideal S256x512 .f32) (r : Fin 256) (c : Fin 512) :
    k0_pay10 (F := Ideal) b w0 u0 w1 u1 w2 u2 w3 u3 w4 u4 w5 u5 w6 u6 (ix2 r c)
      = b (ix2 r c) + w0 (ix2 0 c) * u0 (ix2 r c) + w1 (ix2 0 c) * u1 (ix2 r c) + w2 (ix2 0 c) * u2 (ix2 r c) + w3 (ix2 0 c) * u3 (ix2 r c) + w4 (ix2 0 c) * u4 (ix2 r c) + w5 (ix2 0 c) * u5 (ix2 r c) + w6 (ix2 0 c) * u6 (ix2 r c) := by
  pointwise [k0_pay10]

theorem taps11_at (b : Vec Ideal S256x512 .f32) (w0 w1 w2 w3 w4 : Vec Ideal S1x512 .f32) (u0 u1 u2 u3 u4 : Vec Ideal S256x512 .f32) (r : Fin 256) (c : Fin 512) :
    k0_pay11 (F := Ideal) b w0 u0 w1 u1 w2 u2 w3 u3 w4 u4 (ix2 r c)
      = b (ix2 r c) + w0 (ix2 0 c) * u0 (ix2 r c) + w1 (ix2 0 c) * u1 (ix2 r c) + w2 (ix2 0 c) * u2 (ix2 r c) + w3 (ix2 0 c) * u3 (ix2 r c) + w4 (ix2 0 c) * u4 (ix2 r c) := by
  pointwise [k0_pay11]

/-- All the taps. -/
theorem taps_at (b : Vec Ideal S1x512 .f32) (w0 w1 w2 w3 w4 w5 w6 w7 w8 w9 w10 w11 w12 w13 w14 w15 w16 w17 w18 w19 w20 w21 w22 w23 w24 w25 w26 w27 w28 w29 w30 : Vec Ideal S1x512 .f32)
    (u0 u1 u2 u3 u4 u5 u6 u7 u8 u9 u10 u11 u12 u13 u14 u15 u16 u17 u18 u19 u20 u21 u22 u23 u24 u25 u26 u27 u28 u29 u30 : Vec Ideal S256x512 .f32) (r : Fin 256) (c : Fin 512) (p : Fin 31 → EReal)
    (h0 : w0 (ix2 0 c) * u0 (ix2 r c) = p 0)
    (h1 : w1 (ix2 0 c) * u1 (ix2 r c) = p 1)
    (h2 : w2 (ix2 0 c) * u2 (ix2 r c) = p 2)
    (h3 : w3 (ix2 0 c) * u3 (ix2 r c) = p 3)
    (h4 : w4 (ix2 0 c) * u4 (ix2 r c) = p 4)
    (h5 : w5 (ix2 0 c) * u5 (ix2 r c) = p 5)
    (h6 : w6 (ix2 0 c) * u6 (ix2 r c) = p 6)
    (h7 : w7 (ix2 0 c) * u7 (ix2 r c) = p 7)
    (h8 : w8 (ix2 0 c) * u8 (ix2 r c) = p 8)
    (h9 : w9 (ix2 0 c) * u9 (ix2 r c) = p 9)
    (h10 : w10 (ix2 0 c) * u10 (ix2 r c) = p 10)
    (h11 : w11 (ix2 0 c) * u11 (ix2 r c) = p 11)
    (h12 : w12 (ix2 0 c) * u12 (ix2 r c) = p 12)
    (h13 : w13 (ix2 0 c) * u13 (ix2 r c) = p 13)
    (h14 : w14 (ix2 0 c) * u14 (ix2 r c) = p 14)
    (h15 : w15 (ix2 0 c) * u15 (ix2 r c) = p 15)
    (h16 : w16 (ix2 0 c) * u16 (ix2 r c) = p 16)
    (h17 : w17 (ix2 0 c) * u17 (ix2 r c) = p 17)
    (h18 : w18 (ix2 0 c) * u18 (ix2 r c) = p 18)
    (h19 : w19 (ix2 0 c) * u19 (ix2 r c) = p 19)
    (h20 : w20 (ix2 0 c) * u20 (ix2 r c) = p 20)
    (h21 : w21 (ix2 0 c) * u21 (ix2 r c) = p 21)
    (h22 : w22 (ix2 0 c) * u22 (ix2 r c) = p 22)
    (h23 : w23 (ix2 0 c) * u23 (ix2 r c) = p 23)
    (h24 : w24 (ix2 0 c) * u24 (ix2 r c) = p 24)
    (h25 : w25 (ix2 0 c) * u25 (ix2 r c) = p 25)
    (h26 : w26 (ix2 0 c) * u26 (ix2 r c) = p 26)
    (h27 : w27 (ix2 0 c) * u27 (ix2 r c) = p 27)
    (h28 : w28 (ix2 0 c) * u28 (ix2 r c) = p 28)
    (h29 : w29 (ix2 0 c) * u29 (ix2 r c) = p 29)
    (h30 : w30 (ix2 0 c) * u30 (ix2 r c) = p 30) :
    k0_pay11 (F := Ideal) (k0_pay10 (k0_pay9 (k0_pay8 (k0_pay7 b w0 u0 w1 u1 w2 u2 w3 u3 w4 u4 w5 u5) w6 u6 w7 u7 w8 u8 w9 u9 w10 u10 w11 u11) w12 u12 w13 u13 w14 u14 w15 u15 w16 u16 w17 u17 w18 u18) w19 u19 w20 u20 w21 u21 w22 u22 w23 u23 w24 u24 w25 u25) w26 u26 w27 u27 w28 u28 w29 u29 w30 u30 (ix2 r c)
      = taps (b (ix2 0 c)) p := by
  rw [taps11_at, taps10_at, taps9_at, taps8_at, taps7_at, h0, h1, h2, h3, h4, h5, h6, h7, h8, h9, h10, h11, h12, h13, h14, h15, h16, h17, h18, h19, h20, h21, h22, h23, h24, h25, h26, h27, h28, h29, h30]
  exact taps_left _ p

/-- The norm and the activation after the convolution. -/
theorem act_at (z : Vec Ideal S256x512 .f32) (g b : Vec Ideal S1x512 .f32) (r : Fin 256) (c : Fin 512) :
    k0_pay14 (F := Ideal) z (k0_pay13 (F := Ideal) g) b (ix2 r c)
      = act (lnorm (fun c => z (ix2 r c)) (fun c => g (ix2 0 c)) (fun c => b (ix2 0 c)) c) := by
  pointwise [k0_pay14, k0_pay13, zero_sub]
  rfl

/-- The keys, with the groups' means taken through the weights `b`. -/
theorem keys_at (p : Vec Ideal S256x1024 .bf16) (w : Vec Ideal S1024x512 .bf16) (b : Vec Ideal S512x512 .bf16)
    (gk : Vec Ideal S1x512 .f32) (r : Fin 256) (c : Fin 512) :
    k0_pay19 (F := Ideal) p w b gk (ix2 r c)
      = wnorm (fun c => dot (fun k => p (ix2 r k)) (fun k => w (ix2 k c))) (fun k => b (ix2 k c)) (gk (ix2 0 c)) c := by
  pointwise [k0_pay19]
  rfl

/-- The memory's queries, likewise. -/
theorem mq_at (p : Vec Ideal S256x1024 .bf16) (w : Vec Ideal S1024x512 .bf16) (b : Vec Ideal S512x512 .bf16)
    (gk : Vec Ideal S1x512 .f32) (r : Fin 256) (c : Fin 512) :
    k0_pay22 (F := Ideal) p w b gk (ix2 r c)
      = wnorm (fun c => dot (fun k => p (ix2 r k)) (fun k => w (ix2 k c))) (fun k => b (ix2 k c)) (gk (ix2 0 c)) c := by
  pointwise [k0_pay22]
  rfl

/-- The values. -/
theorem values_at (p : Vec Ideal S256x1024 .bf16) (w : Vec Ideal S1024x512 .bf16) (r : Fin 256) (c : Fin 512) :
    k0_pay20 (F := Ideal) p w (ix2 r c) = dot (fun k => p (ix2 r k)) (fun k => w (ix2 k c)) := by
  pointwise [k0_pay20]
  rfl

/-- The mean of the keys. -/
theorem mean_at (y : Vec Ideal S256x512 .f32) (c : Fin 512) :
    k0_pay24 (F := Ideal) (k0_pay23 (F := Ideal) y) (ix3 0 0 c) = mean (fun r => y (ix2 r c)) := by
  pointwise [k0_pay24, k0_pay23]
  rfl

end Cert.PreIdeal.Value

end
-- ==== Proof.PreRows.lean ====
/- The mixer's scratch: thirty-two rows of the tile before, then the tile's own gated rows. Each store and each load of it
   is read here at a row and a column. -/
module

public import proofs.«01_k».proof.Proof.PreBody
public import proofs.«01_k».proof.Proof.FfnRows
public import Idealize.ShloMosaic.Lib.Pipeline.ValueKit

@[expose] public section

set_option maxRecDepth 16384
set_option maxHeartbeats 1000000

noncomputable section

open Idealize.ShloMosaic Idealize.ShloMosaic.TcCoe Idealize.SL.Sem

namespace Cert.PreIdeal.Value

open Cert.PreIdeal Cert.PreIdeal.Gen Cert.Post Cert.Group Cert.Mix
open Cert.FfnIdeal.Value (ld_cols)

variable (x0 : Vec Ideal S256x1024 .f32) (x1 : Vec Ideal S1x1024 .f32) (x2 : Vec Ideal S1024x3072 .bf16)

/-- The tile's gated rows. -/
def ups (r : Fin 256) (c : Fin 512) : EReal :=
  glu (norm (fun k => x0 (ix2 r k)) (fun k => x1 (ix2 0 k))) (fun k => x2 (ix2 k (⟨c.val, by omega⟩ : Fin 3072)))
    (fun k => x2 (ix2 k (⟨512 + c.val, by omega⟩ : Fin 3072)))

/-- Row `n` of the scratch: the thirty-two rows before the tile, then the tile's. -/
def past (h : Fin 32 → Fin 512 → EReal) (u : Fin 256 → Fin 512 → EReal) (n : Fin 288) (c : Fin 512) : EReal :=
  if hn : n.val < 32 then h ⟨n.val, hn⟩ c else u ⟨n.val - 32, by omega⟩ c

/-- The gated rows from the loads of the weights' columns. -/
theorem ups_at (r : Fin 256) (c : Fin 512) :
    k0_pay4 (F := Ideal) x0 x1 (View.ld x2 (Rect.unit ![0, 0] ![1024, 512] inb_S1024x3072_S1024x512_0_0))
        (View.ld x2 (Rect.unit ![0, 512] ![1024, 512] inb_S1024x3072_S1024x512_0_512)) (ix2 r c) = ups x0 x1 x2 r c := by
  rw [glu_at]
  exact congrArg₂ (glu _) (funext fun k => ld_cols x2 0 0 _ k c k _ (by omega) (by show c.val = 0 + c.val; omega))
    (funext fun k => ld_cols x2 0 512 _ k c k _ (by omega) rfl)

/-- The store of the gated rows. -/
abbrev stores : List (View.Piece (Elt Ideal) S288x512 .f32) :=
  [⟨Rect.unit ![32, 0] ![256, 512] inb_S288x512_S256x512_32_0,
      k0_pay6 (F := Ideal) x0 x1 (View.ld x2 (Rect.unit ![0, 0] ![1024, 512] inb_S1024x3072_S1024x512_0_0))
        (View.ld x2 (Rect.unit ![0, 512] ![1024, 512] inb_S1024x3072_S1024x512_0_512))⟩]

/-- The store of the zeros at a sequence's start. -/
abbrev zeros : List (View.Piece (Elt Ideal) S288x512 .f32) :=
  [⟨Rect.unit ![0, 0] ![32, 512] inb_S288x512_S32x512_0_0, k0_pay5 (F := Ideal)⟩]

section read

variable (f : (View.whole cc0_scratch0).ty.Contents (Elt Ideal))

/-- A row before the tile is not touched by the store. -/
theorem read_old (n : Fin 288) (c : Fin 512) (hn : n.val < 32) :
    (View.whole cc0_scratch0).read (Elt Ideal) ((View.whole cc0_scratch0).writes (Elt Ideal) f (stores x0 x1 x2)) (ix2 n c)
      = (View.whole cc0_scratch0).read (Elt Ideal) f (ix2 n c) := by
  rw [View.read_writes_cons_unit_of_not_mem _ _ _ _ _ _ rfl 0 (Or.inl (by show n.val < 32; omega))]
  rfl

/-- A tile's row reads what was stored there. -/
theorem read_new (r : Fin 256) (n : Fin 288) (c : Fin 512) (hn : n.val = 32 + r.val) :
    (View.whole cc0_scratch0).read (Elt Ideal) ((View.whole cc0_scratch0).writes (Elt Ideal) f (stores x0 x1 x2)) (ix2 n c)
      = ups x0 x1 x2 r c := by
  rw [View.read_writes_cons_unit_of_mem _ _ _ _ _ _ (ix2 r c) rfl
      (fun a => by match a with | ⟨0, _⟩ => exact hn | ⟨1, _⟩ => show c.val = 0 + c.val; omega), glu6_at]
  exact ups_at x0 x1 x2 r c

theorem read_past (h : Fin 32 → Fin 512 → EReal)
    (hf : ∀ (n : Fin 288) (hn : n.val < 32) c, (View.whole cc0_scratch0).read (Elt Ideal) f (ix2 n c) = h ⟨n.val, hn⟩ c)
    (n : Fin 288) (c : Fin 512) :
    (View.whole cc0_scratch0).read (Elt Ideal) ((View.whole cc0_scratch0).writes (Elt Ideal) f (stores x0 x1 x2)) (ix2 n c)
      = past h (ups x0 x1 x2) n c := by
  unfold past
  split
  · next hn => exact (read_old x0 x1 x2 f n c hn).trans (hf n hn c)
  · next hn => exact read_new x0 x1 x2 f _ n c (by show n.val = 32 + (n.val - 32); omega)

end read

theorem idx_rows (o : ℕ) (inb : ∀ a, ![o, 0] a + (![256, 512] : Fin 2 → ℕ) a ≤ S288x512.size a) (r : Fin 256) (e : Fin 512)
    (n : Fin 288) (hn : n.val = o + r.val) :
    (Rect.unit (s := S288x512) ![o, 0] ![256, 512] inb).toLoadRect.idx (ix2 r e) = ix2 n e :=
  funext fun a => Fin.ext (by
    match a with
    | ⟨0, _⟩ => show o + 1 * r.val = n.val; omega
    | ⟨1, _⟩ => show 0 + 1 * e.val = e.val; omega)

/-- A load of 256 rows when the rows before the tile were zeroed. -/
theorem load_zero (o : ℕ) (inb : ∀ a, ![o, 0] a + (![256, 512] : Fin 2 → ℕ) a ≤ S288x512.size a) (r : Fin 256) (e : Fin 512)
    (n : Fin 288) (hn : n.val = o + r.val) :
    (View.whole cc0_scratch0).readCov (stores x0 x1 x2 ++ zeros) (Rect.unit (s := S288x512) ![o, 0] ![256, 512] inb).toLoadRect (ix2 r e)
      = past (fun _ _ => 0) (ups x0 x1 x2) n e := by
  unfold View.readCov
  rw [View.readAt_apply, idx_rows o inb r e n hn]
  refine read_past x0 x1 x2 ((View.whole cc0_scratch0).writes (Elt Ideal) (View.whole cc0_scratch0).junk zeros) _ (fun n hn c => ?_) n e
  rw [View.read_writes_cons_unit_of_mem _ _ _ _ _ _ (ix2 ⟨n.val, hn⟩ c) rfl
      (fun a => by match a with | ⟨0, _⟩ => show n.val = 0 + n.val; omega | ⟨1, _⟩ => show c.val = 0 + c.val; omega)]
  exact zero_at _ _

/-- A load of the tile's own rows. -/
theorem load_own (h : Fin 32 → Fin 512 → EReal) (inb : ∀ a, ![32, 0] a + (![256, 512] : Fin 2 → ℕ) a ≤ S288x512.size a)
    (r : Fin 256) (e : Fin 512) (n : Fin 288) (hn : n.val = 32 + r.val) :
    (View.whole cc0_scratch0).readCov (stores x0 x1 x2) (Rect.unit (s := S288x512) ![32, 0] ![256, 512] inb).toLoadRect (ix2 r e)
      = past h (ups x0 x1 x2) n e := by
  unfold View.readCov
  rw [View.readAt_apply, idx_rows 32 inb r e n hn, read_new x0 x1 x2 _ r n e hn, past, dif_neg (by omega)]
  exact congrArg (ups x0 x1 x2 · e) (Fin.ext (by show r.val = n.val - 32; omega))

/-- A load that begins in the rows before the tile. -/
theorem load_past (f : (View.whole cc0_scratch0).ty.Contents (Elt Ideal)) (p : Vec Ideal S288x512 .f32)
    (hf : (View.whole cc0_scratch0).read (Elt Ideal) f = p) (o : ℕ)
    (inb : ∀ a, ![o, 0] a + (![256, 512] : Fin 2 → ℕ) a ≤ S288x512.size a)
    (r : Fin 256) (e : Fin 512) (n : Fin 288) (hn : n.val = o + r.val) :
    View.ld (View.read (Elt Ideal) (View.whole cc0_scratch0) ((View.whole cc0_scratch0).writes (Elt Ideal) f (stores x0 x1 x2)))
        (Rect.unit (s := S288x512) ![o, 0] ![256, 512] inb) (ix2 r e)
      = past (fun i c => p (ix2 ⟨i.val, by omega⟩ c)) (ups x0 x1 x2) n e :=
  (ld_cols _ o 0 inb r e n e hn (by omega)).trans (read_past x0 x1 x2 f _ (fun n hn c => congrFun hf _) n e)

/-- The last thirty-two rows, moved to the front. -/
theorem moved (L : List (View.Piece (Elt Ideal) S288x512 .f32)) (i : Fin 288) (hi : i.val < 32) (c : Fin 512) (n : Fin 288)
    (hn : n.val = 256 + i.val) (v : EReal)
    (hv : (View.whole cc0_scratch0).read (Elt Ideal) ((View.whole cc0_scratch0).writes (Elt Ideal) (View.whole cc0_scratch0).junk L) (ix2 n c) = v) :
    View.canon (⟨Rect.unit ![0, 0] ![32, 512] inb_S288x512_S32x512_0_0, k0_pay12 (F := Ideal) ((View.whole cc0_scratch0).readCov L
        (Rect.unit (s := S288x512) ![256, 0] ![32, 512] inb_S288x512_S32x512_256_0).toLoadRect)⟩ :: L) (ix2 i c) = v := by
  have e : (Rect.unit (s := S288x512) ![256, 0] ![32, 512] inb_S288x512_S32x512_256_0).toLoadRect.idx (ix2 ⟨i.val, hi⟩ c) = ix2 n c :=
    funext fun a => Fin.ext (by
      match a with
      | ⟨0, _⟩ => show 256 + 1 * i.val = n.val; omega
      | ⟨1, _⟩ => show 0 + 1 * c.val = c.val; omega)
  rw [← View.read_writes_junk_eq_canon (View.whole cc0_scratch0),
    View.read_writes_cons_unit_of_mem _ _ _ _ _ _ (ix2 ⟨i.val, hi⟩ c) rfl
      (fun a => by match a with | ⟨0, _⟩ => show i.val = 0 + i.val; omega | ⟨1, _⟩ => show c.val = 0 + c.val; omega)]
  rw [halo_at]
  unfold View.readCov
  rw [View.readAt_apply, e]
  exact hv

end Cert.PreIdeal.Value

end
-- ==== Proof.PreTile.lean ====
/- The mixer's grid points: what each leaves in its blocks of the results and in the scratch. -/
module

public import proofs.«01_k».proof.Proof.Gen.PreIdeal.Value
public import proofs.«01_k».proof.Proof.PreRows
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.PreIdeal.Value

open Cert.PreIdeal Cert.PreIdeal.Gen Cert.Post Cert.Group Cert.Mix
open Cert.FfnIdeal.Value (ld_cols)

section tile

variable (x0 : Vec Ideal S256x1024 .f32) (x1 : Vec Ideal S1x1024 .f32) (x2 : Vec Ideal S1024x3072 .bf16)

/-- Column `c` of the projection whose columns begin at `o`. -/
def lane (o : ℕ) (ho : o + 512 ≤ 3072) (r : Fin 256) (c : Fin 512) : EReal :=
  dot (norm (fun k => x0 (ix2 r k)) (fun k => x1 (ix2 0 k))) (fun k => x2 (ix2 k (⟨o + c.val, by omega⟩ : Fin 3072)))

/-- The projection from a load of the weights' columns. -/
theorem lane_eq (o : ℕ) (ho : o + 512 ≤ 3072)
    (inb : ∀ x, (![0, o] : Fin 2 → ℕ) x + (![1024, 512] : Fin 2 → ℕ) x ≤ S1024x3072.size x) (r : Fin 256) (c : Fin 512) :
    dot (fun k => k0_pay3 (F := Ideal) x0 x1 (ix2 r k))
        (fun k => View.ld x2 (Rect.unit (s := S1024x3072) ![0, o] ![1024, 512] inb) (ix2 k c)) = lane x0 x1 x2 o ho r c :=
  congrArg₂ dot (funext fun k => hn_at x0 x1 r k) (funext fun k => ld_cols x2 0 o inb k c k _ (by omega) rfl)

variable (x3 x4 : Vec Ideal S512x512 .bf16) (g : Vec Ideal S1x512 .f32)

/-- A tile's keys. -/
def keys (r : Fin 256) (c : Fin 512) : EReal :=
  wnorm (lane x0 x1 x2 1536 (by omega) r) (fun k => x3 (ix2 k c)) (g (ix2 0 c)) c

theorem keys_tile (r : Fin 256) (c : Fin 512) :
    k0_pay19 (F := Ideal) (k0_pay3 (F := Ideal) x0 x1) (View.ld x2 (Rect.unit ![0, 1536] ![1024, 512] inb_S1024x3072_S1024x512_0_1536)) x3 g (ix2 r c)
      = keys x0 x1 x2 x3 g r c :=
  (keys_at _ _ _ _ r c).trans (congrArg (fun z => wnorm z _ _ c) (funext fun e => lane_eq x0 x1 x2 1536 (by omega) _ r e))

/-- A tile's queries of the memory. -/
def mqs (r : Fin 256) (c : Fin 512) : EReal :=
  wnorm (lane x0 x1 x2 2560 (by omega) r) (fun k => x4 (ix2 k c)) (g (ix2 0 c)) c

theorem mq_tile (r : Fin 256) (c : Fin 512) :
    k0_pay22 (F := Ideal) (k0_pay3 (F := Ideal) x0 x1) (View.ld x2 (Rect.unit ![0, 2560] ![1024, 512] inb_S1024x3072_S1024x512_0_2560)) x4 g (ix2 r c)
      = mqs x0 x1 x2 x4 g r c :=
  (mq_at _ _ _ _ r c).trans (congrArg (fun z => wnorm z _ _ c) (funext fun e => lane_eq x0 x1 x2 2560 (by omega) _ r e))

theorem values_tile (r : Fin 256) (c : Fin 512) :
    k0_pay20 (F := Ideal) (k0_pay3 (F := Ideal) x0 x1) (View.ld x2 (Rect.unit ![0, 2048] ![1024, 512] inb_S1024x3072_S1024x512_0_2048)) (ix2 r c)
      = lane x0 x1 x2 2048 (by omega) r c :=
  (values_at _ _ r c).trans (lane_eq x0 x1 x2 2048 (by omega) _ r c)

theorem values16_tile (r : Fin 256) (c : Fin 512) :
    k0_pay21 (F := Ideal) (k0_pay20 (F := Ideal) (k0_pay3 (F := Ideal) x0 x1) (View.ld x2 (Rect.unit ![0, 2048] ![1024, 512] inb_S1024x3072_S1024x512_0_2048))) (ix2 r c)
      = lane x0 x1 x2 2048 (by omega) r c :=
  Eq.trans rfl (values_tile x0 x1 x2 r c)

theorem mean_tile (c : Fin 512) :
    k0_pay24 (F := Ideal) (k0_pay23 (F := Ideal) (k0_pay19 (F := Ideal) (k0_pay3 (F := Ideal) x0 x1) (View.ld x2 (Rect.unit ![0, 1536] ![1024, 512] inb_S1024x3072_S1024x512_0_1536)) x3 g)) (ix3 0 0 c)
      = mean (fun r => keys x0 x1 x2 x3 g r c) :=
  (mean_at _ c).trans (congrArg mean (funext fun r => keys_tile x0 x1 x2 x3 g r c))

/-- The scratch row that tap `j` reads for the tile's row `r`. -/
def tapRow (j : Fin 31) (r : Fin 256) : Fin 288 := ⟨2 + j.val + r.val, by omega⟩

/-- The taps' products, from the scratch's rows. -/
def tapped (x8 : Vec Ideal S31x512 .f32) (s : Fin 288 → Fin 512 → EReal) (r : Fin 256) (c : Fin 512) (j : Fin 31) : EReal :=
  x8 (ix2 j c) * s (tapRow j r) c

theorem tap_eq (x8 : Vec Ideal S31x512 .f32) (s : Fin 288 → Fin 512 → EReal) (w : Vec Ideal S1x512 .f32)
    (u : Vec Ideal S256x512 .f32) (r : Fin 256) (c : Fin 512) (j : Fin 31) (hw : w (ix2 0 c) = x8 (ix2 j c))
    (hu : u (ix2 r c) = s (tapRow j r) c) : w (ix2 0 c) * u (ix2 r c) = tapped x8 s r c j := by
  rw [hw, hu]
  rfl

end tile

variable (m : (ℓ : Loc nD τ sig) → Buf (Elt Ideal) ℓ)

/-- The gated rows of point `t`'s block. -/
abbrev U (c : Dev nD) (t : Fin cfg0.N) (r : Fin 256) (e : Fin 512) : EReal :=
  ups (iblk m c 0 t) (iblk m c 1 t) (iblk m c 2 t) r e

/-- Point `t`'s block of the convolved rows, from the rows before it. -/
abbrev tile (c : Dev nD) (t : Fin cfg0.N) (h : Fin 32 → Fin 512 → EReal) (r : Fin 256) (k : Fin 512) : EReal :=
  act (lnorm (fun e => taps ((iblk m c 9 t : Vec Ideal S1x512 .f32) (ix2 0 e))
      (tapped (iblk m c 8 t) (past h (U m c t)) r e))
    (fun e => (iblk m c 10 t : Vec Ideal S1x512 .f32) (ix2 0 e)) (fun e => (iblk m c 11 t : Vec Ideal S1x512 .f32) (ix2 0 e)) k)

/-- The block of a sequence's first point: the rows before it are zeros. -/
theorem cact_first (c : Dev nD) (t : Fin cfg0.N) (h0 : t.val % 16 = 0) (h1 : ¬t.val % 16 = 15) (r : Fin 256) (k : Fin 512) :
    (outsAt0 m c t.val t.isLt).2.2.2.2.2.2.2.1 (ix2 r k) = tile m c t (fun _ _ => 0) r k := by
  rw [outsAt0_A m c t h0 h1]
  frame_out
  refine (act_at _ _ _ r k).trans (congrArg (fun z => act (lnorm z _ _ k)) (funext fun e => ?_))
  exact taps_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r e
      (tapped (iblk m c 8 t) (past (fun _ _ => 0) (U m c t)) r e)
      (tap_eq _ _ _ _ r e 0 (ld_cols _ 0 0 _ 0 e 0 e rfl (Nat.zero_add _).symm) (load_zero _ _ _ 2 _ r e _ rfl))
      (tap_eq _ _ _ _ r e 1 (ld_cols _ 1 0 _ 0 e 1 e rfl (Nat.zero_add _).symm) (load_zero _ _ _ 3 _ r e _ rfl))
      (tap_eq _ _ _ _ r e 2 (ld_cols _ 2 0 _ 0 e 2 e rfl (Nat.zero_add _).symm) (load_zero _ _ _ 4 _ r e _ rfl))
      (tap_eq _ _ _ _ r e 3 (ld_cols _ 3 0 _ 0 e 3 e rfl (Nat.zero_add _).symm) (load_zero _ _ _ 5 _ r e _ rfl))
      (tap_eq _ _ _ _ r e 4 (ld_cols _ 4 0 _ 0 e 4 e rfl (Nat.zero_add _).symm) (load_zero _ _ _ 6 _ r e _ rfl))
      (tap_eq _ _ _ _ r e 5 (ld_cols _ 5 0 _ 0 e 5 e rfl (Nat.zero_add _).symm) (load_zero _ _ _ 7 _ r e _ rfl))
      (tap_eq _ _ _ _ r e 6 (ld_cols _ 6 0 _ 0 e 6 e rfl (Nat.zero_add _).symm) (load_zero _ _ _ 8 _ r e _ rfl))
      (tap_eq _ _ _ _ r e 7 (ld_cols _ 7 0 _ 0 e 7 e rfl (Nat.zero_add _).symm) (load_zero _ _ _ 9 _ r e _ rfl))
      (tap_eq _ _ _ _ r e 8 (ld_cols _ 8 0 _ 0 e 8 e rfl (Nat.zero_add _).symm) (load_zero _ _ _ 10 _ r e _ rfl))
      (tap_eq _ _ _ _ r e 9 (ld_cols _ 9 0 _ 0 e 9 e rfl (Nat.zero_add _).symm) (load_zero _ _ _ 11 _ r e _ rfl))
      (tap_eq _ _ _ _ r e 10 (ld_cols _ 10 0 _ 0 e 10 e rfl (Nat.zero_add _).symm) (load_zero _ _ _ 12 _ r e _ rfl))
      (tap_eq _ _ _ _ r e 11 (ld_cols _ 11 0 _ 0 e 11 e rfl (Nat.zero_add _).symm) (load_zero _ _ _ 13 _ r e _ rfl))
      (tap_eq _ _ _ _ r e 12 (ld_cols _ 12 0 _ 0 e 12 e rfl (Nat.zero_add _).symm) (load_zero _ _ _ 14 _ r e _ rfl))
      (tap_eq _ _ _ _ r e 13 (ld_cols _ 13 0 _ 0 e 13 e rfl (Nat.zero_add _).symm) (load_zero _ _ _ 15 _ r e _ rfl))
      (tap_eq _ _ _ _ r e 14 (ld_cols _ 14 0 _ 0 e 14 e rfl (Nat.zero_add _).symm) (load_zero _ _ _ 16 _ r e _ rfl))
      (tap_eq _ _ _ _ r e 15 (ld_cols _ 15 0 _ 0 e 15 e rfl (Nat.zero_add _).symm) (load_zero _ _ _ 17 _ r e _ rfl))
      (tap_eq _ _ _ _ r e 16 (ld_cols _ 16 0 _ 0 e 16 e rfl (Nat.zero_add _).symm) (load_zero _ _ _ 18 _ r e _ rfl))
      (tap_eq _ _ _ _ r e 17 (ld_cols _ 17 0 _ 0 e 17 e rfl (Nat.zero_add _).symm) (load_zero _ _ _ 19 _ r e _ rfl))
      (tap_eq _ _ _ _ r e 18 (ld_cols _ 18 0 _ 0 e 18 e rfl (Nat.zero_add _).symm) (load_zero _ _ _ 20 _ r e _ rfl))
      (tap_eq _ _ _ _ r e 19 (ld_cols _ 19 0 _ 0 e 19 e rfl (Nat.zero_add _).symm) (load_zero _ _ _ 21 _ r e _ rfl))
      (tap_eq _ _ _ _ r e 20 (ld_cols _ 20 0 _ 0 e 20 e rfl (Nat.zero_add _).symm) (load_zero _ _ _ 22 _ r e _ rfl))
      (tap_eq _ _ _ _ r e 21 (ld_cols _ 21 0 _ 0 e 21 e rfl (Nat.zero_add _).symm) (load_zero _ _ _ 23 _ r e _ rfl))
      (tap_eq _ _ _ _ r e 22 (ld_cols _ 22 0 _ 0 e 22 e rfl (Nat.zero_add _).symm) (load_zero _ _ _ 24 _ r e _ rfl))
      (tap_eq _ _ _ _ r e 23 (ld_cols _ 23 0 _ 0 e 23 e rfl (Nat.zero_add _).symm) (load_zero _ _ _ 25 _ r e _ rfl))
      (tap_eq _ _ _ _ r e 24 (ld_cols _ 24 0 _ 0 e 24 e rfl (Nat.zero_add _).symm) (load_zero _ _ _ 26 _ r e _ rfl))
      (tap_eq _ _ _ _ r e 25 (ld_cols _ 25 0 _ 0 e 25 e rfl (Nat.zero_add _).symm) (load_zero _ _ _ 27 _ r e _ rfl))
      (tap_eq _ _ _ _ r e 26 (ld_cols _ 26 0 _ 0 e 26 e rfl (Nat.zero_add _).symm) (load_zero _ _ _ 28 _ r e _ rfl))
      (tap_eq _ _ _ _ r e 27 (ld_cols _ 27 0 _ 0 e 27 e rfl (Nat.zero_add _).symm) (load_zero _ _ _ 29 _ r e _ rfl))
      (tap_eq _ _ _ _ r e 28 (ld_cols _ 28 0 _ 0 e 28 e rfl (Nat.zero_add _).symm) (load_zero _ _ _ 30 _ r e _ rfl))
      (tap_eq _ _ _ _ r e 29 (ld_cols _ 29 0 _ 0 e 29 e rfl (Nat.zero_add _).symm) (load_zero _ _ _ 31 _ r e _ rfl))
      (tap_eq _ _ _ _ r e 30 (ld_cols _ 30 0 _ 0 e 30 e rfl (Nat.zero_add _).symm) (load_zero _ _ _ 32 _ r e _ rfl))

/-- The first rows of the scratch before a point that is not a sequence's first. -/
abbrev older (c : Dev nD) (t : Fin cfg0.N) (h0 : ¬t.val % 16 = 0) (i : Fin 32) (e : Fin 512) : EReal :=
  (outsAt0 m c (t.val - 1) (by omega)).2.2.2.2.2.2.2.2.2 (ix2 ⟨i.val, by omega⟩ e)

/-- The block of a point within a sequence. -/
theorem cact_inner (c : Dev nD) (t : Fin cfg0.N) (h0 : ¬t.val % 16 = 0) (h1 : ¬t.val % 16 = 15) (r : Fin 256) (k : Fin 512) :
    (outsAt0 m c t.val t.isLt).2.2.2.2.2.2.2.1 (ix2 r k) = tile m c t (older m c t h0) r k := by
  rw [outsAt0_B m c t h0 h1]
  frame_out
  refine (act_at _ _ _ r k).trans (congrArg (fun z => act (lnorm z _ _ k)) (funext fun e => ?_))
  exact taps_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r e
      (tapped (iblk m c 8 t) (past (older m c t h0) (U m c t)) r e)
      (tap_eq _ _ _ _ r e 0 (ld_cols _ 0 0 _ 0 e 0 e rfl (Nat.zero_add _).symm) (load_past _ _ _ _ _ (Memref.IsWhole.read_unread _ _) 2 _ r e _ rfl))
      (tap_eq _ _ _ _ r e 1 (ld_cols _ 1 0 _ 0 e 1 e rfl (Nat.zero_add _).symm) (load_past _ _ _ _ _ (Memref.IsWhole.read_unread _ _) 3 _ r e _ rfl))
      (tap_eq _ _ _ _ r e 2 (ld_cols _ 2 0 _ 0 e 2 e rfl (Nat.zero_add _).symm) (load_past _ _ _ _ _ (Memref.IsWhole.read_unread _ _) 4 _ r e _ rfl))
      (tap_eq _ _ _ _ r e 3 (ld_cols _ 3 0 _ 0 e 3 e rfl (Nat.zero_add _).symm) (load_past _ _ _ _ _ (Memref.IsWhole.read_unread _ _) 5 _ r e _ rfl))
      (tap_eq _ _ _ _ r e 4 (ld_cols _ 4 0 _ 0 e 4 e rfl (Nat.zero_add _).symm) (load_past _ _ _ _ _ (Memref.IsWhole.read_unread _ _) 6 _ r e _ rfl))
      (tap_eq _ _ _ _ r e 5 (ld_cols _ 5 0 _ 0 e 5 e rfl (Nat.zero_add _).symm) (load_past _ _ _ _ _ (Memref.IsWhole.read_unread _ _) 7 _ r e _ rfl))
      (tap_eq _ _ _ _ r e 6 (ld_cols _ 6 0 _ 0 e 6 e rfl (Nat.zero_add _).symm) (load_past _ _ _ _ _ (Memref.IsWhole.read_unread _ _) 8 _ r e _ rfl))
      (tap_eq _ _ _ _ r e 7 (ld_cols _ 7 0 _ 0 e 7 e rfl (Nat.zero_add _).symm) (load_past _ _ _ _ _ (Memref.IsWhole.read_unread _ _) 9 _ r e _ rfl))
      (tap_eq _ _ _ _ r e 8 (ld_cols _ 8 0 _ 0 e 8 e rfl (Nat.zero_add _).symm) (load_past _ _ _ _ _ (Memref.IsWhole.read_unread _ _) 10 _ r e _ rfl))
      (tap_eq _ _ _ _ r e 9 (ld_cols _ 9 0 _ 0 e 9 e rfl (Nat.zero_add _).symm) (load_past _ _ _ _ _ (Memref.IsWhole.read_unread _ _) 11 _ r e _ rfl))
      (tap_eq _ _ _ _ r e 10 (ld_cols _ 10 0 _ 0 e 10 e rfl (Nat.zero_add _).symm) (load_past _ _ _ _ _ (Memref.IsWhole.read_unread _ _) 12 _ r e _ rfl))
      (tap_eq _ _ _ _ r e 11 (ld_cols _ 11 0 _ 0 e 11 e rfl (Nat.zero_add _).symm) (load_past _ _ _ _ _ (Memref.IsWhole.read_unread _ _) 13 _ r e _ rfl))
      (tap_eq _ _ _ _ r e 12 (ld_cols _ 12 0 _ 0 e 12 e rfl (Nat.zero_add _).symm) (load_past _ _ _ _ _ (Memref.IsWhole.read_unread _ _) 14 _ r e _ rfl))
      (tap_eq _ _ _ _ r e 13 (ld_cols _ 13 0 _ 0 e 13 e rfl (Nat.zero_add _).symm) (load_past _ _ _ _ _ (Memref.IsWhole.read_unread _ _) 15 _ r e _ rfl))
      (tap_eq _ _ _ _ r e 14 (ld_cols _ 14 0 _ 0 e 14 e rfl (Nat.zero_add _).symm) (load_past _ _ _ _ _ (Memref.IsWhole.read_unread _ _) 16 _ r e _ rfl))
      (tap_eq _ _ _ _ r e 15 (ld_cols _ 15 0 _ 0 e 15 e rfl (Nat.zero_add _).symm) (load_past _ _ _ _ _ (Memref.IsWhole.read_unread _ _) 17 _ r e _ rfl))
      (tap_eq _ _ _ _ r e 16 (ld_cols _ 16 0 _ 0 e 16 e rfl (Nat.zero_add _).symm) (load_past _ _ _ _ _ (Memref.IsWhole.read_unread _ _) 18 _ r e _ rfl))
      (tap_eq _ _ _ _ r e 17 (ld_cols _ 17 0 _ 0 e 17 e rfl (Nat.zero_add _).symm) (load_past _ _ _ _ _ (Memref.IsWhole.read_unread _ _) 19 _ r e _ rfl))
      (tap_eq _ _ _ _ r e 18 (ld_cols _ 18 0 _ 0 e 18 e rfl (Nat.zero_add _).symm) (load_past _ _ _ _ _ (Memref.IsWhole.read_unread _ _) 20 _ r e _ rfl))
      (tap_eq _ _ _ _ r e 19 (ld_cols _ 19 0 _ 0 e 19 e rfl (Nat.zero_add _).symm) (load_past _ _ _ _ _ (Memref.IsWhole.read_unread _ _) 21 _ r e _ rfl))
      (tap_eq _ _ _ _ r e 20 (ld_cols _ 20 0 _ 0 e 20 e rfl (Nat.zero_add _).symm) (load_past _ _ _ _ _ (Memref.IsWhole.read_unread _ _) 22 _ r e _ rfl))
      (tap_eq _ _ _ _ r e 21 (ld_cols _ 21 0 _ 0 e 21 e rfl (Nat.zero_add _).symm) (load_past _ _ _ _ _ (Memref.IsWhole.read_unread _ _) 23 _ r e _ rfl))
      (tap_eq _ _ _ _ r e 22 (ld_cols _ 22 0 _ 0 e 22 e rfl (Nat.zero_add _).symm) (load_past _ _ _ _ _ (Memref.IsWhole.read_unread _ _) 24 _ r e _ rfl))
      (tap_eq _ _ _ _ r e 23 (ld_cols _ 23 0 _ 0 e 23 e rfl (Nat.zero_add _).symm) (load_past _ _ _ _ _ (Memref.IsWhole.read_unread _ _) 25 _ r e _ rfl))
      (tap_eq _ _ _ _ r e 24 (ld_cols _ 24 0 _ 0 e 24 e rfl (Nat.zero_add _).symm) (load_past _ _ _ _ _ (Memref.IsWhole.read_unread _ _) 26 _ r e _ rfl))
      (tap_eq _ _ _ _ r e 25 (ld_cols _ 25 0 _ 0 e 25 e rfl (Nat.zero_add _).symm) (load_past _ _ _ _ _ (Memref.IsWhole.read_unread _ _) 27 _ r e _ rfl))
      (tap_eq _ _ _ _ r e 26 (ld_cols _ 26 0 _ 0 e 26 e rfl (Nat.zero_add _).symm) (load_past _ _ _ _ _ (Memref.IsWhole.read_unread _ _) 28 _ r e _ rfl))
      (tap_eq _ _ _ _ r e 27 (ld_cols _ 27 0 _ 0 e 27 e rfl (Nat.zero_add _).symm) (load_past _ _ _ _ _ (Memref.IsWhole.read_unread _ _) 29 _ r e _ rfl))
      (tap_eq _ _ _ _ r e 28 (ld_cols _ 28 0 _ 0 e 28 e rfl (Nat.zero_add _).symm) (load_past _ _ _ _ _ (Memref.IsWhole.read_unread _ _) 30 _ r e _ rfl))
      (tap_eq _ _ _ _ r e 29 (ld_cols _ 29 0 _ 0 e 29 e rfl (Nat.zero_add _).symm) (load_past _ _ _ _ _ (Memref.IsWhole.read_unread _ _) 31 _ r e _ rfl))
      (tap_eq _ _ _ _ r e 30 (ld_cols _ 30 0 _ 0 e 30 e rfl (Nat.zero_add _).symm) (load_own _ _ _ _ _ r e _ rfl))

/-- The block of a sequence's last point. -/
theorem cact_last (c : Dev nD) (t : Fin cfg0.N) (h0 : ¬t.val % 16 = 0) (h1 : t.val % 16 = 15) (r : Fin 256) (k : Fin 512) :
    (outsAt0 m c t.val t.isLt).2.2.2.2.2.2.2.1 (ix2 r k) = tile m c t (older m c t h0) r k := by
  rw [outsAt0_C m c t h0 h1]
  frame_out
  refine (act_at _ _ _ r k).trans (congrArg (fun z => act (lnorm z _ _ k)) (funext fun e => ?_))
  exact taps_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r e
      (tapped (iblk m c 8 t) (past (older m c t h0) (U m c t)) r e)
      (tap_eq _ _ _ _ r e 0 (ld_cols _ 0 0 _ 0 e 0 e rfl (Nat.zero_add _).symm) (load_past _ _ _ _ _ (Memref.IsWhole.read_unread _ _) 2 _ r e _ rfl))
      (tap_eq _ _ _ _ r e 1 (ld_cols _ 1 0 _ 0 e 1 e rfl (Nat.zero_add _).symm) (load_past _ _ _ _ _ (Memref.IsWhole.read_unread _ _) 3 _ r e _ rfl))
      (tap_eq _ _ _ _ r e 2 (ld_cols _ 2 0 _ 0 e 2 e rfl (Nat.zero_add _).symm) (load_past _ _ _ _ _ (Memref.IsWhole.read_unread _ _) 4 _ r e _ rfl))
      (tap_eq _ _ _ _ r e 3 (ld_cols _ 3 0 _ 0 e 3 e rfl (Nat.zero_add _).symm) (load_past _ _ _ _ _ (Memref.IsWhole.read_unread _ _) 5 _ r e _ rfl))
      (tap_eq _ _ _ _ r e 4 (ld_cols _ 4 0 _ 0 e 4 e rfl (Nat.zero_add _).symm) (load_past _ _ _ _ _ (Memref.IsWhole.read_unread _ _) 6 _ r e _ rfl))
      (tap_eq _ _ _ _ r e 5 (ld_cols _ 5 0 _ 0 e 5 e rfl (Nat.zero_add _).symm) (load_past _ _ _ _ _ (Memref.IsWhole.read_unread _ _) 7 _ r e _ rfl))
      (tap_eq _ _ _ _ r e 6 (ld_cols _ 6 0 _ 0 e 6 e rfl (Nat.zero_add _).symm) (load_past _ _ _ _ _ (Memref.IsWhole.read_unread _ _) 8 _ r e _ rfl))
      (tap_eq _ _ _ _ r e 7 (ld_cols _ 7 0 _ 0 e 7 e rfl (Nat.zero_add _).symm) (load_past _ _ _ _ _ (Memref.IsWhole.read_unread _ _) 9 _ r e _ rfl))
      (tap_eq _ _ _ _ r e 8 (ld_cols _ 8 0 _ 0 e 8 e rfl (Nat.zero_add _).symm) (load_past _ _ _ _ _ (Memref.IsWhole.read_unread _ _) 10 _ r e _ rfl))
      (tap_eq _ _ _ _ r e 9 (ld_cols _ 9 0 _ 0 e 9 e rfl (Nat.zero_add _).symm) (load_past _ _ _ _ _ (Memref.IsWhole.read_unread _ _) 11 _ r e _ rfl))
      (tap_eq _ _ _ _ r e 10 (ld_cols _ 10 0 _ 0 e 10 e rfl (Nat.zero_add _).symm) (load_past _ _ _ _ _ (Memref.IsWhole.read_unread _ _) 12 _ r e _ rfl))
      (tap_eq _ _ _ _ r e 11 (ld_cols _ 11 0 _ 0 e 11 e rfl (Nat.zero_add _).symm) (load_past _ _ _ _ _ (Memref.IsWhole.read_unread _ _) 13 _ r e _ rfl))
      (tap_eq _ _ _ _ r e 12 (ld_cols _ 12 0 _ 0 e 12 e rfl (Nat.zero_add _).symm) (load_past _ _ _ _ _ (Memref.IsWhole.read_unread _ _) 14 _ r e _ rfl))
      (tap_eq _ _ _ _ r e 13 (ld_cols _ 13 0 _ 0 e 13 e rfl (Nat.zero_add _).symm) (load_past _ _ _ _ _ (Memref.IsWhole.read_unread _ _) 15 _ r e _ rfl))
      (tap_eq _ _ _ _ r e 14 (ld_cols _ 14 0 _ 0 e 14 e rfl (Nat.zero_add _).symm) (load_past _ _ _ _ _ (Memref.IsWhole.read_unread _ _) 16 _ r e _ rfl))
      (tap_eq _ _ _ _ r e 15 (ld_cols _ 15 0 _ 0 e 15 e rfl (Nat.zero_add _).symm) (load_past _ _ _ _ _ (Memref.IsWhole.read_unread _ _) 17 _ r e _ rfl))
      (tap_eq _ _ _ _ r e 16 (ld_cols _ 16 0 _ 0 e 16 e rfl (Nat.zero_add _).symm) (load_past _ _ _ _ _ (Memref.IsWhole.read_unread _ _) 18 _ r e _ rfl))
      (tap_eq _ _ _ _ r e 17 (ld_cols _ 17 0 _ 0 e 17 e rfl (Nat.zero_add _).symm) (load_past _ _ _ _ _ (Memref.IsWhole.read_unread _ _) 19 _ r e _ rfl))
      (tap_eq _ _ _ _ r e 18 (ld_cols _ 18 0 _ 0 e 18 e rfl (Nat.zero_add _).symm) (load_past _ _ _ _ _ (Memref.IsWhole.read_unread _ _) 20 _ r e _ rfl))
      (tap_eq _ _ _ _ r e 19 (ld_cols _ 19 0 _ 0 e 19 e rfl (Nat.zero_add _).symm) (load_past _ _ _ _ _ (Memref.IsWhole.read_unread _ _) 21 _ r e _ rfl))
      (tap_eq _ _ _ _ r e 20 (ld_cols _ 20 0 _ 0 e 20 e rfl (Nat.zero_add _).symm) (load_past _ _ _ _ _ (Memref.IsWhole.read_unread _ _) 22 _ r e _ rfl))
      (tap_eq _ _ _ _ r e 21 (ld_cols _ 21 0 _ 0 e 21 e rfl (Nat.zero_add _).symm) (load_past _ _ _ _ _ (Memref.IsWhole.read_unread _ _) 23 _ r e _ rfl))
      (tap_eq _ _ _ _ r e 22 (ld_cols _ 22 0 _ 0 e 22 e rfl (Nat.zero_add _).symm) (load_past _ _ _ _ _ (Memref.IsWhole.read_unread _ _) 24 _ r e _ rfl))
      (tap_eq _ _ _ _ r e 23 (ld_cols _ 23 0 _ 0 e 23 e rfl (Nat.zero_add _).symm) (load_past _ _ _ _ _ (Memref.IsWhole.read_unread _ _) 25 _ r e _ rfl))
      (tap_eq _ _ _ _ r e 24 (ld_cols _ 24 0 _ 0 e 24 e rfl (Nat.zero_add _).symm) (load_past _ _ _ _ _ (Memref.IsWhole.read_unread _ _) 26 _ r e _ rfl))
      (tap_eq _ _ _ _ r e 25 (ld_cols _ 25 0 _ 0 e 25 e rfl (Nat.zero_add _).symm) (load_past _ _ _ _ _ (Memref.IsWhole.read_unread _ _) 27 _ r e _ rfl))
      (tap_eq _ _ _ _ r e 26 (ld_cols _ 26 0 _ 0 e 26 e rfl (Nat.zero_add _).symm) (load_past _ _ _ _ _ (Memref.IsWhole.read_unread _ _) 28 _ r e _ rfl))
      (tap_eq _ _ _ _ r e 27 (ld_cols _ 27 0 _ 0 e 27 e rfl (Nat.zero_add _).symm) (load_past _ _ _ _ _ (Memref.IsWhole.read_unread _ _) 29 _ r e _ rfl))
      (tap_eq _ _ _ _ r e 28 (ld_cols _ 28 0 _ 0 e 28 e rfl (Nat.zero_add _).symm) (load_past _ _ _ _ _ (Memref.IsWhole.read_unread _ _) 30 _ r e _ rfl))
      (tap_eq _ _ _ _ r e 29 (ld_cols _ 29 0 _ 0 e 29 e rfl (Nat.zero_add _).symm) (load_past _ _ _ _ _ (Memref.IsWhole.read_unread _ _) 31 _ r e _ rfl))
      (tap_eq _ _ _ _ r e 30 (ld_cols _ 30 0 _ 0 e 30 e rfl (Nat.zero_add _).symm) (load_own _ _ _ _ _ r e _ rfl))

/-- After any point the scratch's first rows are the tile's last. -/
theorem scratch_at (c : Dev nD) (t : Fin cfg0.N) (i : Fin 288) (hi : i.val < 32) (e : Fin 512) :
    (outsAt0 m c t.val t.isLt).2.2.2.2.2.2.2.2.2 (ix2 i e) = U m c t ⟨224 + i.val, by omega⟩ e := by
  by_cases h0 : t.val % 16 = 0
  · rw [outsAt0_A m c t h0 (by omega)]
    frame_out
    exact moved (stores _ _ _ ++ zeros) i hi e ⟨256 + i.val, by omega⟩ rfl _ (read_new _ _ _ ((View.whole cc0_scratch0).writes (Elt Ideal) (View.whole cc0_scratch0).junk zeros) _ _ _ (by show 256 + i.val = 32 + (224 + i.val); omega))
  by_cases h1 : t.val % 16 = 15
  · rw [outsAt0_C m c t h0 h1]
    frame_out
    exact moved (stores _ _ _) i hi e ⟨256 + i.val, by omega⟩ rfl _ (read_new _ _ _ _ _ _ _ (by show 256 + i.val = 32 + (224 + i.val); omega))
  · rw [outsAt0_B m c t h0 h1]
    frame_out
    exact moved (stores _ _ _) i hi e ⟨256 + i.val, by omega⟩ rfl _ (read_new _ _ _ _ _ _ _ (by show 256 + i.val = 32 + (224 + i.val); omega))

/-- The tail a sequence's last point leaves: its tile's last rows. -/
theorem tail_at (c : Dev nD) (t : Fin cfg0.N) (h1 : t.val % 16 = 15) (i : Fin 32) (e : Fin 512) :
    (outsAt0 m c t.val t.isLt).2.2.2.2.2.2.2.2.1 (ix3 0 i e) = U m c t ⟨224 + i.val, by omega⟩ e := by
  rw [outsAt0_C m c t (by omega) h1]
  frame_out
  exact (tail15_at _ i e).trans (ups_at _ _ _ _ e)

/-- The rows before point `t`'s tile: zeros at a sequence's start, the tile before's last rows elsewhere. -/
def before (c : Dev nD) (t : Fin cfg0.N) (i : Fin 32) (e : Fin 512) : EReal :=
  if t.val % 16 = 0 then 0 else U m c ⟨t.val - 1, by omega⟩ ⟨224 + i.val, by omega⟩ e

/-- Every point's block of the convolved rows. -/
theorem cact_at (c : Dev nD) (t : Fin cfg0.N) (r : Fin 256) (k : Fin 512) :
    (outsAt0 m c t.val t.isLt).2.2.2.2.2.2.2.1 (ix2 r k) = tile m c t (before m c t) r k := by
  by_cases h0 : t.val % 16 = 0
  · rw [cact_first m c t h0 (by omega)]
    exact congrArg (tile m c t · r k) (funext fun i => funext fun e => (if_pos h0).symm)
  have hb : older m c t h0 = before m c t := funext fun i => funext fun e =>
    (scratch_at m c ⟨t.val - 1, by omega⟩ ⟨i.val, by omega⟩ i.isLt e).trans (if_neg h0).symm
  by_cases h1 : t.val % 16 = 15
  · rw [cact_last m c t h0 h1, hb]
  · rw [cact_inner m c t h0 h1, hb]

/-- Every point's blocks of the keys, the values, the keys' mean, the values again, the memory's queries. -/
theorem keys_point (c : Dev nD) (t : Fin cfg0.N) (r : Fin 256) (k : Fin 512) :
    (outsAt0 m c t.val t.isLt).1 (ix2 r k)
      = keys (iblk m c 0 t) (iblk m c 1 t) (iblk m c 2 t) (iblk m c 3 t) (iblk m c 6 t) r k := by
  by_cases h0 : t.val % 16 = 0
  · rw [outsAt0_A m c t h0 (by omega)]
    frame_out
    exact keys_tile _ _ _ _ _ r k
  by_cases h1 : t.val % 16 = 15
  · rw [outsAt0_C m c t h0 h1]
    frame_out
    exact keys_tile _ _ _ _ _ r k
  · rw [outsAt0_B m c t h0 h1]
    frame_out
    exact keys_tile _ _ _ _ _ r k

theorem values_point (c : Dev nD) (t : Fin cfg0.N) (r : Fin 256) (k : Fin 512) :
    (outsAt0 m c t.val t.isLt).2.1 (ix2 r k) = lane (iblk m c 0 t) (iblk m c 1 t) (iblk m c 2 t) 2048 (by omega) r k := by
  by_cases h0 : t.val % 16 = 0
  · rw [outsAt0_A m c t h0 (by omega)]
    frame_out
    exact values_tile _ _ _ r k
  by_cases h1 : t.val % 16 = 15
  · rw [outsAt0_C m c t h0 h1]
    frame_out
    exact values_tile _ _ _ r k
  · rw [outsAt0_B m c t h0 h1]
    frame_out
    exact values_tile _ _ _ r k

theorem mean_point (c : Dev nD) (t : Fin cfg0.N) (k : Fin 512) :
    (outsAt0 m c t.val t.isLt).2.2.1 (ix3 0 0 k)
      = mean (fun r => keys (iblk m c 0 t) (iblk m c 1 t) (iblk m c 2 t) (iblk m c 3 t) (iblk m c 6 t) r k) := by
  by_cases h0 : t.val % 16 = 0
  · rw [outsAt0_A m c t h0 (by omega)]
    frame_out
    exact mean_tile _ _ _ _ _ k
  by_cases h1 : t.val % 16 = 15
  · rw [outsAt0_C m c t h0 h1]
    frame_out
    exact mean_tile _ _ _ _ _ k
  · rw [outsAt0_B m c t h0 h1]
    frame_out
    exact mean_tile _ _ _ _ _ k

theorem values16_point (c : Dev nD) (t : Fin cfg0.N) (r : Fin 256) (k : Fin 512) :
    (outsAt0 m c t.val t.isLt).2.2.2.2.2.1 (ix2 r k) = lane (iblk m c 0 t) (iblk m c 1 t) (iblk m c 2 t) 2048 (by omega) r k := by
  by_cases h0 : t.val % 16 = 0
  · rw [outsAt0_A m c t h0 (by omega)]
    frame_out
    exact values16_tile _ _ _ r k
  by_cases h1 : t.val % 16 = 15
  · rw [outsAt0_C m c t h0 h1]
    frame_out
    exact values16_tile _ _ _ r k
  · rw [outsAt0_B m c t h0 h1]
    frame_out
    exact values16_tile _ _ _ r k

theorem mq_point (c : Dev nD) (t : Fin cfg0.N) (r : Fin 256) (k : Fin 512) :
    (outsAt0 m c t.val t.isLt).2.2.2.2.2.2.1 (ix2 r k)
      = mqs (iblk m c 0 t) (iblk m c 1 t) (iblk m c 2 t) (iblk m c 4 t) (iblk m c 7 t) r k := by
  by_cases h0 : t.val % 16 = 0
  · rw [outsAt0_A m c t h0 (by omega)]
    frame_out
    exact mq_tile _ _ _ _ _ r k
  by_cases h1 : t.val % 16 = 15
  · rw [outsAt0_C m c t h0 h1]
    frame_out
    exact mq_tile _ _ _ _ _ r k
  · rw [outsAt0_B m c t h0 h1]
    frame_out
    exact mq_tile _ _ _ _ _ r k

end Cert.PreIdeal.Value

end
-- ==== Proof.PreRowSpec.lean ====
/- The mixer's results, row by row, from the whole arrays of the arguments. -/
module

public import proofs.«01_k».proof.Proof.PreSpec

@[expose] public section

set_option maxRecDepth 16384

noncomputable section

open Idealize.ShloMosaic Idealize.ShloMosaic.TcCoe Idealize.SL.Sem

namespace Cert.Mix

open Cert.Post Cert.Group

section row

variable {n : ℕ} (X : Vec Ideal (⟨2, ![n, 1024]⟩ : Shape) .f32) (g : Vec Ideal (⟨1, ![1024]⟩ : Shape) .f32)
  (W : Vec Ideal (⟨2, ![1024, 6144]⟩ : Shape) .f32)

/-- Row `r`, normed. -/
def normed (r : Fin n) : Fin 1024 → EReal := norm (fun k => X (ix2 r k)) (fun k => g (ix1 k))

/-- Row `r`'s projection on column `c` of the whole weight. -/
def flat (r : Fin n) (c : Fin 6144) : EReal := dot (normed X g r) (fun k => W (ix2 k c))

/-- Row `r` of the gated branch. -/
def gated (r : Fin n) (c : Fin 512) : EReal :=
  flat X g W r ⟨c.val, by omega⟩ * sigma (flat X g W r ⟨512 + c.val, by omega⟩)

/-- Row `r` of the queries: normed over each head of sixty-four columns. -/
def queryRow (gq : Vec Ideal (⟨1, ![64]⟩ : Shape) .f32) (r : Fin n) (c : Fin 512) : EReal :=
  gnorm (Ideal.ofBits .f32 1115684864#32) (fun c => flat X g W r ⟨1024 + c.val, by omega⟩) (mem64 c)
    (gq (ix1 (⟨c.val % 64, by omega⟩ : Fin 64))) c

/-- Row `r` of the keys, likewise. -/
def keyRow (gk : Vec Ideal (⟨1, ![64]⟩ : Shape) .f32) (r : Fin n) (c : Fin 512) : EReal :=
  gnorm (Ideal.ofBits .f32 1115684864#32) (fun c => flat X g W r ⟨1536 + c.val, by omega⟩) (mem64 c)
    (gk (ix1 (⟨c.val % 64, by omega⟩ : Fin 64))) c

/-- Row `r` of the values. -/
def valueRow (r : Fin n) (c : Fin 512) : EReal := flat X g W r ⟨2048 + c.val, by omega⟩

/-- Row `r` of the memory's queries: normed over each head of a hundred and twenty-eight columns. -/
def mqRow (gm : Vec Ideal (⟨1, ![128]⟩ : Shape) .f32) (r : Fin n) (c : Fin 512) : EReal :=
  gnorm (Ideal.ofBits .f32 1124073472#32) (fun c => flat X g W r ⟨2560 + c.val, by omega⟩) (mem128 c)
    (gm (ix1 (⟨c.val % 128, by omega⟩ : Fin 128))) c

end row

/-- What tap `j` of row `n` reads: nothing before a sequence's start, else a gated row up to thirty back. -/
def shifted (u : Fin 16384 → Fin 512 → EReal) (n : Fin 16384) (j : Fin 31) (c : Fin 512) : EReal :=
  if n.val % 4096 + j.val < 30 then 0 else u ⟨n.val + j.val - 30, by omega⟩ c

/-- A row of the convolution, from what its taps read. -/
def convolved (f : Fin 31 → Fin 512 → EReal) (w : Vec Ideal (⟨2, ![31, 512]⟩ : Shape) .f32)
    (b : Vec Ideal (⟨1, ![512]⟩ : Shape) .f32) (c : Fin 512) : EReal :=
  taps (b (ix1 c)) (fun j => w (ix2 j c) * f j c)

/-- A row of the branch after its convolution, from what its taps read. -/
def branch (f : Fin 31 → Fin 512 → EReal) (w : Vec Ideal (⟨2, ![31, 512]⟩ : Shape) .f32)
    (b lg lb : Vec Ideal (⟨1, ![512]⟩ : Shape) .f32) (c : Fin 512) : EReal :=
  act (lnorm (convolved f w b) (fun c => lg (ix1 c)) (fun c => lb (ix1 c)) c)

/-- The rows of block `b`. -/
def blockRow (b : Fin 64) (i : Fin 256) : Fin 16384 := ⟨256 * b.val + i.val, by omega⟩

/-- The last rows of sequence `s`. -/
def endRow (s : Fin 4) (i : Fin 32) : Fin 16384 := ⟨4096 * s.val + 4064 + i.val, by omega⟩

end Cert.Mix

end
-- ==== Proof.PreValue.lean ====
/- The mixer's result arrays: every row is the plain formula of `PreRowSpec` of the rows of the arguments. -/
module

public import proofs.«01_k».proof.Proof.PreTile
public import proofs.«01_k».proof.Proof.PreRowSpec

@[expose] public section

set_option maxRecDepth 16384

noncomputable section

open Idealize.ShloMosaic Idealize.ShloMosaic.TcCoe Idealize.SL.Sem
open Idealize.ShloMosaic.Pipeline (Dat)

namespace Cert.PreIdeal.Value

open Cert.PreIdeal Cert.PreIdeal.Gen Cert.Post Cert.Group Cert.Mix

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_13.index t = ![t.val, 0] ∧ win0_14.index t = ![t.val, 0] ∧ win0_15.index t = ![t.val, 0, 0]
    ∧ win0_18.index t = ![t.val, 0] ∧ win0_19.index t = ![t.val, 0] ∧ win0_20.index t = ![t.val, 0]
    ∧ win0_21.index t = ![t.val / 16, 0, 0] :=
  (by decide +kernel : ∀ t : Fin grid0.N, _)

/-- The row of the arrays that row `r` of point `t`'s blocks is. -/
def rowAt (t : Fin cfg0.N) (r : Fin 256) : Fin 16384 := ⟨256 * t.val + r.val, by have : t.val < 64 := t.isLt; omega⟩

/-- The arguments' arrays. -/
abbrev A0 (c : Dev nD) : Vec Ideal S16384x1024 .f32 := m ((c : Thread nD τ).loc main_arg0)
abbrev A1 (c : Dev nD) : Vec Ideal S1024 .f32 := m ((c : Thread nD τ).loc main_arg1)
abbrev A2 (c : Dev nD) : Vec Ideal S1024x6144 .f32 := m ((c : Thread nD τ).loc main_arg2)
abbrev A4 (c : Dev nD) : Vec Ideal S64 .f32 := m ((c : Thread nD τ).loc main_arg4)
abbrev A5 (c : Dev nD) : Vec Ideal S128 .f32 := m ((c : Thread nD τ).loc main_arg5)
abbrev A6 (c : Dev nD) : Vec Ideal S31x512 .f32 := m ((c : Thread nD τ).loc main_arg6)
abbrev A7 (c : Dev nD) : Vec Ideal S512 .f32 := m ((c : Thread nD τ).loc main_arg7)
abbrev A8 (c : Dev nD) : Vec Ideal S512 .f32 := m ((c : Thread nD τ).loc main_arg8)
abbrev A9 (c : Dev nD) : Vec Ideal S512 .f32 := m ((c : Thread nD τ).loc main_arg9)

section blocks

variable (c : Dev nD) (t : Fin cfg0.N)

theorem block0 (r : Fin 256) (k : Fin 1024) : iblk m c 0 t (ix2 r k) = A0 m c (ix2 (rowAt t r) k) := by
  blk_ext [iblk, V, idx t, rowAt]
theorem block1 (k : Fin 1024) : iblk m c 1 t (ix2 0 k) = A1 m c (ix1 k) := by
  blk_point [iblk, V, idx t]
theorem block2 (i : Fin 1024) (k : Fin 3072) : iblk m c 2 t (ix2 i k) = A2 m c (ix2 i (⟨k.val, by omega⟩ : Fin 6144)) := by
  blk_point [iblk, V, idx t]
theorem block3 (i k : Fin 512) : iblk m c 3 t (ix2 i k) = wt64 k i := by
  have e : (win0_3.blk t).view.emb (ix2 i k) = ix2 i k := by blk_ext [idx t]
  show V m c main_v28 ((win0_3.blk t).view.emb (ix2 i k)) = _
  rw [e]
  exact host64 k i
theorem block4 (i k : Fin 512) : iblk m c 4 t (ix2 i k) = wt128 k i := by
  have e : (win0_4.blk t).view.emb (ix2 i k) = ix2 i k := by blk_ext [idx t]
  show V m c main_v39 ((win0_4.blk t).view.emb (ix2 i k)) = _
  rw [e]
  exact host128 k i
theorem block6 (k : Fin 512) : iblk m c 6 t (ix2 0 k) = A4 m c (ix1 (⟨k.val % 64, by omega⟩ : Fin 64)) := by
  blk_point [iblk, V, idx t]
theorem block7 (k : Fin 512) : iblk m c 7 t (ix2 0 k) = A5 m c (ix1 (⟨k.val % 128, by omega⟩ : Fin 128)) := by
  blk_point [iblk, V, idx t]
theorem block8 (i : Fin 31) (k : Fin 512) : iblk m c 8 t (ix2 i k) = A6 m c (ix2 i k) := by
  blk_ext [iblk, V, idx t]
theorem block9 (k : Fin 512) : iblk m c 9 t (ix2 0 k) = A7 m c (ix1 k) := by
  blk_point [iblk, V, idx t]
theorem block10 (k : Fin 512) : iblk m c 10 t (ix2 0 k) = A8 m c (ix1 k) := by
  blk_point [iblk, V, idx t]
theorem block11 (k : Fin 512) : iblk m c 11 t (ix2 0 k) = A9 m c (ix1 k) := by
  blk_point [iblk, V, idx t]

theorem normed_at (r : Fin 256) :
    norm (fun k => iblk m c 0 t (ix2 r k)) (fun k => iblk m c 1 t (ix2 0 k)) = normed (A0 m c) (A1 m c) (rowAt t r) :=
  congrArg₂ norm (funext fun k => block0 m c t r k) (funext fun k => block1 m c t k)

/-- A tile's projection is a row of the whole projection. -/
theorem lane_at (o : ℕ) (ho : o + 512 ≤ 3072) (r : Fin 256) (e : Fin 512) :
    lane (iblk m c 0 t) (iblk m c 1 t) (iblk m c 2 t) o ho r e
      = flat (A0 m c) (A1 m c) (A2 m c) (rowAt t r) ⟨o + e.val, by omega⟩ :=
  congrArg₂ dot (normed_at m c t r) (funext fun k => block2 m c t k _)

/-- A tile's gated rows are rows of all the gated rows. -/
theorem U_at (r : Fin 256) (e : Fin 512) : U m c t r e = gated (A0 m c) (A1 m c) (A2 m c) (rowAt t r) e :=
  congrArg₂ (fun a b => a * sigma b)
    (congrArg₂ dot (normed_at m c t r) (funext fun k => block2 m c t k _))
    (congrArg₂ dot (normed_at m c t r) (funext fun k => block2 m c t k _))

/-- What a tap reads, in the scratch and among all the rows. -/
theorem tap_at (r : Fin 256) (j : Fin 31) (e : Fin 512) :
    past (before m c t) (U m c t) (tapRow j r) e = shifted (gated (A0 m c) (A1 m c) (A2 m c)) (rowAt t r) j e := by
  have ht : t.val < 64 := t.isLt
  unfold past shifted before
  split
  · next h =>
    have h' : 2 + j.val + r.val < 32 := h
    split
    · next h0 => exact (if_pos (by show (256 * t.val + r.val) % 4096 + j.val < 30; omega)).symm
    · next h0 =>
      rw [if_neg (by show ¬(256 * t.val + r.val) % 4096 + j.val < 30; omega), U_at]
      exact congrArg (gated _ _ _ · e) (Fin.ext (by
        show 256 * (t.val - 1) + (224 + (2 + j.val + r.val)) = 256 * t.val + r.val + j.val - 30
        omega))
  · next h =>
    have h' : ¬2 + j.val + r.val < 32 := h
    rw [if_neg (by show ¬(256 * t.val + r.val) % 4096 + j.val < 30; omega), U_at]
    exact congrArg (gated _ _ _ · e) (Fin.ext (by
      show 256 * t.val + (2 + j.val + r.val - 32) = 256 * t.val + r.val + j.val - 30
      omega))

/-- What point `t` writes back of the branch. -/
theorem branch_point (r : Fin 256) (k : Fin 512) :
    (outsAt0 m c t.val t.isLt).2.2.2.2.2.2.2.1 (ix2 r k)
      = branch (shifted (gated (A0 m c) (A1 m c) (A2 m c)) (rowAt t r)) (A6 m c) (A7 m c) (A8 m c) (A9 m c) k := by
  rw [cact_at]
  show act (lnorm _ _ _ k) = act (lnorm _ _ _ k)
  congr 2
  · funext e
    show taps _ _ = taps _ _
    congr 1
    · exact block9 m c t e
    · exact funext fun j => congrArg₂ (· * ·) (block8 m c t j e) (tap_at m c t r j e)
  · exact funext fun k => block10 m c t k
  · exact funext fun k => block11 m c t k

end blocks

section finals

variable (c : Dev nD)

/-- The results' arrays. -/
abbrev allKeys : Vec Ideal S16384x512 .f32 := fun j => keyRow (A0 m c) (A1 m c) (A2 m c) (A4 m c) (j 0) (j 1)
abbrev allValues : Vec Ideal S16384x512 .f32 := fun j => valueRow (A0 m c) (A1 m c) (A2 m c) (j 0) (j 1)
abbrev allMeans : Vec Ideal S64x1x512 .f32 := fun j =>
  mean (fun i => keyRow (A0 m c) (A1 m c) (A2 m c) (A4 m c) (blockRow (j 0) i) (j 2))
abbrev allMq : Vec Ideal S16384x512 .f32 := fun j => mqRow (A0 m c) (A1 m c) (A2 m c) (A5 m c) (j 0) (j 1)
abbrev allBranch : Vec Ideal S16384x512 .f32 := fun j =>
  branch (shifted (gated (A0 m c) (A1 m c) (A2 m c)) (j 0)) (A6 m c) (A7 m c) (A8 m c) (A9 m c) (j 1)
abbrev allTails : Vec Ideal S4x32x512 .f32 := fun j => gated (A0 m c) (A1 m c) (A2 m c) (endRow (j 0) (j 1)) (j 2)

theorem values_block (t : Fin cfg0.N) (r : Fin 256) (k : Fin 512) :
    lane (iblk m c 0 t) (iblk m c 1 t) (iblk m c 2 t) 2048 (by omega) r k = allValues m c (ix2 (rowAt t r) k) :=
  lane_at m c t 2048 _ r k

theorem whole14 : (dats m 0 c).arrAt 14 (cfgs 0).N = allValues m c := by
  refine (dats m 0 c).arrAt_eq_of_covers 14 _ (by decide +kernel) fun t _ y => ?_
  blk_simp
  rw [after0_14]
  idx_vars y
  refine ((values_point m c t y0 y1).trans (values_block m c t y0 y1)).trans (congrArg (allValues m c) (a₁ := ix2 (rowAt t y0) y1) ?_)
  blk_ext [idx t, rowAt]
theorem whole18 : (dats m 0 c).arrAt 18 (cfgs 0).N = (allValues m c : Vec Ideal S16384x512 .bf16) := by
  refine (dats m 0 c).arrAt_eq_of_covers 18 _ (by decide +kernel) fun t _ y => ?_
  blk_simp
  rw [after0_18]
  idx_vars y
  refine ((values16_point m c t y0 y1).trans (values_block m c t y0 y1)).trans (congrArg (allValues m c) (a₁ := ix2 (rowAt t y0) y1) ?_)
  blk_ext [idx t, rowAt]
theorem whole20 : (dats m 0 c).arrAt 20 (cfgs 0).N = (allBranch m c : Vec Ideal S16384x512 .bf16) := by
  refine (dats m 0 c).arrAt_eq_of_covers 20 _ (by decide +kernel) fun t _ y => ?_
  blk_simp
  rw [after0_20]
  idx_vars y
  refine (branch_point m c t y0 y1).trans (congrArg (allBranch m c) (a₁ := ix2 (rowAt t y0) y1) ?_)
  blk_ext [idx t, rowAt]
theorem whole21 : (dats m 0 c).arrAt 21 (cfgs 0).N = allTails m c := by
  refine (dats m 0 c).arrAt_eq_of_covers 21 _ (by decide +kernel) fun t h y => ?_
  have ht : t.val < 64 := t.isLt
  have h15 : t.val % 16 = 15 := (flush0_21 t).1 h
  blk_simp
  rw [after0_21]
  idx_vars y
  obtain rfl : y0 = 0 := Fin.ext (by omega)
  refine ((tail_at m c t h15 y1 y2).trans (U_at m c t _ y2)).trans ?_
  have e : ((View.whole main_v40_8).slice (win0_21.rect t)).emb (ix3 0 y1 y2) = ix3 (⟨t.val / 16, by omega⟩ : Fin 4) y1 y2 := by
    blk_ext [idx t]
  rw [e]
  exact congrArg (gated _ _ _ · y2) (Fin.ext (by
    show 256 * t.val + (224 + y1.val) = 4096 * (t.val / 16) + 4064 + y1.val
    omega))

variable (h0 : ∀ i, ∃ a : ℝ, A0 m c i = (a : EReal)) (h1 : ∀ i, ∃ a : ℝ, A1 m c i = (a : EReal))
  (h2 : ∀ i, ∃ a : ℝ, A2 m c i = (a : EReal))

include h0 h1 h2 in
theorem flat_real (r : Fin 16384) (e : Fin 6144) : ∃ a : ℝ, flat (A0 m c) (A1 m c) (A2 m c) r e = (a : EReal) :=
  product_real _ _ (fun k e => A2 m c (ix2 k e)) (fun k => h0 _) (fun k => h1 _) (fun k e => h2 _) e

theorem wnorm_congr {z z' w w' : Fin 512 → EReal} {g g' : EReal} (k : Fin 512) (hz : z = z') (hw : w = w') (hg : g = g') :
    wnorm z w g k = wnorm z' w' g' k := by
  rw [hz, hw, hg]

include h0 h1 h2 in
/-- A tile's keys are rows of all the keys. -/
theorem keys_block (t : Fin cfg0.N) (r : Fin 256) (k : Fin 512) :
    keys (iblk m c 0 t) (iblk m c 1 t) (iblk m c 2 t) (iblk m c 3 t) (iblk m c 6 t) r k = allKeys m c (ix2 (rowAt t r) k) := by
  refine Eq.trans ?_ (wnorm64 (fun e : Fin 512 => flat (A0 m c) (A1 m c) (A2 m c) (rowAt t r) ⟨1536 + e.val, by omega⟩)
    (fun e => flat_real m c h0 h1 h2 _ _) (A4 m c (ix1 (⟨k.val % 64, by omega⟩ : Fin 64))) k)
  exact wnorm_congr _ (funext fun e => lane_at m c t 1536 _ r e) (funext fun i => block3 m c t i k) (block6 m c t k)

include h0 h1 h2 in
/-- A tile's queries of the memory are rows of all of them. -/
theorem mq_block (t : Fin cfg0.N) (r : Fin 256) (k : Fin 512) :
    mqs (iblk m c 0 t) (iblk m c 1 t) (iblk m c 2 t) (iblk m c 4 t) (iblk m c 7 t) r k = allMq m c (ix2 (rowAt t r) k) := by
  refine Eq.trans ?_ (wnorm128 (fun e : Fin 512 => flat (A0 m c) (A1 m c) (A2 m c) (rowAt t r) ⟨2560 + e.val, by omega⟩)
    (fun e => flat_real m c h0 h1 h2 _ _) (A5 m c (ix1 (⟨k.val % 128, by omega⟩ : Fin 128))) k)
  exact wnorm_congr _ (funext fun e => lane_at m c t 2560 _ r e) (funext fun i => block4 m c t i k) (block7 m c t k)

include h0 h1 h2 in
theorem whole13 : (dats m 0 c).arrAt 13 (cfgs 0).N = allKeys m c := by
  refine (dats m 0 c).arrAt_eq_of_covers 13 _ (by decide +kernel) fun t _ y => ?_
  blk_simp
  rw [after0_13]
  idx_vars y
  refine ((keys_point m c t y0 y1).trans (keys_block m c h0 h1 h2 t y0 y1)).trans (congrArg (allKeys m c) (a₁ := ix2 (rowAt t y0) y1) ?_)
  blk_ext [idx t, rowAt]
include h0 h1 h2 in
theorem whole19 : (dats m 0 c).arrAt 19 (cfgs 0).N = (allMq m c : Vec Ideal S16384x512 .bf16) := by
  refine (dats m 0 c).arrAt_eq_of_covers 19 _ (by decide +kernel) fun t _ y => ?_
  blk_simp
  rw [after0_19]
  idx_vars y
  refine ((mq_point m c t y0 y1).trans (mq_block m c h0 h1 h2 t y0 y1)).trans (congrArg (allMq m c) (a₁ := ix2 (rowAt t y0) y1) ?_)
  blk_ext [idx t, rowAt]
include h0 h1 h2 in
theorem whole15 : (dats m 0 c).arrAt 15 (cfgs 0).N = allMeans m c := by
  refine (dats m 0 c).arrAt_eq_of_covers 15 _ (by decide +kernel) fun t h y => ?_
  have ht : t.val < 64 := t.isLt
  blk_simp
  rw [after0_15]
  idx_vars y
  obtain rfl : y0 = 0 := Fin.ext (by omega)
  obtain rfl : y1 = 0 := Fin.ext (by omega)
  refine ((mean_point m c t y2).trans (congrArg mean (funext fun r => keys_block m c h0 h1 h2 t r y2))).trans ?_
  have e : ((View.whole main_v40_2).slice (win0_15.rect t)).emb (ix3 0 0 y2) = ix3 (⟨t.val, ht⟩ : Fin 64) 0 y2 := by
    blk_ext [idx t]
  rw [e]
  rfl

end finals

end Cert.PreIdeal.Value

end
-- ==== Proof.PreReference.lean ====
/- The mixer's reference, value by value. -/
module

public import proofs.«01_k».proof.Proof.Gen.PreRefIdeal.Read
public import proofs.«01_k».proof.Proof.PreRowSpec

@[expose] public section

set_option maxRecDepth 16384

noncomputable section

open Idealize.ShloMosaic Idealize.ShloMosaic.TcCoe Idealize.SL.Sem

namespace Cert.PreRefIdeal.Value

open Cert.PreRefIdeal Cert.PreRefIdeal.Gen Cert.PreRefIdeal.Read Cert.Post Cert.Group Cert.Mix

variable (x0 : (⟨S16384x1024, .f32⟩ : BufTy).Contents (Elt Ideal)) (x1 : (⟨S1024, .f32⟩ : BufTy).Contents (Elt Ideal))
  (x2 : (⟨S1024x6144, .f32⟩ : BufTy).Contents (Elt Ideal)) (x3 x4 : (⟨S64, .f32⟩ : BufTy).Contents (Elt Ideal))
  (x5 : (⟨S128, .f32⟩ : BufTy).Contents (Elt Ideal)) (x6 : (⟨S31x512, .f32⟩ : BufTy).Contents (Elt Ideal))
  (x7 x8 x9 : (⟨S512, .f32⟩ : BufTy).Contents (Elt Ideal))

/-- The normed row. -/
theorem norm_at (r : Fin 16384) (c : Fin 1024) : val_main_v12 x0 x1 (ix2 r c) = normed x0 x1 r c := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The projections. -/
theorem flat_at (r : Fin 16384) (c : Fin 6144) :
    val_main_v13 x0 x1 x2 (ix2 r c)
      = flat x0 x1 x2 r c := by
  have h := norm_at x0 x1 r
  unfold val_main_v13
  generalize val_main_v12 x0 x1 = y at *
  pointwise []
  simp only [h]
  rfl

/-- The gated branch. -/
theorem gated_at (r : Fin 16384) (c : Fin 512) :
    val_main_v28 x0 x1 x2 (ix2 r c)
      = gated x0 x1 x2 r c := by
  have h := flat_at x0 x1 x2 r
  unfold val_main_v28 val_main_v27 val_main_v25 val_main_v23 val_main_v22 val_main_v21 val_main_v20 val_main_v14
  generalize val_main_v13 x0 x1 x2 = y at *
  pointwise [val_main_v26, val_main_cst_3, val_main_v24, val_main_cst_2]
  simp only [h]
  rfl

/-- The keys. -/
theorem keys_at (r : Fin 16384) (c : Fin 512) :
    val_main_v57 x0 x1 x2 x4 (ix2 r c)
      = keyRow x0 x1 x2 x4 r c := by
  have h := flat_at x0 x1 x2 r
  unfold val_main_v57 val_main_v56 val_main_v53 val_main_v52 val_main_v51 val_main_v50 val_main_v48 val_main_v46 val_main_v45 val_main_v44 val_main_v43 val_main_v16
  generalize val_main_v13 x0 x1 x2 = y at *
  pointwise [val_main_v55, val_main_v54, val_main_v49, val_main_cst_9, val_main_v47, val_main_cst_8, val_main_cst_7]
  simp only [h]
  rfl

/-- The values. -/
theorem values_at (r : Fin 16384) (c : Fin 512) :
    val_main_v17 x0 x1 x2 (ix2 r c)
      = valueRow x0 x1 x2 r c := by
  have h := flat_at x0 x1 x2 r
  unfold val_main_v17
  generalize val_main_v13 x0 x1 x2 = y at *
  pointwise []
  simp only [h]
  rfl

/-- The memory's queries. -/
theorem mq_at (r : Fin 16384) (c : Fin 512) :
    val_main_v72 x0 x1 x2 x5 (ix2 r c)
      = mqRow x0 x1 x2 x5 r c := by
  have h := flat_at x0 x1 x2 r
  unfold val_main_v72 val_main_v71 val_main_v68 val_main_v67 val_main_v66 val_main_v65 val_main_v63 val_main_v61 val_main_v60 val_main_v59 val_main_v58 val_main_v18
  generalize val_main_v13 x0 x1 x2 = y at *
  pointwise [val_main_v70, val_main_v69, val_main_v64, val_main_cst_12, val_main_v62, val_main_cst_11, val_main_cst_10]
  simp only [h]
  rfl

/-- The means of the keys. -/
theorem mean_at (b : Fin 64) (c : Fin 512) :
    val_main_v325 x0 x1 x2 x4 (ix3 b 0 c)
      = mean (fun i => keyRow x0 x1 x2 x4 (blockRow b i) c) := by
  have h := keys_at x0 x1 x2 x4
  unfold val_main_v325 val_main_v323 val_main_v322 val_main_v321
  generalize val_main_v57 x0 x1 x2 x4 = y at *
  pointwise [val_main_v324, val_main_cst_21, val_main_cst_20]
  simp only [h]
  refine congrArg (Ideal.div · _) (Finset.sum_congr rfl fun i _ => congrArg (keyRow x0 x1 x2 x4 · c) (Fin.ext ?_))
  show b.val * 256 + i.val = 256 * b.val + i.val
  omega

/-- The gated rows after thirty rows of zeros. -/
theorem padded_at (s : Fin 4) (n : Fin 4126) (c : Fin 512) :
    val_main_v75 x0 x1 x2 (ix3 s n c)
      = if hn : n.val < 30 then 0 else gated x0 x1 x2 ⟨4096 * s.val + (n.val - 30), by omega⟩ c := by
  have h := gated_at x0 x1 x2
  unfold val_main_v75 val_main_v74
  generalize val_main_v28 x0 x1 x2 = y at *
  pointwise [val_main_v73, val_main_cst_13]
  simp only [h]
  split
  · rfl
  · exact congrArg (gated x0 x1 x2 · c) (Fin.ext (by show s.val * 4096 + (n.val - 30) = 4096 * s.val + (n.val - 30); omega))

/-- The convolution, from the padded rows. -/
theorem conv_at (r : Fin 16384) (c : Fin 512) :
    val_main_v297 x0 x1 x2 x6 x7 (ix2 r c)
      = convolved (fun j c => val_main_v75 x0 x1 x2 (ix3 (⟨r.val / 4096, by omega⟩ : Fin 4) (⟨j.val + r.val % 4096, by omega⟩ : Fin 4126) c)) x6 x7 c := by
  unfold val_main_v297 val_main_v296 val_main_v293 val_main_v292 val_main_v289 val_main_v286 val_main_v285 val_main_v282 val_main_v279 val_main_v278 val_main_v275 val_main_v272 val_main_v271 val_main_v268 val_main_v265 val_main_v264 val_main_v261 val_main_v258 val_main_v257 val_main_v254 val_main_v251 val_main_v250 val_main_v247 val_main_v244 val_main_v243 val_main_v240 val_main_v237 val_main_v236 val_main_v233 val_main_v230 val_main_v229 val_main_v226 val_main_v223 val_main_v222 val_main_v219 val_main_v216 val_main_v215 val_main_v212 val_main_v209 val_main_v208 val_main_v205 val_main_v202 val_main_v201 val_main_v198 val_main_v195 val_main_v194 val_main_v191 val_main_v188 val_main_v187 val_main_v184 val_main_v181 val_main_v180 val_main_v177 val_main_v174 val_main_v173 val_main_v170 val_main_v167 val_main_v166 val_main_v163 val_main_v160 val_main_v159 val_main_v156 val_main_v153 val_main_v152 val_main_v149 val_main_v146 val_main_v145 val_main_v142 val_main_v139 val_main_v138 val_main_v135 val_main_v132 val_main_v131 val_main_v128 val_main_v125 val_main_v124 val_main_v121 val_main_v118 val_main_v117 val_main_v114 val_main_v111 val_main_v110 val_main_v107 val_main_v104 val_main_v103 val_main_v100 val_main_v97 val_main_v96 val_main_v93 val_main_v90 val_main_v89 val_main_v86 val_main_v83 val_main_v81 val_main_v78
  generalize val_main_v75 x0 x1 x2 = y at *
  pointwise [val_main_v295, val_main_v294, val_main_v291, val_main_v290, val_main_v288, val_main_v287, val_main_v284, val_main_v283, val_main_v281, val_main_v280, val_main_v277, val_main_v276, val_main_v274, val_main_v273, val_main_v270, val_main_v269, val_main_v267, val_main_v266, val_main_v263, val_main_v262, val_main_v260, val_main_v259, val_main_v256, val_main_v255, val_main_v253, val_main_v252, val_main_v249, val_main_v248, val_main_v246, val_main_v245, val_main_v242, val_main_v241, val_main_v239, val_main_v238, val_main_v235, val_main_v234, val_main_v232, val_main_v231, val_main_v228, val_main_v227, val_main_v225, val_main_v224, val_main_v221, val_main_v220, val_main_v218, val_main_v217, val_main_v214, val_main_v213, val_main_v211, val_main_v210, val_main_v207, val_main_v206, val_main_v204, val_main_v203, val_main_v200, val_main_v199, val_main_v197, val_main_v196, val_main_v193, val_main_v192, val_main_v190, val_main_v189, val_main_v186, val_main_v185, val_main_v183, val_main_v182, val_main_v179, val_main_v178, val_main_v176, val_main_v175, val_main_v172, val_main_v171, val_main_v169, val_main_v168, val_main_v165, val_main_v164, val_main_v162, val_main_v161, val_main_v158, val_main_v157, val_main_v155, val_main_v154, val_main_v151, val_main_v150, val_main_v148, val_main_v147, val_main_v144, val_main_v143, val_main_v141, val_main_v140, val_main_v137, val_main_v136, val_main_v134, val_main_v133, val_main_v130, val_main_v129, val_main_v127, val_main_v126, val_main_v123, val_main_v122, val_main_v120, val_main_v119, val_main_v116, val_main_v115, val_main_v113, val_main_v112, val_main_v109, val_main_v108, val_main_v106, val_main_v105, val_main_v102, val_main_v101, val_main_v99, val_main_v98, val_main_v95, val_main_v94, val_main_v92, val_main_v91, val_main_v88, val_main_v87, val_main_v85, val_main_v84, val_main_v82, val_main_cst_14, val_main_v80, val_main_v79, val_main_v77, val_main_v76]
  have e : (⟨r.val % 4096, by omega⟩ : Fin 4126) = ⟨(0 : Fin 31).val + r.val % 4096, by show 0 + r.val % 4096 < 4126; omega⟩ :=
    Fin.ext (Nat.zero_add _).symm
  rw [e]
  exact taps_right (x7 (ix1 c)) (fun j => x6 (ix2 j c) * y (ix3 (⟨r.val / 4096, by omega⟩ : Fin 4) (⟨j.val + r.val % 4096, by omega⟩ : Fin 4126) c))

/-- The layer norm. -/
theorem lnorm_at (r : Fin 16384) (c : Fin 512) :
    val_main_v319 x0 x1 x2 x6 x7 x8 x9 (ix2 r c)
      = lnorm (fun c => val_main_v297 x0 x1 x2 x6 x7 (ix2 r c)) (fun c => x8 (ix1 c)) (fun c => x9 (ix1 c)) c := by
  unfold val_main_v319 val_main_v316 val_main_v313 val_main_v312 val_main_v311 val_main_v310 val_main_v308 val_main_v306 val_main_v305 val_main_v304 val_main_v303 val_main_v302 val_main_v301 val_main_v299 val_main_v298
  generalize val_main_v297 x0 x1 x2 x6 x7 = y at *
  pointwise [val_main_v318, val_main_v317, val_main_v315, val_main_v314, val_main_v309, val_main_cst_19, val_main_v307, val_main_cst_18, val_main_cst_17, val_main_v300, val_main_cst_16, val_main_cst_15]
  rfl

/-- The activation. -/
theorem act_at (r : Fin 16384) (c : Fin 512) :
    val_main_v320 x0 x1 x2 x6 x7 x8 x9 (ix2 r c)
      = act (val_main_v319 x0 x1 x2 x6 x7 x8 x9 (ix2 r c)) := by
  unfold val_main_v320 val_main_call0_v5 val_main_call0_v3 val_main_call0_v1 val_main_call0_v0
  generalize val_main_v319 x0 x1 x2 x6 x7 x8 x9 = y at *
  pointwise [val_main_call0_v4, val_main_call0_cst_0, val_main_call0_v2, val_main_call0_cst]
  rfl

/-- The last padded rows. -/
theorem last_at (s : Fin 4) (i : Fin 32) (c : Fin 512) :
    val_main_v329 x0 x1 x2 (ix3 s i c)
      = val_main_v75 x0 x1 x2 (ix3 s (⟨4094 + i.val, by omega⟩ : Fin 4126) c) := by
  unfold val_main_v329
  generalize val_main_v75 x0 x1 x2 = y at *
  pointwise []

/-- What a tap reads among the padded rows. -/
theorem shifted_at (r : Fin 16384) (j : Fin 31) (c : Fin 512) :
    val_main_v75 x0 x1 x2 (ix3 (⟨r.val / 4096, by omega⟩ : Fin 4) (⟨j.val + r.val % 4096, by omega⟩ : Fin 4126) c)
      = shifted (gated x0 x1 x2) r j c := by
  rw [padded_at, shifted]
  by_cases h : r.val % 4096 + j.val < 30
  · rw [dif_pos (by show j.val + r.val % 4096 < 30; omega), if_pos h]
  · rw [dif_neg (by show ¬j.val + r.val % 4096 < 30; omega), if_neg h]
    exact congrArg (gated x0 x1 x2 · c) (Fin.ext (by
      show 4096 * (r.val / 4096) + (j.val + r.val % 4096 - 30) = r.val + j.val - 30
      omega))

/-- The branch after its convolution. -/
theorem branch_at (r : Fin 16384) (c : Fin 512) :
    val_main_v320 x0 x1 x2 x6 x7 x8 x9 (ix2 r c) = branch (shifted (gated x0 x1 x2) r) x6 x7 x8 x9 c := by
  rw [act_at, lnorm_at]
  refine congrArg (fun z => act (lnorm z _ _ c)) (funext fun e => ?_)
  rw [conv_at]
  exact congrArg (fun f => convolved f x6 x7 e) (funext fun j => funext fun c => shifted_at x0 x1 x2 r j c)

/-- The last gated rows. -/
theorem tail_at (s : Fin 4) (i : Fin 32) (c : Fin 512) :
    val_main_v329 x0 x1 x2 (ix3 s i c) = gated x0 x1 x2 (endRow s i) c := by
  rw [last_at, padded_at, dif_neg (by show ¬4094 + i.val < 30; omega)]
  exact congrArg (gated x0 x1 x2 · c) (Fin.ext (by
    show 4096 * s.val + (4094 + i.val - 30) = 4096 * s.val + 4064 + i.val
    omega))

/-- The rounded results are the same numbers. -/
theorem values16_at (r : Fin 16384) (c : Fin 512) : val_main_v326 x0 x1 x2 (ix2 r c) = val_main_v17 x0 x1 x2 (ix2 r c) := rfl
theorem mq16_at (r : Fin 16384) (c : Fin 512) : val_main_v327 x0 x1 x2 x5 (ix2 r c) = val_main_v72 x0 x1 x2 x5 (ix2 r c) := rfl
theorem branch16_at (r : Fin 16384) (c : Fin 512) :
    val_main_v328 x0 x1 x2 x6 x7 x8 x9 (ix2 r c) = val_main_v320 x0 x1 x2 x6 x7 x8 x9 (ix2 r c) := rfl

end Cert.PreRefIdeal.Value

end
-- ==== Proof.PrePre.lean ====
/- The precondition of the mixer: its rows, gains and weights are real numbers. -/
module

public import proofs.«01_k».proof.Proof.Gen.Pre_finite_pre
public import proofs.«01_k».proof.Proof.PostPre

@[expose] public section

noncomputable section

open Idealize.ShloMosaic Idealize.ShloMosaic.TcCoe Idealize.SL.Sem

namespace Cert.Pre_finite_pre

open Cert.Pre_finite_pre.Gen Cert.Pre_finite_memory

theorem real (a0 : FVec Ideal S16384x1024 .f32) (a1 : FVec Ideal S1024 .f32) (a2 : FVec Ideal S1024x6144 .f32)
    (a3 a4 : FVec Ideal S64 .f32) (a5 : FVec Ideal S128 .f32) (a6 : FVec Ideal S31x512 .f32) (a7 a8 a9 : FVec Ideal S512 .f32)
    (j : S_.Idx) (h : fn (F := Ideal) a0 a1 a2 a3 a4 a5 a6 a7 a8 a9 j = 1#1) :
    (∀ i, ∃ a : ℝ, a0 i = (a : EReal)) ∧ (∀ i, ∃ a : ℝ, a1 i = (a : EReal)) ∧ (∀ i, ∃ a : ℝ, a2 i = (a : EReal)) := by
  obtain ⟨h01, h2⟩ := both _ _ h
  obtain ⟨h0, h1⟩ := both _ _ h01
  exact ⟨fun i => real_of_cmp (a0 i) (Host.reduce_andi_all _ _ _ _ j h0 i),
    fun i => real_of_cmp (a1 i) (Host.reduce_andi_all _ _ _ _ j h1 i),
    fun i => real_of_cmp (a2 i) (Host.reduce_andi_all _ _ _ _ j h2 i)⟩

end Cert.Pre_finite_pre

end
-- ==== Proof.PreClaim.lean ====
/- The mixer's projections and their reference end with equal results. -/
module

public import proofs.«01_k».proof.Defs
public import proofs.«01_k».proof.Proof.PreValue
public import proofs.«01_k».proof.Proof.PreReference
public import proofs.«01_k».proof.Proof.PrePre
public import proofs.«01_k».proof.Proof.MemKvClaim
public import proofs.«01_k».proof.Proof.Gen.PreRefIdeal.Run
public import proofs.«01_k».proof.Proof.Gen.PreRefIdeal.Read
public import Idealize.ShloMosaic.Lib.Claim

@[expose] public section

set_option maxHeartbeats 1000000
set_option maxRecDepth 16384

noncomputable section

open Idealize.ShloMosaic Idealize.ShloMosaic.TcCoe Idealize.SL.Sem

namespace Cert.Proof

/-- An index of a three-dimensional array, as its coordinates. -/
theorem three {a b d : ℕ} (j : (⟨3, ![a, b, d]⟩ : Shape).Idx) :
    ∃ (r : Fin a) (i : Fin b) (k : Fin d), j = ValueIdx.ix3 r i k :=
  ⟨j 0, j 1, j 2, by funext x; match x with | ⟨0, _⟩ => rfl | ⟨1, _⟩ => rfl | ⟨2, _⟩ => rfl⟩

theorem block_col {a b : ℕ} (j : (⟨3, ![a, 1, b]⟩ : Shape).Idx) : ∃ (r : Fin a) (k : Fin b), j = ValueIdx.ix3 r 0 k := by
  obtain ⟨r, i, k, rfl⟩ := three j
  obtain rfl : i = 0 := Fin.ext (by omega)
  exact ⟨r, k, rfl⟩

variable (m : (ℓ : Loc PreIdeal.nD PreIdeal.τ PreIdeal.sig) → Buf (Elt Ideal) ℓ) (c : Dev PreIdeal.nD)

/-- The normalised keys of the reference are the kernel's. -/
theorem pre_keys {y0 y1 y2 y4} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2))
    (e4 : y4 = m ((c.tc : Thread PreIdeal.nD PreIdeal.τ).loc PreIdeal.main_arg4))
    (h0 : ∀ x, ∃ a : ℝ, m ((c.tc : Thread PreIdeal.nD PreIdeal.τ).loc PreIdeal.main_arg0) x = ((a : ℝ) : EReal))
    (h1 : ∀ x, ∃ a : ℝ, m ((c.tc : Thread PreIdeal.nD PreIdeal.τ).loc PreIdeal.main_arg1) x = ((a : ℝ) : EReal))
    (h2 : ∀ x, ∃ a : ℝ, m ((c.tc : Thread PreIdeal.nD PreIdeal.τ).loc PreIdeal.main_arg2) x = ((a : ℝ) : EReal)) :
    PreRefIdeal.Read.val_main_v57 (F := Ideal) y0 y1 y2 y4
      = (PreIdeal.Gen.dats m 0 c).arrAt 13 (PreIdeal.cfgs 0).N := by
  rw [e0, e1, e2, e4]
  refine Eq.trans ?_ (Cert.PreIdeal.Value.whole13 m c h0 h1 h2).symm
  funext j
  obtain ⟨r, k, rfl⟩ := row_col (a := 16384) (b := 512) j
  exact Cert.PreRefIdeal.Value.keys_at _ _ _ _ r k

/-- The values of the reference are the kernel's. -/
theorem pre_values {y0 y1 y2} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2)) :
    PreRefIdeal.Read.val_main_v17 (F := Ideal) y0 y1 y2
      = (PreIdeal.Gen.dats m 0 c).arrAt 14 (PreIdeal.cfgs 0).N := by
  rw [e0, e1, e2]
  refine Eq.trans ?_ (Cert.PreIdeal.Value.whole14 m c).symm
  funext j
  obtain ⟨r, k, rfl⟩ := row_col (a := 16384) (b := 512) j
  exact Cert.PreRefIdeal.Value.values_at _ _ _ r k

/-- The blocks' key means of the reference are the kernel's. -/
theorem pre_means {y0 y1 y2 y4} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2))
    (e4 : y4 = m ((c.tc : Thread PreIdeal.nD PreIdeal.τ).loc PreIdeal.main_arg4))
    (h0 : ∀ x, ∃ a : ℝ, m ((c.tc : Thread PreIdeal.nD PreIdeal.τ).loc PreIdeal.main_arg0) x = ((a : ℝ) : EReal))
    (h1 : ∀ x, ∃ a : ℝ, m ((c.tc : Thread PreIdeal.nD PreIdeal.τ).loc PreIdeal.main_arg1) x = ((a : ℝ) : EReal))
    (h2 : ∀ x, ∃ a : ℝ, m ((c.tc : Thread PreIdeal.nD PreIdeal.τ).loc PreIdeal.main_arg2) x = ((a : ℝ) : EReal)) :
    PreRefIdeal.Read.val_main_v325 (F := Ideal) y0 y1 y2 y4
      = (PreIdeal.Gen.dats m 0 c).arrAt 15 (PreIdeal.cfgs 0).N := by
  rw [e0, e1, e2, e4]
  refine Eq.trans ?_ (Cert.PreIdeal.Value.whole15 m c h0 h1 h2).symm
  funext j
  obtain ⟨b, k, rfl⟩ := block_col (a := 64) (b := 512) j
  exact Cert.PreRefIdeal.Value.mean_at _ _ _ _ b k

/-- The rounded values of the reference are the kernel's. -/
theorem pre_rounded_values {y0 y1 y2} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2)) :
    PreRefIdeal.Read.val_main_v326 (F := Ideal) y0 y1 y2
      = (PreIdeal.Gen.dats m 0 c).arrAt 18 (PreIdeal.cfgs 0).N := by
  rw [e0, e1, e2]
  refine Eq.trans ?_ (Cert.PreIdeal.Value.whole18 m c).symm
  funext j
  obtain ⟨r, k, rfl⟩ := row_col (a := 16384) (b := 512) j
  exact (Cert.PreRefIdeal.Value.values16_at _ _ _ r k).trans (Cert.PreRefIdeal.Value.values_at _ _ _ r k)

/-- The memory queries of the reference are the kernel's. -/
theorem pre_memory_queries {y0 y1 y2 y5} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2))
    (e5 : y5 = m ((c.tc : Thread PreIdeal.nD PreIdeal.τ).loc PreIdeal.main_arg5))
    (h0 : ∀ x, ∃ a : ℝ, m ((c.tc : Thread PreIdeal.nD PreIdeal.τ).loc PreIdeal.main_arg0) x = ((a : ℝ) : EReal))
    (h1 : ∀ x, ∃ a : ℝ, m ((c.tc : Thread PreIdeal.nD PreIdeal.τ).loc PreIdeal.main_arg1) x = ((a : ℝ) : EReal))
    (h2 : ∀ x, ∃ a : ℝ, m ((c.tc : Thread PreIdeal.nD PreIdeal.τ).loc PreIdeal.main_arg2) x = ((a : ℝ) : EReal)) :
    PreRefIdeal.Read.val_main_v327 (F := Ideal) y0 y1 y2 y5
      = (PreIdeal.Gen.dats m 0 c).arrAt 19 (PreIdeal.cfgs 0).N := by
  rw [e0, e1, e2, e5]
  refine Eq.trans ?_ (Cert.PreIdeal.Value.whole19 m c h0 h1 h2).symm
  funext j
  obtain ⟨r, k, rfl⟩ := row_col (a := 16384) (b := 512) j
  exact (Cert.PreRefIdeal.Value.mq16_at _ _ _ _ r k).trans (Cert.PreRefIdeal.Value.mq_at _ _ _ _ r k)

/-- The convolved branch of the reference are the kernel's. -/
theorem pre_branches {y0 y1 y2 y6 y7 y8 y9} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2))
    (e6 : y6 = m ((c.tc : Thread PreIdeal.nD PreIdeal.τ).loc PreIdeal.main_arg6))
    (e7 : y7 = m ((c.tc : Thread PreIdeal.nD PreIdeal.τ).loc PreIdeal.main_arg7))
    (e8 : y8 = m ((c.tc : Thread PreIdeal.nD PreIdeal.τ).loc PreIdeal.main_arg8))
    (e9 : y9 = m ((c.tc : Thread PreIdeal.nD PreIdeal.τ).loc PreIdeal.main_arg9)) :
    PreRefIdeal.Read.val_main_v328 (F := Ideal) y0 y1 y2 y6 y7 y8 y9
      = (PreIdeal.Gen.dats m 0 c).arrAt 20 (PreIdeal.cfgs 0).N := by
  rw [e0, e1, e2, e6, e7, e8, e9]
  refine Eq.trans ?_ (Cert.PreIdeal.Value.whole20 m c).symm
  funext j
  obtain ⟨r, k, rfl⟩ := row_col (a := 16384) (b := 512) j
  exact (Cert.PreRefIdeal.Value.branch16_at _ _ _ _ _ _ _ r k).trans (Cert.PreRefIdeal.Value.branch_at _ _ _ _ _ _ _ r k)

/-- The last rows of the gated branch of the reference are the kernel's. -/
theorem pre_tails {y0 y1 y2} (e0 : y0 = m ((c.tc : Thread PreIdeal.nD PreIdeal.τ).loc PreIdeal.main_arg0))
    (e1 : y1 = m ((c.tc : Thread PreIdeal.nD PreIdeal.τ).loc PreIdeal.main_arg1))
    (e2 : y2 = m ((c.tc : Thread PreIdeal.nD PreIdeal.τ).loc PreIdeal.main_arg2)) :
    PreRefIdeal.Read.val_main_v329 (F := Ideal) y0 y1 y2
      = (PreIdeal.Gen.dats m 0 c).arrAt 21 (PreIdeal.cfgs 0).N := by
  rw [e0, e1, e2]
  refine Eq.trans ?_ (Cert.PreIdeal.Value.whole21 m c).symm
  funext j
  obtain ⟨s, i, k, rfl⟩ := three (a := 4) (b := 32) (d := 512) j
  exact Cert.PreRefIdeal.Value.tail_at _ _ _ s i k

theorem pre_algebraic :
    Cert.algebraic_PreIdeal_PreRefIdeal_pre_finite_pre (hPreIdeal := Cert.PreIdeal.Gen.facts)
      (hPreRefIdeal := Cert.PreRefIdeal.Gen.facts) (hPre_finite_pre := Cert.Pre_finite_pre.Gen.facts) := by
  intro m g m' g' hpre hagree
  refine ⟨fun c => (PreIdeal.Gen.dats m 0 c).arrAt 13 (PreIdeal.cfgs 0).N,
    fun c => (PreIdeal.Gen.dats m 0 c).arrAt 14 (PreIdeal.cfgs 0).N,
    fun c => (PreIdeal.Gen.dats m 0 c).arrAt 15 (PreIdeal.cfgs 0).N,
    fun c => (PreIdeal.Gen.dats m 0 c).arrAt 18 (PreIdeal.cfgs 0).N,
    fun c => (PreIdeal.Gen.dats m 0 c).arrAt 19 (PreIdeal.cfgs 0).N,
    fun c => (PreIdeal.Gen.dats m 0 c).arrAt 20 (PreIdeal.cfgs 0).N,
    fun c => (PreIdeal.Gen.dats m 0 c).arrAt 21 (PreIdeal.cfgs 0).N, ?_, ?_⟩
  · refine θ_run_mono (θ_run_and (Cert.PreIdeal.Gen.run_main m g) (Cert.PreIdeal.Gen.unchanged m g)) ?_
    intro r hr c
    exact ⟨(hr.1 c).1 13, (hr.1 c).1 14, (hr.1 c).1 15, (hr.1 c).1 18, (hr.1 c).1 19, (hr.1 c).1 20, (hr.1 c).1 21, hr.2 c⟩
  · refine θ_run_mono (Cert.PreRefIdeal.Value.run m' g') ?_
    intro r hr c
    obtain ⟨h0, h1, h2⟩ := Cert.Pre_finite_pre.real _ _ _ _ _ _ _ _ _ _ ValueIdx.ix0 (congrFun (hpre c) ValueIdx.ix0)
    obtain ⟨a0, a1, a2, a3, a4, a5, a6, a7, a8, a9⟩ := hagree c
    obtain ⟨r0, r1, r2, r3, r4, r5, r6, s⟩ := hr c
    exact ⟨r0.trans ((Cert.PreRefIdeal.Read.val_main_v57_eq _).trans (pre_keys m c a0 a1 a2 a4 h0 h1 h2)),
      r1.trans ((Cert.PreRefIdeal.Read.val_main_v17_eq _).trans (pre_values m c a0 a1 a2)),
      r2.trans ((Cert.PreRefIdeal.Read.val_main_v325_eq _).trans (pre_means m c a0 a1 a2 a4 h0 h1 h2)),
      r3.trans ((Cert.PreRefIdeal.Read.val_main_v326_eq _).trans (pre_rounded_values m c a0 a1 a2)),
      r4.trans ((Cert.PreRefIdeal.Read.val_main_v327_eq _).trans (pre_memory_queries m c a0 a1 a2 a5 h0 h1 h2)),
      r5.trans ((Cert.PreRefIdeal.Read.val_main_v328_eq _).trans (pre_branches m c a0 a1 a2 a6 a7 a8 a9)),
      r6.trans ((Cert.PreRefIdeal.Read.val_main_v329_eq _).trans (pre_tails m c a0 a1 a2)),
      s⟩

end Cert.Proof

end
-- ==== Proof.PreSampleSpec.lean ====
/- The sample group's projections in plain words: what the taps of a row's convolution read. -/
module

public import proofs.«01_k».proof.Proof.PreRowSpec

@[expose] public section

set_option maxRecDepth 16384
set_option maxHeartbeats 1000000

noncomputable section

open Idealize.ShloMosaic Idealize.ShloMosaic.TcCoe Idealize.SL.Sem

namespace Cert.SamplePast

open Cert.Post Cert.Group Cert.Mix

/-- What tap `j` of row `r` reads: one of the thirty rows the state holds, or the row's own gated branch. -/
def past (st : Vec Ideal (⟨3, ![32, 30, 512]⟩ : Shape) .f32) (u : Fin 512 → EReal) (r : Fin 32) (j : Fin 31) (c : Fin 512) : EReal :=
  if h : j.val < 30 then st (ix3 r ⟨j.val, h⟩ c) else u c

/-- The taps may be added with the last one first. -/
theorem last_first (b : EReal) (f : Fin 30 → EReal) (z : EReal) :
    b + z + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 = taps b (fun j => if h : j.val < 30 then f ⟨j.val, h⟩ else z) := by
  have h : ∀ i : Fin 30, (if h : i.castSucc.val < 30 then f ⟨i.castSucc.val, h⟩ else z) = f i := fun i => dif_pos i.isLt
  have h' : (if h : (Fin.last 30).val < 30 then f ⟨(Fin.last 30).val, h⟩ else z) = z := dif_neg (lt_irrefl 30)
  unfold taps
  refine Eq.trans ?_ (congrArg (b + ·) (Fin.sum_univ_castSucc (fun j : Fin 31 => if h : j.val < 30 then f ⟨j.val, h⟩ else z)).symm)
  show _ = b + ((∑ i : Fin 30, if h : i.castSucc.val < 30 then f ⟨i.castSucc.val, h⟩ else z)
    + if h : (Fin.last 30).val < 30 then f ⟨(Fin.last 30).val, h⟩ else z)
  rw [Finset.sum_congr rfl (fun i _ => h i), h', add_comm (∑ i, f i) z, ← add_assoc]
  generalize b + z = y
  simp only [Fin.sum_univ_castSucc, Fin.sum_univ_zero, zero_add, add_assoc]
  rfl

theorem wnorm_same {z z' w w' : Fin 512 → EReal} {g g' : EReal} (k : Fin 512) (hz : z = z') (hw : w = w') (hg : g = g') :
    wnorm z w g k = wnorm z' w' g' k := by
  rw [hz, hw, hg]

end Cert.SamplePast

end
-- ==== Proof.PreSampleBody.lean ====
/- The body of the sample group's first call, value by value. -/
module

public import proofs.«01_k».proof.Proof.Gen.PreSampleIdeal.Skeleton
public import proofs.«01_k».proof.Proof.PreSampleSpec

@[expose] public section

set_option maxRecDepth 16384
set_option maxHeartbeats 1000000

noncomputable section

open Idealize.ShloMosaic Idealize.ShloMosaic.TcCoe Idealize.SL.Sem

namespace Cert.PreSampleIdeal.Value

open Cert.PreSampleIdeal Cert.PreSampleIdeal.Gen Cert.Post Cert.Group Cert.Mix Cert.SamplePast

/-- The normed row. -/
theorem hn_at (x : Vec Ideal S32x1024 .f32) (g : Vec Ideal S1x1024 .f32) (r : Fin 32) (c : Fin 1024) :
    k0_pay3 (F := Ideal) x g (ix2 r c) = norm (fun c => x (ix2 r c)) (fun c => g (ix2 0 c)) c := by
  pointwise [k0_pay3]
  rfl

/-- The gated branch. -/
theorem glu_at (x : Vec Ideal S32x1024 .f32) (g : Vec Ideal S1x1024 .f32) (wa wg : Vec Ideal S1024x512 .bf16) (r : Fin 32)
    (c : Fin 512) :
    k0_pay4 (F := Ideal) x g wa wg (ix2 r c)
      = glu (norm (fun c => x (ix2 r c)) (fun c => g (ix2 0 c))) (fun k => wa (ix2 k c)) (fun k => wg (ix2 k c)) := by
  have h := hn_at x g r
  unfold k0_pay4
  generalize e : k0_pay3 (F := Ideal) x g = p at *
  pointwise [h, zero_sub]
  rfl

/-- The tap of the row itself. -/
theorem first_at (x : Vec Ideal S32x1024 .f32) (g : Vec Ideal S1x1024 .f32) (wa wg : Vec Ideal S1024x512 .bf16)
    (w : Vec Ideal S1x512 .f32) (r : Fin 32) (c : Fin 512) :
    k0_pay5 (F := Ideal) x g wa wg w (ix2 r c) = w (ix2 0 c) * k0_pay4 (F := Ideal) x g wa wg (ix2 r c) := by
  unfold k0_pay5
  generalize k0_pay4 (F := Ideal) x g wa wg = p
  pointwise []

theorem spread6_at (w : Vec Ideal S1x512 .f32) (r : Fin 32) (c : Fin 512) : k0_pay6 (F := Ideal) w (ix2 r c) = w (ix2 0 c) := by
  pointwise [k0_pay6]

theorem spread10_at (w : Vec Ideal S1x512 .f32) (r : Fin 32) (c : Fin 512) : k0_pay10 (F := Ideal) w (ix2 r c) = w (ix2 0 c) := by
  pointwise [k0_pay10]

theorem slice9_at (s : Vec Ideal S1x32x512 .f32) (r : Fin 32) (c : Fin 512) : k0_pay9 (F := Ideal) s (ix2 r c) = s (ix3 0 r c) := by
  pointwise [k0_pay9]

theorem slice13_at (s : Vec Ideal S1x32x512 .f32) (r : Fin 32) (c : Fin 512) : k0_pay13 (F := Ideal) s (ix2 r c) = s (ix3 0 r c) := by
  pointwise [k0_pay13]

theorem taps7_at (y b : Vec Ideal S32x512 .f32) (w0 w1 w2 w3 w4 : Vec Ideal S1x512 .f32) (s0 s1 s2 s3 s4 : Vec Ideal S1x32x512 .f32) (r : Fin 32) (c : Fin 512) :
    k0_pay7 (F := Ideal) y b w0 s0 w1 s1 w2 s2 w3 s3 w4 s4 (ix2 r c)
      = b (ix2 r c) + y (ix2 r c) + w0 (ix2 0 c) * s0 (ix3 0 r c) + w1 (ix2 0 c) * s1 (ix3 0 r c) + w2 (ix2 0 c) * s2 (ix3 0 r c) + w3 (ix2 0 c) * s3 (ix3 0 r c) + w4 (ix2 0 c) * s4 (ix3 0 r c) := by
  pointwise [k0_pay7]

theorem taps8_at (y : Vec Ideal S32x512 .f32) (w0 w1 w2 w3 w4 : Vec Ideal S1x512 .f32) (s0 s1 s2 s3 s4 : Vec Ideal S1x32x512 .f32) (r : Fin 32) (c : Fin 512) :
    k0_pay8 (F := Ideal) y w0 s0 w1 s1 w2 s2 w3 s3 w4 s4 (ix2 r c)
      = y (ix2 r c) + w0 (ix2 0 c) * s0 (ix3 0 r c) + w1 (ix2 0 c) * s1 (ix3 0 r c) + w2 (ix2 0 c) * s2 (ix3 0 r c) + w3 (ix2 0 c) * s3 (ix3 0 r c) + w4 (ix2 0 c) * s4 (ix3 0 r c) := by
  pointwise [k0_pay8]

theorem taps12_at (y : Vec Ideal S32x512 .f32) (w0 w1 w2 w3 w4 : Vec Ideal S1x512 .f32) (s0 s1 s2 s3 s4 : Vec Ideal S1x32x512 .f32) (r : Fin 32) (c : Fin 512) :
    k0_pay12 (F := Ideal) y w0 s0 w1 s1 w2 s2 w3 s3 w4 s4 (ix2 r c)
      = y (ix2 r c) + w0 (ix2 0 c) * s0 (ix3 0 r c) + w1 (ix2 0 c) * s1 (ix3 0 r c) + w2 (ix2 0 c) * s2 (ix3 0 r c) + w3 (ix2 0 c) * s3 (ix3 0 r c) + w4 (ix2 0 c) * s4 (ix3 0 r c) := by
  pointwise [k0_pay12]

theorem taps11_at (y s w : Vec Ideal S32x512 .f32) (w0 w1 w2 w3 w4 : Vec Ideal S1x512 .f32) (s0 s1 s2 s3 s4 : Vec Ideal S1x32x512 .f32) (r : Fin 32) (c : Fin 512) :
    k0_pay11 (F := Ideal) y s w w0 s0 w1 s1 w2 s2 w3 s3 w4 s4 (ix2 r c)
      = y (ix2 r c) + w (ix2 r c) * s (ix2 r c) + w0 (ix2 0 c) * s0 (ix3 0 r c) + w1 (ix2 0 c) * s1 (ix3 0 r c) + w2 (ix2 0 c) * s2 (ix3 0 r c) + w3 (ix2 0 c) * s3 (ix3 0 r c) + w4 (ix2 0 c) * s4 (ix3 0 r c) := by
  pointwise [k0_pay11]

theorem taps14_at (y : Vec Ideal S32x512 .f32) (w : Vec Ideal S1x512 .f32) (s : Vec Ideal S32x512 .f32) (w0 w1 w2 w3 w4 : Vec Ideal S1x512 .f32) (s0 s1 s2 s3 s4 : Vec Ideal S1x32x512 .f32) (r : Fin 32) (c : Fin 512) :
    k0_pay14 (F := Ideal) y w s w0 s0 w1 s1 w2 s2 w3 s3 w4 s4 (ix2 r c)
      = y (ix2 r c) + w (ix2 0 c) * s (ix2 r c) + w0 (ix2 0 c) * s0 (ix3 0 r c) + w1 (ix2 0 c) * s1 (ix3 0 r c) + w2 (ix2 0 c) * s2 (ix3 0 r c) + w3 (ix2 0 c) * s3 (ix3 0 r c) + w4 (ix2 0 c) * s4 (ix3 0 r c) := by
  pointwise [k0_pay14]

/-- The last taps, the norm and the activation. -/
theorem act_at (y : Vec Ideal S32x512 .f32) (g b : Vec Ideal S1x512 .f32) (w0 w1 w2 : Vec Ideal S1x512 .f32) (s0 s1 s2 : Vec Ideal S1x32x512 .f32) (r : Fin 32) (c : Fin 512) :
    k0_pay18 (F := Ideal) (k0_pay15 g) (k0_pay16 b) (k0_pay17 y w0 s0 w1 s1 w2 s2) (ix2 r c)
      = act (lnorm (fun c => y (ix2 r c) + w0 (ix2 0 c) * s0 (ix3 0 r c) + w1 (ix2 0 c) * s1 (ix3 0 r c) + w2 (ix2 0 c) * s2 (ix3 0 r c)) (fun c => g (ix2 0 c)) (fun c => b (ix2 0 c)) c) := by
  pointwise [k0_pay18, k0_pay15, k0_pay16, k0_pay17, zero_sub]
  rfl

/-- The queries, with the groups' means taken through the weights `b`. -/
theorem q_at (p : Vec Ideal S32x1024 .bf16) (w : Vec Ideal S1024x512 .bf16) (b : Vec Ideal S512x512 .bf16)
    (g : Vec Ideal S1x512 .f32) (r : Fin 32) (c : Fin 512) :
    k0_pay19 (F := Ideal) p w b g (ix2 r c)
      = wnorm (fun c => dot (fun k => p (ix2 r k)) (fun k => w (ix2 k c))) (fun k => b (ix2 k c)) (g (ix2 0 c)) c := by
  pointwise [k0_pay19]
  rfl

/-- The keys, likewise. -/
theorem k_at (p : Vec Ideal S32x1024 .bf16) (w : Vec Ideal S1024x512 .bf16) (b : Vec Ideal S512x512 .bf16)
    (g : Vec Ideal S1x512 .f32) (r : Fin 32) (c : Fin 512) :
    k0_pay21 (F := Ideal) p (k0_pay20 w) (constant S32x512 .f32 0x00000000#32) b g (ix2 r c)
      = wnorm (fun c => dot (fun k => p (ix2 r k)) (fun k => w (ix2 k c))) (fun k => b (ix2 k c)) (g (ix2 0 c)) c := by
  pointwise [k0_pay21, k0_pay20]
  rfl

/-- The memory's queries, likewise. -/
theorem mq_at (p : Vec Ideal S32x1024 .bf16) (w : Vec Ideal S1024x512 .bf16) (b : Vec Ideal S512x512 .bf16)
    (g : Vec Ideal S1x512 .f32) (r : Fin 32) (c : Fin 512) :
    k0_pay1 (F := Ideal) (k0_pay23 p w) (k0_pay24 b) (k0_pay25 g) (k0_pay27 p w) (k0_pay28 p w) (constant S32x512 .f32 0x00000000#32) (ix2 r c)
      = wnorm (fun c => dot (fun k => p (ix2 r k)) (fun k => w (ix2 k c))) (fun k => b (ix2 k c)) (g (ix2 0 c)) c := by
  pointwise [k0_pay1, k0_pay23, k0_pay24, k0_pay25, k0_pay26, k0_pay27, k0_pay28]
  rfl

/-- The values. -/
theorem v_at (p : Vec Ideal S32x1024 .bf16) (w : Vec Ideal S1024x512 .bf16) (r : Fin 32) (c : Fin 512) :
    k0_pay22 (F := Ideal) p w (ix2 r c) = dot (fun k => p (ix2 r k)) (fun k => w (ix2 k c)) := by
  pointwise [k0_pay22]
  rfl

/-- The gates' columns. -/
theorem gl_at (p : Vec Ideal S32x1024 .bf16) (w : Vec Ideal S1024x3072 .bf16) (r : Fin 32) (c : Fin 3072) :
    k0_pay2 (F := Ideal) p w (ix2 r c) = dot (fun k => p (ix2 r k)) (fun k => w (ix2 k c)) := by
  pointwise [k0_pay2]
  rfl

end Cert.PreSampleIdeal.Value

end
-- ==== Proof.PreSampleValue.lean ====
/- The arrays the sample group's first call leaves: every row is the plain formula of the rows of the arguments. -/
module

public import proofs.«01_k».proof.Proof.Gen.PreSampleIdeal.Frame
public import proofs.«01_k».proof.Proof.PreSampleBody
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.PreSampleIdeal.Value

open Cert.PreSampleIdeal Cert.PreSampleIdeal.Gen Cert.Post Cert.Group Cert.Mix Cert.SamplePast

section stores

variable (x0 : Vec Ideal S32x1024 .f32)
  (x1 : Vec Ideal S1x1024 .f32)
  (x2 : Vec Ideal S1024x6144 .bf16)
  (x3 : Vec Ideal S512x512 .bf16)
  (x4 : Vec Ideal S512x512 .bf16)
  (x5 : Vec Ideal S1x512 .f32)
  (x6 : Vec Ideal S1x512 .f32)
  (x7 : Vec Ideal S1x512 .f32)
  (x8 : Vec Ideal S30x32x512 .f32)
  (x9 : Vec Ideal S31x512 .f32)
  (x10 : Vec Ideal S1x512 .f32)
  (x11 : Vec Ideal S1x512 .f32)
  (x12 : Vec Ideal S1x512 .f32)
  (r : Fin 32)

theorem w0_at (c : Fin 512) : View.ld x9 r0_7 (ix2 0 c) = x9 (ix2 0 c) :=
  congrArg x9 (funext fun a => Fin.ext (by match a with | ⟨0, _⟩ => rfl | ⟨1, _⟩ => show 0 + 1 * c.val = c.val; omega))
theorem w1_at (c : Fin 512) : View.ld x9 r0_9 (ix2 0 c) = x9 (ix2 1 c) :=
  congrArg x9 (funext fun a => Fin.ext (by match a with | ⟨0, _⟩ => rfl | ⟨1, _⟩ => show 0 + 1 * c.val = c.val; omega))
theorem w2_at (c : Fin 512) : View.ld x9 r0_11 (ix2 0 c) = x9 (ix2 2 c) :=
  congrArg x9 (funext fun a => Fin.ext (by match a with | ⟨0, _⟩ => rfl | ⟨1, _⟩ => show 0 + 1 * c.val = c.val; omega))
theorem w3_at (c : Fin 512) : View.ld x9 r0_13 (ix2 0 c) = x9 (ix2 3 c) :=
  congrArg x9 (funext fun a => Fin.ext (by match a with | ⟨0, _⟩ => rfl | ⟨1, _⟩ => show 0 + 1 * c.val = c.val; omega))
theorem w4_at (c : Fin 512) : View.ld x9 r0_15 (ix2 0 c) = x9 (ix2 4 c) :=
  congrArg x9 (funext fun a => Fin.ext (by match a with | ⟨0, _⟩ => rfl | ⟨1, _⟩ => show 0 + 1 * c.val = c.val; omega))
theorem w5_at (c : Fin 512) : View.ld x9 r0_17 (ix2 0 c) = x9 (ix2 5 c) :=
  congrArg x9 (funext fun a => Fin.ext (by match a with | ⟨0, _⟩ => rfl | ⟨1, _⟩ => show 0 + 1 * c.val = c.val; omega))
theorem w6_at (c : Fin 512) : View.ld x9 r0_19 (ix2 0 c) = x9 (ix2 6 c) :=
  congrArg x9 (funext fun a => Fin.ext (by match a with | ⟨0, _⟩ => rfl | ⟨1, _⟩ => show 0 + 1 * c.val = c.val; omega))
theorem w7_at (c : Fin 512) : View.ld x9 r0_21 (ix2 0 c) = x9 (ix2 7 c) :=
  congrArg x9 (funext fun a => Fin.ext (by match a with | ⟨0, _⟩ => rfl | ⟨1, _⟩ => show 0 + 1 * c.val = c.val; omega))
theorem w8_at (c : Fin 512) : View.ld x9 r0_23 (ix2 0 c) = x9 (ix2 8 c) :=
  congrArg x9 (funext fun a => Fin.ext (by match a with | ⟨0, _⟩ => rfl | ⟨1, _⟩ => show 0 + 1 * c.val = c.val; omega))
theorem w9_at (c : Fin 512) : View.ld x9 r0_25 (ix2 0 c) = x9 (ix2 9 c) :=
  congrArg x9 (funext fun a => Fin.ext (by match a with | ⟨0, _⟩ => rfl | ⟨1, _⟩ => show 0 + 1 * c.val = c.val; omega))
theorem w10_at (c : Fin 512) : View.ld x9 r0_27 (ix2 0 c) = x9 (ix2 10 c) :=
  congrArg x9 (funext fun a => Fin.ext (by match a with | ⟨0, _⟩ => rfl | ⟨1, _⟩ => show 0 + 1 * c.val = c.val; omega))
theorem w11_at (c : Fin 512) : View.ld x9 r0_29 (ix2 0 c) = x9 (ix2 11 c) :=
  congrArg x9 (funext fun a => Fin.ext (by match a with | ⟨0, _⟩ => rfl | ⟨1, _⟩ => show 0 + 1 * c.val = c.val; omega))
theorem w12_at (c : Fin 512) : View.ld x9 r0_31 (ix2 0 c) = x9 (ix2 12 c) :=
  congrArg x9 (funext fun a => Fin.ext (by match a with | ⟨0, _⟩ => rfl | ⟨1, _⟩ => show 0 + 1 * c.val = c.val; omega))
theorem w13_at (c : Fin 512) : View.ld x9 r0_33 (ix2 0 c) = x9 (ix2 13 c) :=
  congrArg x9 (funext fun a => Fin.ext (by match a with | ⟨0, _⟩ => rfl | ⟨1, _⟩ => show 0 + 1 * c.val = c.val; omega))
theorem w14_at (c : Fin 512) : View.ld x9 r0_35 (ix2 0 c) = x9 (ix2 14 c) :=
  congrArg x9 (funext fun a => Fin.ext (by match a with | ⟨0, _⟩ => rfl | ⟨1, _⟩ => show 0 + 1 * c.val = c.val; omega))
theorem w15_at (c : Fin 512) : View.ld x9 r0_37 (ix2 0 c) = x9 (ix2 15 c) :=
  congrArg x9 (funext fun a => Fin.ext (by match a with | ⟨0, _⟩ => rfl | ⟨1, _⟩ => show 0 + 1 * c.val = c.val; omega))
theorem w16_at (c : Fin 512) : View.ld x9 r0_39 (ix2 0 c) = x9 (ix2 16 c) :=
  congrArg x9 (funext fun a => Fin.ext (by match a with | ⟨0, _⟩ => rfl | ⟨1, _⟩ => show 0 + 1 * c.val = c.val; omega))
theorem w17_at (c : Fin 512) : View.ld x9 r0_41 (ix2 0 c) = x9 (ix2 17 c) :=
  congrArg x9 (funext fun a => Fin.ext (by match a with | ⟨0, _⟩ => rfl | ⟨1, _⟩ => show 0 + 1 * c.val = c.val; omega))
theorem w18_at (c : Fin 512) : View.ld x9 r0_43 (ix2 0 c) = x9 (ix2 18 c) :=
  congrArg x9 (funext fun a => Fin.ext (by match a with | ⟨0, _⟩ => rfl | ⟨1, _⟩ => show 0 + 1 * c.val = c.val; omega))
theorem w19_at (c : Fin 512) : View.ld x9 r0_45 (ix2 0 c) = x9 (ix2 19 c) :=
  congrArg x9 (funext fun a => Fin.ext (by match a with | ⟨0, _⟩ => rfl | ⟨1, _⟩ => show 0 + 1 * c.val = c.val; omega))
theorem w20_at (c : Fin 512) : View.ld x9 r0_47 (ix2 0 c) = x9 (ix2 20 c) :=
  congrArg x9 (funext fun a => Fin.ext (by match a with | ⟨0, _⟩ => rfl | ⟨1, _⟩ => show 0 + 1 * c.val = c.val; omega))
theorem w21_at (c : Fin 512) : View.ld x9 r0_49 (ix2 0 c) = x9 (ix2 21 c) :=
  congrArg x9 (funext fun a => Fin.ext (by match a with | ⟨0, _⟩ => rfl | ⟨1, _⟩ => show 0 + 1 * c.val = c.val; omega))
theorem w22_at (c : Fin 512) : View.ld x9 r0_51 (ix2 0 c) = x9 (ix2 22 c) :=
  congrArg x9 (funext fun a => Fin.ext (by match a with | ⟨0, _⟩ => rfl | ⟨1, _⟩ => show 0 + 1 * c.val = c.val; omega))
theorem w23_at (c : Fin 512) : View.ld x9 r0_53 (ix2 0 c) = x9 (ix2 23 c) :=
  congrArg x9 (funext fun a => Fin.ext (by match a with | ⟨0, _⟩ => rfl | ⟨1, _⟩ => show 0 + 1 * c.val = c.val; omega))
theorem w24_at (c : Fin 512) : View.ld x9 r0_55 (ix2 0 c) = x9 (ix2 24 c) :=
  congrArg x9 (funext fun a => Fin.ext (by match a with | ⟨0, _⟩ => rfl | ⟨1, _⟩ => show 0 + 1 * c.val = c.val; omega))
theorem w25_at (c : Fin 512) : View.ld x9 r0_57 (ix2 0 c) = x9 (ix2 25 c) :=
  congrArg x9 (funext fun a => Fin.ext (by match a with | ⟨0, _⟩ => rfl | ⟨1, _⟩ => show 0 + 1 * c.val = c.val; omega))
theorem w26_at (c : Fin 512) : View.ld x9 r0_59 (ix2 0 c) = x9 (ix2 26 c) :=
  congrArg x9 (funext fun a => Fin.ext (by match a with | ⟨0, _⟩ => rfl | ⟨1, _⟩ => show 0 + 1 * c.val = c.val; omega))
theorem w27_at (c : Fin 512) : View.ld x9 r0_61 (ix2 0 c) = x9 (ix2 27 c) :=
  congrArg x9 (funext fun a => Fin.ext (by match a with | ⟨0, _⟩ => rfl | ⟨1, _⟩ => show 0 + 1 * c.val = c.val; omega))
theorem w28_at (c : Fin 512) : View.ld x9 r0_63 (ix2 0 c) = x9 (ix2 28 c) :=
  congrArg x9 (funext fun a => Fin.ext (by match a with | ⟨0, _⟩ => rfl | ⟨1, _⟩ => show 0 + 1 * c.val = c.val; omega))
theorem w29_at (c : Fin 512) : View.ld x9 r0_65 (ix2 0 c) = x9 (ix2 29 c) :=
  congrArg x9 (funext fun a => Fin.ext (by match a with | ⟨0, _⟩ => rfl | ⟨1, _⟩ => show 0 + 1 * c.val = c.val; omega))
theorem w30_at (c : Fin 512) : View.ld x9 r0_6 (ix2 0 c) = x9 (ix2 30 c) :=
  congrArg x9 (funext fun a => Fin.ext (by match a with | ⟨0, _⟩ => rfl | ⟨1, _⟩ => show 0 + 1 * c.val = c.val; omega))
theorem s0_at (c : Fin 512) : View.ld x8 r0_8 (ix3 0 r c) = x8 (ix3 0 r c) :=
  congrArg x8 (funext fun a => Fin.ext (by match a with | ⟨0, _⟩ => rfl | ⟨1, _⟩ => show 0 + 1 * r.val = r.val; omega | ⟨2, _⟩ => show 0 + 1 * c.val = c.val; omega))
theorem s1_at (c : Fin 512) : View.ld x8 r0_10 (ix3 0 r c) = x8 (ix3 1 r c) :=
  congrArg x8 (funext fun a => Fin.ext (by match a with | ⟨0, _⟩ => rfl | ⟨1, _⟩ => show 0 + 1 * r.val = r.val; omega | ⟨2, _⟩ => show 0 + 1 * c.val = c.val; omega))
theorem s2_at (c : Fin 512) : View.ld x8 r0_12 (ix3 0 r c) = x8 (ix3 2 r c) :=
  congrArg x8 (funext fun a => Fin.ext (by match a with | ⟨0, _⟩ => rfl | ⟨1, _⟩ => show 0 + 1 * r.val = r.val; omega | ⟨2, _⟩ => show 0 + 1 * c.val = c.val; omega))
theorem s3_at (c : Fin 512) : View.ld x8 r0_14 (ix3 0 r c) = x8 (ix3 3 r c) :=
  congrArg x8 (funext fun a => Fin.ext (by match a with | ⟨0, _⟩ => rfl | ⟨1, _⟩ => show 0 + 1 * r.val = r.val; omega | ⟨2, _⟩ => show 0 + 1 * c.val = c.val; omega))
theorem s4_at (c : Fin 512) : View.ld x8 r0_16 (ix3 0 r c) = x8 (ix3 4 r c) :=
  congrArg x8 (funext fun a => Fin.ext (by match a with | ⟨0, _⟩ => rfl | ⟨1, _⟩ => show 0 + 1 * r.val = r.val; omega | ⟨2, _⟩ => show 0 + 1 * c.val = c.val; omega))
theorem s5_at (c : Fin 512) : View.ld x8 r0_18 (ix3 0 r c) = x8 (ix3 5 r c) :=
  congrArg x8 (funext fun a => Fin.ext (by match a with | ⟨0, _⟩ => rfl | ⟨1, _⟩ => show 0 + 1 * r.val = r.val; omega | ⟨2, _⟩ => show 0 + 1 * c.val = c.val; omega))
theorem s6_at (c : Fin 512) : View.ld x8 r0_20 (ix3 0 r c) = x8 (ix3 6 r c) :=
  congrArg x8 (funext fun a => Fin.ext (by match a with | ⟨0, _⟩ => rfl | ⟨1, _⟩ => show 0 + 1 * r.val = r.val; omega | ⟨2, _⟩ => show 0 + 1 * c.val = c.val; omega))
theorem s7_at (c : Fin 512) : View.ld x8 r0_22 (ix3 0 r c) = x8 (ix3 7 r c) :=
  congrArg x8 (funext fun a => Fin.ext (by match a with | ⟨0, _⟩ => rfl | ⟨1, _⟩ => show 0 + 1 * r.val = r.val; omega | ⟨2, _⟩ => show 0 + 1 * c.val = c.val; omega))
theorem s8_at (c : Fin 512) : View.ld x8 r0_24 (ix3 0 r c) = x8 (ix3 8 r c) :=
  congrArg x8 (funext fun a => Fin.ext (by match a with | ⟨0, _⟩ => rfl | ⟨1, _⟩ => show 0 + 1 * r.val = r.val; omega | ⟨2, _⟩ => show 0 + 1 * c.val = c.val; omega))
theorem s9_at (c : Fin 512) : View.ld x8 r0_26 (ix3 0 r c) = x8 (ix3 9 r c) :=
  congrArg x8 (funext fun a => Fin.ext (by match a with | ⟨0, _⟩ => rfl | ⟨1, _⟩ => show 0 + 1 * r.val = r.val; omega | ⟨2, _⟩ => show 0 + 1 * c.val = c.val; omega))
theorem s10_at (c : Fin 512) : View.ld x8 r0_28 (ix3 0 r c) = x8 (ix3 10 r c) :=
  congrArg x8 (funext fun a => Fin.ext (by match a with | ⟨0, _⟩ => rfl | ⟨1, _⟩ => show 0 + 1 * r.val = r.val; omega | ⟨2, _⟩ => show 0 + 1 * c.val = c.val; omega))
theorem s11_at (c : Fin 512) : View.ld x8 r0_30 (ix3 0 r c) = x8 (ix3 11 r c) :=
  congrArg x8 (funext fun a => Fin.ext (by match a with | ⟨0, _⟩ => rfl | ⟨1, _⟩ => show 0 + 1 * r.val = r.val; omega | ⟨2, _⟩ => show 0 + 1 * c.val = c.val; omega))
theorem s12_at (c : Fin 512) : View.ld x8 r0_32 (ix3 0 r c) = x8 (ix3 12 r c) :=
  congrArg x8 (funext fun a => Fin.ext (by match a with | ⟨0, _⟩ => rfl | ⟨1, _⟩ => show 0 + 1 * r.val = r.val; omega | ⟨2, _⟩ => show 0 + 1 * c.val = c.val; omega))
theorem s13_at (c : Fin 512) : View.ld x8 r0_34 (ix3 0 r c) = x8 (ix3 13 r c) :=
  congrArg x8 (funext fun a => Fin.ext (by match a with | ⟨0, _⟩ => rfl | ⟨1, _⟩ => show 0 + 1 * r.val = r.val; omega | ⟨2, _⟩ => show 0 + 1 * c.val = c.val; omega))
theorem s14_at (c : Fin 512) : View.ld x8 r0_36 (ix3 0 r c) = x8 (ix3 14 r c) :=
  congrArg x8 (funext fun a => Fin.ext (by match a with | ⟨0, _⟩ => rfl | ⟨1, _⟩ => show 0 + 1 * r.val = r.val; omega | ⟨2, _⟩ => show 0 + 1 * c.val = c.val; omega))
theorem s15_at (c : Fin 512) : View.ld x8 r0_38 (ix3 0 r c) = x8 (ix3 15 r c) :=
  congrArg x8 (funext fun a => Fin.ext (by match a with | ⟨0, _⟩ => rfl | ⟨1, _⟩ => show 0 + 1 * r.val = r.val; omega | ⟨2, _⟩ => show 0 + 1 * c.val = c.val; omega))
theorem s16_at (c : Fin 512) : View.ld x8 r0_40 (ix3 0 r c) = x8 (ix3 16 r c) :=
  congrArg x8 (funext fun a => Fin.ext (by match a with | ⟨0, _⟩ => rfl | ⟨1, _⟩ => show 0 + 1 * r.val = r.val; omega | ⟨2, _⟩ => show 0 + 1 * c.val = c.val; omega))
theorem s17_at (c : Fin 512) : View.ld x8 r0_42 (ix3 0 r c) = x8 (ix3 17 r c) :=
  congrArg x8 (funext fun a => Fin.ext (by match a with | ⟨0, _⟩ => rfl | ⟨1, _⟩ => show 0 + 1 * r.val = r.val; omega | ⟨2, _⟩ => show 0 + 1 * c.val = c.val; omega))
theorem s18_at (c : Fin 512) : View.ld x8 r0_44 (ix3 0 r c) = x8 (ix3 18 r c) :=
  congrArg x8 (funext fun a => Fin.ext (by match a with | ⟨0, _⟩ => rfl | ⟨1, _⟩ => show 0 + 1 * r.val = r.val; omega | ⟨2, _⟩ => show 0 + 1 * c.val = c.val; omega))
theorem s19_at (c : Fin 512) : View.ld x8 r0_46 (ix3 0 r c) = x8 (ix3 19 r c) :=
  congrArg x8 (funext fun a => Fin.ext (by match a with | ⟨0, _⟩ => rfl | ⟨1, _⟩ => show 0 + 1 * r.val = r.val; omega | ⟨2, _⟩ => show 0 + 1 * c.val = c.val; omega))
theorem s20_at (c : Fin 512) : View.ld x8 r0_48 (ix3 0 r c) = x8 (ix3 20 r c) :=
  congrArg x8 (funext fun a => Fin.ext (by match a with | ⟨0, _⟩ => rfl | ⟨1, _⟩ => show 0 + 1 * r.val = r.val; omega | ⟨2, _⟩ => show 0 + 1 * c.val = c.val; omega))
theorem s21_at (c : Fin 512) : View.ld x8 r0_50 (ix3 0 r c) = x8 (ix3 21 r c) :=
  congrArg x8 (funext fun a => Fin.ext (by match a with | ⟨0, _⟩ => rfl | ⟨1, _⟩ => show 0 + 1 * r.val = r.val; omega | ⟨2, _⟩ => show 0 + 1 * c.val = c.val; omega))
theorem s22_at (c : Fin 512) : View.ld x8 r0_52 (ix3 0 r c) = x8 (ix3 22 r c) :=
  congrArg x8 (funext fun a => Fin.ext (by match a with | ⟨0, _⟩ => rfl | ⟨1, _⟩ => show 0 + 1 * r.val = r.val; omega | ⟨2, _⟩ => show 0 + 1 * c.val = c.val; omega))
theorem s23_at (c : Fin 512) : View.ld x8 r0_54 (ix3 0 r c) = x8 (ix3 23 r c) :=
  congrArg x8 (funext fun a => Fin.ext (by match a with | ⟨0, _⟩ => rfl | ⟨1, _⟩ => show 0 + 1 * r.val = r.val; omega | ⟨2, _⟩ => show 0 + 1 * c.val = c.val; omega))
theorem s24_at (c : Fin 512) : View.ld x8 r0_56 (ix3 0 r c) = x8 (ix3 24 r c) :=
  congrArg x8 (funext fun a => Fin.ext (by match a with | ⟨0, _⟩ => rfl | ⟨1, _⟩ => show 0 + 1 * r.val = r.val; omega | ⟨2, _⟩ => show 0 + 1 * c.val = c.val; omega))
theorem s25_at (c : Fin 512) : View.ld x8 r0_58 (ix3 0 r c) = x8 (ix3 25 r c) :=
  congrArg x8 (funext fun a => Fin.ext (by match a with | ⟨0, _⟩ => rfl | ⟨1, _⟩ => show 0 + 1 * r.val = r.val; omega | ⟨2, _⟩ => show 0 + 1 * c.val = c.val; omega))
theorem s26_at (c : Fin 512) : View.ld x8 r0_60 (ix3 0 r c) = x8 (ix3 26 r c) :=
  congrArg x8 (funext fun a => Fin.ext (by match a with | ⟨0, _⟩ => rfl | ⟨1, _⟩ => show 0 + 1 * r.val = r.val; omega | ⟨2, _⟩ => show 0 + 1 * c.val = c.val; omega))
theorem s27_at (c : Fin 512) : View.ld x8 r0_62 (ix3 0 r c) = x8 (ix3 27 r c) :=
  congrArg x8 (funext fun a => Fin.ext (by match a with | ⟨0, _⟩ => rfl | ⟨1, _⟩ => show 0 + 1 * r.val = r.val; omega | ⟨2, _⟩ => show 0 + 1 * c.val = c.val; omega))
theorem s28_at (c : Fin 512) : View.ld x8 r0_64 (ix3 0 r c) = x8 (ix3 28 r c) :=
  congrArg x8 (funext fun a => Fin.ext (by match a with | ⟨0, _⟩ => rfl | ⟨1, _⟩ => show 0 + 1 * r.val = r.val; omega | ⟨2, _⟩ => show 0 + 1 * c.val = c.val; omega))
theorem s29_at (c : Fin 512) : View.ld x8 r0_66 (ix3 0 r c) = x8 (ix3 29 r c) :=
  congrArg x8 (funext fun a => Fin.ext (by match a with | ⟨0, _⟩ => rfl | ⟨1, _⟩ => show 0 + 1 * r.val = r.val; omega | ⟨2, _⟩ => show 0 + 1 * c.val = c.val; omega))
theorem col0_at (k : Fin 1024) (c : Fin 512) : View.ld x2 r0_2 (ix2 k c) = x2 (ix2 k (⟨c.val, by omega⟩ : Fin 6144)) :=
  congrArg x2 (funext fun a => Fin.ext (by match a with | ⟨0, _⟩ => show 0 + 1 * k.val = k.val; omega | ⟨1, _⟩ => show 0 + 1 * c.val = c.val; omega))
theorem col512_at (k : Fin 1024) (c : Fin 512) : View.ld x2 r0_3 (ix2 k c) = x2 (ix2 k (⟨512 + c.val, by omega⟩ : Fin 6144)) :=
  congrArg x2 (funext fun a => Fin.ext (by match a with | ⟨0, _⟩ => show 0 + 1 * k.val = k.val; omega | ⟨1, _⟩ => show 512 + 1 * c.val = 512 + c.val; omega))
theorem col1024_at (k : Fin 1024) (c : Fin 512) : View.ld x2 r0_67 (ix2 k c) = x2 (ix2 k (⟨1024 + c.val, by omega⟩ : Fin 6144)) :=
  congrArg x2 (funext fun a => Fin.ext (by match a with | ⟨0, _⟩ => show 0 + 1 * k.val = k.val; omega | ⟨1, _⟩ => show 1024 + 1 * c.val = 1024 + c.val; omega))
theorem col1536_at (k : Fin 1024) (c : Fin 512) : View.ld x2 r0_69 (ix2 k c) = x2 (ix2 k (⟨1536 + c.val, by omega⟩ : Fin 6144)) :=
  congrArg x2 (funext fun a => Fin.ext (by match a with | ⟨0, _⟩ => show 0 + 1 * k.val = k.val; omega | ⟨1, _⟩ => show 1536 + 1 * c.val = 1536 + c.val; omega))
theorem col2048_at (k : Fin 1024) (c : Fin 512) : View.ld x2 r0_70 (ix2 k c) = x2 (ix2 k (⟨2048 + c.val, by omega⟩ : Fin 6144)) :=
  congrArg x2 (funext fun a => Fin.ext (by match a with | ⟨0, _⟩ => show 0 + 1 * k.val = k.val; omega | ⟨1, _⟩ => show 2048 + 1 * c.val = 2048 + c.val; omega))
theorem col2560_at (k : Fin 1024) (c : Fin 512) : View.ld x2 r0_71 (ix2 k c) = x2 (ix2 k (⟨2560 + c.val, by omega⟩ : Fin 6144)) :=
  congrArg x2 (funext fun a => Fin.ext (by match a with | ⟨0, _⟩ => show 0 + 1 * k.val = k.val; omega | ⟨1, _⟩ => show 2560 + 1 * c.val = 2560 + c.val; omega))
theorem col3072_at (k : Fin 1024) (c : Fin 3072) : View.ld x2 r0_72 (ix2 k c) = x2 (ix2 k (⟨3072 + c.val, by omega⟩ : Fin 6144)) :=
  congrArg x2 (funext fun a => Fin.ext (by match a with | ⟨0, _⟩ => show 0 + 1 * k.val = k.val; omega | ⟨1, _⟩ => show 3072 + 1 * c.val = 3072 + c.val; omega))

/-- The normed row, from the blocks. -/
abbrev hn : Fin 1024 → EReal := norm (fun k => x0 (ix2 r k)) (fun k => x1 (ix2 0 k))

/-- Its projection on the columns from `o` on. -/
abbrev lane (o : ℕ) (ho : o + 512 ≤ 6144) (e : Fin 512) : EReal := dot (hn x0 x1 r) (fun k => x2 (ix2 k (⟨o + e.val, by omega⟩ : Fin 6144)))

/-- The gated branch, from the blocks. -/
abbrev own (c : Fin 512) : EReal :=
  glu (hn x0 x1 r) (fun k => x2 (ix2 k (⟨c.val, by omega⟩ : Fin 6144))) (fun k => x2 (ix2 k (⟨512 + c.val, by omega⟩ : Fin 6144)))

theorem own_at (c : Fin 512) : k0_pay4 (F := Ideal) x0 x1 (View.ld x2 r0_2) (View.ld x2 r0_3) (ix2 r c) = own x0 x1 x2 r c := by
  refine (glu_at _ _ _ _ r c).trans ?_
  exact congrArg₂ (glu (hn x0 x1 r)) (funext fun k => col0_at x2 k c) (funext fun k => col512_at x2 k c)

theorem out13_at (c : Fin 512) :
    out0_13 (F := Ideal) x0 x1 x2 x3 x4 x5 x6 x7 x8 x9 x10 x11 x12 (ix2 r c)
      = own x0 x1 x2 r c := by
  frame_out
  exact own_at x0 x1 x2 r c
theorem out14_at (c : Fin 512) :
    out0_14 (F := Ideal) x0 x1 x2 x3 x4 x5 x6 x7 x8 x9 x10 x11 x12 (ix2 r c)
      = wnorm (lane x0 x1 x2 r 1024 (by omega)) (fun k => x3 (ix2 k c)) (x5 (ix2 0 c)) c := by
  frame_out
  unfold k0_pay29
  frame_out
  refine (q_at _ _ _ _ r c).trans ?_
  exact wnorm_same c (funext fun e => congrArg₂ dot (funext fun k => hn_at x0 x1 r k) (funext fun k => col1024_at x2 k e)) rfl rfl
theorem out15_at (c : Fin 512) :
    out0_15 (F := Ideal) x0 x1 x2 x3 x4 x5 x6 x7 x8 x9 x10 x11 x12 (ix2 r c)
      = wnorm (lane x0 x1 x2 r 1536 (by omega)) (fun k => x3 (ix2 k c)) (x6 (ix2 0 c)) c := by
  frame_out
  unfold k0_pay29
  frame_out
  refine (k_at _ _ _ _ r c).trans ?_
  exact wnorm_same c (funext fun e => congrArg₂ dot (funext fun k => hn_at x0 x1 r k) (funext fun k => col1536_at x2 k e)) rfl rfl
theorem out17_at (c : Fin 512) :
    out0_17 (F := Ideal) x0 x1 x2 x3 x4 x5 x6 x7 x8 x9 x10 x11 x12 (ix2 r c)
      = wnorm (lane x0 x1 x2 r 2560 (by omega)) (fun k => x4 (ix2 k c)) (x7 (ix2 0 c)) c := by
  frame_out
  unfold k0_pay29
  frame_out
  refine (mq_at _ _ _ _ r c).trans ?_
  exact wnorm_same c (funext fun e => congrArg₂ dot (funext fun k => hn_at x0 x1 r k) (funext fun k => col2560_at x2 k e)) rfl rfl
theorem out16_at (c : Fin 512) :
    out0_16 (F := Ideal) x0 x1 x2 x3 x4 x5 x6 x7 x8 x9 x10 x11 x12 (ix2 r c)
      = lane x0 x1 x2 r 2048 (by omega) c := by
  frame_out
  unfold k0_pay29
  frame_out
  refine (v_at _ _ r c).trans ?_
  exact congrArg₂ dot (funext fun k => hn_at x0 x1 r k) (funext fun k => col2048_at x2 k c)
theorem out18_at (c : Fin 3072) :
    out0_18 (F := Ideal) x0 x1 x2 x3 x4 x5 x6 x7 x8 x9 x10 x11 x12 (ix2 r c)
      = dot (hn x0 x1 r) (fun k => x2 (ix2 k (⟨3072 + c.val, by omega⟩ : Fin 6144))) := by
  frame_out
  unfold k0_pay29
  frame_out
  refine (gl_at _ _ r c).trans ?_
  exact congrArg₂ dot (funext fun k => hn_at x0 x1 r k) (funext fun k => col3072_at x2 k c)
/-- The taps, from the blocks. -/
abbrev tapped (c : Fin 512) : EReal :=
  taps (x10 (ix2 0 c)) (fun j => x9 (ix2 j c) * (if h : j.val < 30 then x8 (ix3 ⟨j.val, h⟩ r c) else own x0 x1 x2 r c))

theorem tapped_eq (c : Fin 512) :
    taps (x10 (ix2 0 c)) (fun j : Fin 31 => if h : j.val < 30 then
        (fun i : Fin 30 => x9 (ix2 (⟨i.val, by omega⟩ : Fin 31) c) * x8 (ix3 i r c)) ⟨j.val, h⟩ else x9 (ix2 30 c) * own x0 x1 x2 r c)
      = tapped x0 x1 x2 x8 x9 x10 r c := by
  refine congrArg (taps _) (funext fun j => ?_)
  by_cases h : j.val < 30
  · rw [dif_pos h, dif_pos h]
  · rw [dif_neg h, dif_neg h]
    obtain rfl : j = 30 := Fin.ext (by show j.val = 30; omega)
    rfl

theorem out19_at (c : Fin 512) :
    out0_19 (F := Ideal) x0 x1 x2 x3 x4 x5 x6 x7 x8 x9 x10 x11 x12 (ix2 r c)
      = act (lnorm (tapped x0 x1 x2 x8 x9 x10 r) (fun c => x11 (ix2 0 c)) (fun c => x12 (ix2 0 c)) c) := by
  frame_out
  refine (act_at _ _ _ _ _ _ _ _ _ r c).trans ?_
  refine congrArg (fun z => act (lnorm z (fun c => x11 (ix2 0 c)) (fun c => x12 (ix2 0 c)) c)) (funext fun c => ?_)
  rw [taps14_at, taps12_at, taps11_at, taps8_at, taps7_at, first_at, spread6_at, slice9_at, spread10_at, slice13_at, own_at]
  rw [w0_at, w1_at, w2_at, w3_at, w4_at, w5_at, w6_at, w7_at, w8_at, w9_at, w10_at, w11_at, w12_at, w13_at, w14_at, w15_at, w16_at, w17_at, w18_at, w19_at, w20_at, w21_at, w22_at, w23_at, w24_at, w25_at, w26_at, w27_at, w28_at, w29_at, w30_at]
  rw [s0_at, s1_at, s2_at, s3_at, s4_at, s5_at, s6_at, s7_at, s8_at, s9_at, s10_at, s11_at, s12_at, s13_at, s14_at, s15_at, s16_at, s17_at, s18_at, s19_at, s20_at, s21_at, s22_at, s23_at, s24_at, s25_at, s26_at, s27_at, s28_at, s29_at]
  refine Eq.trans ?_ (tapped_eq x0 x1 x2 x8 x9 x10 r c)
  exact last_first (x10 (ix2 0 c)) (fun i : Fin 30 => x9 (ix2 (⟨i.val, by omega⟩ : Fin 31) c) * x8 (ix3 i r c)) (x9 (ix2 30 c) * own x0 x1 x2 r c)

end stores

variable (m : (ℓ : Loc nD τ sig) → Buf (Elt Ideal) ℓ)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0] :=
  (by decide +kernel : ∀ t : Fin grid0.N, _)

/-- The arguments' arrays. -/
abbrev A0 (c : Dev nD) : Vec Ideal S32x1024 .f32 := m ((c : Thread nD τ).loc main_arg0)
abbrev A1 (c : Dev nD) : Vec Ideal S1024 .f32 := m ((c : Thread nD τ).loc main_arg1)
abbrev A2 (c : Dev nD) : Vec Ideal S1024x6144 .f32 := m ((c : Thread nD τ).loc main_arg2)
abbrev A3 (c : Dev nD) : Vec Ideal S64 .f32 := m ((c : Thread nD τ).loc main_arg3)
abbrev A4 (c : Dev nD) : Vec Ideal S64 .f32 := m ((c : Thread nD τ).loc main_arg4)
abbrev A5 (c : Dev nD) : Vec Ideal S128 .f32 := m ((c : Thread nD τ).loc main_arg5)
abbrev A6 (c : Dev nD) : Vec Ideal S32x30x512 .f32 := m ((c : Thread nD τ).loc main_arg6)
abbrev A7 (c : Dev nD) : Vec Ideal S31x512 .f32 := m ((c : Thread nD τ).loc main_arg7)
abbrev A8 (c : Dev nD) : Vec Ideal S512 .f32 := m ((c : Thread nD τ).loc main_arg8)
abbrev A9 (c : Dev nD) : Vec Ideal S512 .f32 := m ((c : Thread nD τ).loc main_arg9)
abbrev A10 (c : Dev nD) : Vec Ideal S512 .f32 := m ((c : Thread nD τ).loc main_arg10)

section blocks

variable (c : Dev nD) (t : Fin cfg0.N)

theorem block0 (r : Fin 32) (k : Fin 1024) : iblk m c 0 t (ix2 r k) = A0 m c (ix2 r k) := by
  blk_ext [iblk, V, idx t]
theorem block1 (k : Fin 1024) : iblk m c 1 t (ix2 0 k) = A1 m c (ix1 k) := by
  blk_point [iblk, V, idx t]
theorem block2 (i : Fin 1024) (k : Fin 6144) : iblk m c 2 t (ix2 i k) = A2 m c (ix2 i k) := by
  blk_point [iblk, V, idx t]
theorem block3 (i k : Fin 512) : iblk m c 3 t (ix2 i k) = wt64 k i := by
  have e : (win0_3.blk t).view.emb (ix2 i k) = ix2 i k := by blk_ext [idx t]
  show V m c main_v25 ((win0_3.blk t).view.emb (ix2 i k)) = _
  rw [e]
  exact host64 k i
theorem block4 (i k : Fin 512) : iblk m c 4 t (ix2 i k) = wt128 k i := by
  have e : (win0_4.blk t).view.emb (ix2 i k) = ix2 i k := by blk_ext [idx t]
  show V m c main_v36 ((win0_4.blk t).view.emb (ix2 i k)) = _
  rw [e]
  exact host128 k i
theorem block5 (k : Fin 512) : iblk m c 5 t (ix2 0 k) = A3 m c (ix1 (⟨k.val % 64, by omega⟩ : Fin 64)) := by
  blk_point [iblk, V, idx t]
theorem block6 (k : Fin 512) : iblk m c 6 t (ix2 0 k) = A4 m c (ix1 (⟨k.val % 64, by omega⟩ : Fin 64)) := by
  blk_point [iblk, V, idx t]
theorem block7 (k : Fin 512) : iblk m c 7 t (ix2 0 k) = A5 m c (ix1 (⟨k.val % 128, by omega⟩ : Fin 128)) := by
  blk_point [iblk, V, idx t]
theorem block8 (j : Fin 30) (r : Fin 32) (k : Fin 512) : iblk m c 8 t (ix3 j r k) = A6 m c (ix3 r j k) := by
  blk_point [iblk, V, idx t]
theorem block9 (i : Fin 31) (k : Fin 512) : iblk m c 9 t (ix2 i k) = A7 m c (ix2 i k) := by
  blk_ext [iblk, V, idx t]
theorem block10 (k : Fin 512) : iblk m c 10 t (ix2 0 k) = A8 m c (ix1 k) := by
  blk_point [iblk, V, idx t]
theorem block11 (k : Fin 512) : iblk m c 11 t (ix2 0 k) = A9 m c (ix1 k) := by
  blk_point [iblk, V, idx t]
theorem block12 (k : Fin 512) : iblk m c 12 t (ix2 0 k) = A10 m c (ix1 k) := by
  blk_point [iblk, V, idx t]

theorem normed_at (r : Fin 32) : hn (iblk m c 0 t) (iblk m c 1 t) r = normed (A0 m c) (A1 m c) r :=
  congrArg₂ norm (funext fun k => block0 m c t r k) (funext fun k => block1 m c t k)

theorem flat_at (r : Fin 32) (e : Fin 6144) :
    dot (hn (iblk m c 0 t) (iblk m c 1 t) r) (fun k => iblk m c 2 t (ix2 k e)) = flat (A0 m c) (A1 m c) (A2 m c) r e :=
  congrArg₂ dot (normed_at m c t r) (funext fun k => block2 m c t k e)

theorem gated_at (r : Fin 32) (e : Fin 512) :
    own (iblk m c 0 t) (iblk m c 1 t) (iblk m c 2 t) r e = gated (A0 m c) (A1 m c) (A2 m c) r e :=
  congrArg₂ (fun a b => a * sigma b) (flat_at m c t r _) (flat_at m c t r _)

theorem tapped_at (r : Fin 32) :
    tapped (iblk m c 0 t) (iblk m c 1 t) (iblk m c 2 t) (iblk m c 8 t) (iblk m c 9 t) (iblk m c 10 t) r
      = convolved (past (A6 m c) (gated (A0 m c) (A1 m c) (A2 m c) r) r) (A7 m c) (A8 m c) := by
  funext e
  refine congrArg₂ taps (block10 m c t e) (funext fun j => congrArg₂ (· * ·) (block9 m c t j e) ?_)
  unfold past
  split
  · next h => exact block8 m c t ⟨j.val, h⟩ r e
  · exact gated_at m c t r e

end blocks

section finals

variable (c : Dev nD)

/-- The results' arrays. -/
abbrev allOwn : Vec Ideal S32x512 .f32 := fun j => gated (A0 m c) (A1 m c) (A2 m c) (j 0) (j 1)
abbrev allQueries : Vec Ideal S32x512 .f32 := fun j => queryRow (A0 m c) (A1 m c) (A2 m c) (A3 m c) (j 0) (j 1)
abbrev allKeys : Vec Ideal S32x512 .f32 := fun j => keyRow (A0 m c) (A1 m c) (A2 m c) (A4 m c) (j 0) (j 1)
abbrev allValues : Vec Ideal S32x512 .f32 := fun j => valueRow (A0 m c) (A1 m c) (A2 m c) (j 0) (j 1)
abbrev allMq : Vec Ideal S32x512 .f32 := fun j => mqRow (A0 m c) (A1 m c) (A2 m c) (A5 m c) (j 0) (j 1)
abbrev allGates : Vec Ideal S32x3072 .f32 := fun j =>
  flat (A0 m c) (A1 m c) (A2 m c) (j 0) (⟨3072 + (j 1).val, by have : (j 1).val < 3072 := (j 1).isLt; omega⟩ : Fin 6144)
abbrev allBranch : Vec Ideal S32x512 .f32 := fun j =>
  branch (past (A6 m c) (gated (A0 m c) (A1 m c) (A2 m c) (j 0)) (j 0)) (A7 m c) (A8 m c) (A9 m c) (A10 m c) (j 1)

theorem point13 (t : Fin cfg0.N) (r : Fin 32) (k : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allOwn m c (ix2 r k) := by
  refine (out13_at _ _ _ _ _ _ _ _ _ _ _ _ _ r k).trans ?_
  exact gated_at m c t r k
theorem whole13 : (dats m 0 c).arrAt 13 (cfgs 0).N = allOwn m c := by
  refine (dats m 0 c).arrAt_eq_of_covers 13 _ (by decide +kernel) fun t _ y => ?_
  blk_simp
  rw [after0_13]
  idx_vars y
  refine (point13 m c t y0 y1).trans (congrArg (allOwn m c) (a₁ := ix2 y0 y1) ?_)
  blk_ext [idx t]

theorem point16 (t : Fin cfg0.N) (r : Fin 32) (k : Fin 512) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allValues m c (ix2 r k) := by
  refine (out16_at _ _ _ _ _ _ _ _ _ _ _ _ _ r k).trans ?_
  exact flat_at m c t r _
theorem whole16 : (dats m 0 c).arrAt 16 (cfgs 0).N = allValues m c := by
  refine (dats m 0 c).arrAt_eq_of_covers 16 _ (by decide +kernel) fun t _ y => ?_
  blk_simp
  rw [after0_16]
  idx_vars y
  refine (point16 m c t y0 y1).trans (congrArg (allValues m c) (a₁ := ix2 y0 y1) ?_)
  blk_ext [idx t]

theorem point18 (t : Fin cfg0.N) (r : Fin 32) (k : Fin 3072) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allGates m c (ix2 r k) := by
  refine (out18_at _ _ _ _ _ _ _ _ _ _ _ _ _ r k).trans ?_
  exact flat_at m c t r _
theorem whole18 : (dats m 0 c).arrAt 18 (cfgs 0).N = allGates m c := by
  refine (dats m 0 c).arrAt_eq_of_covers 18 _ (by decide +kernel) fun t _ y => ?_
  blk_simp
  rw [after0_18]
  idx_vars y
  refine (point18 m c t y0 y1).trans (congrArg (allGates m c) (a₁ := ix2 y0 y1) ?_)
  blk_ext [idx t]

theorem point19 (t : Fin cfg0.N) (r : Fin 32) (k : Fin 512) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allBranch m c (ix2 r k) := by
  refine (out19_at _ _ _ _ _ _ _ _ _ _ _ _ _ r k).trans ?_
  show _ = act (lnorm (convolved (past (A6 m c) (gated (A0 m c) (A1 m c) (A2 m c) r) r) (A7 m c) (A8 m c)) (fun c' => A9 m c (ix1 c'))
    (fun c' => A10 m c (ix1 c')) k)
  rw [tapped_at]
  exact congrArg₂ (fun g b => act (lnorm _ g b k)) (funext fun e => block11 m c t e) (funext fun e => block12 m c t e)
theorem whole19 : (dats m 0 c).arrAt 19 (cfgs 0).N = (allBranch m c : Vec Ideal S32x512 .bf16) := by
  refine (dats m 0 c).arrAt_eq_of_covers 19 _ (by decide +kernel) fun t _ y => ?_
  blk_simp
  rw [after0_19]
  idx_vars y
  refine (point19 m c t y0 y1).trans (congrArg (allBranch m c) (a₁ := ix2 y0 y1) ?_)
  blk_ext [idx t]

variable (h0 : ∀ i, ∃ a : ℝ, A0 m c i = (a : EReal)) (h1 : ∀ i, ∃ a : ℝ, A1 m c i = (a : EReal))
  (h2 : ∀ i, ∃ a : ℝ, A2 m c i = (a : EReal))

include h0 h1 h2 in
theorem flat_real (r : Fin 32) (e : Fin 6144) : ∃ a : ℝ, flat (A0 m c) (A1 m c) (A2 m c) r e = (a : EReal) :=
  product_real _ _ (fun k e => A2 m c (ix2 k e)) (fun k => h0 _) (fun k => h1 _) (fun k e => h2 _) e

include h0 h1 h2 in
theorem point14 (t : Fin cfg0.N) (r : Fin 32) (k : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allQueries m c (ix2 r k) := by
  refine (out14_at _ _ _ _ _ _ _ _ _ _ _ _ _ r k).trans ?_
  refine Eq.trans ?_ (wnorm64 (fun e : Fin 512 => flat (A0 m c) (A1 m c) (A2 m c) r ⟨1024 + e.val, by omega⟩)
    (fun e => flat_real m c h0 h1 h2 _ _) (A3 m c (ix1 (⟨k.val % 64, by omega⟩ : Fin 64))) k)
  exact wnorm_same _ (funext fun e => flat_at m c t r _) (funext fun i => block3 m c t i k) (block5 m c t k)
include h0 h1 h2 in
theorem whole14 : (dats m 0 c).arrAt 14 (cfgs 0).N = allQueries m c := by
  refine (dats m 0 c).arrAt_eq_of_covers 14 _ (by decide +kernel) fun t _ y => ?_
  blk_simp
  rw [after0_14]
  idx_vars y
  refine (point14 m c h0 h1 h2 t y0 y1).trans (congrArg (allQueries m c) (a₁ := ix2 y0 y1) ?_)
  blk_ext [idx t]

include h0 h1 h2 in
theorem point15 (t : Fin cfg0.N) (r : Fin 32) (k : Fin 512) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allKeys m c (ix2 r k) := by
  refine (out15_at _ _ _ _ _ _ _ _ _ _ _ _ _ r k).trans ?_
  refine Eq.trans ?_ (wnorm64 (fun e : Fin 512 => flat (A0 m c) (A1 m c) (A2 m c) r ⟨1536 + e.val, by omega⟩)
    (fun e => flat_real m c h0 h1 h2 _ _) (A4 m c (ix1 (⟨k.val % 64, by omega⟩ : Fin 64))) k)
  exact wnorm_same _ (funext fun e => flat_at m c t r _) (funext fun i => block3 m c t i k) (block6 m c t k)
include h0 h1 h2 in
theorem whole15 : (dats m 0 c).arrAt 15 (cfgs 0).N = allKeys m c := by
  refine (dats m 0 c).arrAt_eq_of_covers 15 _ (by decide +kernel) fun t _ y => ?_
  blk_simp
  rw [after0_15]
  idx_vars y
  refine (point15 m c h0 h1 h2 t y0 y1).trans (congrArg (allKeys m c) (a₁ := ix2 y0 y1) ?_)
  blk_ext [idx t]

include h0 h1 h2 in
theorem point17 (t : Fin cfg0.N) (r : Fin 32) (k : Fin 512) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = allMq m c (ix2 r k) := by
  refine (out17_at _ _ _ _ _ _ _ _ _ _ _ _ _ r k).trans ?_
  refine Eq.trans ?_ (wnorm128 (fun e : Fin 512 => flat (A0 m c) (A1 m c) (A2 m c) r ⟨2560 + e.val, by omega⟩)
    (fun e => flat_real m c h0 h1 h2 _ _) (A5 m c (ix1 (⟨k.val % 128, by omega⟩ : Fin 128))) k)
  exact wnorm_same _ (funext fun e => flat_at m c t r _) (funext fun i => block4 m c t i k) (block7 m c t k)
include h0 h1 h2 in
theorem whole17 : (dats m 0 c).arrAt 17 (cfgs 0).N = allMq m c := by
  refine (dats m 0 c).arrAt_eq_of_covers 17 _ (by decide +kernel) fun t _ y => ?_
  blk_simp
  rw [after0_17]
  idx_vars y
  refine (point17 m c h0 h1 h2 t y0 y1).trans (congrArg (allMq m c) (a₁ := ix2 y0 y1) ?_)
  blk_ext [idx t]

end finals

end Cert.PreSampleIdeal.Value

end
-- ==== Proof.PreSampleReference.lean ====
/- The reference of the sample group's first call, value by value. -/
module

public import proofs.«01_k».proof.Proof.Gen.PreSampleRefIdeal.Read
public import proofs.«01_k».proof.Proof.PreSampleSpec

@[expose] public section

set_option maxRecDepth 16384
set_option maxHeartbeats 1000000

noncomputable section

open Idealize.ShloMosaic Idealize.ShloMosaic.TcCoe Idealize.SL.Sem

namespace Cert.PreSampleRefIdeal.Value

open Cert.PreSampleRefIdeal Cert.PreSampleRefIdeal.Gen Cert.PreSampleRefIdeal.Read Cert.Post Cert.Group Cert.Mix Cert.SamplePast

variable (x0 : (⟨S32x1024, .f32⟩ : BufTy).Contents (Elt Ideal))
  (x1 : (⟨S1024, .f32⟩ : BufTy).Contents (Elt Ideal))
  (x2 : (⟨S1024x6144, .f32⟩ : BufTy).Contents (Elt Ideal))
  (x3 : (⟨S64, .f32⟩ : BufTy).Contents (Elt Ideal))
  (x4 : (⟨S64, .f32⟩ : BufTy).Contents (Elt Ideal))
  (x5 : (⟨S128, .f32⟩ : BufTy).Contents (Elt Ideal))
  (x6 : (⟨S32x30x512, .f32⟩ : BufTy).Contents (Elt Ideal))
  (x7 : (⟨S31x512, .f32⟩ : BufTy).Contents (Elt Ideal))
  (x8 : (⟨S512, .f32⟩ : BufTy).Contents (Elt Ideal))
  (x9 : (⟨S512, .f32⟩ : BufTy).Contents (Elt Ideal))
  (x10 : (⟨S512, .f32⟩ : BufTy).Contents (Elt Ideal))

/-- The normed row. -/
theorem norm_at (r : Fin 32) (c : Fin 1024) : val_main_v12 x0 x1 (ix2 r c) = normed x0 x1 r c := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The projections. -/
theorem flat_at (r : Fin 32) (c : Fin 6144) :
    val_main_v13 x0 x1 x2 (ix2 r c)
      = flat x0 x1 x2 r c := by
  have h := norm_at x0 x1 r
  unfold val_main_v13
  generalize val_main_v12 x0 x1 = y at *
  pointwise []
  simp only [h]
  rfl

/-- The gated branch. -/
theorem gated_at (r : Fin 32) (c : Fin 512) :
    val_main_v28 x0 x1 x2 (ix2 r c)
      = gated x0 x1 x2 r c := by
  have h := flat_at x0 x1 x2 r
  unfold val_main_v28 val_main_v27 val_main_v25 val_main_v23 val_main_v22 val_main_v21 val_main_v20 val_main_v14
  generalize val_main_v13 x0 x1 x2 = y at *
  pointwise [val_main_v26, val_main_cst_3, val_main_v24, val_main_cst_2]
  simp only [h]
  rfl

/-- The queries. -/
theorem queries_at (r : Fin 32) (c : Fin 512) :
    val_main_v350 x0 x1 x2 x3 (ix2 r c)
      = queryRow x0 x1 x2 x3 r c := by
  have h := flat_at x0 x1 x2 r
  unfold val_main_v350 val_main_v42 val_main_v39 val_main_v38 val_main_v37 val_main_v36 val_main_v34 val_main_v32 val_main_v31 val_main_v30 val_main_v29 val_main_v15
  generalize val_main_v13 x0 x1 x2 = y at *
  pointwise [val_main_v41, val_main_v40, val_main_v35, val_main_cst_6, val_main_v33, val_main_cst_5, val_main_cst_4]
  simp only [h]
  rfl

/-- The keys. -/
theorem keys_at (r : Fin 32) (c : Fin 512) :
    val_main_v57 x0 x1 x2 x4 (ix2 r c)
      = keyRow x0 x1 x2 x4 r c := by
  have h := flat_at x0 x1 x2 r
  unfold val_main_v57 val_main_v56 val_main_v53 val_main_v52 val_main_v51 val_main_v50 val_main_v48 val_main_v46 val_main_v45 val_main_v44 val_main_v43 val_main_v16
  generalize val_main_v13 x0 x1 x2 = y at *
  pointwise [val_main_v55, val_main_v54, val_main_v49, val_main_cst_9, val_main_v47, val_main_cst_8, val_main_cst_7]
  simp only [h]
  rfl

/-- The values. -/
theorem values_at (r : Fin 32) (c : Fin 512) :
    val_main_v17 x0 x1 x2 (ix2 r c)
      = valueRow x0 x1 x2 r c := by
  have h := flat_at x0 x1 x2 r
  unfold val_main_v17
  generalize val_main_v13 x0 x1 x2 = y at *
  pointwise []
  simp only [h]
  rfl

/-- The memory's queries. -/
theorem mq_at (r : Fin 32) (c : Fin 512) :
    val_main_v72 x0 x1 x2 x5 (ix2 r c)
      = mqRow x0 x1 x2 x5 r c := by
  have h := flat_at x0 x1 x2 r
  unfold val_main_v72 val_main_v71 val_main_v68 val_main_v67 val_main_v66 val_main_v65 val_main_v63 val_main_v61 val_main_v60 val_main_v59 val_main_v58 val_main_v18
  generalize val_main_v13 x0 x1 x2 = y at *
  pointwise [val_main_v70, val_main_v69, val_main_v64, val_main_cst_12, val_main_v62, val_main_cst_11, val_main_cst_10]
  simp only [h]
  rfl

/-- The gates' columns. -/
theorem gates_at (r : Fin 32) (c : Fin 3072) :
    val_main_v19 x0 x1 x2 (ix2 r c)
      = flat x0 x1 x2 r (⟨3072 + c.val, by omega⟩ : Fin 6144) := by
  have h := flat_at x0 x1 x2 r
  unfold val_main_v19
  generalize val_main_v13 x0 x1 x2 = y at *
  pointwise []
  simp only [h]

/-- The state's rows and the new row. -/
theorem full_at (r : Fin 32) (j : Fin 31) (c : Fin 512) :
    val_main_v74 x0 x1 x2 x6 (ix3 r j c)
      = past x6 (gated x0 x1 x2 r) r j c := by
  have h := gated_at x0 x1 x2 r
  unfold val_main_v74 val_main_v73
  generalize val_main_v28 x0 x1 x2 = y at *
  pointwise []
  simp only [h]
  rfl

/-- The convolution. -/
theorem conv_at (r : Fin 32) (c : Fin 512) :
    val_main_v326 x0 x1 x2 x6 x7 x8 (ix2 r c)
      = convolved (fun j c => val_main_v74 x0 x1 x2 x6 (ix3 r j c)) x7 x8 c := by
  unfold val_main_v326 val_main_v323 val_main_v322 val_main_v319 val_main_v318 val_main_v315 val_main_v314 val_main_v311 val_main_v310 val_main_v307 val_main_v306 val_main_v303 val_main_v302 val_main_v299 val_main_v298 val_main_v295 val_main_v294 val_main_v291 val_main_v290 val_main_v287 val_main_v286 val_main_v283 val_main_v282 val_main_v279 val_main_v278 val_main_v275 val_main_v274 val_main_v271 val_main_v270 val_main_v267 val_main_v266 val_main_v263 val_main_v262 val_main_v259 val_main_v258 val_main_v255 val_main_v254 val_main_v251 val_main_v250 val_main_v247 val_main_v246 val_main_v243 val_main_v242 val_main_v239 val_main_v238 val_main_v235 val_main_v234 val_main_v231 val_main_v230 val_main_v227 val_main_v226 val_main_v223 val_main_v222 val_main_v219 val_main_v218 val_main_v215 val_main_v214 val_main_v211 val_main_v210 val_main_v207 val_main_v206 val_main_v203 val_main_v202 val_main_v199 val_main_v198 val_main_v195 val_main_v194 val_main_v191 val_main_v190 val_main_v187 val_main_v186 val_main_v183 val_main_v182 val_main_v179 val_main_v178 val_main_v175 val_main_v174 val_main_v171 val_main_v170 val_main_v167 val_main_v166 val_main_v163 val_main_v162 val_main_v159 val_main_v158 val_main_v155 val_main_v154 val_main_v151 val_main_v150 val_main_v147 val_main_v146 val_main_v143 val_main_v142 val_main_v139 val_main_v138 val_main_v135 val_main_v134 val_main_v131 val_main_v130 val_main_v127 val_main_v126 val_main_v123 val_main_v122 val_main_v119 val_main_v118 val_main_v115 val_main_v114 val_main_v111 val_main_v110 val_main_v107 val_main_v106 val_main_v103 val_main_v102 val_main_v99 val_main_v98 val_main_v95 val_main_v94 val_main_v91 val_main_v90 val_main_v87 val_main_v86 val_main_v83 val_main_v81 val_main_v78 val_main_v77
  generalize val_main_v74 x0 x1 x2 x6 = y at *
  pointwise [val_main_v325, val_main_v324, val_main_v321, val_main_v320, val_main_v317, val_main_v316, val_main_v313, val_main_v312, val_main_v309, val_main_v308, val_main_v305, val_main_v304, val_main_v301, val_main_v300, val_main_v297, val_main_v296, val_main_v293, val_main_v292, val_main_v289, val_main_v288, val_main_v285, val_main_v284, val_main_v281, val_main_v280, val_main_v277, val_main_v276, val_main_v273, val_main_v272, val_main_v269, val_main_v268, val_main_v265, val_main_v264, val_main_v261, val_main_v260, val_main_v257, val_main_v256, val_main_v253, val_main_v252, val_main_v249, val_main_v248, val_main_v245, val_main_v244, val_main_v241, val_main_v240, val_main_v237, val_main_v236, val_main_v233, val_main_v232, val_main_v229, val_main_v228, val_main_v225, val_main_v224, val_main_v221, val_main_v220, val_main_v217, val_main_v216, val_main_v213, val_main_v212, val_main_v209, val_main_v208, val_main_v205, val_main_v204, val_main_v201, val_main_v200, val_main_v197, val_main_v196, val_main_v193, val_main_v192, val_main_v189, val_main_v188, val_main_v185, val_main_v184, val_main_v181, val_main_v180, val_main_v177, val_main_v176, val_main_v173, val_main_v172, val_main_v169, val_main_v168, val_main_v165, val_main_v164, val_main_v161, val_main_v160, val_main_v157, val_main_v156, val_main_v153, val_main_v152, val_main_v149, val_main_v148, val_main_v145, val_main_v144, val_main_v141, val_main_v140, val_main_v137, val_main_v136, val_main_v133, val_main_v132, val_main_v129, val_main_v128, val_main_v125, val_main_v124, val_main_v121, val_main_v120, val_main_v117, val_main_v116, val_main_v113, val_main_v112, val_main_v109, val_main_v108, val_main_v105, val_main_v104, val_main_v101, val_main_v100, val_main_v97, val_main_v96, val_main_v93, val_main_v92, val_main_v89, val_main_v88, val_main_v85, val_main_v84, val_main_v82, val_main_cst_13, val_main_v80, val_main_v79, val_main_v76, val_main_v75]
  exact taps_right (x8 (ix1 c)) (fun j => x7 (ix2 j c) * y (ix3 r j c))

/-- The layer norm. -/
theorem lnorm_at (r : Fin 32) (c : Fin 512) :
    val_main_v348 x0 x1 x2 x6 x7 x8 x9 x10 (ix2 r c)
      = lnorm (fun c => val_main_v326 x0 x1 x2 x6 x7 x8 (ix2 r c)) (fun c => x9 (ix1 c)) (fun c => x10 (ix1 c)) c := by
  unfold val_main_v348 val_main_v345 val_main_v342 val_main_v341 val_main_v340 val_main_v339 val_main_v337 val_main_v335 val_main_v334 val_main_v333 val_main_v332 val_main_v331 val_main_v330 val_main_v328 val_main_v327
  generalize val_main_v326 x0 x1 x2 x6 x7 x8 = y at *
  pointwise [val_main_v347, val_main_v346, val_main_v344, val_main_v343, val_main_v338, val_main_cst_18, val_main_v336, val_main_cst_17, val_main_cst_16, val_main_v329, val_main_cst_15, val_main_cst_14]
  rfl

/-- The activation. -/
theorem act_at (r : Fin 32) (c : Fin 512) :
    val_main_v351 x0 x1 x2 x6 x7 x8 x9 x10 (ix2 r c)
      = act (val_main_v348 x0 x1 x2 x6 x7 x8 x9 x10 (ix2 r c)) := by
  unfold val_main_v351 val_main_v349 val_main_call0_v5 val_main_call0_v3 val_main_call0_v1 val_main_call0_v0
  generalize val_main_v348 x0 x1 x2 x6 x7 x8 x9 x10 = y at *
  pointwise [val_main_call0_v4, val_main_call0_cst_0, val_main_call0_v2, val_main_call0_cst]
  rfl

/-- The branch after its convolution. -/
theorem branch_at (r : Fin 32) (c : Fin 512) :
    val_main_v351 x0 x1 x2 x6 x7 x8 x9 x10 (ix2 r c) = branch (past x6 (gated x0 x1 x2 r) r) x7 x8 x9 x10 c := by
  rw [act_at, lnorm_at]
  refine congrArg (fun z => act (lnorm z _ _ c)) (funext fun e => ?_)
  rw [conv_at]
  exact congrArg (fun f => convolved f x7 x8 e) (funext fun j => funext fun c => full_at x0 x1 x2 x6 r j c)

end Cert.PreSampleRefIdeal.Value

end
-- ==== Proof.PreSamplePre.lean ====
/- The precondition of the sample group's first call: its rows, gains and weights are real numbers. -/
module

public import proofs.«01_k».proof.Proof.Gen.Pre_finite_pre_s
public import proofs.«01_k».proof.Proof.PostPre

@[expose] public section

noncomputable section

open Idealize.ShloMosaic Idealize.ShloMosaic.TcCoe Idealize.SL.Sem

namespace Cert.Pre_finite_pre_s

open Cert.Pre_finite_pre_s.Gen Cert.Pre_finite_memory

theorem real (a0 : FVec Ideal S32x1024 .f32) (a1 : FVec Ideal S1024 .f32) (a2 : FVec Ideal S1024x6144 .f32) (a3 : FVec Ideal S64 .f32) (a4 : FVec Ideal S64 .f32) (a5 : FVec Ideal S128 .f32) (a6 : FVec Ideal S32x30x512 .f32) (a7 : FVec Ideal S31x512 .f32) (a8 : FVec Ideal S512 .f32) (a9 : FVec Ideal S512 .f32) (a10 : FVec Ideal S512 .f32)
    (j : S_.Idx) (h : fn (F := Ideal) a0 a1 a2 a3 a4 a5 a6 a7 a8 a9 a10 j = 1#1) :
    (∀ i, ∃ a : ℝ, a0 i = (a : EReal)) ∧ (∀ i, ∃ a : ℝ, a1 i = (a : EReal)) ∧ (∀ i, ∃ a : ℝ, a2 i = (a : EReal)) := by
  obtain ⟨h01, h2⟩ := both _ _ h
  obtain ⟨h0, h1⟩ := both _ _ h01
  exact ⟨fun i => real_of_cmp (a0 i) (Host.reduce_andi_all _ _ _ _ j h0 i),
    fun i => real_of_cmp (a1 i) (Host.reduce_andi_all _ _ _ _ j h1 i),
    fun i => real_of_cmp (a2 i) (Host.reduce_andi_all _ _ _ _ j h2 i)⟩

end Cert.Pre_finite_pre_s

end
-- ==== Proof.PreSampleClaim.lean ====
/- The sample group's projections and their reference end with equal results. -/
module

public import proofs.«01_k».proof.Defs
public import proofs.«01_k».proof.Proof.PreSampleValue
public import proofs.«01_k».proof.Proof.PreSampleReference
public import proofs.«01_k».proof.Proof.PreSamplePre
public import proofs.«01_k».proof.Proof.MemKvClaim
public import proofs.«01_k».proof.Proof.Gen.PreSampleRefIdeal.Run
public import proofs.«01_k».proof.Proof.Gen.PreSampleRefIdeal.Read
public import Idealize.ShloMosaic.Lib.Claim

@[expose] public section

set_option maxHeartbeats 1000000
set_option maxRecDepth 16384

noncomputable section

open Idealize.ShloMosaic Idealize.ShloMosaic.TcCoe Idealize.SL.Sem

namespace Cert.Proof

variable (m : (ℓ : Loc PreSampleIdeal.nD PreSampleIdeal.τ PreSampleIdeal.sig) → Buf (Elt Ideal) ℓ) (c : Dev PreSampleIdeal.nD)

/-- The gated rows of the reference are the kernel's. -/
theorem presample_own {y0 y1 y2} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2)) :
    PreSampleRefIdeal.Read.val_main_v28 (F := Ideal) y0 y1 y2
      = (PreSampleIdeal.Gen.dats m 0 c).arrAt 13 (PreSampleIdeal.cfgs 0).N := by
  rw [e0, e1, e2]
  refine Eq.trans ?_ (Cert.PreSampleIdeal.Value.whole13 m c).symm
  funext j
  obtain ⟨r, k, rfl⟩ := row_col (a := 32) (b := 512) j
  exact Cert.PreSampleRefIdeal.Value.gated_at _ _ _ r k

/-- The queries of the reference are the kernel's. -/
theorem presample_queries {y0 y1 y2 y3} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2))
    (e3 : y3 = m ((c.tc : Thread PreSampleIdeal.nD PreSampleIdeal.τ).loc PreSampleIdeal.main_arg3))
    (h0 : ∀ x, ∃ a : ℝ, m ((c.tc : Thread PreSampleIdeal.nD PreSampleIdeal.τ).loc PreSampleIdeal.main_arg0) x = ((a : ℝ) : EReal))
    (h1 : ∀ x, ∃ a : ℝ, m ((c.tc : Thread PreSampleIdeal.nD PreSampleIdeal.τ).loc PreSampleIdeal.main_arg1) x = ((a : ℝ) : EReal))
    (h2 : ∀ x, ∃ a : ℝ, m ((c.tc : Thread PreSampleIdeal.nD PreSampleIdeal.τ).loc PreSampleIdeal.main_arg2) x = ((a : ℝ) : EReal)) :
    PreSampleRefIdeal.Read.val_main_v350 (F := Ideal) y0 y1 y2 y3
      = (PreSampleIdeal.Gen.dats m 0 c).arrAt 14 (PreSampleIdeal.cfgs 0).N := by
  rw [e0, e1, e2, e3]
  refine Eq.trans ?_ (Cert.PreSampleIdeal.Value.whole14 m c h0 h1 h2).symm
  funext j
  obtain ⟨r, k, rfl⟩ := row_col (a := 32) (b := 512) j
  exact Cert.PreSampleRefIdeal.Value.queries_at _ _ _ _ r k

/-- The keys of the reference are the kernel's. -/
theorem presample_keys {y0 y1 y2 y4} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2))
    (e4 : y4 = m ((c.tc : Thread PreSampleIdeal.nD PreSampleIdeal.τ).loc PreSampleIdeal.main_arg4))
    (h0 : ∀ x, ∃ a : ℝ, m ((c.tc : Thread PreSampleIdeal.nD PreSampleIdeal.τ).loc PreSampleIdeal.main_arg0) x = ((a : ℝ) : EReal))
    (h1 : ∀ x, ∃ a : ℝ, m ((c.tc : Thread PreSampleIdeal.nD PreSampleIdeal.τ).loc PreSampleIdeal.main_arg1) x = ((a : ℝ) : EReal))
    (h2 : ∀ x, ∃ a : ℝ, m ((c.tc : Thread PreSampleIdeal.nD PreSampleIdeal.τ).loc PreSampleIdeal.main_arg2) x = ((a : ℝ) : EReal)) :
    PreSampleRefIdeal.Read.val_main_v57 (F := Ideal) y0 y1 y2 y4
      = (PreSampleIdeal.Gen.dats m 0 c).arrAt 15 (PreSampleIdeal.cfgs 0).N := by
  rw [e0, e1, e2, e4]
  refine Eq.trans ?_ (Cert.PreSampleIdeal.Value.whole15 m c h0 h1 h2).symm
  funext j
  obtain ⟨r, k, rfl⟩ := row_col (a := 32) (b := 512) j
  exact Cert.PreSampleRefIdeal.Value.keys_at _ _ _ _ r k

/-- The values of the reference are the kernel's. -/
theorem presample_values {y0 y1 y2} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2)) :
    PreSampleRefIdeal.Read.val_main_v17 (F := Ideal) y0 y1 y2
      = (PreSampleIdeal.Gen.dats m 0 c).arrAt 16 (PreSampleIdeal.cfgs 0).N := by
  rw [e0, e1, e2]
  refine Eq.trans ?_ (Cert.PreSampleIdeal.Value.whole16 m c).symm
  funext j
  obtain ⟨r, k, rfl⟩ := row_col (a := 32) (b := 512) j
  exact Cert.PreSampleRefIdeal.Value.values_at _ _ _ r k

/-- The memory queries of the reference are the kernel's. -/
theorem presample_memory_queries {y0 y1 y2 y5} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2))
    (e5 : y5 = m ((c.tc : Thread PreSampleIdeal.nD PreSampleIdeal.τ).loc PreSampleIdeal.main_arg5))
    (h0 : ∀ x, ∃ a : ℝ, m ((c.tc : Thread PreSampleIdeal.nD PreSampleIdeal.τ).loc PreSampleIdeal.main_arg0) x = ((a : ℝ) : EReal))
    (h1 : ∀ x, ∃ a : ℝ, m ((c.tc : Thread PreSampleIdeal.nD PreSampleIdeal.τ).loc PreSampleIdeal.main_arg1) x = ((a : ℝ) : EReal))
    (h2 : ∀ x, ∃ a : ℝ, m ((c.tc : Thread PreSampleIdeal.nD PreSampleIdeal.τ).loc PreSampleIdeal.main_arg2) x = ((a : ℝ) : EReal)) :
    PreSampleRefIdeal.Read.val_main_v72 (F := Ideal) y0 y1 y2 y5
      = (PreSampleIdeal.Gen.dats m 0 c).arrAt 17 (PreSampleIdeal.cfgs 0).N := by
  rw [e0, e1, e2, e5]
  refine Eq.trans ?_ (Cert.PreSampleIdeal.Value.whole17 m c h0 h1 h2).symm
  funext j
  obtain ⟨r, k, rfl⟩ := row_col (a := 32) (b := 512) j
  exact Cert.PreSampleRefIdeal.Value.mq_at _ _ _ _ r k

/-- The gates' columns of the reference are the kernel's. -/
theorem presample_gates {y0 y1 y2} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2)) :
    PreSampleRefIdeal.Read.val_main_v19 (F := Ideal) y0 y1 y2
      = (PreSampleIdeal.Gen.dats m 0 c).arrAt 18 (PreSampleIdeal.cfgs 0).N := by
  rw [e0, e1, e2]
  refine Eq.trans ?_ (Cert.PreSampleIdeal.Value.whole18 m c).symm
  funext j
  obtain ⟨r, k, rfl⟩ := row_col (a := 32) (b := 3072) j
  exact Cert.PreSampleRefIdeal.Value.gates_at _ _ _ r k

/-- The convolved branches of the reference are the kernel's. -/
theorem presample_branches {y0 y1 y2 y6 y7 y8 y9 y10} (e0 : y0 = m ((c.tc : Thread PreSampleIdeal.nD PreSampleIdeal.τ).loc PreSampleIdeal.main_arg0))
    (e1 : y1 = m ((c.tc : Thread PreSampleIdeal.nD PreSampleIdeal.τ).loc PreSampleIdeal.main_arg1))
    (e2 : y2 = m ((c.tc : Thread PreSampleIdeal.nD PreSampleIdeal.τ).loc PreSampleIdeal.main_arg2))
    (e6 : y6 = m ((c.tc : Thread PreSampleIdeal.nD PreSampleIdeal.τ).loc PreSampleIdeal.main_arg6))
    (e7 : y7 = m ((c.tc : Thread PreSampleIdeal.nD PreSampleIdeal.τ).loc PreSampleIdeal.main_arg7))
    (e8 : y8 = m ((c.tc : Thread PreSampleIdeal.nD PreSampleIdeal.τ).loc PreSampleIdeal.main_arg8))
    (e9 : y9 = m ((c.tc : Thread PreSampleIdeal.nD PreSampleIdeal.τ).loc PreSampleIdeal.main_arg9))
    (e10 : y10 = m ((c.tc : Thread PreSampleIdeal.nD PreSampleIdeal.τ).loc PreSampleIdeal.main_arg10)) :
    PreSampleRefIdeal.Read.val_main_v351 (F := Ideal) y0 y1 y2 y6 y7 y8 y9 y10
      = (PreSampleIdeal.Gen.dats m 0 c).arrAt 19 (PreSampleIdeal.cfgs 0).N := by
  rw [e0, e1, e2, e6, e7, e8, e9, e10]
  refine Eq.trans ?_ (Cert.PreSampleIdeal.Value.whole19 m c).symm
  funext j
  obtain ⟨r, k, rfl⟩ := row_col (a := 32) (b := 512) j
  exact Cert.PreSampleRefIdeal.Value.branch_at _ _ _ _ _ _ _ _ r k

theorem presample_algebraic :
    Cert.algebraic_PreSampleIdeal_PreSampleRefIdeal_pre_finite_pre_s (hPreSampleIdeal := Cert.PreSampleIdeal.Gen.facts)
      (hPreSampleRefIdeal := Cert.PreSampleRefIdeal.Gen.facts) (hPre_finite_pre_s := Cert.Pre_finite_pre_s.Gen.facts) := by
  intro m g m' g' hpre hagree
  refine ⟨fun c => (PreSampleIdeal.Gen.dats m 0 c).arrAt 13 (PreSampleIdeal.cfgs 0).N,
    fun c => (PreSampleIdeal.Gen.dats m 0 c).arrAt 14 (PreSampleIdeal.cfgs 0).N,
    fun c => (PreSampleIdeal.Gen.dats m 0 c).arrAt 15 (PreSampleIdeal.cfgs 0).N,
    fun c => (PreSampleIdeal.Gen.dats m 0 c).arrAt 16 (PreSampleIdeal.cfgs 0).N,
    fun c => (PreSampleIdeal.Gen.dats m 0 c).arrAt 17 (PreSampleIdeal.cfgs 0).N,
    fun c => (PreSampleIdeal.Gen.dats m 0 c).arrAt 18 (PreSampleIdeal.cfgs 0).N,
    fun c => (PreSampleIdeal.Gen.dats m 0 c).arrAt 19 (PreSampleIdeal.cfgs 0).N, ?_, ?_⟩
  · refine θ_run_mono (θ_run_and (Cert.PreSampleIdeal.Gen.run_main m g) (Cert.PreSampleIdeal.Gen.unchanged m g)) ?_
    intro r hr c
    exact ⟨(hr.1 c).1 13, (hr.1 c).1 14, (hr.1 c).1 15, (hr.1 c).1 16, (hr.1 c).1 17, (hr.1 c).1 18, (hr.1 c).1 19, hr.2 c⟩
  · refine θ_run_mono (Cert.PreSampleRefIdeal.Value.run m' g') ?_
    intro r hr c
    obtain ⟨h0, h1, h2⟩ := Cert.Pre_finite_pre_s.real _ _ _ _ _ _ _ _ _ _ _ ValueIdx.ix0 (congrFun (hpre c) ValueIdx.ix0)
    obtain ⟨a0, a1, a2, a3, a4, a5, a6, a7, a8, a9, a10⟩ := hagree c
    obtain ⟨r0, r1, r2, r3, r4, r5, r6, s⟩ := hr c
    exact ⟨r0.trans ((Cert.PreSampleRefIdeal.Read.val_main_v28_eq _).trans (presample_own m c a0 a1 a2)),
      r1.trans ((Cert.PreSampleRefIdeal.Read.val_main_v350_eq _).trans (presample_queries m c a0 a1 a2 a3 h0 h1 h2)),
      r2.trans ((Cert.PreSampleRefIdeal.Read.val_main_v57_eq _).trans (presample_keys m c a0 a1 a2 a4 h0 h1 h2)),
      r3.trans ((Cert.PreSampleRefIdeal.Read.val_main_v17_eq _).trans (presample_values m c a0 a1 a2)),
      r4.trans ((Cert.PreSampleRefIdeal.Read.val_main_v72_eq _).trans (presample_memory_queries m c a0 a1 a2 a5 h0 h1 h2)),
      r5.trans ((Cert.PreSampleRefIdeal.Read.val_main_v19_eq _).trans (presample_gates m c a0 a1 a2)),
      r6.trans ((Cert.PreSampleRefIdeal.Read.val_main_v351_eq _).trans (presample_branches m c a0 a1 a2 a6 a7 a8 a9 a10)),
      s⟩

end Cert.Proof

end
-- ==== Proof.PostSampleSpec.lean ====
/- What the sample group's last call computes, for one row: the three projected branches are gated with the row's own gate
   columns and projected, the sum passes the feed-forward part, whose convolution takes its two earlier rows from the state. -/
module

public import proofs.«01_k».proof.Proof.FfnSpec
public import Idealize.ShloMosaic.Lib.Pointwise

@[expose] public section

noncomputable section

open Idealize.ShloMosaic Idealize.ShloMosaic.TcCoe Idealize.SL.Sem

namespace Cert.SampleRow

open Cert.Post Cert.FeedForward

/-- The gated sum of the three projected branches, from the gates' columns and their biases. -/
def merged (z b : Fin 3072 → EReal) (a₀ a₁ a₂ : Fin 512 → EReal) (w₀ w₁ w₂ : Fin 512 → Fin 1024 → EReal) (c : Fin 1024) : EReal :=
  sigma (z (gcol 0 c) + b (gcol 0 c)) * proj a₀ w₀ c + sigma (z (gcol 1 c) + b (gcol 1 c)) * proj a₁ w₁ c
    + sigma (z (gcol 2 c) + b (gcol 2 c)) * proj a₂ w₂ c

/-- The row with the mixer's part added. -/
def mixed (x : Fin 1024 → EReal) (z b : Fin 3072 → EReal) (a₀ a₁ a₂ : Fin 512 → EReal) (w₀ w₁ w₂ : Fin 512 → Fin 1024 → EReal)
    (wo : Fin 1024 → Fin 1024 → EReal) (c : Fin 1024) : EReal :=
  x c + ∑ e, merged z b a₀ a₁ a₂ w₀ w₁ w₂ e * wo e c

/-- The bias and the row's own tap first, as the kernel adds them. -/
theorem conv_last (w : Fin 3 → Fin 5632 → EReal) (b u₀ u₁ u₂ : Fin 5632 → EReal) (c : Fin 5632) :
    b c + w 2 c * u₂ c + w 0 c * u₀ c + w 1 c * u₁ c = conv w b u₀ u₁ u₂ c := by
  unfold conv
  rw [add_right_comm (b c), add_right_comm (b c + w 0 c * u₀ c)]

/-- Row `r` with the mixer's part added, from the arrays of the arguments. -/
def mixedRow (X0 : (⟨2, ![32, 1024]⟩ : Shape).Idx → EReal) (X1 X2 X3 : (⟨2, ![32, 512]⟩ : Shape).Idx → EReal)
    (X4 : (⟨2, ![32, 3072]⟩ : Shape).Idx → EReal) (X5 : (⟨1, ![3072]⟩ : Shape).Idx → EReal)
    (X6 X7 X8 : (⟨2, ![512, 1024]⟩ : Shape).Idx → EReal) (X9 : (⟨2, ![1024, 1024]⟩ : Shape).Idx → EReal) (r : Fin 32) :
    Fin 1024 → EReal :=
  mixed (fun c => X0 (ix2 r c)) (fun c => X4 (ix2 r c)) (fun c => X5 (ix1 c)) (fun c => X1 (ix2 r c)) (fun c => X2 (ix2 r c))
    (fun c => X3 (ix2 r c)) (fun k c => X6 (ix2 k c)) (fun k c => X7 (ix2 k c)) (fun k c => X8 (ix2 k c)) (fun k c => X9 (ix2 k c))

/-- A mixed row, normed and projected up. -/
def upRow (x : Fin 1024 → EReal) (X10 : (⟨1, ![1024]⟩ : Shape).Idx → EReal) (X11 : (⟨2, ![1024, 5632]⟩ : Shape).Idx → EReal) :
    Fin 5632 → EReal :=
  up x (fun c => X10 (ix1 c)) (fun k c => X11 (ix2 k c))

/-- Row `r` of the call's first result, from the mixed row and its projection. -/
def endRow (x : Fin 1024 → EReal) (u : Fin 5632 → EReal) (X12 : (⟨3, ![32, 2, 5632]⟩ : Shape).Idx → EReal)
    (X13 : (⟨2, ![3, 5632]⟩ : Shape).Idx → EReal) (X14 : (⟨1, ![5632]⟩ : Shape).Idx → EReal)
    (X15 : (⟨2, ![2816, 1024]⟩ : Shape).Idx → EReal) (r : Fin 32) : Fin 1024 → EReal :=
  down x (conv (fun j c => X13 (ix2 j c)) (fun c => X14 (ix1 c)) (fun c => X12 (ix3 r 0 c)) (fun c => X12 (ix3 r 1 c)) u)
    (fun k c => X15 (ix2 k c))

end Cert.SampleRow

end
-- ==== Proof.PostSampleBody.lean ====
/- The sample group's last call, value by value: each vector its body computes, read at a row and a column, is the plain
   formula of the rows it was given. -/
module

public import proofs.«01_k».proof.Proof.Gen.PostSampleIdeal.Skeleton
public import proofs.«01_k».proof.Proof.PostSampleSpec

@[expose] public section

set_option maxRecDepth 16384
set_option maxHeartbeats 1000000

noncomputable section

open Idealize.ShloMosaic Idealize.ShloMosaic.TcCoe Idealize.SL.Sem

namespace Cert.PostSampleIdeal.Value

open Cert.PostSampleIdeal Cert.PostSampleIdeal.Gen Cert.Post Cert.FeedForward

theorem proj1_at (a : Vec Ideal S32x512 .f32) (w : Vec Ideal S512x1024 .bf16) (r : Fin 32) (c : Fin 1024) :
    k0_pay2 (F := Ideal) a w (ix2 r c) = proj (fun k => a (ix2 r k)) (fun k c => w (ix2 k c)) c := by
  pointwise [k0_pay2]
  rfl
theorem proj2_at (a : Vec Ideal S32x512 .f32) (w : Vec Ideal S512x1024 .bf16) (r : Fin 32) (c : Fin 1024) :
    k0_pay3 (F := Ideal) a w (ix2 r c) = proj (fun k => a (ix2 r k)) (fun k c => w (ix2 k c)) c := by
  pointwise [k0_pay3]
  rfl

/-- The gates' columns with their biases. -/
theorem cols_at (z : Vec Ideal S32x3072 .f32) (b : Vec Ideal S1x3072 .f32) (r : Fin 32) (c : Fin 3072) :
    k0_pay4 (F := Ideal) z b (ix2 r c) = z (ix2 r c) + b (ix2 0 c) := by
  pointwise [k0_pay4]

theorem same_at (w : Vec Ideal S1024x1024 .bf16) (k c : Fin 1024) : k0_pay5 (F := Ideal) w (ix2 k c) = w (ix2 k c) := by
  pointwise [k0_pay5]

/-- The first branch, gated and projected. -/
theorem gate0_at (a : Vec Ideal S32x512 .bf16) (w : Vec Ideal S512x1024 .bf16) (z : Vec Ideal S32x3072 .f32)
    (b : Vec Ideal S1x3072 .f32) (r : Fin 32) (c : Fin 1024) :
    k0_pay6 (F := Ideal) a w z b (ix2 r c)
      = sigma (z (ix2 r (gcol 0 c)) + b (ix2 0 (gcol 0 c))) * proj (fun k => a (ix2 r k)) (fun k c => w (ix2 k c)) c := by
  have e : ∀ p : c.val < 3072, (⟨c.val, p⟩ : Fin 3072) = gcol 0 c := fun p => Fin.ext (show c.val = 1024 * 0 + c.val by omega)
  pointwise [k0_pay6, k0_pay4]
  simp only [zero_sub, e]
  rfl

theorem gate1_at (z : Vec Ideal S32x3072 .f32) (b : Vec Ideal S1x3072 .f32) (r : Fin 32) (c : Fin 1024) :
    k0_pay7 (F := Ideal) z b (ix2 r c) = z (ix2 r (gcol 1 c)) + b (ix2 0 (gcol 1 c)) := by
  pointwise [k0_pay7, k0_pay4]
  rfl

/-- The gated sum, projected and added to the row. -/
theorem mixed_at (x : Vec Ideal S32x1024 .f32) (v9 v14 : FVec Ideal S32x1024 .f32) (v19 : FVec Ideal S32x3072 .f32)
    (v21 : FVec Ideal S1024x1024 .bf16) (v30 v31 : FVec Ideal S32x1024 .f32) (r : Fin 32) (c : Fin 1024) :
    k0_pay9 (F := Ideal) x v9 v14 v19 v21 v30 v31 k0_pay8 (ix2 r c)
      = x (ix2 r c) + ∑ e, (v30 (ix2 r e) + sigma (v31 (ix2 r e)) * v9 (ix2 r e)
          + sigma (v19 (ix2 r (gcol 2 e))) * v14 (ix2 r e)) * v21 (ix2 e c) := by
  pointwise [k0_pay9, k0_pay8]
  simp only [zero_sub]
  rfl

/-- The mixed row, normed and projected up. -/
theorem up_at (x : Vec Ideal S32x1024 .f32) (v9 v14 : FVec Ideal S32x1024 .f32) (v19 : FVec Ideal S32x3072 .f32)
    (v21 : FVec Ideal S1024x1024 .bf16) (v30 v31 v32 : FVec Ideal S32x1024 .f32) (g : Vec Ideal S1x1024 .f32)
    (w : Vec Ideal S1024x5632 .bf16) (r : Fin 32) (c : Fin 5632) :
    k0_pay10 (F := Ideal) x v9 v14 v19 v21 v30 v31 v32 g w (ix2 r c)
      = up (fun c => k0_pay9 (F := Ideal) x v9 v14 v19 v21 v30 v31 v32 (ix2 r c)) (fun c => g (ix2 0 c)) (fun k c => w (ix2 k c)) c := by
  unfold k0_pay10
  generalize k0_pay9 (F := Ideal) x v9 v14 v19 v21 v30 v31 v32 = y
  pointwise
  rfl

/-- The convolved columns, gated, multiplied and projected down. -/
theorem down_at (x : FVec Ideal S32x1024 .f32) (u : FVec Ideal S32x5632 .f32) (b w2 w0 : Vec Ideal S1x5632 .f32)
    (s0 : Vec Ideal S1x32x5632 .f32) (w1 : Vec Ideal S1x5632 .f32) (s1 : Vec Ideal S1x32x5632 .f32)
    (w : Vec Ideal S2816x1024 .bf16) (r : Fin 32) (c : Fin 1024) :
    k0_pay1 (F := Ideal) x u b w2 w0 s0 w1 s1 w (ix2 r c)
      = down (fun c => x (ix2 r c)) (fun c => b (ix2 0 c) + w2 (ix2 0 c) * u (ix2 r c) + w0 (ix2 0 c) * s0 (ix3 0 r c)
          + w1 (ix2 0 c) * s1 (ix3 0 r c)) (fun k c => w (ix2 k c)) c := by
  have e : ∀ (k : Fin 2816) (p : k.val < 5632), (⟨k.val, p⟩ : Fin 5632) = left k := fun k p => rfl
  pointwise [k0_pay1]
  simp only [zero_sub, e]
  rfl

end Cert.PostSampleIdeal.Value

end
-- ==== Proof.PostSampleValue.lean ====
/- The arrays the sample group's last call leaves: every row is the plain formula of the rows of the arguments. -/
module

public import proofs.«01_k».proof.Proof.Gen.PostSampleIdeal.Frame
public import proofs.«01_k».proof.Proof.PostSampleBody
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.PostSampleIdeal.Value

open Cert.PostSampleIdeal Cert.PostSampleIdeal.Gen Cert.Post Cert.FeedForward Cert.SampleRow

section stores

variable (x0 : Vec Ideal S32x1024 .f32)
  (x1 : Vec Ideal S32x512 .bf16)
  (x2 : Vec Ideal S32x512 .f32)
  (x3 : Vec Ideal S32x512 .f32)
  (x4 : Vec Ideal S32x3072 .f32)
  (x5 : Vec Ideal S1x3072 .f32)
  (x6 : Vec Ideal S512x1024 .bf16)
  (x7 : Vec Ideal S512x1024 .bf16)
  (x8 : Vec Ideal S512x1024 .bf16)
  (x9 : Vec Ideal S1024x1024 .bf16)
  (x10 : Vec Ideal S1x1024 .f32)
  (x11 : Vec Ideal S1024x5632 .bf16)
  (x12 : Vec Ideal S2x32x5632 .f32)
  (x13 : Vec Ideal S3x5632 .f32)
  (x14 : Vec Ideal S1x5632 .f32)
  (x15 : Vec Ideal S2816x1024 .bf16)
  (r : Fin 32)

theorem w0_at (c : Fin 5632) : View.ld x13 r0_11 (ix2 0 c) = x13 (ix2 0 c) :=
  congrArg x13 (funext fun a => Fin.ext (by match a with | ⟨0, _⟩ => rfl | ⟨1, _⟩ => show 0 + 1 * c.val = c.val; omega))
theorem w1_at (c : Fin 5632) : View.ld x13 r0_13 (ix2 0 c) = x13 (ix2 1 c) :=
  congrArg x13 (funext fun a => Fin.ext (by match a with | ⟨0, _⟩ => rfl | ⟨1, _⟩ => show 0 + 1 * c.val = c.val; omega))
theorem w2_at (c : Fin 5632) : View.ld x13 r0_10 (ix2 0 c) = x13 (ix2 2 c) :=
  congrArg x13 (funext fun a => Fin.ext (by match a with | ⟨0, _⟩ => rfl | ⟨1, _⟩ => show 0 + 1 * c.val = c.val; omega))
theorem s0_at (c : Fin 5632) : View.ld x12 r0_12 (ix3 0 r c) = x12 (ix3 0 r c) :=
  congrArg x12 (funext fun a => Fin.ext (by match a with | ⟨0, _⟩ => rfl | ⟨1, _⟩ => show 0 + 1 * r.val = r.val; omega | ⟨2, _⟩ => show 0 + 1 * c.val = c.val; omega))
theorem s1_at (c : Fin 5632) : View.ld x12 r0_14 (ix3 0 r c) = x12 (ix3 1 r c) :=
  congrArg x12 (funext fun a => Fin.ext (by match a with | ⟨0, _⟩ => rfl | ⟨1, _⟩ => show 0 + 1 * r.val = r.val; omega | ⟨2, _⟩ => show 0 + 1 * c.val = c.val; omega))

/-- The mixed rows, from the blocks. -/
abbrev mid : Fin 1024 → EReal :=
  mixed (fun c => x0 (ix2 r c)) (fun c => x4 (ix2 r c)) (fun c => x5 (ix2 0 c)) (fun c => x1 (ix2 r c))
    (fun c => x2 (ix2 r c)) (fun c => x3 (ix2 r c)) (fun k c => x6 (ix2 k c)) (fun k c => x7 (ix2 k c)) (fun k c => x8 (ix2 k c))
    (fun k c => x9 (ix2 k c))

theorem mid_at (c : Fin 1024) :
    k0_pay9 (F := Ideal) x0 (k0_pay2 x2 x7) (k0_pay3 x3 x8) (k0_pay4 x4 x5) (k0_pay5 x9) (k0_pay6 x1 x6 x4 x5) (k0_pay7 x4 x5) k0_pay8 (ix2 r c)
      = mid x0 x1 x2 x3 x4 x5 x6 x7 x8 x9 r c := by
  refine (mixed_at _ _ _ _ _ _ _ r c).trans ?_
  simp only [proj1_at, proj2_at, cols_at, same_at, gate0_at, gate1_at]
  rfl

theorem out17_at (c : Fin 5632) :
    out0_17 (F := Ideal) x0 x1 x2 x3 x4 x5 x6 x7 x8 x9 x10 x11 x12 x13 x14 x15 (ix2 r c)
      = up (mid x0 x1 x2 x3 x4 x5 x6 x7 x8 x9 r) (fun c => x10 (ix2 0 c)) (fun k c => x11 (ix2 k c)) c := by
  frame_out
  unfold k0_pay11 k0_pay12 k0_pay13 k0_pay14 k0_pay15 k0_pay16 k0_pay17
  frame_out
  refine (up_at _ _ _ _ _ _ _ _ _ _ r c).trans ?_
  exact congrArg (fun z => up z (fun c => x10 (ix2 0 c)) (fun k c => x11 (ix2 k c)) c)
    (funext fun c => mid_at x0 x1 x2 x3 x4 x5 x6 x7 x8 x9 r c)

theorem out16_at (c : Fin 1024) :
    out0_16 (F := Ideal) x0 x1 x2 x3 x4 x5 x6 x7 x8 x9 x10 x11 x12 x13 x14 x15 (ix2 r c)
      = down (mid x0 x1 x2 x3 x4 x5 x6 x7 x8 x9 r)
          (conv (fun j c => x13 (ix2 j c)) (fun c => x14 (ix2 0 c)) (fun c => x12 (ix3 0 r c)) (fun c => x12 (ix3 1 r c))
            (up (mid x0 x1 x2 x3 x4 x5 x6 x7 x8 x9 r) (fun c => x10 (ix2 0 c)) (fun k c => x11 (ix2 k c))))
          (fun k c => x15 (ix2 k c)) c := by
  frame_out
  unfold k0_pay11 k0_pay12 k0_pay13 k0_pay14 k0_pay15 k0_pay16 k0_pay17
  frame_out
  refine (down_at _ _ _ _ _ _ _ _ _ r c).trans ?_
  have hm : (fun c => k0_pay9 (F := Ideal) x0 (k0_pay2 x2 x7) (k0_pay3 x3 x8) (k0_pay4 x4 x5) (k0_pay5 x9) (k0_pay6 x1 x6 x4 x5) (k0_pay7 x4 x5) k0_pay8 (ix2 r c)) = mid x0 x1 x2 x3 x4 x5 x6 x7 x8 x9 r :=
    funext fun c => mid_at x0 x1 x2 x3 x4 x5 x6 x7 x8 x9 r c
  refine congrArg₂ (fun a z => down a z (fun k c => x15 (ix2 k c)) c) hm (funext fun c => ?_)
  rw [w0_at, w1_at, w2_at, s0_at, s1_at, up_at, hm]
  exact conv_last (fun j c => x13 (ix2 j c)) (fun c => x14 (ix2 0 c)) (fun c => x12 (ix3 0 r c)) (fun c => x12 (ix3 1 r c))
    (up (mid x0 x1 x2 x3 x4 x5 x6 x7 x8 x9 r) (fun c => x10 (ix2 0 c)) (fun k c => x11 (ix2 k c))) c

end stores

variable (m : (ℓ : Loc nD τ sig) → Buf (Elt Ideal) ℓ)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

section blocks

variable (c : Dev nD) (t : Fin cfg0.N)

theorem block0 (r : Fin 32) (k : Fin 1024) : iblk m c 0 t (ix2 r k) = (m ((c : Thread nD τ).loc main_arg0) : Vec Ideal S32x1024 .f32) (ix2 r k) := by
  blk_ext [iblk, V, idx t]
theorem block1 (r : Fin 32) (k : Fin 512) : iblk m c 1 t (ix2 r k) = (m ((c : Thread nD τ).loc main_arg1) : Vec Ideal S32x512 .bf16) (ix2 r k) := by
  blk_ext [iblk, V, idx t]
theorem block2 (r : Fin 32) (k : Fin 512) : iblk m c 2 t (ix2 r k) = (m ((c : Thread nD τ).loc main_arg2) : Vec Ideal S32x512 .f32) (ix2 r k) := by
  blk_ext [iblk, V, idx t]
theorem block3 (r : Fin 32) (k : Fin 512) : iblk m c 3 t (ix2 r k) = (m ((c : Thread nD τ).loc main_arg3) : Vec Ideal S32x512 .f32) (ix2 r k) := by
  blk_ext [iblk, V, idx t]
theorem block4 (r : Fin 32) (k : Fin 3072) : iblk m c 4 t (ix2 r k) = (m ((c : Thread nD τ).loc main_arg4) : Vec Ideal S32x3072 .f32) (ix2 r k) := by
  blk_ext [iblk, V, idx t]
theorem block5 (k : Fin 3072) : iblk m c 5 t (ix2 0 k) = (m ((c : Thread nD τ).loc main_arg5) : Vec Ideal S3072 .f32) (ix1 k) := by
  blk_point [iblk, V, idx t]
theorem block6 (r : Fin 512) (k : Fin 1024) : iblk m c 6 t (ix2 r k) = (m ((c : Thread nD τ).loc main_arg6) : Vec Ideal S512x1024 .f32) (ix2 r k) := by
  blk_point [iblk, V, idx t]
theorem block7 (r : Fin 512) (k : Fin 1024) : iblk m c 7 t (ix2 r k) = (m ((c : Thread nD τ).loc main_arg7) : Vec Ideal S512x1024 .f32) (ix2 r k) := by
  blk_point [iblk, V, idx t]
theorem block8 (r : Fin 512) (k : Fin 1024) : iblk m c 8 t (ix2 r k) = (m ((c : Thread nD τ).loc main_arg8) : Vec Ideal S512x1024 .f32) (ix2 r k) := by
  blk_point [iblk, V, idx t]
theorem block9 (r : Fin 1024) (k : Fin 1024) : iblk m c 9 t (ix2 r k) = (m ((c : Thread nD τ).loc main_arg9) : Vec Ideal S1024x1024 .f32) (ix2 r k) := by
  blk_point [iblk, V, idx t]
theorem block10 (k : Fin 1024) : iblk m c 10 t (ix2 0 k) = (m ((c : Thread nD τ).loc main_arg10) : Vec Ideal S1024 .f32) (ix1 k) := by
  blk_point [iblk, V, idx t]
theorem block11 (r : Fin 1024) (k : Fin 5632) : iblk m c 11 t (ix2 r k) = (m ((c : Thread nD τ).loc main_arg11) : Vec Ideal S1024x5632 .f32) (ix2 r k) := by
  blk_point [iblk, V, idx t]
theorem block12 (j : Fin 2) (r : Fin 32) (k : Fin 5632) : iblk m c 12 t (ix3 j r k) = (m ((c : Thread nD τ).loc main_arg12) : Vec Ideal S32x2x5632 .f32) (ix3 r j k) := by
  blk_point [iblk, V, idx t]
theorem block13 (r : Fin 3) (k : Fin 5632) : iblk m c 13 t (ix2 r k) = (m ((c : Thread nD τ).loc main_arg13) : Vec Ideal S3x5632 .f32) (ix2 r k) := by
  blk_ext [iblk, V, idx t]
theorem block14 (k : Fin 5632) : iblk m c 14 t (ix2 0 k) = (m ((c : Thread nD τ).loc main_arg14) : Vec Ideal S5632 .f32) (ix1 k) := by
  blk_point [iblk, V, idx t]
theorem block15 (r : Fin 2816) (k : Fin 1024) : iblk m c 15 t (ix2 r k) = (m ((c : Thread nD τ).loc main_arg15) : Vec Ideal S2816x1024 .f32) (ix2 r k) := by
  blk_point [iblk, V, idx t]

end blocks

/-- The mixed rows of the arguments. -/
abbrev mids (c : Dev nD) (r : Fin 32) : Fin 1024 → EReal :=
  mixedRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r

/-- The projected rows' array and the call's first result. -/
abbrev ups (c : Dev nD) : Vec Ideal S32x5632 .f32 := fun j =>
  upRow (mids m c (j 0)) (m ((c : Thread nD τ).loc main_arg10)) (m ((c : Thread nD τ).loc main_arg11)) (j 1)
abbrev ends (c : Dev nD) : Vec Ideal S32x1024 .f32 := fun j =>
  endRow (mids m c (j 0)) (upRow (mids m c (j 0)) (m ((c : Thread nD τ).loc main_arg10)) (m ((c : Thread nD τ).loc main_arg11)))
    (m ((c : Thread nD τ).loc main_arg12)) (m ((c : Thread nD τ).loc main_arg13)) (m ((c : Thread nD τ).loc main_arg14)) (m ((c : Thread nD τ).loc main_arg15)) (j 0) (j 1)

section points

variable (c : Dev nD) (t : Fin cfg0.N)

theorem mid_eq (r : Fin 32) :
    mid (iblk m c 0 t) (iblk m c 1 t) (iblk m c 2 t) (iblk m c 3 t) (iblk m c 4 t) (iblk m c 5 t) (iblk m c 6 t) (iblk m c 7 t) (iblk m c 8 t) (iblk m c 9 t) r = mids m c r := by
  unfold mid mids mixedRow
  simp only [block0, block1, block2, block3, block4, block5, block6, block7, block8, block9]

theorem ups_point (r : Fin 32) (k : Fin 5632) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) = ups m c (ix2 r k) := by
  refine (out17_at _ _ _ _ _ _ _ _ _ _ _ _ _ _ _ _ r k).trans ?_
  show _ = upRow (mids m c r) _ _ k
  rw [mid_eq]
  unfold upRow
  simp only [block10, block11]

theorem ends_point (r : Fin 32) (k : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) = ends m c (ix2 r k) := by
  refine (out16_at _ _ _ _ _ _ _ _ _ _ _ _ _ _ _ _ r k).trans ?_
  show _ = endRow (mids m c r) (upRow (mids m c r) _ _) _ _ _ _ r k
  rw [mid_eq]
  unfold endRow upRow
  simp only [block10, block11, block12, block13, block14, block15]

end points

variable (c : Dev nD)

theorem whole16 : (dats m 0 c).arrAt 16 (cfgs 0).N = ends m c := by
  refine (dats m 0 c).arrAt_eq_of_covers 16 _ (by decide +kernel) fun t _ y => ?_
  blk_simp
  rw [after0_16]
  idx_vars y
  refine (ends_point m c t y0 y1).trans (congrArg (ends m c) (a₁ := ix2 y0 y1) ?_)
  blk_ext [idx t]
theorem whole17 : (dats m 0 c).arrAt 17 (cfgs 0).N = ups m c := by
  refine (dats m 0 c).arrAt_eq_of_covers 17 _ (by decide +kernel) fun t _ y => ?_
  blk_simp
  rw [after0_17]
  idx_vars y
  refine (ups_point m c t y0 y1).trans (congrArg (ups m c) (a₁ := ix2 y0 y1) ?_)
  blk_ext [idx t]

end Cert.PostSampleIdeal.Value

end
-- ==== Proof.PostSampleReference.lean ====
/- The reference of the sample group's last call: each of its arrays, read at a row, is the plain formula of that row. -/
module

public import proofs.«01_k».proof.Proof.Gen.PostSampleRefIdeal.Read
public import proofs.«01_k».proof.Proof.PostSampleSpec

@[expose] public section

set_option maxRecDepth 16384
set_option maxHeartbeats 1000000

noncomputable section

open Idealize.ShloMosaic Idealize.ShloMosaic.TcCoe Idealize.SL.Sem

namespace Cert.PostSampleRefIdeal.Value

open Cert.PostSampleRefIdeal Cert.PostSampleRefIdeal.Gen Cert.PostSampleRefIdeal.Read Cert.Post Cert.FeedForward Cert.SampleRow

variable (x0 : (⟨S32x1024, .f32⟩ : BufTy).Contents (Elt Ideal))
  (x1 : (⟨S32x512, .bf16⟩ : BufTy).Contents (Elt Ideal))
  (x2 : (⟨S32x512, .f32⟩ : BufTy).Contents (Elt Ideal))
  (x3 : (⟨S32x512, .f32⟩ : BufTy).Contents (Elt Ideal))
  (x4 : (⟨S32x3072, .f32⟩ : BufTy).Contents (Elt Ideal))
  (x5 : (⟨S3072, .f32⟩ : BufTy).Contents (Elt Ideal))
  (x6 : (⟨S512x1024, .f32⟩ : BufTy).Contents (Elt Ideal))
  (x7 : (⟨S512x1024, .f32⟩ : BufTy).Contents (Elt Ideal))
  (x8 : (⟨S512x1024, .f32⟩ : BufTy).Contents (Elt Ideal))
  (x9 : (⟨S1024x1024, .f32⟩ : BufTy).Contents (Elt Ideal))
  (x10 : (⟨S1024, .f32⟩ : BufTy).Contents (Elt Ideal))
  (x11 : (⟨S1024x5632, .f32⟩ : BufTy).Contents (Elt Ideal))
  (x12 : (⟨S32x2x5632, .f32⟩ : BufTy).Contents (Elt Ideal))
  (x13 : (⟨S3x5632, .f32⟩ : BufTy).Contents (Elt Ideal))
  (x14 : (⟨S5632, .f32⟩ : BufTy).Contents (Elt Ideal))
  (x15 : (⟨S2816x1024, .f32⟩ : BufTy).Contents (Elt Ideal))

/-- The three gates of a row. -/
theorem gates_at (r : Fin 32) (j : Fin 3) (c : Fin 1024) :
    val_main_v13 (F := Ideal) x4 x5 (ix3 r j c) = sigma (x4 (ix2 r (gcol j c)) + x5 (ix1 (gcol j c))) := by
  pointwise [val_main_v13, val_main_v12, val_main_v11, val_main_v10, val_main_v9, val_main_v8, val_main_v7, val_main_v6, val_main_v5, val_main_v4, val_main_cst_0, val_main_cst]
  have e : ∀ p : j.val * 1024 + c.val < 3072, (⟨j.val * 1024 + c.val, p⟩ : Fin 3072) = gcol j c := fun p =>
    Fin.ext (show j.val * 1024 + c.val = 1024 * j.val + c.val by omega)
  simp only [e]
  rfl

/-- A mixed row. -/
theorem mixed_at (r : Fin 32) (c : Fin 1024) :
    val_main_v26 (F := Ideal) x0 x1 x2 x3 x4 x5 x6 x7 x8 x9 (ix2 r c) = mixedRow x0 x1 x2 x3 x4 x5 x6 x7 x8 x9 r c := by
  have h := gates_at x4 x5 r
  unfold val_main_v26 val_main_v25 val_main_v24 val_main_v23 val_main_v22 val_main_v21 val_main_v20 val_main_v19 val_main_v18 val_main_v17 val_main_v16 val_main_v15 val_main_v14
  generalize val_main_v13 (F := Ideal) x4 x5 = y at *
  pointwise [val_main_v3, val_main_v2, val_main_v1, val_main_v0]
  simp only [h]
  rfl

/-- A projected row. -/
theorem up_at (r : Fin 32) (c : Fin 5632) :
    val_main_v40 (F := Ideal) x0 x1 x2 x3 x4 x5 x6 x7 x8 x9 x10 x11 (ix2 r c)
      = upRow (mixedRow x0 x1 x2 x3 x4 x5 x6 x7 x8 x9 r) x10 x11 c := by
  have h := mixed_at x0 x1 x2 x3 x4 x5 x6 x7 x8 x9 r
  unfold val_main_v40 val_main_v39 val_main_v36 val_main_v35 val_main_v34 val_main_v33 val_main_v31 val_main_v29 val_main_v28 val_main_v27
  generalize val_main_v26 (F := Ideal) x0 x1 x2 x3 x4 x5 x6 x7 x8 x9 = y at *
  pointwise [val_main_v38, val_main_v37, val_main_v32, val_main_v30, val_main_cst_1, val_main_cst_2, val_main_cst_3]
  simp only [h]
  rfl

/-- The state's rows, then the projected row. -/
theorem full_at (r : Fin 32) (j : Fin 3) (c : Fin 5632) :
    val_main_v42 (F := Ideal) x0 x1 x2 x3 x4 x5 x6 x7 x8 x9 x10 x11 x12 (ix3 r j c)
      = if h : j.val < 2 then x12 (ix3 r ⟨j.val, h⟩ c)
        else upRow (mixedRow x0 x1 x2 x3 x4 x5 x6 x7 x8 x9 r) x10 x11 c := by
  have h := up_at x0 x1 x2 x3 x4 x5 x6 x7 x8 x9 x10 x11 r
  unfold val_main_v42 val_main_v41
  generalize val_main_v40 (F := Ideal) x0 x1 x2 x3 x4 x5 x6 x7 x8 x9 x10 x11 = y at *
  pointwise
  simp only [h]

/-- A convolved row. -/
theorem conv_at (r : Fin 32) (c : Fin 5632) :
    val_main_v49 (F := Ideal) x0 x1 x2 x3 x4 x5 x6 x7 x8 x9 x10 x11 x12 x13 x14 (ix2 r c)
      = conv (fun j c => x13 (ix2 j c)) (fun c => x14 (ix1 c)) (fun c => x12 (ix3 r 0 c)) (fun c => x12 (ix3 r 1 c))
          (upRow (mixedRow x0 x1 x2 x3 x4 x5 x6 x7 x8 x9 r) x10 x11) c := by
  have h0 := (full_at x0 x1 x2 x3 x4 x5 x6 x7 x8 x9 x10 x11 x12 r 0 c).trans (dif_pos (by decide))
  have h1 := (full_at x0 x1 x2 x3 x4 x5 x6 x7 x8 x9 x10 x11 x12 r 1 c).trans (dif_pos (by decide))
  have h2 := (full_at x0 x1 x2 x3 x4 x5 x6 x7 x8 x9 x10 x11 x12 r 2 c).trans (dif_neg (by decide))
  unfold val_main_v49 val_main_v46 val_main_v45
  generalize val_main_v42 (F := Ideal) x0 x1 x2 x3 x4 x5 x6 x7 x8 x9 x10 x11 x12 = y at *
  pointwise [val_main_v48, val_main_v47, val_main_v44, val_main_v43, val_main_cst_4]
  refine Eq.trans ?_ (show x14 (ix1 c) + ∑ j : Fin 3, x13 (ix2 j c) * y (ix3 r j c) = _ from ?_)
  · rfl
  · rw [Fin.sum_univ_three, h0, h1, h2, ← add_assoc, ← add_assoc]
    rfl

/-- The gated product of the two halves. -/
theorem act_at (r : Fin 32) (e : Fin 2816) :
    val_main_v53 (F := Ideal) x0 x1 x2 x3 x4 x5 x6 x7 x8 x9 x10 x11 x12 x13 x14 (ix2 r e)
      = act (conv (fun j c => x13 (ix2 j c)) (fun c => x14 (ix1 c)) (fun c => x12 (ix3 r 0 c)) (fun c => x12 (ix3 r 1 c))
          (upRow (mixedRow x0 x1 x2 x3 x4 x5 x6 x7 x8 x9 r) x10 x11)) e := by
  have h := conv_at x0 x1 x2 x3 x4 x5 x6 x7 x8 x9 x10 x11 x12 x13 x14 r
  unfold val_main_v53 val_main_v52 val_main_call0_v5 val_main_call0_v3 val_main_call0_v1 val_main_call0_v0 val_main_v51
    val_main_v50
  generalize val_main_v49 (F := Ideal) x0 x1 x2 x3 x4 x5 x6 x7 x8 x9 x10 x11 x12 x13 x14 = y at *
  pointwise [val_main_call0_v4, val_main_call0_cst_0, val_main_call0_v2, val_main_call0_cst]
  simp only [h]
  rfl

/-- The first result. -/
theorem end_at (r : Fin 32) (c : Fin 1024) :
    val_main_v55 (F := Ideal) x0 x1 x2 x3 x4 x5 x6 x7 x8 x9 x10 x11 x12 x13 x14 x15 (ix2 r c)
      = endRow (mixedRow x0 x1 x2 x3 x4 x5 x6 x7 x8 x9 r) (upRow (mixedRow x0 x1 x2 x3 x4 x5 x6 x7 x8 x9 r) x10 x11)
          x12 x13 x14 x15 r c := by
  have h := act_at x0 x1 x2 x3 x4 x5 x6 x7 x8 x9 x10 x11 x12 x13 x14 r
  have h' := mixed_at x0 x1 x2 x3 x4 x5 x6 x7 x8 x9 r
  unfold val_main_v55 val_main_v54
  generalize val_main_v53 (F := Ideal) x0 x1 x2 x3 x4 x5 x6 x7 x8 x9 x10 x11 x12 x13 x14 = y at *
  generalize val_main_v26 (F := Ideal) x0 x1 x2 x3 x4 x5 x6 x7 x8 x9 = z at *
  pointwise
  simp only [h, h']
  rfl

end Cert.PostSampleRefIdeal.Value

end
-- ==== Proof.PostSampleClaim.lean ====
/- The sample group's last call and its reference end with equal results. -/
module

public import proofs.«01_k».proof.Defs
public import proofs.«01_k».proof.Proof.PostSampleValue
public import proofs.«01_k».proof.Proof.PostSampleReference
public import proofs.«01_k».proof.Proof.MemKvClaim
public import proofs.«01_k».proof.Proof.Gen.PostSampleRefIdeal.Run
public import proofs.«01_k».proof.Proof.Gen.PostSampleRefIdeal.Read
public import Idealize.ShloMosaic.Lib.Claim

@[expose] public section

set_option maxHeartbeats 1000000
set_option maxRecDepth 16384

noncomputable section

open Idealize.ShloMosaic Idealize.ShloMosaic.TcCoe Idealize.SL.Sem

namespace Cert.Proof

variable (m : (ℓ : Loc PostSampleIdeal.nD PostSampleIdeal.τ PostSampleIdeal.sig) → Buf (Elt Ideal) ℓ) (c : Dev PostSampleIdeal.nD)

/-- The last rows of the reference are the kernel's. -/
theorem postsample_rows {y0 y1 y2 y3 y4 y5 y6 y7 y8 y9 y10 y11 y12 y13 y14 y15} (e0 : y0 = m ((c.tc : Thread PostSampleIdeal.nD PostSampleIdeal.τ).loc PostSampleIdeal.main_arg0))
    (e1 : y1 = m ((c.tc : Thread PostSampleIdeal.nD PostSampleIdeal.τ).loc PostSampleIdeal.main_arg1))
    (e2 : y2 = m ((c.tc : Thread PostSampleIdeal.nD PostSampleIdeal.τ).loc PostSampleIdeal.main_arg2))
    (e3 : y3 = m ((c.tc : Thread PostSampleIdeal.nD PostSampleIdeal.τ).loc PostSampleIdeal.main_arg3))
    (e4 : y4 = m ((c.tc : Thread PostSampleIdeal.nD PostSampleIdeal.τ).loc PostSampleIdeal.main_arg4))
    (e5 : y5 = m ((c.tc : Thread PostSampleIdeal.nD PostSampleIdeal.τ).loc PostSampleIdeal.main_arg5))
    (e6 : y6 = m ((c.tc : Thread PostSampleIdeal.nD PostSampleIdeal.τ).loc PostSampleIdeal.main_arg6))
    (e7 : y7 = m ((c.tc : Thread PostSampleIdeal.nD PostSampleIdeal.τ).loc PostSampleIdeal.main_arg7))
    (e8 : y8 = m ((c.tc : Thread PostSampleIdeal.nD PostSampleIdeal.τ).loc PostSampleIdeal.main_arg8))
    (e9 : y9 = m ((c.tc : Thread PostSampleIdeal.nD PostSampleIdeal.τ).loc PostSampleIdeal.main_arg9))
    (e10 : y10 = m ((c.tc : Thread PostSampleIdeal.nD PostSampleIdeal.τ).loc PostSampleIdeal.main_arg10))
    (e11 : y11 = m ((c.tc : Thread PostSampleIdeal.nD PostSampleIdeal.τ).loc PostSampleIdeal.main_arg11))
    (e12 : y12 = m ((c.tc : Thread PostSampleIdeal.nD PostSampleIdeal.τ).loc PostSampleIdeal.main_arg12))
    (e13 : y13 = m ((c.tc : Thread PostSampleIdeal.nD PostSampleIdeal.τ).loc PostSampleIdeal.main_arg13))
    (e14 : y14 = m ((c.tc : Thread PostSampleIdeal.nD PostSampleIdeal.τ).loc PostSampleIdeal.main_arg14))
    (e15 : y15 = m ((c.tc : Thread PostSampleIdeal.nD PostSampleIdeal.τ).loc PostSampleIdeal.main_arg15)) :
    PostSampleRefIdeal.Read.val_main_v55 (F := Ideal) y0 y1 y2 y3 y4 y5 y6 y7 y8 y9 y10 y11 y12 y13 y14 y15
      = (PostSampleIdeal.Gen.dats m 0 c).arrAt 16 (PostSampleIdeal.cfgs 0).N := by
  rw [e0, e1, e2, e3, e4, e5, e6, e7, e8, e9, e10, e11, e12, e13, e14, e15]
  refine Eq.trans ?_ (Cert.PostSampleIdeal.Value.whole16 m c).symm
  funext j
  obtain ⟨r, k, rfl⟩ := row_col (a := 32) (b := 1024) j
  exact Cert.PostSampleRefIdeal.Value.end_at _ _ _ _ _ _ _ _ _ _ _ _ _ _ _ _ r k

/-- The projected rows of the reference are the kernel's. -/
theorem postsample_ups {y0 y1 y2 y3 y4 y5 y6 y7 y8 y9 y10 y11} (e0 : y0 = m ((c.tc : Thread PostSampleIdeal.nD PostSampleIdeal.τ).loc PostSampleIdeal.main_arg0))
    (e1 : y1 = m ((c.tc : Thread PostSampleIdeal.nD PostSampleIdeal.τ).loc PostSampleIdeal.main_arg1))
    (e2 : y2 = m ((c.tc : Thread PostSampleIdeal.nD PostSampleIdeal.τ).loc PostSampleIdeal.main_arg2))
    (e3 : y3 = m ((c.tc : Thread PostSampleIdeal.nD PostSampleIdeal.τ).loc PostSampleIdeal.main_arg3))
    (e4 : y4 = m ((c.tc : Thread PostSampleIdeal.nD PostSampleIdeal.τ).loc PostSampleIdeal.main_arg4))
    (e5 : y5 = m ((c.tc : Thread PostSampleIdeal.nD PostSampleIdeal.τ).loc PostSampleIdeal.main_arg5))
    (e6 : y6 = m ((c.tc : Thread PostSampleIdeal.nD PostSampleIdeal.τ).loc PostSampleIdeal.main_arg6))
    (e7 : y7 = m ((c.tc : Thread PostSampleIdeal.nD PostSampleIdeal.τ).loc PostSampleIdeal.main_arg7))
    (e8 : y8 = m ((c.tc : Thread PostSampleIdeal.nD PostSampleIdeal.τ).loc PostSampleIdeal.main_arg8))
    (e9 : y9 = m ((c.tc : Thread PostSampleIdeal.nD PostSampleIdeal.τ).loc PostSampleIdeal.main_arg9))
    (e10 : y10 = m ((c.tc : Thread PostSampleIdeal.nD PostSampleIdeal.τ).loc PostSampleIdeal.main_arg10))
    (e11 : y11 = m ((c.tc : Thread PostSampleIdeal.nD PostSampleIdeal.τ).loc PostSampleIdeal.main_arg11)) :
    PostSampleRefIdeal.Read.val_main_v40 (F := Ideal) y0 y1 y2 y3 y4 y5 y6 y7 y8 y9 y10 y11
      = (PostSampleIdeal.Gen.dats m 0 c).arrAt 17 (PostSampleIdeal.cfgs 0).N := by
  rw [e0, e1, e2, e3, e4, e5, e6, e7, e8, e9, e10, e11]
  refine Eq.trans ?_ (Cert.PostSampleIdeal.Value.whole17 m c).symm
  funext j
  obtain ⟨r, k, rfl⟩ := row_col (a := 32) (b := 5632) j
  exact Cert.PostSampleRefIdeal.Value.up_at _ _ _ _ _ _ _ _ _ _ _ _ r k

theorem postsample_algebraic :
    Cert.algebraic_PostSampleIdeal_PostSampleRefIdeal (hPostSampleIdeal := Cert.PostSampleIdeal.Gen.facts)
      (hPostSampleRefIdeal := Cert.PostSampleRefIdeal.Gen.facts) := by
  intro m g m' g' _ hagree
  refine ⟨fun c => (PostSampleIdeal.Gen.dats m 0 c).arrAt 16 (PostSampleIdeal.cfgs 0).N,
    fun c => (PostSampleIdeal.Gen.dats m 0 c).arrAt 17 (PostSampleIdeal.cfgs 0).N, ?_, ?_⟩
  · refine θ_run_mono (θ_run_and (Cert.PostSampleIdeal.Gen.run_main m g) (Cert.PostSampleIdeal.Gen.unchanged m g)) ?_
    intro r hr c
    exact ⟨(hr.1 c).1 16, (hr.1 c).1 17, hr.2 c⟩
  · refine θ_run_mono (Cert.PostSampleRefIdeal.Value.run m' g') ?_
    intro r hr c
    obtain ⟨a0, a1, a2, a3, a4, a5, a6, a7, a8, a9, a10, a11, a12, a13, a14, a15⟩ := hagree c
    obtain ⟨r0, r1, s⟩ := hr c
    exact ⟨r0.trans ((Cert.PostSampleRefIdeal.Read.val_main_v55_eq _ _).trans (postsample_rows m c a0 a1 a2 a3 a4 a5 a6 a7 a8 a9 a10 a11 a12 a13 a14 a15)),
      r1.trans ((Cert.PostSampleRefIdeal.Read.val_main_v40_eq _ _).trans (postsample_ups m c a0 a1 a2 a3 a4 a5 a6 a7 a8 a9 a10 a11)),
      s⟩

end Cert.Proof

end
-- ==== Proof.SampleMemoryBody.lean ====
/- The body of the sample group's memory attention, value by value: each head of its row is the softmax average of
   `PostSpec`, of the queries and the memory rows it was given. -/
module

public import proofs.«01_k».proof.Proof.Gen.SampleMemoryIdeal.Skeleton
public import proofs.«01_k».proof.Proof.PostSpec
public import Idealize.ShloMosaic.Lib.Pointwise

@[expose] public section

set_option maxRecDepth 16384

noncomputable section

open Idealize.ShloMosaic Idealize.ShloMosaic.TcCoe Idealize.SL.Sem

namespace Cert.SampleMemoryIdeal.Value

open Cert.SampleMemoryIdeal Cert.SampleMemoryIdeal.Gen Cert.Softmax Cert.Post

/-- The query row, repeated over eight rows. -/
theorem query_at (x : Vec Ideal S1x1x512 .f32) (r : Fin 8) (c : Fin 512) :
    k0_pay2 (F := Ideal) x (ix2 r c) = x (ix3 0 0 c) := by
  pointwise [k0_pay2]

/-- The memory's keys and values. -/
theorem key_at (x : Vec Ideal S1x256x512 .f32) (i : Fin 256) (c : Fin 512) :
    k0_pay3 (F := Ideal) x (ix2 i c) = x (ix3 0 i c) := by
  pointwise [k0_pay3]

theorem value_at (x : Vec Ideal S1x256x512 .f32) (i : Fin 256) (c : Fin 512) :
    k0_pay4 (F := Ideal) x (ix2 i c) = x (ix3 0 i c) := by
  pointwise [k0_pay4]

section heads

variable (x0 : Vec Ideal S1x1x512 .f32) (x1 x2 : Vec Ideal S1x256x512 .f32)

/-- The scores of the query row in one head. -/
abbrev scores (h : Fin 4) : Fin 256 → EReal :=
  score (fun c => x0 (ix3 0 0 c)) (fun i c => x1 (ix3 0 i c)) (col h)

theorem col0 (d : Fin 128) (h : d.val < 512) : (⟨d.val, h⟩ : Fin 512) = col 0 d :=
  Fin.ext (show d.val = 128 * 0 + d.val by omega)

variable (hq : ∀ c, ∃ a : ℝ, x0 (ix3 0 0 c) = (a : EReal)) (hk : ∀ i c, ∃ a : ℝ, x1 (ix3 0 i c) = (a : EReal))

include hq hk

theorem scores_real (h : Fin 4) (i : Fin 256) : ∃ a : ℝ, scores x0 x1 h i = (a : EReal) :=
  score_real _ _ _ (fun c => hq c) hk i

/-- The first head, of every row. -/
theorem head0_at (r : Fin 8) (d : Fin 128) :
    k0_pay5 (F := Ideal) x0 x1 x2 (ix2 r d) = attn (scores x0 x1 0) (fun i => x2 (ix3 0 i (col 0 d))) := by
  rw [← attn_max _ _ (scores_real x0 x1 hq hk 0)]
  unfold k0_pay5
  have hQ := query_at x0
  have hK := key_at x1
  have hV := value_at x2
  generalize k0_pay2 (F := Ideal) x0 = q at *
  generalize k0_pay3 (F := Ideal) x1 = k at *
  generalize k0_pay4 (F := Ideal) x2 = v at *
  pointwise
  simp only [hQ, hK, hV, col0]
  rfl

/-- The column `c` of a head is the attention's column. -/
theorem memory_col (h : Fin 4) (d : Fin 128) (c : Fin 512) (e : c.val = 128 * h.val + d.val) :
    attn (scores x0 x1 h) (fun i => x2 (ix3 0 i (col h d)))
      = memory (fun c => x0 (ix3 0 0 c)) (fun i c => x1 (ix3 0 i c)) (fun i c => x2 (ix3 0 i c)) c := by
  have e1 : col h d = c := Fin.ext e.symm
  have e2 : head c = h := Fin.ext (show c.val / 128 = h.val by omega)
  rw [memory, e2, e1]

/-- The row the body stores. -/
theorem row_at (c : Fin 512) :
    k0_pay1 (F := Ideal) (k0_pay2 x0) (k0_pay3 x1) (k0_pay4 x2) (k0_pay5 x0 x1 x2) (k0_pay7 x0 x1) (k0_pay8 x0 x1) (ix3 0 0 c)
      = memory (fun c => x0 (ix3 0 0 c)) (fun i c => x1 (ix3 0 i c)) (fun i c => x2 (ix3 0 i c)) c := by
  have hH := head0_at x0 x1 x2 hq hk
  have hQ := query_at x0
  have hK := key_at x1
  have hV := value_at x2
  unfold k0_pay7 k0_pay8 k0_pay6
  generalize k0_pay5 (F := Ideal) x0 x1 x2 = p at *
  generalize k0_pay2 (F := Ideal) x0 = q at *
  generalize k0_pay3 (F := Ideal) x1 = k at *
  generalize k0_pay4 (F := Ideal) x2 = v at *
  pointwise [k0_pay1]
  simp only [hQ, hK, hV]
  by_cases e0 : c.val < 128
  · rw [dif_pos e0, hH]
    exact memory_col x0 x1 x2 hq hk 0 ⟨c.val, e0⟩ c (show c.val = 128 * 0 + c.val by omega)
  rw [dif_neg e0]
  by_cases e1 : c.val - 128 < 128
  · rw [dif_pos e1]
    refine Eq.trans ?_ (memory_col x0 x1 x2 hq hk 1 ⟨c.val - 128, e1⟩ c (show c.val = 128 * 1 + (c.val - 128) by omega))
    rw [← attn_max _ _ (scores_real x0 x1 hq hk 1)]
    rfl
  rw [dif_neg e1]
  by_cases e2 : c.val - 128 - 128 < 128
  · rw [dif_pos e2]
    refine Eq.trans ?_ (memory_col x0 x1 x2 hq hk 2 ⟨c.val - 128 - 128, e2⟩ c
      (show c.val = 128 * 2 + (c.val - 128 - 128) by omega))
    rw [← attn_max _ _ (scores_real x0 x1 hq hk 2)]
    rfl
  rw [dif_neg e2]
  refine Eq.trans ?_ (memory_col x0 x1 x2 hq hk 3 ⟨c.val - 128 - 128 - 128, by omega⟩ c
    (show c.val = 128 * 3 + (c.val - 128 - 128 - 128) by omega))
  rw [← attn_max _ _ (scores_real x0 x1 hq hk 3)]
  rfl

end heads

end Cert.SampleMemoryIdeal.Value

end
-- ==== Proof.SampleMemorySpec.lean ====
/- The rows of the sample group's memory: a sequence's memory row is kept as four heads of 128 columns, and read here as
   one row of 512 columns. -/
module

public import proofs.«01_k».proof.Proof.PostSpec
public import Idealize.ShloMosaic.Lib.Pointwise

@[expose] public section

noncomputable section

namespace Cert.SampleMemory

open Idealize.ShloMosaic Idealize.ShloMosaic.TcCoe Idealize.SL.Sem Cert.Post

/-- A column's place in its head. -/
def place (c : Fin 512) : Fin 128 := ⟨c.val % 128, by omega⟩

/-- Memory row `i` of sequence `b`, over all columns. -/
def flat (x : (∀ a : Fin 4, Fin (![32, 256, 4, 128] a)) → EReal) (b : Fin 32) (i : Fin 256) (c : Fin 512) : EReal :=
  x (ix4 b i (head c) (place c))

theorem flat_col (x : (∀ a : Fin 4, Fin (![32, 256, 4, 128] a)) → EReal) (b : Fin 32) (i : Fin 256) (h : Fin 4) (d : Fin 128) :
    flat x b i (col h d) = x (ix4 b i h d) := by
  have e1 : head (col h d) = h := Fin.ext (show (128 * h.val + d.val) / 128 = h.val by omega)
  have e2 : place (col h d) = d := Fin.ext (show (128 * h.val + d.val) % 128 = d.val by omega)
  rw [flat, e1, e2]

end Cert.SampleMemory

end
-- ==== Proof.SampleMemoryValue.lean ====
/- The sample group's memory attention's result array: every row is the softmax average of `PostSpec`, of its sequence's
   queries and memory. -/
module

public import proofs.«01_k».proof.Proof.Gen.SampleMemoryIdeal.Value
public import proofs.«01_k».proof.Proof.SampleMemoryBody
public import proofs.«01_k».proof.Proof.SampleMemorySpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleMemoryIdeal.Value

open Cert.SampleMemoryIdeal Cert.SampleMemoryIdeal.Gen Cert.Softmax Cert.Post
open Cert.SampleMemory (place flat)

/-- What the body stores, of the blocks it was given. -/
theorem body_at (x0 : Vec Ideal S1x1x512 .f32) (x1 x2 : Vec Ideal S1x256x512 .f32)
    (hq : ∀ c, ∃ a : ℝ, x0 (ix3 0 0 c) = (a : EReal)) (hk : ∀ i c, ∃ a : ℝ, x1 (ix3 0 i c) = (a : EReal)) (c : Fin 512) :
    out0_3 (F := Ideal) x0 x1 x2 (ix3 0 0 c)
      = memory (fun c => x0 (ix3 0 0 c)) (fun i c => x1 (ix3 0 i c)) (fun i c => x2 (ix3 0 i c)) c := by
  frame_out
  exact row_at x0 x1 x2 hq hk c

variable (m : (ℓ : Loc nD τ sig) → Buf (Elt Ideal) ℓ)

theorem idx : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- A row of the result's array, from the arrays of the arguments. -/
def rowOf (X0 : Vec Ideal S32x512 .f32) (X1 X2 : Vec Ideal S32x256x4x128 .f32) (b : Fin 32) (c : Fin 512) : EReal :=
  memory (fun c => X0 (ix2 b c)) (flat X1 b) (flat X2 b) c

/-- The result's array. -/
abbrev result (c : Dev nD) : Vec Ideal S32x1x512 .f32 := fun j =>
  rowOf (m ((c : Thread nD τ).loc main_arg0)) (m ((c : Thread nD τ).loc main_arg1)) (m ((c : Thread nD τ).loc main_arg2))
    (j 0) (j 2)

/-- The sequence of a grid point. -/
def seqAt (t : Fin cfg0.N) : Fin 32 := ⟨t.val, t.isLt⟩

section blocks

variable (c : Dev nD) (t : Fin cfg0.N)

theorem block0 (k : Fin 512) :
    iblk m c 0 t (ix3 0 0 k) = (m ((c : Thread nD τ).loc main_arg0) : Vec Ideal S32x512 .f32) (ix2 (seqAt t) k) := by
  blk_point [iblk, V, idx t, seqAt]
theorem block1 (i : Fin 256) (k : Fin 512) :
    iblk m c 1 t (ix3 0 i k) = flat (m ((c : Thread nD τ).loc main_arg1) : Vec Ideal S32x256x4x128 .f32) (seqAt t) i k := by
  unfold flat
  blk_point [iblk, V, idx t, seqAt, head, place]
theorem block2 (i : Fin 256) (k : Fin 512) :
    iblk m c 2 t (ix3 0 i k) = flat (m ((c : Thread nD τ).loc main_arg2) : Vec Ideal S32x256x4x128 .f32) (seqAt t) i k := by
  unfold flat
  blk_point [iblk, V, idx t, seqAt, head, place]

end blocks

/-- What point `t` writes back is its row of the result. -/
theorem point (c : Dev nD) (hq : ∀ i, ∃ a : ℝ, (m ((c : Thread nD τ).loc main_arg0) : Vec Ideal S32x512 .f32) i = (a : EReal))
    (hk : ∀ i, ∃ a : ℝ, (m ((c : Thread nD τ).loc main_arg1) : Vec Ideal S32x256x4x128 .f32) i = (a : EReal))
    (t : Fin cfg0.N) (k : Fin 512) :
    out0_3 (F := Ideal) (iblk m c 0 t) (iblk m c 1 t) (iblk m c 2 t) (ix3 0 0 k) = result m c (ix3 (seqAt t) 0 k) := by
  refine (body_at _ _ _ ?_ ?_ _).trans ?_
  · intro k
    obtain ⟨a, ha⟩ := hq (ix2 (seqAt t) k)
    exact ⟨a, (block0 m c t k).trans ha⟩
  · intro i k
    obtain ⟨a, ha⟩ := hk (ix4 (seqAt t) i (head k) (place k))
    exact ⟨a, (block1 m c t i k).trans ha⟩
  · show _ = rowOf _ _ _ (seqAt t) k
    unfold rowOf
    congr 1
    · exact funext fun k => block0 m c t k
    · exact funext fun i => funext fun k => block1 m c t i k
    · exact funext fun i => funext fun k => block2 m c t i k

/-- The result's array after the run. -/
theorem final (c : Dev nD) (hq : ∀ i, ∃ a : ℝ, (m ((c : Thread nD τ).loc main_arg0) : Vec Ideal S32x512 .f32) i = (a : EReal))
    (hk : ∀ i, ∃ a : ℝ, (m ((c : Thread nD τ).loc main_arg1) : Vec Ideal S32x256x4x128 .f32) i = (a : EReal)) :
    (dats m 0 c).arrAt 3 (cfgs 0).N = result m c := by
  refine (dats m 0 c).arrAt_eq_of_covers 3 _ (by decide +kernel) fun t _ y => ?_
  blk_simp
  rw [after0_3]
  idx_vars y
  obtain rfl : y0 = 0 := Subsingleton.elim _ _
  obtain rfl : y1 = 0 := Subsingleton.elim _ _
  refine (point m c hq hk t y2).trans (congrArg (result m c) ?_)
  blk_ext [idx t, seqAt]

end Cert.SampleMemoryIdeal.Value

end
-- ==== Proof.SampleMemoryReference.lean ====
/- The reference of the sample group's memory attention, value by value: the softmax average of the memory's values, as
   `PostSpec` states it of a row of queries and the memory's rows. -/
module

public import proofs.«01_k».proof.Proof.Gen.SampleMemoryRefIdeal.Read
public import proofs.«01_k».proof.Proof.SampleMemorySpec

@[expose] public section

set_option maxRecDepth 16384

noncomputable section

open Idealize.ShloMosaic Idealize.ShloMosaic.TcCoe Idealize.SL.Sem

namespace Cert.SampleMemoryRefIdeal.Value

open Cert.SampleMemoryRefIdeal Cert.SampleMemoryRefIdeal.Gen Cert.SampleMemoryRefIdeal.Read Cert.Softmax Cert.Post
open Cert.SampleMemory (place flat flat_col)

variable (x0 : (⟨S32x512, .f32⟩ : BufTy).Contents (Elt Ideal)) (x1 x2 : (⟨S32x256x4x128, .f32⟩ : BufTy).Contents (Elt Ideal))

/-- The scores of a sequence's query row against its memory. -/
theorem score_at (b : Fin 32) (h : Fin 4) (i : Fin 256) :
    val_main_v3 x0 x1 (ix4 b h 0 i) = score (fun c => x0 (ix2 b c)) (flat x1 b) (col h) i := by
  pointwise [val_main_v3, val_main_v2, val_main_cst, val_main_v1, val_main_v0]
  unfold score
  have e : ∀ (x : Fin 128) (p : h.val * 128 + x.val < 512), (⟨h.val * 128 + x.val, p⟩ : Fin 512) = col h x := fun x p =>
    Fin.ext (show h.val * 128 + x.val = 128 * h.val + x.val by omega)
  simp only [e, flat_col]
  rfl

/-- The greatest score of a query row. -/
theorem max_at (b : Fin 32) (h : Fin 4) :
    val_main_v4 x0 x1 (ix3 b h 0)
      = Finset.univ.fold max (Ideal.ofBits .f32 0xFF800000#32) (fun i => val_main_v3 x0 x1 (ix4 b h 0 i)) := by
  unfold val_main_v4
  generalize val_main_v3 x0 x1 = y
  pointwise [val_main_cst_0]

theorem max'_at (b : Fin 32) (h : Fin 4) :
    val_main_v6 x0 x1 (ix3 b h 0) = val_main_v4 x0 x1 (ix3 b h 0) := by
  rw [val_main_v6_apply]
  generalize val_main_v4 x0 x1 = y
  have e : val_main_v5 (F := Ideal) (ix3 b h 0) = (⊥ : EReal) := by
    pointwise [val_main_v5, val_main_cst_1]
    exact ofBits_neg_inf
  rw [e]
  exact max_eq_right bot_le

/-- A score's weight, not yet divided. -/
theorem weight_at (b : Fin 32) (h : Fin 4) (i : Fin 256) :
    val_main_v10 x0 x1 (ix4 b h 0 i) = Ideal.exp (val_main_v3 x0 x1 (ix4 b h 0 i) - val_main_v6 x0 x1 (ix3 b h 0)) := by
  unfold val_main_v10 val_main_v9 val_main_v8 val_main_v7
  generalize val_main_v3 x0 x1 = y
  generalize val_main_v6 x0 x1 = z
  pointwise

/-- A score's weight. -/
theorem prob_at (b : Fin 32) (h : Fin 4) (i : Fin 256) :
    val_main_v14 x0 x1 (ix4 b h 0 i)
      = Ideal.div (val_main_v10 x0 x1 (ix4 b h 0 i)) (∑ i, val_main_v10 x0 x1 (ix4 b h 0 i)) := by
  unfold val_main_v14 val_main_v13 val_main_v12 val_main_v11
  generalize val_main_v10 x0 x1 = y
  pointwise [val_main_cst_2]

/-- The weighted sum of the memory's values. -/
theorem attn_at (b : Fin 32) (h : Fin 4) (d : Fin 128) :
    val_main_v15 x0 x1 x2 (ix4 b h d 0) = ∑ i, x2 (ix4 b i h d) * val_main_v14 x0 x1 (ix4 b h 0 i) := by
  unfold val_main_v15
  generalize val_main_v14 x0 x1 = y
  pointwise

/-- The columns of the attention's result. -/
theorem flat_at (b : Fin 32) (c : Fin 512) :
    val_main_v17 x0 x1 x2 (ix3 b 0 c) = val_main_v15 x0 x1 x2 (ix4 b (head c) (place c) 0) := by
  unfold val_main_v17 val_main_v16
  generalize val_main_v15 x0 x1 x2 = y
  pointwise
  rfl

/-- The reference's result, at a sequence and a column, of real queries and keys. -/
theorem reference_at (hq : ∀ i, ∃ a : ℝ, x0 i = (a : EReal)) (hk : ∀ i, ∃ a : ℝ, x1 i = (a : EReal))
    (b : Fin 32) (c : Fin 512) :
    val_main_v17 x0 x1 x2 (ix3 b 0 c) = memory (fun c => x0 (ix2 b c)) (flat x1 b) (flat x2 b) c := by
  have hs := score_real (fun c => x0 (ix2 b c)) (flat x1 b) (col (head c)) (fun c => hq _) (fun i c => hk _)
  rw [flat_at, attn_at]
  simp only [prob_at, weight_at, max'_at, max_at, score_at]
  exact attn_max_weights _ _ hs

end Cert.SampleMemoryRefIdeal.Value

end
-- ==== Proof.SampleMemoryPre.lean ====
/- The precondition of the sample group's memory attention: its queries and keys are real numbers. -/
module

public import proofs.«01_k».proof.Proof.Gen.Pre_finite_mem_s
public import proofs.«01_k».proof.Proof.PostPre

@[expose] public section

noncomputable section

open Idealize.ShloMosaic Idealize.ShloMosaic.TcCoe Idealize.SL.Sem

namespace Cert.Pre_finite_mem_s

open Cert.Pre_finite_mem_s.Gen Cert.Softmax Cert.Pre_finite_memory

instance : Subsingleton S_.Idx := ⟨fun a b => funext fun x => x.elim0⟩

theorem real (a0 : FVec Ideal S32x512 .f32) (a1 a2 : FVec Ideal S32x256x4x128 .f32) (j : S_.Idx)
    (h : fn (F := Ideal) a0 a1 a2 j = 1#1) :
    (∀ i, ∃ a : ℝ, a0 i = (a : EReal)) ∧ (∀ i, ∃ a : ℝ, a1 i = (a : EReal)) := by
  obtain ⟨h1, h2⟩ := both _ _ h
  exact ⟨fun i => real_of_cmp (a0 i) (Host.reduce_andi_all _ _ _ _ j h1 i),
    fun i => real_of_cmp (a1 i) (Host.reduce_andi_all _ _ _ _ j h2 i)⟩

end Cert.Pre_finite_mem_s

end
-- ==== Proof.SampleMemoryClaim.lean ====
/- The sample group's memory attention and its reference end with equal results. -/
module

public import proofs.«01_k».proof.Defs
public import proofs.«01_k».proof.Proof.SampleMemoryValue
public import proofs.«01_k».proof.Proof.SampleMemoryReference
public import proofs.«01_k».proof.Proof.SampleMemoryPre
public import proofs.«01_k».proof.Proof.Gen.SampleMemoryRefIdeal.Run
public import proofs.«01_k».proof.Proof.Gen.SampleMemoryRefIdeal.Read
public import Idealize.ShloMosaic.Lib.Claim

@[expose] public section

set_option maxRecDepth 16384

noncomputable section

open Idealize.ShloMosaic Idealize.ShloMosaic.TcCoe Idealize.SL.Sem

namespace Cert.Proof

theorem samplememory_algebraic :
    Cert.algebraic_SampleMemoryIdeal_SampleMemoryRefIdeal_pre_finite_mem_s
      (hSampleMemoryIdeal := Cert.SampleMemoryIdeal.Gen.facts)
      (hSampleMemoryRefIdeal := Cert.SampleMemoryRefIdeal.Gen.facts)
      (hPre_finite_mem_s := Cert.Pre_finite_mem_s.Gen.facts) := by
  pair_intro
  · run_from Cert.SampleMemoryIdeal.Gen.run_main m g
  · run_from Cert.SampleMemoryRefIdeal.Value.run m' g'
    obtain ⟨h0, h1⟩ := Cert.Pre_finite_mem_s.real _ _ _ ValueIdx.ix0 (congrFun (hpre c) ValueIdx.ix0)
    rw [Cert.SampleMemoryIdeal.Value.final m c h0 h1, Cert.SampleMemoryRefIdeal.Read.val_main_v17_eq]
    funext j
    obtain ⟨b, k, rfl⟩ : ∃ (b : Fin 32) (k : Fin 512), j = ValueIdx.ix3 b 0 k :=
      ⟨j 0, j 2, by
        funext a
        match a with
        | ⟨0, _⟩ => rfl
        | ⟨1, _⟩ => exact (Subsingleton.elim (α := Fin 1) _ _)
        | ⟨2, _⟩ => rfl⟩
    exact Cert.SampleMemoryRefIdeal.Value.reference_at _ _ _ h0 h1 b k

end Cert.Proof

end
-- ==== Proof.lean ====
/- The claims of this directory: every program runs to its end with its arguments unchanged, and the calls proved so far
   end with their references' results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_finite_memory
public import proofs.«01_k».proof.Proof.Gen.KernelIdeal.Value
public import proofs.«01_k».proof.Proof.Gen.FfnIdeal.Value
public import proofs.«01_k».proof.Proof.Gen.PostIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.Gen.PostRefIdeal.Run
public import proofs.«01_k».proof.Proof.Gen.PostRefIdeal.Read
public import Idealize.ShloMosaic.Adequacy
public import Idealize.ShloMosaic.Init
public import proofs.«01_k».proof.Proof.FfnClaim
public import proofs.«01_k».proof.Proof.PostClaim
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.Pre_finite_mem
public import proofs.«01_k».proof.Proof.MemKvClaim
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreRefIdeal
public import proofs.«01_k».proof.Proof.Gen.PreIdeal.Value
public import proofs.«01_k».proof.Proof.Gen.PreRefIdeal.Run
public import proofs.«01_k».proof.Proof.Gen.PreRefIdeal.Read
public import proofs.«01_k».proof.Proof.Gen.Pre_finite_pre
public import proofs.«01_k».proof.Proof.PreClaim
public import proofs.«01_k».proof.Proof.Gen.PreSample
public import proofs.«01_k».proof.Proof.Gen.PreSample.Skeleton
public import proofs.«01_k».proof.Proof.Gen.PreSample.Launch
public import proofs.«01_k».proof.Proof.Gen.PreSample.Points
public import proofs.«01_k».proof.Proof.Gen.PreSample.Frame
public import proofs.«01_k».proof.Proof.Gen.PreSampleIdeal
public import proofs.«01_k».proof.Proof.Gen.PreSampleIdeal.Skeleton
public import proofs.«01_k».proof.Proof.Gen.PreSampleIdeal.Launch
public import proofs.«01_k».proof.Proof.Gen.PreSampleIdeal.Points
public import proofs.«01_k».proof.Proof.Gen.PreSampleIdeal.Frame
public import proofs.«01_k».proof.Proof.Gen.PreSampleRefIdeal
public import proofs.«01_k».proof.Proof.Gen.PreSampleRefIdeal.Run
public import proofs.«01_k».proof.Proof.Gen.PreSampleRefIdeal.Read
public import proofs.«01_k».proof.Proof.Gen.Pre_finite_pre_s
public import proofs.«01_k».proof.Proof.PreSampleClaim
public import proofs.«01_k».proof.Proof.Gen.PostSample
public import proofs.«01_k».proof.Proof.Gen.PostSample.Skeleton
public import proofs.«01_k».proof.Proof.Gen.PostSample.Launch
public import proofs.«01_k».proof.Proof.Gen.PostSample.Points
public import proofs.«01_k».proof.Proof.Gen.PostSample.Frame
public import proofs.«01_k».proof.Proof.Gen.PostSampleIdeal
public import proofs.«01_k».proof.Proof.Gen.PostSampleIdeal.Skeleton
public import proofs.«01_k».proof.Proof.Gen.PostSampleIdeal.Launch
public import proofs.«01_k».proof.Proof.Gen.PostSampleIdeal.Points
public import proofs.«01_k».proof.Proof.Gen.PostSampleIdeal.Frame
public import proofs.«01_k».proof.Proof.Gen.PostSampleRefIdeal
public import proofs.«01_k».proof.Proof.Gen.PostSampleRefIdeal.Run
public import proofs.«01_k».proof.Proof.Gen.PostSampleRefIdeal.Read
public import proofs.«01_k».proof.Proof.PostSampleClaim
public import proofs.«01_k».proof.Proof.Gen.SampleMemory
public import proofs.«01_k».proof.Proof.Gen.SampleMemory.Skeleton
public import proofs.«01_k».proof.Proof.Gen.SampleMemory.Launch
public import proofs.«01_k».proof.Proof.Gen.SampleMemory.Points
public import proofs.«01_k».proof.Proof.Gen.SampleMemory.Frame
public import proofs.«01_k».proof.Proof.Gen.SampleMemoryIdeal
public import proofs.«01_k».proof.Proof.Gen.SampleMemoryIdeal.Skeleton
public import proofs.«01_k».proof.Proof.Gen.SampleMemoryIdeal.Launch
public import proofs.«01_k».proof.Proof.Gen.SampleMemoryIdeal.Points
public import proofs.«01_k».proof.Proof.Gen.SampleMemoryIdeal.Frame
public import proofs.«01_k».proof.Proof.Gen.SampleMemoryRefIdeal
public import proofs.«01_k».proof.Proof.Gen.SampleMemoryIdeal.Value
public import proofs.«01_k».proof.Proof.Gen.SampleMemoryRefIdeal.Run
public import proofs.«01_k».proof.Proof.Gen.SampleMemoryRefIdeal.Read
public import proofs.«01_k».proof.Proof.Gen.Pre_finite_mem_s
public import proofs.«01_k».proof.Proof.SampleMemoryClaim
public import Idealize.ShloMosaic.Lib.Claim

@[expose] public section

set_option maxRecDepth 16384

noncomputable section

namespace Cert.Proof

open Idealize.ShloMosaic Idealize.SL.Sem

theorem ref_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

theorem ffn_ref_frame : Cert.quiescent_FfnRefIdeal (hFfnRefIdeal := Cert.FfnRefIdeal.Gen.facts) := fun m g _ =>
  (θ_run Cert.FfnRefIdeal.defs _ _).mono (fun r h => ⟨fun c => (h c).2.2, sem_eq_zero_of_no_sems (by decide) r.2⟩)
    (Cert.FfnRefIdeal.Value.run m g)

theorem post_ref_frame : Cert.quiescent_PostRefIdeal (hPostRefIdeal := Cert.PostRefIdeal.Gen.facts) := fun m g _ =>
  (θ_run Cert.PostRefIdeal.defs _ _).mono (fun r h => ⟨fun c => (h c).2, sem_eq_zero_of_no_sems (by decide) r.2⟩)
    (Cert.PostRefIdeal.Value.run m g)

theorem memkv_ref_frame : Cert.quiescent_MemKvRefIdeal (hMemKvRefIdeal := Cert.MemKvRefIdeal.Gen.facts) := fun m g _ =>
  (θ_run Cert.MemKvRefIdeal.defs _ _).mono (fun r h => ⟨fun c => (h c).2.2.2.2, sem_eq_zero_of_no_sems (by decide) r.2⟩)
    (Cert.MemKvRefIdeal.Value.run m g)

theorem pre_ref_frame : Cert.quiescent_PreRefIdeal (hPreRefIdeal := Cert.PreRefIdeal.Gen.facts) := fun m g _ =>
  (θ_run Cert.PreRefIdeal.defs _ _).mono (fun r h => ⟨fun c => (h c).2.2.2.2.2.2.2, sem_eq_zero_of_no_sems (by decide) r.2⟩)
    (Cert.PreRefIdeal.Value.run m g)

theorem presample_ref_frame : Cert.quiescent_PreSampleRefIdeal (hPreSampleRefIdeal := Cert.PreSampleRefIdeal.Gen.facts) := fun m g _ =>
  (θ_run Cert.PreSampleRefIdeal.defs _ _).mono (fun r h => ⟨fun c => (h c).2.2.2.2.2.2.2, sem_eq_zero_of_no_sems (by decide) r.2⟩)
    (Cert.PreSampleRefIdeal.Value.run m g)

theorem postsample_ref_frame : Cert.quiescent_PostSampleRefIdeal (hPostSampleRefIdeal := Cert.PostSampleRefIdeal.Gen.facts) := fun m g _ =>
  (θ_run Cert.PostSampleRefIdeal.defs _ _).mono (fun r h => ⟨fun c => (h c).2.2, sem_eq_zero_of_no_sems (by decide) r.2⟩)
    (Cert.PostSampleRefIdeal.Value.run m g)

theorem samplememory_ref_frame : Cert.quiescent_SampleMemoryRefIdeal (hSampleMemoryRefIdeal := Cert.SampleMemoryRefIdeal.Gen.facts) := fun m g _ =>
  (θ_run Cert.SampleMemoryRefIdeal.defs _ _).mono (fun r h => ⟨fun c => (h c).2, sem_eq_zero_of_no_sems (by decide) r.2⟩)
    (Cert.SampleMemoryRefIdeal.Value.run m g)

theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Post.Gen.facts, Cert.PostIdeal.Gen.facts,
    Cert.PostRefIdeal.Gen.facts,
    Cert.MemKv.Gen.facts, Cert.MemKvIdeal.Gen.facts, Cert.MemKvRefIdeal.Gen.facts,
    Cert.Pre.Gen.facts, Cert.PreIdeal.Gen.facts, Cert.PreRefIdeal.Gen.facts,
    Cert.PreSample.Gen.facts, Cert.PreSampleIdeal.Gen.facts, Cert.PreSampleRefIdeal.Gen.facts,
    Cert.PostSample.Gen.facts, Cert.PostSampleIdeal.Gen.facts, Cert.PostSampleRefIdeal.Gen.facts,
    Cert.SampleMemory.Gen.facts, Cert.SampleMemoryIdeal.Gen.facts, Cert.SampleMemoryRefIdeal.Gen.facts,
    Cert.Pre_finite_memory.Gen.facts, Cert.Pre_finite_mem.Gen.facts, Cert.Pre_finite_pre.Gen.facts, Cert.Pre_finite_pre_s.Gen.facts, Cert.Pre_finite_mem_s.Gen.facts,
    fun m ρ _ => Cert.Kernel.Gen.frame m ρ, fun m ρ _ => Cert.KernelIdeal.Gen.frame m ρ, ref_frame,
    fun m ρ _ => Cert.Ffn.Gen.frame m ρ, fun m ρ _ => Cert.FfnIdeal.Gen.frame m ρ, ffn_ref_frame,
    fun m ρ _ => Cert.Post.Gen.frame m ρ, fun m ρ _ => Cert.PostIdeal.Gen.frame m ρ,
    fun m ρ _ => Cert.PostIdeal.Gen.frame m ρ, post_ref_frame, fun m ρ _ => post_ref_frame m ρ trivial,
    fun m ρ _ => Cert.MemKv.Gen.frame m ρ, fun m ρ _ => Cert.MemKvIdeal.Gen.frame m ρ,
    fun m ρ _ => Cert.MemKvIdeal.Gen.frame m ρ, memkv_ref_frame, fun m ρ _ => memkv_ref_frame m ρ trivial,
    fun m ρ _ => Cert.Pre.Gen.frame m ρ, fun m ρ _ => Cert.PreIdeal.Gen.frame m ρ,
    fun m ρ _ => Cert.PreIdeal.Gen.frame m ρ, pre_ref_frame, fun m ρ _ => pre_ref_frame m ρ trivial,
    fun m ρ _ => Cert.PreSample.Gen.frame m ρ, fun m ρ _ => Cert.PreSampleIdeal.Gen.frame m ρ,
    fun m ρ _ => Cert.PreSampleIdeal.Gen.frame m ρ, presample_ref_frame, fun m ρ _ => presample_ref_frame m ρ trivial,
    fun m ρ _ => Cert.PostSample.Gen.frame m ρ, fun m ρ _ => Cert.PostSampleIdeal.Gen.frame m ρ, postsample_ref_frame,
    fun m ρ _ => Cert.SampleMemory.Gen.frame m ρ, fun m ρ _ => Cert.SampleMemoryIdeal.Gen.frame m ρ,
    fun m ρ _ => Cert.SampleMemoryIdeal.Gen.frame m ρ, samplememory_ref_frame, fun m ρ _ => samplememory_ref_frame m ρ trivial,
    trivial, trivial, ffn_algebraic, trivial, post_algebraic, trivial, memkv_algebraic, trivial, pre_algebraic, trivial, presample_algebraic, trivial, postsample_algebraic, trivial, samplememory_algebraic⟩

end Cert.Proof

end
